-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_conv_finite [hPre_conv_finite : Cert.Pre_conv_finite.Facts] (m : (ℓ : Loc Cert.NormIdeal.nD Cert.NormIdeal.τ Cert.NormIdeal.sig) → Buf (Elt Ideal) ℓ) : Prop :=
  ∀ c : Dev Cert.NormIdeal.nD,
    (Cert.Pre_conv_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).1 = (fun _ => 1#1)
    ∧ (Cert.Pre_conv_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.1 = (fun _ => 1#1)
    ∧ (Cert.Pre_conv_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.1 = (fun _ => 1#1)
    ∧ (Cert.Pre_conv_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.2.1 = (fun _ => 1#1)
    ∧ (Cert.Pre_conv_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.2.2.1 = (fun _ => 1#1)
    ∧ (Cert.Pre_conv_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_conv_finite [hPre_conv_finite : Cert.Pre_conv_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_conv_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).1 = (fun _ => 1#1)
    ∧ (Cert.Pre_conv_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.1 = (fun _ => 1#1)
    ∧ (Cert.Pre_conv_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.1 = (fun _ => 1#1)
    ∧ (Cert.Pre_conv_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.1 = (fun _ => 1#1)
    ∧ (Cert.Pre_conv_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.2.1 = (fun _ => 1#1)
    ∧ (Cert.Pre_conv_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_finite [hPre_down_finite : Cert.Pre_down_finite.Facts] (m : (ℓ : Loc Cert.DownIdeal.nD Cert.DownIdeal.τ Cert.DownIdeal.sig) → Buf (Elt Ideal) ℓ) : Prop :=
  ∀ c : Dev Cert.DownIdeal.nD,
    (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_finite [hPre_down_finite : Cert.Pre_down_finite.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.2.2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.2.2.2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.2.2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.2.2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.2.2.2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.2.2.2.2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))).2.2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))).2.2.2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))).2.2.2.2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))).2.2.2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))).2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))).2.2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))).2.2.2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))).2.2.2.2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Into (m : (ℓ : Loc Cert.Into.nD Cert.Into.τ Cert.Into.sig) → Buf (Elt Bits) ℓ) : Prop :=
  True

def Pre_IntoIdeal (m : (ℓ : Loc Cert.IntoIdeal.nD Cert.IntoIdeal.τ Cert.IntoIdeal.sig) → Buf (Elt Ideal) ℓ) : Prop :=
  True

def Pre_IntoRefIdeal (m : (ℓ : Loc Cert.IntoRefIdeal.nD Cert.IntoRefIdeal.τ Cert.IntoRefIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Chip (m : (ℓ : Loc Cert.Chip.nD Cert.Chip.τ Cert.Chip.sig) → Buf (Elt Bits) ℓ) : Prop :=
  True

def Pre_ChipIdeal (m : (ℓ : Loc Cert.ChipIdeal.nD Cert.ChipIdeal.τ Cert.ChipIdeal.sig) → Buf (Elt Ideal) ℓ) : Prop :=
  True

def Pre_ChipRefIdeal (m : (ℓ : Loc Cert.ChipRefIdeal.nD Cert.ChipRefIdeal.τ Cert.ChipRefIdeal.sig) → Buf (Elt Ideal) ℓ) : Prop :=
  True

def Pre_Total (m : (ℓ : Loc Cert.Total.nD Cert.Total.τ Cert.Total.sig) → Buf (Elt Bits) ℓ) : Prop :=
  True

def Pre_TotalIdeal (m : (ℓ : Loc Cert.TotalIdeal.nD Cert.TotalIdeal.τ Cert.TotalIdeal.sig) → Buf (Elt Ideal) ℓ) : Prop :=
  True

def Pre_TotalRefIdeal (m : (ℓ : Loc Cert.TotalRefIdeal.nD Cert.TotalRefIdeal.τ Cert.TotalRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_conv_finite [hNormIdeal : Cert.NormIdeal.Facts] [hPre_conv_finite : Cert.Pre_conv_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_conv_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormRefIdeal_pre_conv_finite [hNormRefIdeal : Cert.NormRefIdeal.Facts] [hPre_conv_finite : Cert.Pre_conv_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_conv_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownIdeal_pre_down_finite [hDownIdeal : Cert.DownIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_down_finite [hDownRefIdeal : Cert.DownRefIdeal.Facts] [hPre_down_finite : Cert.Pre_down_finite.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_finite m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6))
      ∧ r.2.sem = fun _ => 0)

def quiescent_Into [hInto : Cert.Into.Facts] : Prop :=
  ∀ (m : (ℓ : Loc Cert.Into.nD Cert.Into.τ Cert.Into.sig) → Buf (Elt Bits) ℓ) (g : Dev Cert.Into.nD → PrngReg), Pre_Into m →
    θ_run (Cert.Into.defs (F := Bits)) (onTc (τ := Cert.Into.τ) (Cert.Into.main (F := Bits))) ⟨m, fun _ => 0, g⟩ (fun r => (∀ c : Dev Cert.Into.nD,
      r.2.mem ((c.tc : Thread Cert.Into.nD Cert.Into.τ).loc Cert.Into.main_arg0) = m ((c.tc : Thread Cert.Into.nD Cert.Into.τ).loc Cert.Into.main_arg0)
      ∧ r.2.mem ((c.tc : Thread Cert.Into.nD Cert.Into.τ).loc Cert.Into.main_arg1) = m ((c.tc : Thread Cert.Into.nD Cert.Into.τ).loc Cert.Into.main_arg1)
      ∧ r.2.mem ((c.tc : Thread Cert.Into.nD Cert.Into.τ).loc Cert.Into.main_arg2) = m ((c.tc : Thread Cert.Into.nD Cert.Into.τ).loc Cert.Into.main_arg2)
      ∧ r.2.mem ((c.tc : Thread Cert.Into.nD Cert.Into.τ).loc Cert.Into.main_arg3) = m ((c.tc : Thread Cert.Into.nD Cert.Into.τ).loc Cert.Into.main_arg3))
      ∧ r.2.sem = fun _ => 0)

def quiescent_IntoIdeal [hIntoIdeal : Cert.IntoIdeal.Facts] : Prop :=
  ∀ (m : (ℓ : Loc Cert.IntoIdeal.nD Cert.IntoIdeal.τ Cert.IntoIdeal.sig) → Buf (Elt Ideal) ℓ) (g : Dev Cert.IntoIdeal.nD → PrngReg), Pre_IntoIdeal m →
    θ_run (Cert.IntoIdeal.defs (F := Ideal)) (onTc (τ := Cert.IntoIdeal.τ) (Cert.IntoIdeal.main (F := Ideal))) ⟨m, fun _ => 0, g⟩ (fun r => (∀ c : Dev Cert.IntoIdeal.nD,
      r.2.mem ((c.tc : Thread Cert.IntoIdeal.nD Cert.IntoIdeal.τ).loc Cert.IntoIdeal.main_arg0) = m ((c.tc : Thread Cert.IntoIdeal.nD Cert.IntoIdeal.τ).loc Cert.IntoIdeal.main_arg0)
      ∧ r.2.mem ((c.tc : Thread Cert.IntoIdeal.nD Cert.IntoIdeal.τ).loc Cert.IntoIdeal.main_arg1) = m ((c.tc : Thread Cert.IntoIdeal.nD Cert.IntoIdeal.τ).loc Cert.IntoIdeal.main_arg1)
      ∧ r.2.mem ((c.tc : Thread Cert.IntoIdeal.nD Cert.IntoIdeal.τ).loc Cert.IntoIdeal.main_arg2) = m ((c.tc : Thread Cert.IntoIdeal.nD Cert.IntoIdeal.τ).loc Cert.IntoIdeal.main_arg2)
      ∧ r.2.mem ((c.tc : Thread Cert.IntoIdeal.nD Cert.IntoIdeal.τ).loc Cert.IntoIdeal.main_arg3) = m ((c.tc : Thread Cert.IntoIdeal.nD Cert.IntoIdeal.τ).loc Cert.IntoIdeal.main_arg3))
      ∧ r.2.sem = fun _ => 0)

def quiescent_IntoRefIdeal [hIntoRefIdeal : Cert.IntoRefIdeal.Facts] : Prop :=
  ∀ (m : (ℓ : Loc Cert.IntoRefIdeal.nD Cert.IntoRefIdeal.τ Cert.IntoRefIdeal.sig) → Buf (Elt Ideal) ℓ) (g : Dev Cert.IntoRefIdeal.nD → PrngReg), Pre_IntoRefIdeal m →
    θ_run (Cert.IntoRefIdeal.defs (F := Ideal)) (onTc (τ := Cert.IntoRefIdeal.τ) (Cert.IntoRefIdeal.main (F := Ideal))) ⟨m, fun _ => 0, g⟩ (fun r => (∀ c : Dev Cert.IntoRefIdeal.nD,
      r.2.mem ((c.tc : Thread Cert.IntoRefIdeal.nD Cert.IntoRefIdeal.τ).loc Cert.IntoRefIdeal.main_arg0) = m ((c.tc : Thread Cert.IntoRefIdeal.nD Cert.IntoRefIdeal.τ).loc Cert.IntoRefIdeal.main_arg0)
      ∧ r.2.mem ((c.tc : Thread Cert.IntoRefIdeal.nD Cert.IntoRefIdeal.τ).loc Cert.IntoRefIdeal.main_arg1) = m ((c.tc : Thread Cert.IntoRefIdeal.nD Cert.IntoRefIdeal.τ).loc Cert.IntoRefIdeal.main_arg1)
      ∧ r.2.mem ((c.tc : Thread Cert.IntoRefIdeal.nD Cert.IntoRefIdeal.τ).loc Cert.IntoRefIdeal.main_arg2) = m ((c.tc : Thread Cert.IntoRefIdeal.nD Cert.IntoRefIdeal.τ).loc Cert.IntoRefIdeal.main_arg2)
      ∧ r.2.mem ((c.tc : Thread Cert.IntoRefIdeal.nD Cert.IntoRefIdeal.τ).loc Cert.IntoRefIdeal.main_arg3) = m ((c.tc : Thread Cert.IntoRefIdeal.nD Cert.IntoRefIdeal.τ).loc Cert.IntoRefIdeal.main_arg3))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Chip [hChip : Cert.Chip.Facts] : Prop :=
  ∀ (m : (ℓ : Loc Cert.Chip.nD Cert.Chip.τ Cert.Chip.sig) → Buf (Elt Bits) ℓ) (g : Dev Cert.Chip.nD → PrngReg), Pre_Chip m →
    θ_run (Cert.Chip.defs (F := Bits)) (onTc (τ := Cert.Chip.τ) (Cert.Chip.main (F := Bits))) ⟨m, fun _ => 0, g⟩ (fun r => (∀ c : Dev Cert.Chip.nD,
      r.2.mem ((c.tc : Thread Cert.Chip.nD Cert.Chip.τ).loc Cert.Chip.main_arg0) = m ((c.tc : Thread Cert.Chip.nD Cert.Chip.τ).loc Cert.Chip.main_arg0)
      ∧ r.2.mem ((c.tc : Thread Cert.Chip.nD Cert.Chip.τ).loc Cert.Chip.main_arg1) = m ((c.tc : Thread Cert.Chip.nD Cert.Chip.τ).loc Cert.Chip.main_arg1))
      ∧ r.2.sem = fun _ => 0)

def quiescent_ChipIdeal [hChipIdeal : Cert.ChipIdeal.Facts] : Prop :=
  ∀ (m : (ℓ : Loc Cert.ChipIdeal.nD Cert.ChipIdeal.τ Cert.ChipIdeal.sig) → Buf (Elt Ideal) ℓ) (g : Dev Cert.ChipIdeal.nD → PrngReg), Pre_ChipIdeal m →
    θ_run (Cert.ChipIdeal.defs (F := Ideal)) (onTc (τ := Cert.ChipIdeal.τ) (Cert.ChipIdeal.main (F := Ideal))) ⟨m, fun _ => 0, g⟩ (fun r => (∀ c : Dev Cert.ChipIdeal.nD,
      r.2.mem ((c.tc : Thread Cert.ChipIdeal.nD Cert.ChipIdeal.τ).loc Cert.ChipIdeal.main_arg0) = m ((c.tc : Thread Cert.ChipIdeal.nD Cert.ChipIdeal.τ).loc Cert.ChipIdeal.main_arg0)
      ∧ r.2.mem ((c.tc : Thread Cert.ChipIdeal.nD Cert.ChipIdeal.τ).loc Cert.ChipIdeal.main_arg1) = m ((c.tc : Thread Cert.ChipIdeal.nD Cert.ChipIdeal.τ).loc Cert.ChipIdeal.main_arg1))
      ∧ r.2.sem = fun _ => 0)

def quiescent_ChipRefIdeal [hChipRefIdeal : Cert.ChipRefIdeal.Facts] : Prop :=
  ∀ (m : (ℓ : Loc Cert.ChipRefIdeal.nD Cert.ChipRefIdeal.τ Cert.ChipRefIdeal.sig) → Buf (Elt Ideal) ℓ) (g : Dev Cert.ChipRefIdeal.nD → PrngReg), Pre_ChipRefIdeal m →
    θ_run (Cert.ChipRefIdeal.defs (F := Ideal)) (onTc (τ := Cert.ChipRefIdeal.τ) (Cert.ChipRefIdeal.main (F := Ideal))) ⟨m, fun _ => 0, g⟩ (fun r => (∀ c : Dev Cert.ChipRefIdeal.nD,
      r.2.mem ((c.tc : Thread Cert.ChipRefIdeal.nD Cert.ChipRefIdeal.τ).loc Cert.ChipRefIdeal.main_arg0) = m ((c.tc : Thread Cert.ChipRefIdeal.nD Cert.ChipRefIdeal.τ).loc Cert.ChipRefIdeal.main_arg0)
      ∧ r.2.mem ((c.tc : Thread Cert.ChipRefIdeal.nD Cert.ChipRefIdeal.τ).loc Cert.ChipRefIdeal.main_arg1) = m ((c.tc : Thread Cert.ChipRefIdeal.nD Cert.ChipRefIdeal.τ).loc Cert.ChipRefIdeal.main_arg1))
      ∧ r.2.sem = fun _ => 0)

def quiescent_Total [hTotal : Cert.Total.Facts] : Prop :=
  ∀ (m : (ℓ : Loc Cert.Total.nD Cert.Total.τ Cert.Total.sig) → Buf (Elt Bits) ℓ) (g : Dev Cert.Total.nD → PrngReg), Pre_Total m →
    θ_run (Cert.Total.defs (F := Bits)) (onTc (τ := Cert.Total.τ) (Cert.Total.main (F := Bits))) ⟨m, fun _ => 0, g⟩ (fun r => (∀ c : Dev Cert.Total.nD,
      r.2.mem ((c.tc : Thread Cert.Total.nD Cert.Total.τ).loc Cert.Total.main_arg0) = m ((c.tc : Thread Cert.Total.nD Cert.Total.τ).loc Cert.Total.main_arg0)
      ∧ r.2.mem ((c.tc : Thread Cert.Total.nD Cert.Total.τ).loc Cert.Total.main_arg1) = m ((c.tc : Thread Cert.Total.nD Cert.Total.τ).loc Cert.Total.main_arg1)
      ∧ r.2.mem ((c.tc : Thread Cert.Total.nD Cert.Total.τ).loc Cert.Total.main_arg2) = m ((c.tc : Thread Cert.Total.nD Cert.Total.τ).loc Cert.Total.main_arg2))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
      ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1)
      ∧ r.2.mem ((c.tc : Thread Cert.TotalIdeal.nD Cert.TotalIdeal.τ).loc Cert.TotalIdeal.main_arg2) = m ((c.tc : Thread Cert.TotalIdeal.nD Cert.TotalIdeal.τ).loc Cert.TotalIdeal.main_arg2))
      ∧ r.2.sem = fun _ => 0)

def quiescent_TotalRefIdeal [hTotalRefIdeal : Cert.TotalRefIdeal.Facts] : Prop :=
  ∀ (m : (ℓ : Loc Cert.TotalRefIdeal.nD Cert.TotalRefIdeal.τ Cert.TotalRefIdeal.sig) → Buf (Elt Ideal) ℓ) (g : Dev Cert.TotalRefIdeal.nD → PrngReg), Pre_TotalRefIdeal m →
    θ_run (Cert.TotalRefIdeal.defs (F := Ideal)) (onTc (τ := Cert.TotalRefIdeal.τ) (Cert.TotalRefIdeal.main (F := Ideal))) ⟨m, fun _ => 0, g⟩ (fun r => (∀ c : Dev Cert.TotalRefIdeal.nD,
      r.2.mem ((c.tc : Thread Cert.TotalRefIdeal.nD Cert.TotalRefIdeal.τ).loc Cert.TotalRefIdeal.main_arg0) = m ((c.tc : Thread Cert.TotalRefIdeal.nD Cert.TotalRefIdeal.τ).loc Cert.TotalRefIdeal.main_arg0)
      ∧ r.2.mem ((c.tc : Thread Cert.TotalRefIdeal.nD Cert.TotalRefIdeal.τ).loc Cert.TotalRefIdeal.main_arg1) = m ((c.tc : Thread Cert.TotalRefIdeal.nD Cert.TotalRefIdeal.τ).loc Cert.TotalRefIdeal.main_arg1)
      ∧ r.2.mem ((c.tc : Thread Cert.TotalRefIdeal.nD Cert.TotalRefIdeal.τ).loc Cert.TotalRefIdeal.main_arg2) = m ((c.tc : Thread Cert.TotalRefIdeal.nD Cert.TotalRefIdeal.τ).loc Cert.TotalRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def preserves_Norm_NormIdeal : Prop :=
  True

def algebraic_NormIdeal_NormRefIdeal_pre_conv_finite [hNormIdeal : Cert.NormIdeal.Facts] [hNormRefIdeal : Cert.NormRefIdeal.Facts] [hPre_conv_finite : Cert.Pre_conv_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_conv_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v8_0)) (v1 : (c : Dev Cert.NormIdeal.nD) → Buf (Elt Ideal) ((c.tc : Thread Cert.NormIdeal.nD Cert.NormIdeal.τ).loc Cert.NormIdeal.main_v8_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v8_0) = v0 c
          ∧ r.2.mem ((c.tc : Thread Cert.NormIdeal.nD Cert.NormIdeal.τ).loc Cert.NormIdeal.main_v8_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v84) = v0 c
          ∧ r.2.mem ((c.tc : Thread Cert.NormRefIdeal.nD Cert.NormRefIdeal.τ).loc Cert.NormRefIdeal.main_v91) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_Down_DownIdeal : Prop :=
  True

def algebraic_DownIdeal_DownRefIdeal_on_down_written_pre_down_finite [hDownIdeal : Cert.DownIdeal.Facts] [hDownRefIdeal : Cert.DownRefIdeal.Facts] [hPre_down_finite : Cert.Pre_down_finite.Facts] [hOn_down_written : Cert.On_down_written.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_down_finite m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v9_0)) (v1 : (c : Dev Cert.DownIdeal.nD) → Buf (Elt Ideal) ((c.tc : Thread Cert.DownIdeal.nD Cert.DownIdeal.τ).loc Cert.DownIdeal.main_v9_1)) (v2 : (c : Dev Cert.DownIdeal.nD) → Buf (Elt Ideal) ((c.tc : Thread Cert.DownIdeal.nD Cert.DownIdeal.τ).loc Cert.DownIdeal.main_v9_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          (∀ i : (⟨2, ![4096, 2816]⟩ : Shape).Idx, (Cert.On_down_written.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).1 i = 1#1 → r.2.mem ((c.tc : Thread Cert.DownIdeal.nD Cert.DownIdeal.τ).loc Cert.DownIdeal.main_v9_0) i = v0 c i)
          ∧ (∀ i : (⟨2, ![4096, 5632]⟩ : Shape).Idx, (Cert.On_down_written.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.1 i = 1#1 → r.2.mem ((c.tc : Thread Cert.DownIdeal.nD Cert.DownIdeal.τ).loc Cert.DownIdeal.main_v9_1) i = v1 c i)
          ∧ (∀ i : (⟨2, ![8, 2816]⟩ : Shape).Idx, (Cert.On_down_written.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2 i = 1#1 → r.2.mem ((c.tc : Thread Cert.DownIdeal.nD Cert.DownIdeal.τ).loc Cert.DownIdeal.main_v9_2) i = v2 c i)
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          (∀ i : (⟨2, ![4096, 2816]⟩ : Shape).Idx, (Cert.On_down_written.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).1 i = 1#1 → r.2.mem ((c.tc : Thread Cert.DownRefIdeal.nD Cert.DownRefIdeal.τ).loc Cert.DownRefIdeal.main_v67) i = v0 c i)
          ∧ (∀ i : (⟨2, ![4096, 5632]⟩ : Shape).Idx, (Cert.On_down_written.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.1 i = 1#1 → r.2.mem ((c.tc : Thread Cert.DownRefIdeal.nD Cert.DownRefIdeal.τ).loc Cert.DownRefIdeal.main_v66) i = v1 c i)
          ∧ (∀ i : (⟨2, ![8, 2816]⟩ : Shape).Idx, (Cert.On_down_written.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2 i = 1#1 → r.2.mem ((c.tc : Thread Cert.DownRefIdeal.nD Cert.DownRefIdeal.τ).loc Cert.DownRefIdeal.main_v70) i = v2 c i)
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Up_UpIdeal : Prop :=
  True

def algebraic_UpIdeal_UpRefIdeal_on_up_written_pre_up_finite [hUpIdeal : Cert.UpIdeal.Facts] [hUpRefIdeal : Cert.UpRefIdeal.Facts] [hPre_up_finite : Cert.Pre_up_finite.Facts] [hOn_up_written : Cert.On_up_written.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v16_0)) (v1 : (c : Dev Cert.UpIdeal.nD) → Buf (Elt Ideal) ((c.tc : Thread Cert.UpIdeal.nD Cert.UpIdeal.τ).loc Cert.UpIdeal.main_v16_1)) (v2 : (c : Dev Cert.UpIdeal.nD) → Buf (Elt Ideal) ((c.tc : Thread Cert.UpIdeal.nD Cert.UpIdeal.τ).loc Cert.UpIdeal.main_v16_2)) (v3 : (c : Dev Cert.UpIdeal.nD) → Buf (Elt Ideal) ((c.tc : Thread Cert.UpIdeal.nD Cert.UpIdeal.τ).loc Cert.UpIdeal.main_v16_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          (∀ i : (⟨2, ![4096, 5632]⟩ : Shape).Idx, (Cert.On_up_written.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).1 i = 1#1 → r.2.mem ((c.tc : Thread Cert.UpIdeal.nD Cert.UpIdeal.τ).loc Cert.UpIdeal.main_v16_0) i = v0 c i)
          ∧ (∀ i : (⟨2, ![4096, 1024]⟩ : Shape).Idx, (Cert.On_up_written.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.1 i = 1#1 → r.2.mem ((c.tc : Thread Cert.UpIdeal.nD Cert.UpIdeal.τ).loc Cert.UpIdeal.main_v16_1) i = v1 c i)
          ∧ (∀ i : (⟨2, ![4096, 1024]⟩ : Shape).Idx, (Cert.On_up_written.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.1 i = 1#1 → r.2.mem ((c.tc : Thread Cert.UpIdeal.nD Cert.UpIdeal.τ).loc Cert.UpIdeal.main_v16_2) i = v2 c i)
          ∧ (∀ i : (⟨2, ![1, 1024]⟩ : Shape).Idx, (Cert.On_up_written.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.2 i = 1#1 → r.2.mem ((c.tc : Thread Cert.UpIdeal.nD Cert.UpIdeal.τ).loc Cert.UpIdeal.main_v16_3) i = v3 c i)
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          (∀ i : (⟨2, ![4096, 5632]⟩ : Shape).Idx, (Cert.On_up_written.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).1 i = 1#1 → r.2.mem ((c.tc : Thread Cert.UpRefIdeal.nD Cert.UpRefIdeal.τ).loc Cert.UpRefIdeal.main_v93) i = v0 c i)
          ∧ (∀ i : (⟨2, ![4096, 1024]⟩ : Shape).Idx, (Cert.On_up_written.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.1 i = 1#1 → r.2.mem ((c.tc : Thread Cert.UpRefIdeal.nD Cert.UpRefIdeal.τ).loc Cert.UpRefIdeal.main_v94) i = v1 c i)
          ∧ (∀ i : (⟨2, ![4096, 1024]⟩ : Shape).Idx, (Cert.On_up_written.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.1 i = 1#1 → r.2.mem ((c.tc : Thread Cert.UpRefIdeal.nD Cert.UpRefIdeal.τ).loc Cert.UpRefIdeal.main_v95) i = v2 c i)
          ∧ (∀ i : (⟨2, ![1, 1024]⟩ : Shape).Idx, (Cert.On_up_written.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.2 i = 1#1 → r.2.mem ((c.tc : Thread Cert.UpRefIdeal.nD Cert.UpRefIdeal.τ).loc Cert.UpRefIdeal.main_v96) i = v3 c i)
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v32_0)) (v1 : (c : Dev Cert.LossIdeal.nD) → Buf (Elt Ideal) ((c.tc : Thread Cert.LossIdeal.nD Cert.LossIdeal.τ).loc Cert.LossIdeal.main_v32_1)) (v2 : (c : Dev Cert.LossIdeal.nD) → Buf (Elt Ideal) ((c.tc : Thread Cert.LossIdeal.nD Cert.LossIdeal.τ).loc Cert.LossIdeal.main_v32_2)) (v3 : (c : Dev Cert.LossIdeal.nD) → Buf (Elt Ideal) ((c.tc : Thread Cert.LossIdeal.nD Cert.LossIdeal.τ).loc Cert.LossIdeal.main_v32_3)) (v4 : (c : Dev Cert.LossIdeal.nD) → Buf (Elt Ideal) ((c.tc : Thread Cert.LossIdeal.nD Cert.LossIdeal.τ).loc Cert.LossIdeal.main_v32_4)) (v5 : (c : Dev Cert.LossIdeal.nD) → Buf (Elt Ideal) ((c.tc : Thread Cert.LossIdeal.nD Cert.LossIdeal.τ).loc Cert.LossIdeal.main_v32_5)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v32_0) = v0 c
          ∧ r.2.mem ((c.tc : Thread Cert.LossIdeal.nD Cert.LossIdeal.τ).loc Cert.LossIdeal.main_v32_1) = v1 c
          ∧ r.2.mem ((c.tc : Thread Cert.LossIdeal.nD Cert.LossIdeal.τ).loc Cert.LossIdeal.main_v32_2) = v2 c
          ∧ r.2.mem ((c.tc : Thread Cert.LossIdeal.nD Cert.LossIdeal.τ).loc Cert.LossIdeal.main_v32_3) = v3 c
          ∧ r.2.mem ((c.tc : Thread Cert.LossIdeal.nD Cert.LossIdeal.τ).loc Cert.LossIdeal.main_v32_4) = v4 c
          ∧ r.2.mem ((c.tc : Thread Cert.LossIdeal.nD Cert.LossIdeal.τ).loc Cert.LossIdeal.main_v32_5) = v5 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v111) = v0 c
          ∧ r.2.mem ((c.tc : Thread Cert.LossRefIdeal.nD Cert.LossRefIdeal.τ).loc Cert.LossRefIdeal.main_v110) = v1 c
          ∧ r.2.mem ((c.tc : Thread Cert.LossRefIdeal.nD Cert.LossRefIdeal.τ).loc Cert.LossRefIdeal.main_v107) = v2 c
          ∧ r.2.mem ((c.tc : Thread Cert.LossRefIdeal.nD Cert.LossRefIdeal.τ).loc Cert.LossRefIdeal.main_v112) = v3 c
          ∧ r.2.mem ((c.tc : Thread Cert.LossRefIdeal.nD Cert.LossRefIdeal.τ).loc Cert.LossRefIdeal.main_v113) = v4 c
          ∧ r.2.mem ((c.tc : Thread Cert.LossRefIdeal.nD Cert.LossRefIdeal.τ).loc Cert.LossRefIdeal.main_v114) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_Pool_PoolIdeal : Prop :=
  True

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)) →
    ∃ (v0 : (c : Dev Cert.FwdIdeal.nD) → Buf (Elt Ideal) ((c.tc : Thread Cert.FwdIdeal.nD Cert.FwdIdeal.τ).loc Cert.FwdIdeal.main_v31_0)) (v1 : (c : Dev Cert.FwdIdeal.nD) → Buf (Elt Ideal) ((c.tc : Thread Cert.FwdIdeal.nD Cert.FwdIdeal.τ).loc Cert.FwdIdeal.main_v31_1)) (v2 : (c : Dev Cert.FwdIdeal.nD) → Buf (Elt Ideal) ((c.tc : Thread Cert.FwdIdeal.nD Cert.FwdIdeal.τ).loc Cert.FwdIdeal.main_v31_2)) (v3 : (c : Dev Cert.FwdIdeal.nD) → Buf (Elt Ideal) ((c.tc : Thread Cert.FwdIdeal.nD Cert.FwdIdeal.τ).loc Cert.FwdIdeal.main_v31_3)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v31_0) = v0 c
          ∧ r.2.mem ((c.tc : Thread Cert.FwdIdeal.nD Cert.FwdIdeal.τ).loc Cert.FwdIdeal.main_v31_1) = v1 c
          ∧ r.2.mem ((c.tc : Thread Cert.FwdIdeal.nD Cert.FwdIdeal.τ).loc Cert.FwdIdeal.main_v31_2) = v2 c
          ∧ r.2.mem ((c.tc : Thread Cert.FwdIdeal.nD Cert.FwdIdeal.τ).loc Cert.FwdIdeal.main_v31_3) = v3 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v58) = v0 c
          ∧ r.2.mem ((c.tc : Thread Cert.FwdRefIdeal.nD Cert.FwdRefIdeal.τ).loc Cert.FwdRefIdeal.main_v57) = v1 c
          ∧ r.2.mem ((c.tc : Thread Cert.FwdRefIdeal.nD Cert.FwdRefIdeal.τ).loc Cert.FwdRefIdeal.main_v59) = v2 c
          ∧ r.2.mem ((c.tc : Thread Cert.FwdRefIdeal.nD Cert.FwdRefIdeal.τ).loc Cert.FwdRefIdeal.main_v75) = v3 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6))

def preserves_Into_IntoIdeal : Prop :=
  True

def algebraic_IntoIdeal_IntoRefIdeal [hIntoIdeal : Cert.IntoIdeal.Facts] [hIntoRefIdeal : Cert.IntoRefIdeal.Facts] : Prop :=
  ∀ (m : (ℓ : Loc Cert.IntoIdeal.nD Cert.IntoIdeal.τ Cert.IntoIdeal.sig) → Buf (Elt Ideal) ℓ) (g : Dev Cert.IntoIdeal.nD → PrngReg)
    (m' : (ℓ : Loc Cert.IntoRefIdeal.nD Cert.IntoRefIdeal.τ Cert.IntoRefIdeal.sig) → Buf (Elt Ideal) ℓ) (g' : Dev Cert.IntoRefIdeal.nD → PrngReg), Pre_IntoIdeal m →
    (∀ c : Dev Cert.IntoIdeal.nD,
      m' ((c.tc : Thread Cert.IntoRefIdeal.nD Cert.IntoRefIdeal.τ).loc Cert.IntoRefIdeal.main_arg0) = m ((c.tc : Thread Cert.IntoIdeal.nD Cert.IntoIdeal.τ).loc Cert.IntoIdeal.main_arg0)
      ∧ m' ((c.tc : Thread Cert.IntoRefIdeal.nD Cert.IntoRefIdeal.τ).loc Cert.IntoRefIdeal.main_arg1) = m ((c.tc : Thread Cert.IntoIdeal.nD Cert.IntoIdeal.τ).loc Cert.IntoIdeal.main_arg1)
      ∧ m' ((c.tc : Thread Cert.IntoRefIdeal.nD Cert.IntoRefIdeal.τ).loc Cert.IntoRefIdeal.main_arg2) = m ((c.tc : Thread Cert.IntoIdeal.nD Cert.IntoIdeal.τ).loc Cert.IntoIdeal.main_arg2)
      ∧ m' ((c.tc : Thread Cert.IntoRefIdeal.nD Cert.IntoRefIdeal.τ).loc Cert.IntoRefIdeal.main_arg3) = m ((c.tc : Thread Cert.IntoIdeal.nD Cert.IntoIdeal.τ).loc Cert.IntoIdeal.main_arg3)) →
    ∃ (v0 : (c : Dev Cert.IntoIdeal.nD) → Buf (Elt Ideal) ((c.tc : Thread Cert.IntoIdeal.nD Cert.IntoIdeal.τ).loc Cert.IntoIdeal.main_v6_0)) (v1 : (c : Dev Cert.IntoIdeal.nD) → Buf (Elt Ideal) ((c.tc : Thread Cert.IntoIdeal.nD Cert.IntoIdeal.τ).loc Cert.IntoIdeal.main_v6_1)),
      θ_run (Cert.IntoIdeal.defs (F := Ideal)) (onTc (τ := Cert.IntoIdeal.τ) (Cert.IntoIdeal.main (F := Ideal))) ⟨m, fun _ => 0, g⟩ (fun r => ∀ c : Dev Cert.IntoIdeal.nD,
          r.2.mem ((c.tc : Thread Cert.IntoIdeal.nD Cert.IntoIdeal.τ).loc Cert.IntoIdeal.main_v6_0) = v0 c
          ∧ r.2.mem ((c.tc : Thread Cert.IntoIdeal.nD Cert.IntoIdeal.τ).loc Cert.IntoIdeal.main_v6_1) = v1 c
          ∧ r.2.mem ((c.tc : Thread Cert.IntoIdeal.nD Cert.IntoIdeal.τ).loc Cert.IntoIdeal.main_arg0) = m ((c.tc : Thread Cert.IntoIdeal.nD Cert.IntoIdeal.τ).loc Cert.IntoIdeal.main_arg0)
          ∧ r.2.mem ((c.tc : Thread Cert.IntoIdeal.nD Cert.IntoIdeal.τ).loc Cert.IntoIdeal.main_arg1) = m ((c.tc : Thread Cert.IntoIdeal.nD Cert.IntoIdeal.τ).loc Cert.IntoIdeal.main_arg1)
          ∧ r.2.mem ((c.tc : Thread Cert.IntoIdeal.nD Cert.IntoIdeal.τ).loc Cert.IntoIdeal.main_arg2) = m ((c.tc : Thread Cert.IntoIdeal.nD Cert.IntoIdeal.τ).loc Cert.IntoIdeal.main_arg2)
          ∧ r.2.mem ((c.tc : Thread Cert.IntoIdeal.nD Cert.IntoIdeal.τ).loc Cert.IntoIdeal.main_arg3) = m ((c.tc : Thread Cert.IntoIdeal.nD Cert.IntoIdeal.τ).loc Cert.IntoIdeal.main_arg3))
      ∧ θ_run (Cert.IntoRefIdeal.defs (F := Ideal)) (onTc (τ := Cert.IntoRefIdeal.τ) (Cert.IntoRefIdeal.main (F := Ideal))) ⟨m', fun _ => 0, g'⟩ (fun r => ∀ c : Dev Cert.IntoRefIdeal.nD,
          r.2.mem ((c.tc : Thread Cert.IntoRefIdeal.nD Cert.IntoRefIdeal.τ).loc Cert.IntoRefIdeal.main_v23) = v0 c
          ∧ r.2.mem ((c.tc : Thread Cert.IntoRefIdeal.nD Cert.IntoRefIdeal.τ).loc Cert.IntoRefIdeal.main_v24) = v1 c
          ∧ r.2.mem ((c.tc : Thread Cert.IntoRefIdeal.nD Cert.IntoRefIdeal.τ).loc Cert.IntoRefIdeal.main_arg0) = m' ((c.tc : Thread Cert.IntoRefIdeal.nD Cert.IntoRefIdeal.τ).loc Cert.IntoRefIdeal.main_arg0)
          ∧ r.2.mem ((c.tc : Thread Cert.IntoRefIdeal.nD Cert.IntoRefIdeal.τ).loc Cert.IntoRefIdeal.main_arg1) = m' ((c.tc : Thread Cert.IntoRefIdeal.nD Cert.IntoRefIdeal.τ).loc Cert.IntoRefIdeal.main_arg1)
          ∧ r.2.mem ((c.tc : Thread Cert.IntoRefIdeal.nD Cert.IntoRefIdeal.τ).loc Cert.IntoRefIdeal.main_arg2) = m' ((c.tc : Thread Cert.IntoRefIdeal.nD Cert.IntoRefIdeal.τ).loc Cert.IntoRefIdeal.main_arg2)
          ∧ r.2.mem ((c.tc : Thread Cert.IntoRefIdeal.nD Cert.IntoRefIdeal.τ).loc Cert.IntoRefIdeal.main_arg3) = m' ((c.tc : Thread Cert.IntoRefIdeal.nD Cert.IntoRefIdeal.τ).loc Cert.IntoRefIdeal.main_arg3))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v5)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v5) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v6) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1))

def preserves_Adam_AdamIdeal : Prop :=
  True

def algebraic_AdamIdeal_AdamRefIdeal_on_adam_moments [hAdamIdeal : Cert.AdamIdeal.Facts] [hAdamRefIdeal : Cert.AdamRefIdeal.Facts] [hOn_adam_moments : Cert.On_adam_moments.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          (∀ i : (⟨3, ![2, 1024, 1408]⟩ : Shape).Idx, (Cert.On_adam_moments.fn (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3))).1 i = 1#1 → r.2.mem ((c.tc : Thread Cert.AdamIdeal.nD Cert.AdamIdeal.τ).loc Cert.AdamIdeal.main_v0_0) i = v0 c i)
          ∧ (∀ i : (⟨3, ![2, 1024, 1408]⟩ : Shape).Idx, (Cert.On_adam_moments.fn (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3))).2.1 i = 1#1 → r.2.mem ((c.tc : Thread Cert.AdamIdeal.nD Cert.AdamIdeal.τ).loc Cert.AdamIdeal.main_v0_1) i = v1 c i)
          ∧ (∀ i : (⟨3, ![2, 1024, 1408]⟩ : Shape).Idx, (Cert.On_adam_moments.fn (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3))).2.2.1 i = 1#1 → r.2.mem ((c.tc : Thread Cert.AdamIdeal.nD Cert.AdamIdeal.τ).loc Cert.AdamIdeal.main_v0_2) i = v2 c i)
          ∧ (∀ i : (⟨3, ![2, 1024, 1408]⟩ : Shape).Idx, (Cert.On_adam_moments.fn (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3))).2.2.2 i = 1#1 → r.2.mem ((c.tc : Thread Cert.AdamIdeal.nD Cert.AdamIdeal.τ).loc Cert.AdamIdeal.main_v0_3) i = v3 c i)
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          (∀ i : (⟨3, ![2, 1024, 1408]⟩ : Shape).Idx, (Cert.On_adam_moments.fn (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3))).1 i = 1#1 → r.2.mem ((c.tc : Thread Cert.AdamRefIdeal.nD Cert.AdamRefIdeal.τ).loc Cert.AdamRefIdeal.main_arg1) i = v0 c i)
          ∧ (∀ i : (⟨3, ![2, 1024, 1408]⟩ : Shape).Idx, (Cert.On_adam_moments.fn (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3))).2.1 i = 1#1 → r.2.mem ((c.tc : Thread Cert.AdamRefIdeal.nD Cert.AdamRefIdeal.τ).loc Cert.AdamRefIdeal.main_v23) i = v1 c i)
          ∧ (∀ i : (⟨3, ![2, 1024, 1408]⟩ : Shape).Idx, (Cert.On_adam_moments.fn (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3))).2.2.1 i = 1#1 → r.2.mem ((c.tc : Thread Cert.AdamRefIdeal.nD Cert.AdamRefIdeal.τ).loc Cert.AdamRefIdeal.main_v4) i = v2 c i)
          ∧ (∀ i : (⟨3, ![2, 1024, 1408]⟩ : Shape).Idx, (Cert.On_adam_moments.fn (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3))).2.2.2 i = 1#1 → r.2.mem ((c.tc : Thread Cert.AdamRefIdeal.nD Cert.AdamRefIdeal.τ).loc Cert.AdamRefIdeal.main_v10) i = v3 c i)
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Chip_ChipIdeal : Prop :=
  True

def algebraic_ChipIdeal_ChipRefIdeal [hChipIdeal : Cert.ChipIdeal.Facts] [hChipRefIdeal : Cert.ChipRefIdeal.Facts] : Prop :=
  ∀ (m : (ℓ : Loc Cert.ChipIdeal.nD Cert.ChipIdeal.τ Cert.ChipIdeal.sig) → Buf (Elt Ideal) ℓ) (g : Dev Cert.ChipIdeal.nD → PrngReg)
    (m' : (ℓ : Loc Cert.ChipRefIdeal.nD Cert.ChipRefIdeal.τ Cert.ChipRefIdeal.sig) → Buf (Elt Ideal) ℓ) (g' : Dev Cert.ChipRefIdeal.nD → PrngReg), Pre_ChipIdeal m →
    (∀ c : Dev Cert.ChipIdeal.nD,
      m' ((c.tc : Thread Cert.ChipRefIdeal.nD Cert.ChipRefIdeal.τ).loc Cert.ChipRefIdeal.main_arg0) = m ((c.tc : Thread Cert.ChipIdeal.nD Cert.ChipIdeal.τ).loc Cert.ChipIdeal.main_arg0)
      ∧ m' ((c.tc : Thread Cert.ChipRefIdeal.nD Cert.ChipRefIdeal.τ).loc Cert.ChipRefIdeal.main_arg1) = m ((c.tc : Thread Cert.ChipIdeal.nD Cert.ChipIdeal.τ).loc Cert.ChipIdeal.main_arg1)) →
    ∃ (v0 : (c : Dev Cert.ChipIdeal.nD) → Buf (Elt Ideal) ((c.tc : Thread Cert.ChipIdeal.nD Cert.ChipIdeal.τ).loc Cert.ChipIdeal.main_v3)),
      θ_run (Cert.ChipIdeal.defs (F := Ideal)) (onTc (τ := Cert.ChipIdeal.τ) (Cert.ChipIdeal.main (F := Ideal))) ⟨m, fun _ => 0, g⟩ (fun r => ∀ c : Dev Cert.ChipIdeal.nD,
          r.2.mem ((c.tc : Thread Cert.ChipIdeal.nD Cert.ChipIdeal.τ).loc Cert.ChipIdeal.main_v3) = v0 c
          ∧ r.2.mem ((c.tc : Thread Cert.ChipIdeal.nD Cert.ChipIdeal.τ).loc Cert.ChipIdeal.main_arg0) = m ((c.tc : Thread Cert.ChipIdeal.nD Cert.ChipIdeal.τ).loc Cert.ChipIdeal.main_arg0)
          ∧ r.2.mem ((c.tc : Thread Cert.ChipIdeal.nD Cert.ChipIdeal.τ).loc Cert.ChipIdeal.main_arg1) = m ((c.tc : Thread Cert.ChipIdeal.nD Cert.ChipIdeal.τ).loc Cert.ChipIdeal.main_arg1))
      ∧ θ_run (Cert.ChipRefIdeal.defs (F := Ideal)) (onTc (τ := Cert.ChipRefIdeal.τ) (Cert.ChipRefIdeal.main (F := Ideal))) ⟨m', fun _ => 0, g'⟩ (fun r => ∀ c : Dev Cert.ChipRefIdeal.nD,
          r.2.mem ((c.tc : Thread Cert.ChipRefIdeal.nD Cert.ChipRefIdeal.τ).loc Cert.ChipRefIdeal.main_v7) = v0 c
          ∧ r.2.mem ((c.tc : Thread Cert.ChipRefIdeal.nD Cert.ChipRefIdeal.τ).loc Cert.ChipRefIdeal.main_arg0) = m' ((c.tc : Thread Cert.ChipRefIdeal.nD Cert.ChipRefIdeal.τ).loc Cert.ChipRefIdeal.main_arg0)
          ∧ r.2.mem ((c.tc : Thread Cert.ChipRefIdeal.nD Cert.ChipRefIdeal.τ).loc Cert.ChipRefIdeal.main_arg1) = m' ((c.tc : Thread Cert.ChipRefIdeal.nD Cert.ChipRefIdeal.τ).loc Cert.ChipRefIdeal.main_arg1))

def preserves_Total_TotalIdeal : Prop :=
  True

def algebraic_TotalIdeal_TotalRefIdeal_on_final_written [hTotalIdeal : Cert.TotalIdeal.Facts] [hTotalRefIdeal : Cert.TotalRefIdeal.Facts] [hOn_final_written : Cert.On_final_written.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.TotalRefIdeal.nD Cert.TotalRefIdeal.τ Cert.TotalRefIdeal.sig) → Buf (Elt Ideal) ℓ) (g' : Dev Cert.TotalRefIdeal.nD → PrngReg), Pre_TotalIdeal m →
    (∀ c : Dev Cert.TotalIdeal.nD,
      m' ((c.tc : Thread Cert.TotalRefIdeal.nD Cert.TotalRefIdeal.τ).loc Cert.TotalRefIdeal.main_arg0) = m ((c.tc : Thread Cert.TotalIdeal.nD Cert.TotalIdeal.τ).loc Cert.TotalIdeal.main_arg0)
      ∧ m' ((c.tc : Thread Cert.TotalRefIdeal.nD Cert.TotalRefIdeal.τ).loc Cert.TotalRefIdeal.main_arg1) = m ((c.tc : Thread Cert.TotalIdeal.nD Cert.TotalIdeal.τ).loc Cert.TotalIdeal.main_arg1)
      ∧ m' ((c.tc : Thread Cert.TotalRefIdeal.nD Cert.TotalRefIdeal.τ).loc Cert.TotalRefIdeal.main_arg2) = m ((c.tc : Thread Cert.TotalIdeal.nD Cert.TotalIdeal.τ).loc Cert.TotalIdeal.main_arg2)) →
    ∃ (v0 : (c : Dev Cert.TotalIdeal.nD) → Buf (Elt Ideal) ((c.tc : Thread Cert.TotalIdeal.nD Cert.TotalIdeal.τ).loc Cert.TotalIdeal.main_v4)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          (∀ i : (⟨4, ![1, 2, 512, 512]⟩ : Shape).Idx, (Cert.On_final_written.fn (F := Ideal) (m ((c.tc : Thread Cert.TotalIdeal.nD Cert.TotalIdeal.τ).loc Cert.TotalIdeal.main_arg0)) (m ((c.tc : Thread Cert.TotalIdeal.nD Cert.TotalIdeal.τ).loc Cert.TotalIdeal.main_arg1)) (m ((c.tc : Thread Cert.TotalIdeal.nD Cert.TotalIdeal.τ).loc Cert.TotalIdeal.main_arg2))) i = 1#1 → r.2.mem ((c.tc : Thread Cert.TotalIdeal.nD Cert.TotalIdeal.τ).loc Cert.TotalIdeal.main_v4) i = v0 c i)
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
          ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1)
          ∧ r.2.mem ((c.tc : Thread Cert.TotalIdeal.nD Cert.TotalIdeal.τ).loc Cert.TotalIdeal.main_arg2) = m ((c.tc : Thread Cert.TotalIdeal.nD Cert.TotalIdeal.τ).loc Cert.TotalIdeal.main_arg2))
      ∧ θ_run (Cert.TotalRefIdeal.defs (F := Ideal)) (onTc (τ := Cert.TotalRefIdeal.τ) (Cert.TotalRefIdeal.main (F := Ideal))) ⟨m', fun _ => 0, g'⟩ (fun r => ∀ c : Dev Cert.TotalRefIdeal.nD,
          (∀ i : (⟨4, ![1, 2, 512, 512]⟩ : Shape).Idx, (Cert.On_final_written.fn (F := Ideal) (m ((c.tc : Thread Cert.TotalIdeal.nD Cert.TotalIdeal.τ).loc Cert.TotalIdeal.main_arg0)) (m ((c.tc : Thread Cert.TotalIdeal.nD Cert.TotalIdeal.τ).loc Cert.TotalIdeal.main_arg1)) (m ((c.tc : Thread Cert.TotalIdeal.nD Cert.TotalIdeal.τ).loc Cert.TotalIdeal.main_arg2))) i = 1#1 → r.2.mem ((c.tc : Thread Cert.TotalRefIdeal.nD Cert.TotalRefIdeal.τ).loc Cert.TotalRefIdeal.main_v17) i = v0 c i)
          ∧ r.2.mem ((c.tc : Thread Cert.TotalRefIdeal.nD Cert.TotalRefIdeal.τ).loc Cert.TotalRefIdeal.main_arg0) = m' ((c.tc : Thread Cert.TotalRefIdeal.nD Cert.TotalRefIdeal.τ).loc Cert.TotalRefIdeal.main_arg0)
          ∧ r.2.mem ((c.tc : Thread Cert.TotalRefIdeal.nD Cert.TotalRefIdeal.τ).loc Cert.TotalRefIdeal.main_arg1) = m' ((c.tc : Thread Cert.TotalRefIdeal.nD Cert.TotalRefIdeal.τ).loc Cert.TotalRefIdeal.main_arg1)
          ∧ r.2.mem ((c.tc : Thread Cert.TotalRefIdeal.nD Cert.TotalRefIdeal.τ).loc Cert.TotalRefIdeal.main_arg2) = m' ((c.tc : Thread Cert.TotalRefIdeal.nD Cert.TotalRefIdeal.τ).loc Cert.TotalRefIdeal.main_arg2))

def preserves_Mix_MixIdeal : Prop :=
  True

def Claim : Prop :=
  ∃ (hNorm : Cert.Norm.Facts) (hNormIdeal : Cert.NormIdeal.Facts) (hNormRefIdeal : Cert.NormRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hLoss : Cert.Loss.Facts) (hLossIdeal : Cert.LossIdeal.Facts) (hLossRefIdeal : Cert.LossRefIdeal.Facts) (hPool : Cert.Pool.Facts) (hPoolIdeal : Cert.PoolIdeal.Facts) (hPoolRefIdeal : Cert.PoolRefIdeal.Facts) (hFwd : Cert.Fwd.Facts) (hFwdIdeal : Cert.FwdIdeal.Facts) (hFwdRefIdeal : Cert.FwdRefIdeal.Facts) (hInto : Cert.Into.Facts) (hIntoIdeal : Cert.IntoIdeal.Facts) (hIntoRefIdeal : Cert.IntoRefIdeal.Facts) (hWeight : Cert.Weight.Facts) (hWeightIdeal : Cert.WeightIdeal.Facts) (hWeightRefIdeal : Cert.WeightRefIdeal.Facts) (hAdam : Cert.Adam.Facts) (hAdamIdeal : Cert.AdamIdeal.Facts) (hAdamRefIdeal : Cert.AdamRefIdeal.Facts) (hChip : Cert.Chip.Facts) (hChipIdeal : Cert.ChipIdeal.Facts) (hChipRefIdeal : Cert.ChipRefIdeal.Facts) (hTotal : Cert.Total.Facts) (hTotalIdeal : Cert.TotalIdeal.Facts) (hTotalRefIdeal : Cert.TotalRefIdeal.Facts) (hMix : Cert.Mix.Facts) (hMixIdeal : Cert.MixIdeal.Facts) (hMixRefIdeal : Cert.MixRefIdeal.Facts) (hPre_conv_finite : Cert.Pre_conv_finite.Facts) (hPre_down_finite : Cert.Pre_down_finite.Facts) (hPre_up_finite : Cert.Pre_up_finite.Facts) (hPre_loss_finite : Cert.Pre_loss_finite.Facts) (hOn_down_written : Cert.On_down_written.Facts) (hOn_up_written : Cert.On_up_written.Facts) (hOn_adam_moments : Cert.On_adam_moments.Facts) (hOn_final_written : Cert.On_final_written.Facts),
    quiescent_Norm (hNorm := hNorm)
    ∧ quiescent_NormIdeal (hNormIdeal := hNormIdeal)
    ∧ quiescent_NormIdeal_pre_conv_finite (hNormIdeal := hNormIdeal) (hPre_conv_finite := hPre_conv_finite)
    ∧ quiescent_NormRefIdeal (hNormRefIdeal := hNormRefIdeal)
    ∧ quiescent_NormRefIdeal_pre_conv_finite (hNormRefIdeal := hNormRefIdeal) (hPre_conv_finite := hPre_conv_finite)
    ∧ quiescent_Down (hDown := hDown)
    ∧ quiescent_DownIdeal (hDownIdeal := hDownIdeal)
    ∧ quiescent_DownIdeal_pre_down_finite (hDownIdeal := hDownIdeal) (hPre_down_finite := hPre_down_finite)
    ∧ quiescent_DownRefIdeal (hDownRefIdeal := hDownRefIdeal)
    ∧ quiescent_DownRefIdeal_pre_down_finite (hDownRefIdeal := hDownRefIdeal) (hPre_down_finite := hPre_down_finite)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Pool (hPool := hPool)
    ∧ quiescent_PoolIdeal (hPoolIdeal := hPoolIdeal)
    ∧ quiescent_PoolRefIdeal (hPoolRefIdeal := hPoolRefIdeal)
    ∧ quiescent_Fwd (hFwd := hFwd)
    ∧ quiescent_FwdIdeal (hFwdIdeal := hFwdIdeal)
    ∧ quiescent_FwdRefIdeal (hFwdRefIdeal := hFwdRefIdeal)
    ∧ quiescent_Into (hInto := hInto)
    ∧ quiescent_IntoIdeal (hIntoIdeal := hIntoIdeal)
    ∧ quiescent_IntoRefIdeal (hIntoRefIdeal := hIntoRefIdeal)
    ∧ quiescent_Weight (hWeight := hWeight)
    ∧ quiescent_WeightIdeal (hWeightIdeal := hWeightIdeal)
    ∧ quiescent_WeightRefIdeal (hWeightRefIdeal := hWeightRefIdeal)
    ∧ quiescent_Adam (hAdam := hAdam)
    ∧ quiescent_AdamIdeal (hAdamIdeal := hAdamIdeal)
    ∧ quiescent_AdamRefIdeal (hAdamRefIdeal := hAdamRefIdeal)
    ∧ quiescent_Chip (hChip := hChip)
    ∧ quiescent_ChipIdeal (hChipIdeal := hChipIdeal)
    ∧ quiescent_ChipRefIdeal (hChipRefIdeal := hChipRefIdeal)
    ∧ quiescent_Total (hTotal := hTotal)
    ∧ quiescent_TotalIdeal (hTotalIdeal := hTotalIdeal)
    ∧ quiescent_TotalRefIdeal (hTotalRefIdeal := hTotalRefIdeal)
    ∧ quiescent_Mix (hMix := hMix)
    ∧ quiescent_MixIdeal (hMixIdeal := hMixIdeal)
    ∧ quiescent_MixRefIdeal (hMixRefIdeal := hMixRefIdeal)
    ∧ preserves_Norm_NormIdeal
    ∧ algebraic_NormIdeal_NormRefIdeal_pre_conv_finite (hNormIdeal := hNormIdeal) (hNormRefIdeal := hNormRefIdeal) (hPre_conv_finite := hPre_conv_finite)
    ∧ preserves_Down_DownIdeal
    ∧ algebraic_DownIdeal_DownRefIdeal_on_down_written_pre_down_finite (hDownIdeal := hDownIdeal) (hDownRefIdeal := hDownRefIdeal) (hPre_down_finite := hPre_down_finite) (hOn_down_written := hOn_down_written)
    ∧ preserves_Up_UpIdeal
    ∧ algebraic_UpIdeal_UpRefIdeal_on_up_written_pre_up_finite (hUpIdeal := hUpIdeal) (hUpRefIdeal := hUpRefIdeal) (hPre_up_finite := hPre_up_finite) (hOn_up_written := hOn_up_written)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Pool_PoolIdeal
    ∧ preserves_Fwd_FwdIdeal
    ∧ algebraic_FwdIdeal_FwdRefIdeal (hFwdIdeal := hFwdIdeal) (hFwdRefIdeal := hFwdRefIdeal)
    ∧ preserves_Into_IntoIdeal
    ∧ algebraic_IntoIdeal_IntoRefIdeal (hIntoIdeal := hIntoIdeal) (hIntoRefIdeal := hIntoRefIdeal)
    ∧ preserves_Weight_WeightIdeal
    ∧ algebraic_WeightIdeal_WeightRefIdeal (hWeightIdeal := hWeightIdeal) (hWeightRefIdeal := hWeightRefIdeal)
    ∧ preserves_Adam_AdamIdeal
    ∧ algebraic_AdamIdeal_AdamRefIdeal_on_adam_moments (hAdamIdeal := hAdamIdeal) (hAdamRefIdeal := hAdamRefIdeal) (hOn_adam_moments := hOn_adam_moments)
    ∧ preserves_Chip_ChipIdeal
    ∧ algebraic_ChipIdeal_ChipRefIdeal (hChipIdeal := hChipIdeal) (hChipRefIdeal := hChipRefIdeal)
    ∧ preserves_Total_TotalIdeal
    ∧ algebraic_TotalIdeal_TotalRefIdeal_on_final_written (hTotalIdeal := hTotalIdeal) (hTotalRefIdeal := hTotalRefIdeal) (hOn_final_written := hOn_final_written)
    ∧ preserves_Mix_MixIdeal
-- ==== On_adam_moments.lean ====
abbrev S2x1024x1408 : Shape := ⟨3, ![2, 1024, 1408]⟩
abbrev S_ : Shape := ⟨0, ![]⟩

class Facts : Prop where
  bcast_S_S2x1024x1408 : S_.BroadcastsInDim S2x1024x1408 (![] : Fin 0 → Fin S2x1024x1408.rank)

variable [Facts]

def fn {F : FTy → Type} [FloatOps F] (main_arg0 : FVec F S2x1024x1408 .f32) (main_arg1 : FVec F S2x1024x1408 .f32) (main_arg2 : FVec F S2x1024x1408 .f32) (main_arg3 : FVec F S2x1024x1408 .f32) : IVec S2x1024x1408 1 × IVec S2x1024x1408 1 × IVec S2x1024x1408 1 × IVec S2x1024x1408 1 :=
  let main_c : IVec S_ 1 := constantI S_ 1 1#1
  let main_v0 : IVec S2x1024x1408 1 := broadcastInDim S2x1024x1408 ![] bcast_S_S2x1024x1408 main_c
  let main_c_0 : IVec S_ 1 := constantI S_ 1 0#1
  let main_v1 : IVec S2x1024x1408 1 := broadcastInDim S2x1024x1408 ![] bcast_S_S2x1024x1408 main_c_0
  (main_v0, main_v1, main_v0, main_v0)
-- ==== On_down_written.lean ====
abbrev S2x2048x5632 : Shape := ⟨3, ![2, 2048, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S2x2048x1024 : Shape := ⟨3, ![2, 2048, 1024]⟩
abbrev S5632 : Shape := ⟨1, ![5632]⟩
abbrev S_ : Shape := ⟨0, ![]⟩
abbrev S4096x5632 : Shape := ⟨2, ![4096, 5632]⟩
abbrev S4096x2816 : Shape := ⟨2, ![4096, 2816]⟩
abbrev S8x2816 : Shape := ⟨2, ![8, 2816]⟩

class Facts : Prop where
  bcast_S_S5632 : S_.BroadcastsInDim S5632 (![] : Fin 0 → Fin S5632.rank)
  bcast_S5632_S4096x5632_1 : S5632.BroadcastsInDim S4096x5632 (![1] : Fin 1 → Fin S4096x5632.rank)
  bcast_S_S4096x2816 : S_.BroadcastsInDim S4096x2816 (![] : Fin 0 → Fin S4096x2816.rank)
  bcast_S_S8x2816 : S_.BroadcastsInDim S8x2816 (![] : Fin 0 → Fin S8x2816.rank)

variable [Facts]

def fn {F : FTy → Type} [FloatOps F] (main_arg0 : FVec F S2x2048x5632 .f32) (main_arg1 : FVec F S2x3x2816 .f32) (main_arg2 : FVec F S2x2816 .f32) (main_arg3 : FVec F S2x2816x1024 .f32) (main_arg4 : FVec F S2x2048x1024 .f32) : IVec S4096x2816 1 × IVec S4096x5632 1 × IVec S8x2816 1 :=
  let main_v0 : IVec S5632 32 := iotaInDim S5632 32 0
  let main_c : IVec S_ 32 := constantI S_ 32 2816#32
  let main_v1 : IVec S5632 32 := broadcastInDim S5632 ![] bcast_S_S5632 main_c
  let main_v2 : IVec S5632 1 := cmpi .sge main_v0 main_v1
  let main_v3 : IVec S4096x5632 1 := broadcastInDim S4096x5632 ![1] bcast_S5632_S4096x5632_1 main_v2
  let main_c_0 : IVec S_ 1 := constantI S_ 1 1#1
  let main_v4 : IVec S4096x2816 1 := broadcastInDim S4096x2816 ![] bcast_S_S4096x2816 main_c_0
  let main_c_1 : IVec S_ 1 := constantI S_ 1 1#1
  let main_v5 : IVec S8x2816 1 := broadcastInDim S8x2816 ![] bcast_S_S8x2816 main_c_1
  (main_v4, main_v3, main_v5)
-- ==== On_final_written.lean ====
abbrev S4x2x512x512 : Shape := ⟨4, ![4, 2, 512, 512]⟩
abbrev S4x512x512 : Shape := ⟨3, ![4, 512, 512]⟩
abbrev S3x512x512 : Shape := ⟨3, ![3, 512, 512]⟩
abbrev S1x2x512x512 : Shape := ⟨4, ![1, 2, 512, 512]⟩
abbrev S_ : Shape := ⟨0, ![]⟩

class Facts : Prop where
  bcast_S_S1x2x512x512 : S_.BroadcastsInDim S1x2x512x512 (![] : Fin 0 → Fin S1x2x512x512.rank)

variable [Facts]

def fn {F : FTy → Type} [FloatOps F] (main_arg0 : FVec F S4x2x512x512 .f32) (main_arg1 : FVec F S4x512x512 .f32) (main_arg2 : FVec F S3x512x512 .f32) : IVec S1x2x512x512 1 :=
  let main_v0 : IVec S1x2x512x512 32 := iotaInDim S1x2x512x512 32 1
  let main_c : IVec S_ 32 := constantI S_ 32 1#32
  let main_v1 : IVec S1x2x512x512 32 := broadcastInDim S1x2x512x512 ![] bcast_S_S1x2x512x512 main_c
  let main_v2 : IVec S1x2x512x512 1 := cmpi .slt main_v0 main_v1
  main_v2
-- ==== On_up_written.lean ====
abbrev S2x2048x1024 : Shape := ⟨3, ![2, 2048, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2048x2816 : Shape := ⟨3, ![2, 2048, 2816]⟩
abbrev S5632 : Shape := ⟨1, ![5632]⟩
abbrev S_ : Shape := ⟨0, ![]⟩
abbrev S4096x5632 : Shape := ⟨2, ![4096, 5632]⟩
abbrev S4096x1024 : Shape := ⟨2, ![4096, 1024]⟩
abbrev S1x1024 : Shape := ⟨2, ![1, 1024]⟩

class Facts : Prop where
  bcast_S_S5632 : S_.BroadcastsInDim S5632 (![] : Fin 0 → Fin S5632.rank)
  bcast_S5632_S4096x5632_1 : S5632.BroadcastsInDim S4096x5632 (![1] : Fin 1 → Fin S4096x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S2x2048x1024 .f32) (main_arg1 : FVec F S2x1024 .f32) (main_arg2 : FVec F S2x1024x5632 .f32) (main_arg3 : FVec F S2x3x2816 .f32) (main_arg4 : FVec F S2x2048x2816 .f32) (main_arg5 : FVec F S2x2048x2816 .f32) (main_arg6 : FVec F S2x2048x1024 .f32) : IVec S4096x5632 1 × IVec S4096x1024 1 × IVec S4096x1024 1 × IVec S1x1024 1 :=
  let main_v0 : IVec S5632 32 := iotaInDim S5632 32 0
  let main_c : IVec S_ 32 := constantI S_ 32 2816#32
  let main_v1 : IVec S5632 32 := broadcastInDim S5632 ![] bcast_S_S5632 main_c
  let main_v2 : IVec S5632 1 := cmpi .slt main_v0 main_v1
  let main_v3 : IVec S4096x5632 1 := broadcastInDim S4096x5632 ![1] bcast_S5632_S4096x5632_1 main_v2
  let main_c_0 : IVec S_ 1 := constantI S_ 1 1#1
  let main_v4 : IVec S4096x1024 1 := broadcastInDim S4096x1024 ![] bcast_S_S4096x1024 main_c_0
  let main_c_1 : IVec S_ 1 := constantI S_ 1 1#1
  let main_v5 : IVec S4096x1024 1 := broadcastInDim S4096x1024 ![] bcast_S_S4096x1024 main_c_1
  let main_c_2 : IVec S_ 1 := constantI S_ 1 1#1
  let main_v6 : IVec S1x1024 1 := broadcastInDim S1x1024 ![] bcast_S_S1x1024 main_c_2
  (main_v3, main_v4, main_v5, main_v6)
-- ==== Pre_conv_finite.lean ====
abbrev S2x2048x1024 : Shape := ⟨3, ![2, 2048, 1024]⟩
abbrev S1x1024 : Shape := ⟨2, ![1, 1024]⟩
abbrev S1x1024x1024 : Shape := ⟨3, ![1, 1024, 1024]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)

variable [Facts]

def fn {F : FTy → Type} [FloatOps F] (main_arg0 : FVec F S2x2048x1024 .f32) (main_arg1 : FVec F S1x1024 .f32) (main_arg2 : FVec F S1x1024 .f32) (main_arg3 : FVec F S1x1024 .f32) (main_arg4 : FVec F S1x1024x1024 .f32) (main_arg5 : FVec F S2x2048x1024 .f32) : IVec S2x2048x1024 1 × IVec S1x1024 1 × IVec S1x1024 1 × IVec S1x1024 1 × IVec S1x1024x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S2x2048x1024 .f32 := Host.absf main_arg5
  let main_cst_4 : FVec F S_ .f32 := constant S_ .f32 0x7F800000#32
  let main_v16 : FVec F S2x2048x1024 .f32 := broadcastInDim S2x2048x1024 ![] bcast_S_S2x2048x1024 main_cst_4
  let main_v17 : IVec S2x2048x1024 1 := cmpf .olt main_v15 main_v16
  (main_v2, main_v5, main_v8, main_v11, main_v14, main_v17)
-- ==== Pre_down_finite.lean ====
abbrev S2x2048x5632 : Shape := ⟨3, ![2, 2048, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S2x2048x1024 : Shape := ⟨3, ![2, 2048, 1024]⟩
abbrev S_ : Shape := ⟨0, ![]⟩

class Facts : Prop where
  bcast_S_S2x2048x5632 : S_.BroadcastsInDim S2x2048x5632 (![] : Fin 0 → Fin S2x2048x5632.rank)
  bcast_S_S2x3x2816 : S_.BroadcastsInDim S2x3x2816 (![] : Fin 0 → Fin S2x3x2816.rank)
  bcast_S_S2x2816 : S_.BroadcastsInDim S2x2816 (![] : Fin 0 → Fin S2x2816.rank)
  bcast_S_S2x2816x1024 : S_.BroadcastsInDim S2x2816x1024 (![] : Fin 0 → Fin S2x2816x1024.rank)
  bcast_S_S2x2048x1024 : S_.BroadcastsInDim S2x2048x1024 (![] : Fin 0 → Fin S2x2048x1024.rank)

variable [Facts]

def fn {F : FTy → Type} [FloatOps F] (main_arg0 : FVec F S2x2048x5632 .f32) (main_arg1 : FVec F S2x3x2816 .f32) (main_arg2 : FVec F S2x2816 .f32) (main_arg3 : FVec F S2x2816x1024 .f32) (main_arg4 : FVec F S2x2048x1024 .f32) : IVec S2x2048x5632 1 × IVec S2x3x2816 1 × IVec S2x2816 1 × IVec S2x2816x1024 1 × IVec S2x2048x1024 1 :=
  let main_v0 : FVec F S2x2048x5632 .f32 := Host.absf main_arg0
  let main_cst : FVec F S_ .f32 := constant S_ .f32 0x7F800000#32
  let main_v1 : FVec F S2x2048x5632 .f32 := broadcastInDim S2x2048x5632 ![] bcast_S_S2x2048x5632 main_cst
  let main_v2 : IVec S2x2048x5632 1 := cmpf .olt main_v0 main_v1
  let main_v3 : FVec F S2x3x2816 .f32 := Host.absf main_arg1
  let main_cst_0 : FVec F S_ .f32 := constant S_ .f32 0x7F800000#32
  let main_v4 : FVec F S2x3x2816 .f32 := broadcastInDim S2x3x2816 ![] bcast_S_S2x3x2816 main_cst_0
  let main_v5 : IVec S2x3x2816 1 := cmpf .olt main_v3 main_v4
  let main_v6 : FVec F S2x2816 .f32 := Host.absf main_arg2
  let main_cst_1 : FVec F S_ .f32 := constant S_ .f32 0x7F800000#32
  let main_v7 : FVec F S2x2816 .f32 := broadcastInDim S2x2816 ![] bcast_S_S2x2816 main_cst_1
  let main_v8 : IVec S2x2816 1 := cmpf .olt main_v6 main_v7
  let main_v9 : FVec F S2x2816x1024 .f32 := Host.absf main_arg3
  let main_cst_2 : FVec F S_ .f32 := constant S_ .f32 0x7F800000#32
  let main_v10 : FVec F S2x2816x1024 .f32 := broadcastInDim S2x2816x1024 ![] bcast_S_S2x2816x1024 main_cst_2
  let main_v11 : IVec S2x2816x1024 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  (main_v2, main_v5, main_v8, main_v11, main_v14)
-- ==== Pre_loss_finite.lean ====
abbrev S2x2048x1024 : Shape := ⟨3, ![2, 2048, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  bcast_S_S2x1024 : S_.BroadcastsInDim S2x1024 (![] : Fin 0 → Fin S2x1024.rank)
  bcast_S_S2x1024x5632 : S_.BroadcastsInDim S2x1024x5632 (![] : Fin 0 → Fin S2x1024x5632.rank)
  bcast_S_S2x3x2816 : S_.BroadcastsInDim S2x3x2816 (![] : Fin 0 → Fin S2x3x2816.rank)
  bcast_S_S2x2816 : S_.BroadcastsInDim S2x2816 (![] : Fin 0 → Fin S2x2816.rank)
  bcast_S_S2x2816x1024 : S_.BroadcastsInDim S2x2816x1024 (![] : Fin 0 → Fin S2x2816x1024.rank)
  bcast_S_S1024 : S_.BroadcastsInDim S1024 (![] : Fin 0 → Fin S1024.rank)

variable [Facts]

def fn_part1 {F : FTy → Type} [FloatOps F] (main_arg6 : FVec F S1024 .f32) (main_arg7 : FVec F S2x2048x1024 .f32) (main_v2 : IVec S2x2048x1024 1) (main_v5 : IVec S2x1024 1) (main_v8 : IVec S2x1024x5632 1) (main_v11 : IVec S2x3x2816 1) (main_v14 : IVec S2x2816 1) (main_v17 : IVec S2x2816x1024 1) : IVec S2x2048x1024 1 × IVec S2x1024 1 × IVec S2x1024x5632 1 × IVec S2x3x2816 1 × IVec S2x2816 1 × IVec S2x2816x1024 1 × IVec S1024 1 × IVec S2x2048x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S2x2048x1024 .f32 := Host.absf main_arg7
  let main_cst_6 : FVec F S_ .f32 := constant S_ .f32 0x7F800000#32
  let main_v22 : FVec F S2x2048x1024 .f32 := broadcastInDim S2x2048x1024 ![] bcast_S_S2x2048x1024 main_cst_6
  let main_v23 : IVec S2x2048x1024 1 := cmpf .olt main_v21 main_v22
  (main_v2, main_v5, main_v8, main_v11, main_v14, main_v17, main_v20, main_v23)

def fn {F : FTy → Type} [FloatOps F] (main_arg0 : FVec F S2x2048x1024 .f32) (main_arg1 : FVec F S2x1024 .f32) (main_arg2 : FVec F S2x1024x5632 .f32) (main_arg3 : FVec F S2x3x2816 .f32) (main_arg4 : FVec F S2x2816 .f32) (main_arg5 : FVec F S2x2816x1024 .f32) (main_arg6 : FVec F S1024 .f32) (main_arg7 : FVec F S2x2048x1024 .f32) : IVec S2x2048x1024 1 × IVec S2x1024 1 × IVec S2x1024x5632 1 × IVec S2x3x2816 1 × IVec S2x2816 1 × IVec S2x2816x1024 1 × IVec S1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024x5632 .f32 := Host.absf main_arg2
  let main_cst_1 : FVec F S_ .f32 := constant S_ .f32 0x7F800000#32
  let main_v7 : FVec F S2x1024x5632 .f32 := broadcastInDim S2x1024x5632 ![] bcast_S_S2x1024x5632 main_cst_1
  let main_v8 : IVec S2x1024x5632 1 := cmpf .olt main_v6 main_v7
  let main_v9 : FVec F S2x3x2816 .f32 := Host.absf main_arg3
  let main_cst_2 : FVec F S_ .f32 := constant S_ .f32 0x7F800000#32
  let main_v10 : FVec F S2x3x2816 .f32 := broadcastInDim S2x3x2816 ![] bcast_S_S2x3x2816 main_cst_2
  let main_v11 : IVec S2x3x2816 1 := cmpf .olt main_v9 main_v10
  let main_v12 : FVec F S2x2816 .f32 := Host.absf main_arg4
  let main_cst_3 : FVec F S_ .f32 := constant S_ .f32 0x7F800000#32
  let main_v13 : FVec F S2x2816 .f32 := broadcastInDim S2x2816 ![] bcast_S_S2x2816 main_cst_3
  let main_v14 : IVec S2x2816 1 := cmpf .olt main_v12 main_v13
  let main_v15 : FVec F S2x2816x1024 .f32 := Host.absf main_arg5
  let main_cst_4 : FVec F S_ .f32 := constant S_ .f32 0x7F800000#32
  let main_v16 : FVec F S2x2816x1024 .f32 := broadcastInDim S2x2816x1024 ![] bcast_S_S2x2816x1024 main_cst_4
  let main_v17 : IVec S2x2816x1024 1 := cmpf .olt main_v15 main_v16
  fn_part1 (F := F) main_arg6 main_arg7 main_v2 main_v5 main_v8 main_v11 main_v14 main_v17
-- ==== Pre_up_finite.lean ====
abbrev S2x2048x1024 : Shape := ⟨3, ![2, 2048, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2048x2816 : Shape := ⟨3, ![2, 2048, 2816]⟩
abbrev S_ : Shape := ⟨0, ![]⟩

class Facts : Prop where
  bcast_S_S2x2048x1024 : S_.BroadcastsInDim S2x2048x1024 (![] : Fin 0 → Fin S2x2048x1024.rank)
  bcast_S_S2x1024 : S_.BroadcastsInDim S2x1024 (![] : Fin 0 → Fin S2x1024.rank)
  bcast_S_S2x1024x5632 : S_.BroadcastsInDim S2x1024x5632 (![] : Fin 0 → Fin S2x1024x5632.rank)
  bcast_S_S2x3x2816 : S_.BroadcastsInDim S2x3x2816 (![] : Fin 0 → Fin S2x3x2816.rank)
  bcast_S_S2x2048x2816 : S_.BroadcastsInDim S2x2048x2816 (![] : Fin 0 → Fin S2x2048x2816.rank)

variable [Facts]

def fn_part1 {F : FTy → Type} [FloatOps F] (main_arg6 : FVec F S2x2048x1024 .f32) (main_v2 : IVec S2x2048x1024 1) (main_v5 : IVec S2x1024 1) (main_v8 : IVec S2x1024x5632 1) (main_v11 : IVec S2x3x2816 1) (main_v14 : IVec S2x2048x2816 1) (main_v17 : IVec S2x2048x2816 1) : IVec S2x2048x1024 1 × IVec S2x1024 1 × IVec S2x1024x5632 1 × IVec S2x3x2816 1 × IVec S2x2048x2816 1 × IVec S2x2048x2816 1 × IVec S2x2048x1024 1 :=
  let main_v18 : FVec F S2x2048x1024 .f32 := Host.absf main_arg6
  let main_cst_5 : FVec F S_ .f32 := constant S_ .f32 0x7F800000#32
  let main_v19 : FVec F S2x2048x1024 .f32 := broadcastInDim S2x2048x1024 ![] bcast_S_S2x2048x1024 main_cst_5
  let main_v20 : IVec S2x2048x1024 1 := cmpf .olt main_v18 main_v19
  (main_v2, main_v5, main_v8, main_v11, main_v14, main_v17, main_v20)

def fn {F : FTy → Type} [FloatOps F] (main_arg0 : FVec F S2x2048x1024 .f32) (main_arg1 : FVec F S2x1024 .f32) (main_arg2 : FVec F S2x1024x5632 .f32) (main_arg3 : FVec F S2x3x2816 .f32) (main_arg4 : FVec F S2x2048x2816 .f32) (main_arg5 : FVec F S2x2048x2816 .f32) (main_arg6 : FVec F S2x2048x1024 .f32) : IVec S2x2048x1024 1 × IVec S2x1024 1 × IVec S2x1024x5632 1 × IVec S2x3x2816 1 × IVec S2x2048x2816 1 × IVec S2x2048x2816 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024x5632 .f32 := Host.absf main_arg2
  let main_cst_1 : FVec F S_ .f32 := constant S_ .f32 0x7F800000#32
  let main_v7 : FVec F S2x1024x5632 .f32 := broadcastInDim S2x1024x5632 ![] bcast_S_S2x1024x5632 main_cst_1
  let main_v8 : IVec S2x1024x5632 1 := cmpf .olt main_v6 main_v7
  let main_v9 : FVec F S2x3x2816 .f32 := Host.absf main_arg3
  let main_cst_2 : FVec F S_ .f32 := constant S_ .f32 0x7F800000#32
  let main_v10 : FVec F S2x3x2816 .f32 := broadcastInDim S2x3x2816 ![] bcast_S_S2x3x2816 main_cst_2
  let main_v11 : IVec S2x3x2816 1 := cmpf .olt main_v9 main_v10
  let main_v12 : FVec F S2x2048x2816 .f32 := Host.absf main_arg4
  let main_cst_3 : FVec F S_ .f32 := constant S_ .f32 0x7F800000#32
  let main_v13 : FVec F S2x2048x2816 .f32 := broadcastInDim S2x2048x2816 ![] bcast_S_S2x2048x2816 main_cst_3
  let main_v14 : IVec S2x2048x2816 1 := cmpf .olt main_v12 main_v13
  let main_v15 : FVec F S2x2048x2816 .f32 := Host.absf main_arg5
  let main_cst_4 : FVec F S_ .f32 := constant S_ .f32 0x7F800000#32
  let main_v16 : FVec F S2x2048x2816 .f32 := broadcastInDim S2x2048x2816 ![] bcast_S_S2x2048x2816 main_cst_4
  let main_v17 : IVec S2x2048x2816 1 := cmpf .olt main_v15 main_v16
  fn_part1 (F := F) main_arg6 main_v2 main_v5 main_v8 main_v11 main_v14 main_v17
-- ==== Norm.lean ====
abbrev S2x2048x1024 : Shape := ⟨3, ![2, 2048, 1024]⟩
abbrev S1x1024 : Shape := ⟨2, ![1, 1024]⟩
abbrev S1x1024x1024 : Shape := ⟨3, ![1, 1024, 1024]⟩
abbrev S1024 : Shape := ⟨1, ![1024]⟩
abbrev S1x1x1024 : Shape := ⟨3, ![1, 1, 1024]⟩
abbrev S4096x1024 : Shape := ⟨2, ![4096, 1024]⟩
abbrev S1024x1024 : Shape := ⟨2, ![1024, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S4x1024 : Shape := ⟨2, ![4, 1024]⟩

abbrev nBuf : Space → Nat
  | .hbm => 16
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S2x2048x1024, .f32⟩
  | .hbm, ⟨6, _⟩ => ⟨S1024, .f32⟩
  | .hbm, ⟨7, _⟩ => ⟨S1x1x1024, .f32⟩
  | .hbm, ⟨8, _⟩ => ⟨S2x2048x1024, .f32⟩
  | .hbm, ⟨9, _⟩ => ⟨S2x2048x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S1024x1024, .bf16⟩
  | .hbm, ⟨14, _⟩ => ⟨S4096x1024, .f32⟩
  | .hbm, ⟨15, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_29 : BitVec 32 := 0#32
  let v71 : BitVec 1 := Scalar.cmpi .ne v70 c0_i32_29
  v71

def k0_cond2 (i : grid0.Coords) : BitVec 1 :=
  let arg0 : BitVec 32 := BitVec.ofNat 32 (i 0).val
  let c0_i32 : BitVec 32 := 0#32
  let v69 : BitVec 1 := Scalar.cmpi .eq arg0 c0_i32
  let v_true : BitVec 1 := 1#1
  let v72 : BitVec 1 := Scalar.xori v69 v_true
  let v73 : BitVec 32 := Scalar.extui v72
  let c0_i32_30 : BitVec 32 := 0#32
  let v74 : BitVec 1 := Scalar.cmpi .ne v73 c0_i32_30
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S2x2048x1024 : Shape := ⟨3, ![2, 2048, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S1x1x1024 : Shape := ⟨3, ![1, 1, 1024]⟩
abbrev S2x2048 : Shape := ⟨2, ![2, 2048]⟩
abbrev S2x2048x1 : Shape := ⟨3, ![2, 2048, 1]⟩
abbrev S1024x1024 : Shape := ⟨2, ![1024, 1024]⟩
abbrev S4096x1024 : Shape := ⟨2, ![4096, 1024]⟩
abbrev S4x1024 : Shape := ⟨2, ![4, 1024]⟩
abbrev S8x1024 : Shape := ⟨2, ![8, 1024]⟩

abbrev nBuf : Space → Nat
  | .hbm => 137
  | .vmem => 0
  | .smem => 0
  | _ => 0

abbrev hbmTy0_0 (i : Nat) : BufTy := match i % 128 with
  | 0 => ⟨S2x2048x1024, .f32⟩
  | 1 => ⟨S1x1024, .f32⟩
  | 2 => ⟨S1x1024, .f32⟩
  | 3 => ⟨S1x1024, .f32⟩
  | 4 => ⟨S1x1024x1024, .f32⟩
  | 5 => ⟨S2x2048x1024, .f32⟩
  | 6 => ⟨S1024, .f32⟩
  | 7 => ⟨S1024, .f32⟩
  | 8 => ⟨S1024, .f32⟩
  | 9 => ⟨S_, .f32⟩
  | 10 => ⟨S1024, .f32⟩
  | 11 => ⟨S1x1x1024, .f32⟩
  | 12 => ⟨S2x2048x1024, .f32⟩
  | 13 => ⟨S2x2048x1024, .f32⟩
  | 14 => ⟨S_, .f32⟩
  | 15 => ⟨S2x2048, .f32⟩
  | 16 => ⟨S2x2048x1, .f32⟩
  | 17 => ⟨S_, .f32⟩
  | 18 => ⟨S2x2048x1, .f32⟩
  | 19 => ⟨S2x2048x1, .f32⟩
  | 20 => ⟨S2x2048x1024, .f32⟩
  | 21 => ⟨S2x2048x1024, .f32⟩
  | 22 => ⟨S2x2048x1024, .f32⟩
  | 23 => ⟨S_, .f32⟩
  | 24 => ⟨S2x2048x1024, .f32⟩
  | 25 => ⟨S2x2048x1024, .f32⟩
  | 26 => ⟨S_, .f32⟩
  | 27 => ⟨S2x2048, .f32⟩
  | 28 => ⟨S2x2048x1, .f32⟩
  | 29 => ⟨S_, .f32⟩
  | 30 => ⟨S2x2048x1, .f32⟩
  | 31 => ⟨S2x2048x1, .f32⟩
  | 32 => ⟨S2x2048x1024, .f32⟩
  | 33 => ⟨S2x2048x1024, .f32⟩
  | 34 => ⟨S_, .f32⟩
  | 35 => ⟨S2x2048x1, .f32⟩
  | 36 => ⟨S2x2048x1, .f32⟩
  | 37 => ⟨S2x2048x1, .f32⟩
  | 38 => ⟨S2x2048x1, .f32⟩
  | 39 => ⟨S_, .f32⟩
  | 40 => ⟨S2x2048x1, .f32⟩
  | 41 => ⟨S2x2048x1, .f32⟩
  | 42 => ⟨S2x2048x1024, .f32⟩
  | 43 => ⟨S2x2048x1024, .f32⟩
  | 44 => ⟨S1x1x1024, .f32⟩
  | 45 => ⟨S2x2048x1024, .f32⟩
  | 46 => ⟨S2x2048x1024, .f32⟩
  | 47 => ⟨S1x1x1024, .f32⟩
  | 48 => ⟨S2x2048x1024, .f32⟩
  | 49 => ⟨S2x2048x1024, .f32⟩
  | 50 => ⟨S2x2048x1024, .f32⟩
  | 51 => ⟨S2x2048x1024, .f32⟩
  | 52 => ⟨S_, .f32⟩
  | 53 => ⟨S2x2048x1024, .f32⟩
  | 54 => ⟨S2x2048x1024, .f32⟩
  | 55 => ⟨S_, .f32⟩
  | 56 => ⟨S2x2048x1024, .f32⟩
  | 57 => ⟨S2x2048x1024, .f32⟩
  | 58 => ⟨S_, .f32⟩
  | 59 => ⟨S2x2048x1024, .f32⟩
  | 60 => ⟨S2x2048x1024, .f32⟩
  | 61 => ⟨S2x2048x1024, .f32⟩
  | 62 => ⟨S2x2048x1024, .f32⟩
  | 63 => ⟨S1024x1024, .f32⟩
  | 64 => ⟨S2x2048x1024, .f32⟩
  | 65 => ⟨S1x1x1024, .f32⟩
  | 66 => ⟨S2x2048x1024, .f32⟩
  | 67 => ⟨S2x2048x1024, .f32⟩
  | 68 => ⟨S2x2048x1024, .f32⟩
  | 69 => ⟨S_, .f32⟩
  | 70 => ⟨S1024, .f32⟩
  | 71 => ⟨S1x1x1024, .f32⟩
  | 72 => ⟨S_, .f32⟩
  | 73 => ⟨S1024, .f32⟩
  | 74 => ⟨S2x2048x1024, .f32⟩
  | 75 => ⟨S2x2048x1024, .f32⟩
  | 76 => ⟨S2x2048x1024, .f32⟩
  | 77 => ⟨S2x2048x1024, .f32⟩
  | 78 => ⟨S2x2048x1024, .f32⟩
  | 79 => ⟨S_, .f32⟩
  | 80 => ⟨S1024, .f32⟩
  | 81 => ⟨S1x1x1024, .f32⟩
  | 82 => ⟨S_, .f32⟩
  | 83 => ⟨S1024, .f32⟩
  | 84 => ⟨S2x2048x1024, .f32⟩
  | 85 => ⟨S_, .f32⟩
  | 86 => ⟨S1024, .f32⟩
  | 87 => ⟨S1x1x1024, .f32⟩
  | 88 => ⟨S2x2048x1024, .f32⟩
  | 89 => ⟨S2x2048x1024, .f32⟩
  | 90 => ⟨S_, .f32⟩
  | 91 => ⟨S1024, .f32⟩
  | 92 => ⟨S2x2048x1024, .f32⟩
  | 93 => ⟨S_, .f32⟩
  | 94 => ⟨S2x2048, .f32⟩
  | 95 => ⟨S2x2048x1, .f32⟩
  | 96 => ⟨S2x2048x1024, .f32⟩
  | 97 => ⟨S2x2048x1024, .f32⟩
  | 98 => ⟨S2x2048x1, .f32⟩
  | 99 => ⟨S2x2048x1024, .f32⟩
  | 100 => ⟨S_, .f32⟩
  | 101 => ⟨S2x2048, .f32⟩
  | 102 => ⟨S2x2048x1, .f32⟩
  | 103 => ⟨S_, .f32⟩
  | 104 => ⟨S2x2048x1, .f32⟩
  | 105 => ⟨S2x2048x1, .f32⟩
  | 106 => ⟨S_, .f32⟩
  | 107 => ⟨S2x2048, .f32⟩
  | 108 => ⟨S2x2048x1024, .f32⟩
  | 109 => ⟨S2x2048x1024, .f32⟩
  | 110 => ⟨S2x2048x1024, .f32⟩
  | 111 => ⟨S_, .f32⟩
  | 112 => ⟨S2x2048, .f32⟩
  | 113 => ⟨S2x2048x1, .f32⟩
  | 114 => ⟨S2x2048x1024, .f32⟩
  | 115 => ⟨S2x2048x1, .f32⟩
  | 116 => ⟨S_, .f32⟩
  | 117 => ⟨S2x2048x1, .f32⟩
  | 118 => ⟨S2x2048x1, .f32⟩
  | 119 => ⟨S_, .f32⟩
  | 120 => ⟨S2x2048, .f32⟩
  | 121 => ⟨S2x2048x1024, .f32⟩
  | 122 => ⟨S2x2048x1024, .f32⟩
  | 123 => ⟨S_, .f32⟩
  | 124 => ⟨S1024, .f32⟩
  | 125 => ⟨S1x1x1024, .f32⟩
  | 126 => ⟨S_, .f32⟩
  | 127 => ⟨S1024, .f32⟩
  | _ => ⟨S2x2048x1024, .f32⟩

abbrev hbmTy0_1 (i : Nat) : BufTy := match i % 128 with
  | 0 => ⟨S4096x1024, .f32⟩
  | 1 => ⟨S1x1024, .f32⟩
  | 2 => ⟨S1x1024, .f32⟩
  | 3 => ⟨S1x1024, .f32⟩
  | 4 => ⟨S1x1024, .f32⟩
  | 5 => ⟨S4x1024, .f32⟩
  | 6 => ⟨S_, .f32⟩
  | 7 => ⟨S4x1024, .f32⟩
  | 8 => ⟨S8x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v36_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v36_1 : Ref sig .tc := ⟨.hbm, 61, rfl⟩
abbrev main_v36_0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_cst_13 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_cst_16 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_17 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_18 : Ref sig .tc := ⟨.hbm, 116, rfl⟩
abbrev main_v76 : Ref sig .tc := ⟨.hbm, 117, rfl⟩
abbrev main_v77 : Ref sig .tc := ⟨.hbm, 118, rfl⟩
abbrev main_cst_19 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_20 : Ref sig .tc := ⟨.hbm, 123, rfl⟩
abbrev main_v81 : Ref sig .tc := ⟨.hbm, 124, rfl⟩
abbrev main_v82 : Ref sig .tc := ⟨.hbm, 125, rfl⟩
abbrev main_cst_21 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_22 : Ref sig .tc := ⟨.hbm, 134, rfl⟩
abbrev main_v90 : Ref sig .tc := ⟨.hbm, 135, rfl⟩
abbrev main_v91 : Ref sig .tc := ⟨.hbm, 136, rfl⟩

abbrev nD : Nat := 1
abbrev τ : Topo := Topo.v7x

variable {F : FTy → Type} [FloatOps F]
-- ==== Down.lean ====
abbrev S2x2048x5632 : Shape := ⟨3, ![2, 2048, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S2x2048x1024 : Shape := ⟨3, ![2, 2048, 1024]⟩
abbrev S_ : Shape := ⟨0, ![]⟩
abbrev S2x8x2816 : Shape := ⟨3, ![2, 8, 2816]⟩
abbrev S1x8x2816 : Shape := ⟨3, ![1, 8, 2816]⟩
abbrev S8x2816 : Shape := ⟨2, ![8, 2816]⟩
abbrev S4096x1024 : Shape := ⟨2, ![4096, 1024]⟩
abbrev S4096x5632 : Shape := ⟨2, ![4096, 5632]⟩
abbrev S1x2816 : Shape := ⟨2, ![1, 2816]⟩
abbrev S1x2816x1024 : Shape := ⟨3, ![1, 2816, 1024]⟩
abbrev S2816x1024 : Shape := ⟨2, ![2816, 1024]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S264x2816 : Shape := ⟨2, ![264, 2816]⟩
abbrev S2x256x2816 : Shape := ⟨3, ![2, 256, 2816]⟩
abbrev S1x256x2816 : Shape := ⟨3, ![1, 256, 2816]⟩
abbrev S2816 : Shape := ⟨1, ![2816]⟩
abbrev S4x2816 : Shape := ⟨2, ![4, 2816]⟩

abbrev nBuf : Space → Nat
  | .hbm => 19
  | .vmem => 16
  | .smem => 0
  | _ => 0

abbrev bufTy : (tb : Table) → Fin (tcTables nBuf tb) → BufTy
  | .hbm, ⟨0, _⟩ => ⟨S2x2048x5632, .f32⟩
  | .hbm, ⟨1, _⟩ => ⟨S2x3x2816, .f32⟩
  | .hbm, ⟨2, _⟩ => ⟨S2x2816, .f32⟩
  | .hbm, ⟨3, _⟩ => ⟨S2x2816x1024, .f32⟩
  | .hbm, ⟨4, _⟩ => ⟨S2x2048x1024, .f32⟩
  | .hbm, ⟨5, _⟩ => ⟨S_, .i32⟩
  | .hbm, ⟨6, _⟩ => ⟨S_, .f32⟩
  | .hbm, ⟨7, _⟩ => ⟨S2x8x2816, .f32⟩
  | .hbm, ⟨8, _⟩ => ⟨S1x8x2816, .f32⟩
  | .hbm, ⟨9, _⟩ => ⟨S8x2816, .f32⟩
  | .hbm, ⟨10, _⟩ => ⟨S4096x1024, .f32⟩
  | .hbm, ⟨11, _⟩ => ⟨S4096x5632, .f32⟩
  | .hbm, ⟨12, _⟩ => ⟨S1x2816, .f32⟩
  | .hbm, ⟨13, _⟩ => ⟨S1x2816x1024, .f32⟩
  | .hbm, ⟨14, _⟩ => ⟨S2816x1024, .f32⟩
  | .hbm, ⟨15, _⟩ => ⟨S2816x1024, .bf16⟩
  | .hbm, ⟨16, _⟩ => ⟨S4096x2816, .f32⟩
  | .hbm, ⟨17, _⟩ => ⟨S4096x5632, .bf16⟩
  | .hbm, ⟨18, _⟩ => ⟨S8x2816, .f32⟩
  | .local _ .vmem, ⟨0, _⟩ => ⟨S256x1024, .f32⟩
  | .local _ .vmem, ⟨1, _⟩ => ⟨S256x1024, .f32⟩
  | .local _ .vmem, ⟨2, _⟩ => ⟨S256x5632, .f32⟩
  | .local _ .vmem, ⟨3, _⟩ => ⟨S256x5632, .f32⟩
  | .local _ .vmem, ⟨4, _⟩ => ⟨S8x2816, .f32⟩
  | .local _ .vmem, ⟨5, _⟩ => ⟨S8x2816, .f32⟩
  | .local _ .vmem, ⟨6, _⟩ => ⟨S8x2816, .f32⟩
  | .local _ .vmem, ⟨7, _⟩ => ⟨S1x2816, .f32⟩
  | .local _ .vmem, ⟨8, _⟩ => ⟨S2816x1024, .bf16⟩
  | .local _ .vmem, ⟨9, _⟩ => ⟨S256x2816, .f32⟩
  | .local _ .vmem, ⟨10, _⟩ => ⟨S256x2816, .f32⟩
  | .local _ .vmem, ⟨11, _⟩ => ⟨S256x2816, .bf16⟩
  | .local _ .vmem, ⟨12, _⟩ => ⟨S256x2816, .bf16⟩
  | .local _ .vmem, ⟨13, _⟩ => ⟨S8x2816, .f32⟩
  | .local _ .vmem, ⟨14, _⟩ => ⟨S264x2816, .f32⟩
  | .local _ .vmem, ⟨15, _⟩ => ⟨S2x256x2816, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_57 : BitVec 32 := 0#32
  let v94 : BitVec 1 := Scalar.cmpi .eq arg0 c0_i32_57
  let v95 : BitVec 32 := Scalar.extui v94
  let c0_i32_58 : BitVec 32 := 0#32
  let v96 : BitVec 1 := Scalar.cmpi .ne v95 c0_i32_58
  v96

def k0_cond2 (i : grid0.Coords) : BitVec 1 :=
  let arg0 : BitVec 32 := BitVec.ofNat 32 (i 0).val
  let c0_i32_57 : BitVec 32 := 0#32
  let v94 : BitVec 1 := Scalar.cmpi .eq arg0 c0_i32_57
  let v_true : BitVec 1 := 1#1
  let v97 : BitVec 1 := Scalar.xori v94 v_true
  let v98 : BitVec 32 := Scalar.extui v97
  let c0_i32_59 : BitVec 32 := 0#32
  let v99 : BitVec 1 := Scalar.cmpi .ne v98 c0_i32_59
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownRefIdeal.lean ====
abbrev S2x2048x5632 : Shape := ⟨3, ![2, 2048, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S2x2048x1024 : Shape := ⟨3, ![2, 2048, 1024]⟩
abbrev S2x2048x2816 : Shape := ⟨3, ![2, 2048, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S_ : Shape := ⟨0, ![]⟩
abbrev S2x2x2816 : Shape := ⟨3, ![2, 2, 2816]⟩
abbrev S2x2050x2816 : Shape := ⟨3, ![2, 2050, 2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S4096x2816 : Shape := ⟨2, ![4096, 2816]⟩
abbrev S4096x5632 : Shape := ⟨2, ![4096, 5632]⟩
abbrev S4x2816 : Shape := ⟨2, ![4, 2816]⟩
abbrev S8x2816 : Shape := ⟨2, ![8, 2816]⟩

abbrev nBuf : Space → Nat
  | .hbm => 105
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S2x3x2816, .f32⟩
  | .hbm, ⟨2, _⟩ => ⟨S2x2816, .f32⟩
  | .hbm, ⟨3, _⟩ => ⟨S2x2816x1024, .f32⟩
  | .hbm, ⟨4, _⟩ => ⟨S2x2048x1024, .f32⟩
  | .hbm, ⟨5, _⟩ => ⟨S2x2048x2816, .f32⟩
  | .hbm, ⟨6, _⟩ => ⟨S2x2048x2816, .f32⟩
  | .hbm, ⟨7, _⟩ => ⟨S1x3x2816, .f32⟩
  | .hbm, ⟨8, _⟩ => ⟨S3x2816, .f32⟩
  | .hbm, ⟨9, _⟩ => ⟨S1x2816, .f32⟩
  | .hbm, ⟨10, _⟩ => ⟨S2816, .f32⟩
  | .hbm, ⟨11, _⟩ => ⟨S_, .f32⟩
  | .hbm, ⟨12, _⟩ => ⟨S2x2x2816, .f32⟩
  | .hbm, ⟨13, _⟩ => ⟨S2x2050x2816, .f32⟩
  | .hbm, ⟨14, _⟩ => ⟨S2x2048x2816, .f32⟩
  | .hbm, ⟨15, _⟩ => ⟨S1x2816, .f32⟩
  | .hbm, ⟨16, _⟩ => ⟨S2816, .f32⟩
  | .hbm, ⟨17, _⟩ => ⟨S1x1x2816, .f32⟩
  | .hbm, ⟨18, _⟩ => ⟨S2x2048x2816, .f32⟩
  | .hbm, ⟨19, _⟩ => ⟨S2x2048x2816, .f32⟩
  | .hbm, ⟨20, _⟩ => ⟨S2x2048x2816, .f32⟩
  | .hbm, ⟨21, _⟩ => ⟨S1x2816, .f32⟩
  | .hbm, ⟨22, _⟩ => ⟨S2816, .f32⟩
  | .hbm, ⟨23, _⟩ => ⟨S1x1x2816, .f32⟩
  | .hbm, ⟨24, _⟩ => ⟨S2x2048x2816, .f32⟩
  | .hbm, ⟨25, _⟩ => ⟨S2x2048x2816, .f32⟩
  | .hbm, ⟨26, _⟩ => ⟨S2x2048x2816, .f32⟩
  | .hbm, ⟨27, _⟩ => ⟨S2x2048x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S1x1x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S_, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S1x2816x1024, .f32⟩
  | .hbm, ⟨52, _⟩ => ⟨S2816x1024, .f32⟩
  | .hbm, ⟨53, _⟩ => ⟨S2x2048x1024, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S_, .f32⟩
  | .hbm, ⟨62, _⟩ => ⟨S2816, .f32⟩
  | .hbm, ⟨63, _⟩ => ⟨S1x1x2816, .f32⟩
  | .hbm, ⟨64, _⟩ => ⟨S_, .f32⟩
  | .hbm, ⟨65, _⟩ => ⟨S2816, .f32⟩
  | .hbm, ⟨66, _⟩ => ⟨S2x2048x2816, .f32⟩
  | .hbm, ⟨67, _⟩ => ⟨S_, .f32⟩
  | .hbm, ⟨68, _⟩ => ⟨S2816, .f32⟩
  | .hbm, ⟨69, _⟩ => ⟨S1x1x2816, .f32⟩
  | .hbm, ⟨70, _⟩ => ⟨S_, .f32⟩
  | .hbm, ⟨71, _⟩ => ⟨S2816, .f32⟩
  | .hbm, ⟨72, _⟩ => ⟨S1x2816, .f32⟩
  | .hbm, ⟨73, _⟩ => ⟨S_, .f32⟩
  | .hbm, ⟨74, _⟩ => ⟨S3x2816, .f32⟩
  | .hbm, ⟨75, _⟩ => ⟨S2x2048x2816, .f32⟩
  | .hbm, ⟨76, _⟩ => ⟨S_, .f32⟩
  | .hbm, ⟨77, _⟩ => ⟨S2816, .f32⟩
  | .hbm, ⟨78, _⟩ => ⟨S1x1x2816, .f32⟩
  | .hbm, ⟨79, _⟩ => ⟨S_, .f32⟩
  | .hbm, ⟨80, _⟩ => ⟨S2816, .f32⟩
  | .hbm, ⟨81, _⟩ => ⟨S1x2816, .f32⟩
  | .hbm, ⟨82, _⟩ => ⟨S_, .f32⟩
  | .hbm, ⟨83, _⟩ => ⟨S3x2816, .f32⟩
  | .hbm, ⟨84, _⟩ => ⟨S3x2816, .f32⟩
  | .hbm, ⟨85, _⟩ => ⟨S2x2048x2816, .f32⟩
  | .hbm, ⟨86, _⟩ => ⟨S_, .f32⟩
  | .hbm, ⟨87, _⟩ => ⟨S2816, .f32⟩
  | .hbm, ⟨88, _⟩ => ⟨S1x1x2816, .f32⟩
  | .hbm, ⟨89, _⟩ => ⟨S_, .f32⟩
  | .hbm, ⟨90, _⟩ => ⟨S2816, .f32⟩
  | .hbm, ⟨91, _⟩ => ⟨S1x2816, .f32⟩
  | .hbm, ⟨92, _⟩ => ⟨S_, .f32⟩
  | .hbm, ⟨93, _⟩ => ⟨S3x2816, .f32⟩
  | .hbm, ⟨94, _⟩ => ⟨S3x2816, .f32⟩
  | .hbm, ⟨95, _⟩ => ⟨S_, .bf16⟩
  | .hbm, ⟨96, _⟩ => ⟨S4096x2816, .bf16⟩
  | .hbm, ⟨97, _⟩ => ⟨S4096x2816, .f32⟩
  | .hbm, ⟨98, _⟩ => ⟨S4096x2816, .bf16⟩
  | .hbm, ⟨99, _⟩ => ⟨S4096x5632, .bf16⟩
  | .hbm, ⟨100, _⟩ => ⟨S4096x2816, .f32⟩
  | .hbm, ⟨101, _⟩ => ⟨S1x2816, .f32⟩
  | .hbm, ⟨102, _⟩ => ⟨S_, .f32⟩
  | .hbm, ⟨103, _⟩ => ⟨S4x2816, .f32⟩
  | .hbm, ⟨104, _⟩ => ⟨S8x2816, .f32⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v31_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v31_1 : Ref sig .tc := ⟨.hbm, 48, rfl⟩
abbrev main_v31_0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v39 : Ref sig .tc := ⟨.hbm, 60, rfl⟩
abbrev main_cst_0 : Ref sig .tc := ⟨.hbm, 61, rfl⟩
abbrev main_v40 : Ref sig .tc := ⟨.hbm, 62, rfl⟩
abbrev main_v41 : Ref sig .tc := ⟨.hbm, 63, rfl⟩
abbrev main_cst_1 : Ref sig .tc := ⟨.hbm, 64, rfl⟩
abbrev main_v42 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_v47 : Ref sig .tc := ⟨.hbm, 72, rfl⟩
abbrev main_cst_4 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== Up.lean ====
abbrev S2x2048x1024 : Shape := ⟨3, ![2, 2048, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2048x2816 : Shape := ⟨3, ![2, 2048, 2816]⟩
abbrev S_ : Shape := ⟨0, ![]⟩
abbrev S2x8x2816 : Shape := ⟨3, ![2, 8, 2816]⟩
abbrev S1x8x2816 : Shape := ⟨3, ![1, 8, 2816]⟩
abbrev S8x2816 : Shape := ⟨2, ![8, 2816]⟩
abbrev S1x1024x5632 : Shape := ⟨3, ![1, 1024, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S4096x5632 : Shape := ⟨2, ![4096, 5632]⟩
abbrev S4096x1024 : Shape := ⟨2, ![4096, 1024]⟩
abbrev S1x1024 : Shape := ⟨2, ![1, 1024]⟩
abbrev S256x2816 : Shape := ⟨2, ![256, 2816]⟩
abbrev S256x1024 : Shape := ⟨2, ![256, 1024]⟩
abbrev S264x2816 : Shape := ⟨2, ![264, 2816]⟩
abbrev S1x2816 : Shape := ⟨2, ![1, 2816]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 30
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024x5632, .f32⟩
  | .hbm, ⟨3, _⟩ => ⟨S2x3x2816, .f32⟩
  | .hbm, ⟨4, _⟩ => ⟨S2x2048x2816, .f32⟩
  | .hbm, ⟨5, _⟩ => ⟨S2x2048x2816, .f32⟩
  | .hbm, ⟨6, _⟩ => ⟨S2x2048x1024, .f32⟩
  | .hbm, ⟨7, _⟩ => ⟨S_, .i32⟩
  | .hbm, ⟨8, _⟩ => ⟨S_, .f32⟩
  | .hbm, ⟨9, _⟩ => ⟨S2x8x2816, .f32⟩
  | .hbm, ⟨10, _⟩ => ⟨S1x8x2816, .f32⟩
  | .hbm, ⟨11, _⟩ => ⟨S8x2816, .f32⟩
  | .hbm, ⟨12, _⟩ => ⟨S1x1024x5632, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | .hbm, ⟨16, _⟩ => ⟨S4x1024x1408, .bf16⟩
  | .hbm, ⟨17, _⟩ => ⟨S_, .bf16⟩
  | .hbm, ⟨18, _⟩ => ⟨S4096x2816, .bf16⟩
  | .hbm, ⟨19, _⟩ => ⟨S4096x2816, .f32⟩
  | .hbm, ⟨20, _⟩ => ⟨S4096x2816, .bf16⟩
  | .hbm, ⟨21, _⟩ => ⟨S4096x5632, .bf16⟩
  | .hbm, ⟨22, _⟩ => ⟨S4096x2816, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x5632, .bf16⟩
  | .hbm, ⟨27, _⟩ => ⟨S4096x1024, .f32⟩
  | .hbm, ⟨28, _⟩ => ⟨S4096x1024, .bf16⟩
  | .hbm, ⟨29, _⟩ => ⟨S1x1024, .f32⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .bf16⟩
  | .local _ .vmem, ⟨5, _⟩ => ⟨S256x2816, .bf16⟩
  | .local _ .vmem, ⟨6, _⟩ => ⟨S4x1024x1408, .bf16⟩
  | .local _ .vmem, ⟨7, _⟩ => ⟨S8x2816, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S264x2816, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_60 : BitVec 32 := 0#32
  let v103 : BitVec 1 := Scalar.cmpi .eq arg0 c0_i32_60
  let v104 : BitVec 32 := Scalar.extui v103
  let c0_i32_61 : BitVec 32 := 0#32
  let v105 : BitVec 1 := Scalar.cmpi .ne v104 c0_i32_61
  v105

def k0_cond2 (i : grid0.Coords) : BitVec 1 :=
  let arg0 : BitVec 32 := BitVec.ofNat 32 (i 0).val
  let c0_i32_60 : BitVec 32 := 0#32
  let v103 : BitVec 1 := Scalar.cmpi .eq arg0 c0_i32_60
  let v_true : BitVec 1 := 1#1
  let v106 : BitVec 1 := Scalar.xori v103 v_true
  let v107 : BitVec 32 := Scalar.extui v106
  let c0_i32_62 : BitVec 32 := 0#32
  let v108 : BitVec 1 := Scalar.cmpi .ne v107 c0_i32_62
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== UpRefIdeal.lean ====
abbrev S2x2048x1024 : Shape := ⟨3, ![2, 2048, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2048x2816 : Shape := ⟨3, ![2, 2048, 2816]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x2048x5632 : Shape := ⟨3, ![2, 2048, 5632]⟩
abbrev S1x3x2816 : Shape := ⟨3, ![1, 3, 2816]⟩
abbrev S3x2816 : Shape := ⟨2, ![3, 2816]⟩
abbrev S2x2x2816 : Shape := ⟨3, ![2, 2, 2816]⟩
abbrev S2x2050x2816 : Shape := ⟨3, ![2, 2050, 2816]⟩
abbrev S1x2816 : Shape := ⟨2, ![1, 2816]⟩
abbrev S2816 : Shape := ⟨1, ![2816]⟩
abbrev S1x1x2816 : Shape := ⟨3, ![1, 1, 2816]⟩
abbrev S4096x5632 : Shape := ⟨2, ![4096, 5632]⟩
abbrev S4096x1024 : Shape := ⟨2, ![4096, 1024]⟩

abbrev nBuf : Space → Nat
  | .hbm => 122
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024x5632, .f32⟩
  | .hbm, ⟨3, _⟩ => ⟨S2x3x2816, .f32⟩
  | .hbm, ⟨4, _⟩ => ⟨S2x2048x2816, .f32⟩
  | .hbm, ⟨5, _⟩ => ⟨S2x2048x2816, .f32⟩
  | .hbm, ⟨6, _⟩ => ⟨S2x2048x1024, .f32⟩
  | .hbm, ⟨7, _⟩ => ⟨S1x1024, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S1x1024x5632, .f32⟩
  | .hbm, ⟨30, _⟩ => ⟨S1024x5632, .f32⟩
  | .hbm, ⟨31, _⟩ => ⟨S2x2048x5632, .f32⟩
  | .hbm, ⟨32, _⟩ => ⟨S2x2048x2816, .f32⟩
  | .hbm, ⟨33, _⟩ => ⟨S2x2048x2816, .f32⟩
  | .hbm, ⟨34, _⟩ => ⟨S1x3x2816, .f32⟩
  | .hbm, ⟨35, _⟩ => ⟨S3x2816, .f32⟩
  | .hbm, ⟨36, _⟩ => ⟨S_, .f32⟩
  | .hbm, ⟨37, _⟩ => ⟨S2x2x2816, .f32⟩
  | .hbm, ⟨38, _⟩ => ⟨S2x2050x2816, .f32⟩
  | .hbm, ⟨39, _⟩ => ⟨S_, .f32⟩
  | .hbm, ⟨40, _⟩ => ⟨S2x2x2816, .f32⟩
  | .hbm, ⟨41, _⟩ => ⟨S2x2048x2816, .f32⟩
  | .hbm, ⟨42, _⟩ => ⟨S1x2816, .f32⟩
  | .hbm, ⟨43, _⟩ => ⟨S2816, .f32⟩
  | .hbm, ⟨44, _⟩ => ⟨S1x1x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S1x2816, .f32⟩
  | .hbm, ⟨49, _⟩ => ⟨S2816, .f32⟩
  | .hbm, ⟨50, _⟩ => ⟨S1x1x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S1x2816, .f32⟩
  | .hbm, ⟨56, _⟩ => ⟨S2816, .f32⟩
  | .hbm, ⟨57, _⟩ => ⟨S1x1x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S_, .f32⟩
  | .hbm, ⟨62, _⟩ => ⟨S2x2048x2816, .f32⟩
  | .hbm, ⟨63, _⟩ => ⟨S2x2048x2816, .f32⟩
  | .hbm, ⟨64, _⟩ => ⟨S2x2048x2816, .f32⟩
  | .hbm, ⟨65, _⟩ => ⟨S2x2048x2816, .f32⟩
  | .hbm, ⟨66, _⟩ => ⟨S2x2048x2816, .f32⟩
  | .hbm, ⟨67, _⟩ => ⟨S2x2048x2816, .f32⟩
  | .hbm, ⟨68, _⟩ => ⟨S_, .f32⟩
  | .hbm, ⟨69, _⟩ => ⟨S2x2050x2816, .f32⟩
  | .hbm, ⟨70, _⟩ => ⟨S2x2048x2816, .f32⟩
  | .hbm, ⟨71, _⟩ => ⟨S2x2048x2816, .f32⟩
  | .hbm, ⟨72, _⟩ => ⟨S_, .f32⟩
  | .hbm, ⟨73, _⟩ => ⟨S2x2050x2816, .f32⟩
  | .hbm, ⟨74, _⟩ => ⟨S2x2050x2816, .f32⟩
  | .hbm, ⟨75, _⟩ => ⟨S2x2048x2816, .f32⟩
  | .hbm, ⟨76, _⟩ => ⟨S2x2048x2816, .f32⟩
  | .hbm, ⟨77, _⟩ => ⟨S_, .f32⟩
  | .hbm, ⟨78, _⟩ => ⟨S2x2050x2816, .f32⟩
  | .hbm, ⟨79, _⟩ => ⟨S2x2050x2816, .f32⟩
  | .hbm, ⟨80, _⟩ => ⟨S2x2x2816, .f32⟩
  | .hbm, ⟨81, _⟩ => ⟨S2x2048x2816, .f32⟩
  | .hbm, ⟨82, _⟩ => ⟨S_, .f32⟩
  | .hbm, ⟨83, _⟩ => ⟨S2x2048x5632, .f32⟩
  | .hbm, ⟨84, _⟩ => ⟨S_, .f32⟩
  | .hbm, ⟨85, _⟩ => ⟨S2x2048x5632, .f32⟩
  | .hbm, ⟨86, _⟩ => ⟨S2x2048x5632, .f32⟩
  | .hbm, ⟨87, _⟩ => ⟨S2x2048x1024, .f32⟩
  | .hbm, ⟨88, _⟩ => ⟨S2x2048x1024, .f32⟩
  | .hbm, ⟨89, _⟩ => ⟨S_, .f32⟩
  | .hbm, ⟨90, _⟩ => ⟨S1024, .f32⟩
  | .hbm, ⟨91, _⟩ => ⟨S1x1x1024, .f32⟩
  | .hbm, ⟨92, _⟩ => ⟨S2x2048x1024, .f32⟩
  | .hbm, ⟨93, _⟩ => ⟨S2x2048x1024, .f32⟩
  | .hbm, ⟨94, _⟩ => ⟨S_, .f32⟩
  | .hbm, ⟨95, _⟩ => ⟨S1024, .f32⟩
  | .hbm, ⟨96, _⟩ => ⟨S2x2048x1024, .f32⟩
  | .hbm, ⟨97, _⟩ => ⟨S_, .f32⟩
  | .hbm, ⟨98, _⟩ => ⟨S2x2048, .f32⟩
  | .hbm, ⟨99, _⟩ => ⟨S2x2048x1, .f32⟩
  | .hbm, ⟨100, _⟩ => ⟨S2x2048x1024, .f32⟩
  | .hbm, ⟨101, _⟩ => ⟨S2x2048x1024, .f32⟩
  | .hbm, ⟨102, _⟩ => ⟨S2x2048x1024, .f32⟩
  | .hbm, ⟨103, _⟩ => ⟨S2x2048x1, .f32⟩
  | .hbm, ⟨104, _⟩ => ⟨S_, .f32⟩
  | .hbm, ⟨105, _⟩ => ⟨S2x2048x1, .f32⟩
  | .hbm, ⟨106, _⟩ => ⟨S2x2048x1, .f32⟩
  | .hbm, ⟨107, _⟩ => ⟨S_, .f32⟩
  | .hbm, ⟨108, _⟩ => ⟨S2x2048, .f32⟩
  | .hbm, ⟨109, _⟩ => ⟨S2x2048x1024, .f32⟩
  | .hbm, ⟨110, _⟩ => ⟨S2x2048x1024, .f32⟩
  | .hbm, ⟨111, _⟩ => ⟨S2x2048x1024, .f32⟩
  | .hbm, ⟨112, _⟩ => ⟨S2x2048x1024, .f32⟩
  | .hbm, ⟨113, _⟩ => ⟨S2x2048x1024, .f32⟩
  | .hbm, ⟨114, _⟩ => ⟨S_, .f32⟩
  | .hbm, ⟨115, _⟩ => ⟨S2x2048x2816, .f32⟩
  | .hbm, ⟨116, _⟩ => ⟨S2x2048x5632, .f32⟩
  | .hbm, ⟨117, _⟩ => ⟨S4096x5632, .f32⟩
  | .hbm, ⟨118, _⟩ => ⟨S4096x5632, .bf16⟩
  | .hbm, ⟨119, _⟩ => ⟨S4096x1024, .f32⟩
  | .hbm, ⟨120, _⟩ => ⟨S4096x1024, .bf16⟩
  | .hbm, ⟨121, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_14 : Ref sig .tc := ⟨.hbm, 104, rfl⟩
abbrev main_v82 : Ref sig .tc := ⟨.hbm, 105, rfl⟩
abbrev main_v83 : Ref sig .tc := ⟨.hbm, 106, rfl⟩
abbrev main_cst_15 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_16 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩

abbrev nD : Nat := 1
abbrev τ : Topo := Topo.v7x

variable {F : FTy → Type} [FloatOps F]
-- ==== Loss.lean ====
abbrev S2x2048x1024 : Shape := ⟨3, ![2, 2048, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S_ : Shape := ⟨0, ![]⟩
abbrev S2x8x2816 : Shape := ⟨3, ![2, 8, 2816]⟩
abbrev S1x8x2816 : Shape := ⟨3, ![1, 8, 2816]⟩
abbrev S8x2816 : Shape := ⟨2, ![8, 2816]⟩
abbrev S1x1024x5632 : Shape := ⟨3, ![1, 1024, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x2816 : Shape := ⟨2, ![1, 2816]⟩
abbrev S1x2816x1024 : Shape := ⟨3, ![1, 2816, 1024]⟩
abbrev S2816x1024 : Shape := ⟨2, ![2816, 1024]⟩
abbrev S4096x5632 : Shape := ⟨2, ![4096, 5632]⟩
abbrev S16x2816x256 : Shape := ⟨3, ![16, 2816, 256]⟩
abbrev S256x1024 : Shape := ⟨2, ![256, 1024]⟩
abbrev S16x1024 : Shape := ⟨2, ![16, 1024]⟩
abbrev S256x5632 : Shape := ⟨2, ![256, 5632]⟩
abbrev S1x2816x256 : Shape := ⟨3, ![1, 2816, 256]⟩
abbrev S264x2816 : Shape := ⟨2, ![264, 2816]⟩
abbrev S2x256x2816 : Shape := ⟨3, ![2, 256, 2816]⟩
abbrev S1x1024x1408 : Shape := ⟨3, ![1, 1024, 1408]⟩
abbrev S1024x1408 : Shape := ⟨2, ![1024, 1408]⟩
abbrev S256x1408 : Shape := ⟨2, ![256, 1408]⟩
abbrev S16x1408 : Shape := ⟨2, ![16, 1408]⟩
abbrev S16x2816 : Shape := ⟨2, ![16, 2816]⟩
abbrev S256x2816 : Shape := ⟨2, ![256, 2816]⟩
abbrev S1x256x2816 : Shape := ⟨3, ![1, 256, 2816]⟩
abbrev S2816x256 : Shape := ⟨2, ![2816, 256]⟩
abbrev S256 : Shape := ⟨1, ![256]⟩
abbrev S256x1 : Shape := ⟨2, ![256, 1]⟩

abbrev nBuf : Space → Nat
  | .hbm => 51
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024x5632, .f32⟩
  | .hbm, ⟨3, _⟩ => ⟨S2x3x2816, .f32⟩
  | .hbm, ⟨4, _⟩ => ⟨S2x2816, .f32⟩
  | .hbm, ⟨5, _⟩ => ⟨S2x2816x1024, .f32⟩
  | .hbm, ⟨6, _⟩ => ⟨S1024, .f32⟩
  | .hbm, ⟨7, _⟩ => ⟨S2x2048x1024, .f32⟩
  | .hbm, ⟨8, _⟩ => ⟨S_, .i32⟩
  | .hbm, ⟨9, _⟩ => ⟨S_, .f32⟩
  | .hbm, ⟨10, _⟩ => ⟨S2x8x2816, .f32⟩
  | .hbm, ⟨11, _⟩ => ⟨S1x8x2816, .f32⟩
  | .hbm, ⟨12, _⟩ => ⟨S8x2816, .f32⟩
  | .hbm, ⟨13, _⟩ => ⟨S1x1024x5632, .f32⟩
  | .hbm, ⟨14, _⟩ => ⟨S1024x5632, .f32⟩
  | .hbm, ⟨15, _⟩ => ⟨S1024x4x1408, .f32⟩
  | .hbm, ⟨16, _⟩ => ⟨S4x1024x1408, .f32⟩
  | .hbm, ⟨17, _⟩ => ⟨S4x1024x1408, .bf16⟩
  | .hbm, ⟨18, _⟩ => ⟨S1x1024, .f32⟩
  | .hbm, ⟨19, _⟩ => ⟨S1024, .f32⟩
  | .hbm, ⟨20, _⟩ => ⟨S2x2048x1024, .f32⟩
  | .hbm, ⟨21, _⟩ => ⟨S_, .f32⟩
  | .hbm, ⟨22, _⟩ => ⟨S2x2048, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S2x2048x1024, .f32⟩
  | .hbm, ⟨32, _⟩ => ⟨S2x2048x1024, .f32⟩
  | .hbm, ⟨33, _⟩ => ⟨S1x1x1024, .f32⟩
  | .hbm, ⟨34, _⟩ => ⟨S2x2048x1024, .f32⟩
  | .hbm, ⟨35, _⟩ => ⟨S2x2048x1024, .f32⟩
  | .hbm, ⟨36, _⟩ => ⟨S4096x1024, .f32⟩
  | .hbm, ⟨37, _⟩ => ⟨S4096x1024, .bf16⟩
  | .hbm, ⟨38, _⟩ => ⟨S4096x1024, .f32⟩
  | .hbm, ⟨39, _⟩ => ⟨S1x2816, .f32⟩
  | .hbm, ⟨40, _⟩ => ⟨S1x2816x1024, .f32⟩
  | .hbm, ⟨41, _⟩ => ⟨S2816x1024, .f32⟩
  | .hbm, ⟨42, _⟩ => ⟨S2816x1024, .bf16⟩
  | .hbm, ⟨43, _⟩ => ⟨S1x1024, .f32⟩
  | .hbm, ⟨44, _⟩ => ⟨S4096x1024, .f32⟩
  | .hbm, ⟨45, _⟩ => ⟨S4096x5632, .f32⟩
  | .hbm, ⟨46, _⟩ => ⟨S16x2816x256, .bf16⟩
  | .hbm, ⟨47, _⟩ => ⟨S4096x1024, .f32⟩
  | .hbm, ⟨48, _⟩ => ⟨S4096x1024, .bf16⟩
  | .hbm, ⟨49, _⟩ => ⟨S1x1024, .f32⟩
  | .hbm, ⟨50, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S256x1024, .f32⟩
  | .local _ .vmem, ⟨5, _⟩ => ⟨S256x1024, .f32⟩
  | .local _ .vmem, ⟨6, _⟩ => ⟨S4x1024x1408, .bf16⟩
  | .local _ .vmem, ⟨7, _⟩ => ⟨S8x2816, .f32⟩
  | .local _ .vmem, ⟨8, _⟩ => ⟨S1x2816, .f32⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x5632, .f32⟩
  | .local _ .vmem, ⟨14, _⟩ => ⟨S256x5632, .f32⟩
  | .local _ .vmem, ⟨15, _⟩ => ⟨S1x2816x256, .bf16⟩
  | .local _ .vmem, ⟨16, _⟩ => ⟨S1x2816x256, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S1x1024, .f32⟩
  | .local _ .vmem, ⟨23, _⟩ => ⟨S264x2816, .f32⟩
  | .local _ .vmem, ⟨24, _⟩ => ⟨S2x256x2816, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev main_v32_3 : Ref sig .tc := ⟨.hbm, 48, rfl⟩
abbrev main_v32_4 : Ref sig .tc := ⟨.hbm, 49, rfl⟩
abbrev main_v32_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_93 : BitVec 32 := 0#32
  let v142 : BitVec 1 := Scalar.cmpi .eq arg0 c0_i32_93
  let v143 : BitVec 32 := Scalar.extui v142
  let c0_i32_94 : BitVec 32 := 0#32
  let v144 : BitVec 1 := Scalar.cmpi .ne v143 c0_i32_94
  v144

def k0_cond2 (i : grid0.Coords) : BitVec 1 :=
  let arg0 : BitVec 32 := BitVec.ofNat 32 (i 0).val
  let c0_i32_93 : BitVec 32 := 0#32
  let v142 : BitVec 1 := Scalar.cmpi .eq arg0 c0_i32_93
  let v_true : BitVec 1 := 1#1
  let v145 : BitVec 1 := Scalar.xori v142 v_true
  let v146 : BitVec 32 := Scalar.extui v145
  let c0_i32_95 : BitVec 32 := 0#32
  let v147 : BitVec 1 := Scalar.cmpi .ne v146 c0_i32_95
  v147

def k0_cond3 (i : grid0.Coords) : BitVec 1 :=
  let arg0 : BitVec 32 := BitVec.ofNat 32 (i 0).val
  let c0_i32_96 : BitVec 32 := 0#32
  let v148 : BitVec 1 := Scalar.cmpi .eq arg0 c0_i32_96
  let v149 : BitVec 32 := Scalar.extui v148
  let c0_i32_97 : BitVec 32 := 0#32
  let v150 : BitVec 1 := Scalar.cmpi .ne v149 c0_i32_97
  v150

def k0_cond4 (i : grid0.Coords) : BitVec 1 :=
  let arg0 : BitVec 32 := BitVec.ofNat 32 (i 0).val
  let c0_i32_96 : BitVec 32 := 0#32
  let v148 : BitVec 1 := Scalar.cmpi .eq arg0 c0_i32_96
  let true_98 : BitVec 1 := 1#1
  let v151 : BitVec 1 := Scalar.xori v148 true_98
  let v152 : BitVec 32 := Scalar.extui v151
  let c0_i32_99 : BitVec 32 := 0#32
  let v153 : BitVec 1 := Scalar.cmpi .ne v152 c0_i32_99
  v153

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2816x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== LossRefIdeal.lean ====
abbrev S2x2048x1024 : Shape := ⟨3, ![2, 2048, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x2048x5632 : Shape := ⟨3, ![2, 2048, 5632]⟩
abbrev S2x2048x2816 : Shape := ⟨3, ![2, 2048, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S2x2x2816 : Shape := ⟨3, ![2, 2, 2816]⟩
abbrev S2x2050x2816 : Shape := ⟨3, ![2, 2050, 2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S4096x1024 : Shape := ⟨2, ![4096, 1024]⟩
abbrev S16x256x2816 : Shape := ⟨3, ![16, 256, 2816]⟩
abbrev S16x2816x256 : Shape := ⟨3, ![16, 2816, 256]⟩
abbrev S4096x5632 : Shape := ⟨2, ![4096, 5632]⟩

abbrev nBuf : Space → Nat
  | .hbm => 151
  | .vmem => 0
  | .smem => 0
  | _ => 0

abbrev hbmTy0_0 (i : Nat) : BufTy := match i % 128 with
  | 0 => ⟨S2x2048x1024, .f32⟩
  | 1 => ⟨S2x1024, .f32⟩
  | 2 => ⟨S2x1024x5632, .f32⟩
  | 3 => ⟨S2x3x2816, .f32⟩
  | 4 => ⟨S2x2816, .f32⟩
  | 5 => ⟨S2x2816x1024, .f32⟩
  | 6 => ⟨S1024, .f32⟩
  | 7 => ⟨S2x2048x1024, .f32⟩
  | 8 => ⟨S1x1024, .f32⟩
  | 9 => ⟨S1024, .f32⟩
  | 10 => ⟨S2x2048x1024, .f32⟩
  | 11 => ⟨S_, .f32⟩
  | 12 => ⟨S2x2048, .f32⟩
  | 13 => ⟨S2x2048x1, .f32⟩
  | 14 => ⟨S_, .f32⟩
  | 15 => ⟨S2x2048x1, .f32⟩
  | 16 => ⟨S2x2048x1, .f32⟩
  | 17 => ⟨S_, .f32⟩
  | 18 => ⟨S2x2048x1, .f32⟩
  | 19 => ⟨S2x2048x1, .f32⟩
  | 20 => ⟨S2x2048x1, .f32⟩
  | 21 => ⟨S2x2048x1024, .f32⟩
  | 22 => ⟨S2x2048x1024, .f32⟩
  | 23 => ⟨S1x1x1024, .f32⟩
  | 24 => ⟨S2x2048x1024, .f32⟩
  | 25 => ⟨S2x2048x1024, .f32⟩
  | 26 => ⟨S1x1024x5632, .f32⟩
  | 27 => ⟨S1024x5632, .f32⟩
  | 28 => ⟨S2x2048x5632, .f32⟩
  | 29 => ⟨S2x2048x2816, .f32⟩
  | 30 => ⟨S2x2048x2816, .f32⟩
  | 31 => ⟨S1x3x2816, .f32⟩
  | 32 => ⟨S3x2816, .f32⟩
  | 33 => ⟨S1x2816, .f32⟩
  | 34 => ⟨S2816, .f32⟩
  | 35 => ⟨S_, .f32⟩
  | 36 => ⟨S2x2x2816, .f32⟩
  | 37 => ⟨S2x2050x2816, .f32⟩
  | 38 => ⟨S2x2048x2816, .f32⟩
  | 39 => ⟨S1x2816, .f32⟩
  | 40 => ⟨S2816, .f32⟩
  | 41 => ⟨S1x1x2816, .f32⟩
  | 42 => ⟨S2x2048x2816, .f32⟩
  | 43 => ⟨S2x2048x2816, .f32⟩
  | 44 => ⟨S2x2048x2816, .f32⟩
  | 45 => ⟨S1x2816, .f32⟩
  | 46 => ⟨S2816, .f32⟩
  | 47 => ⟨S1x1x2816, .f32⟩
  | 48 => ⟨S2x2048x2816, .f32⟩
  | 49 => ⟨S2x2048x2816, .f32⟩
  | 50 => ⟨S2x2048x2816, .f32⟩
  | 51 => ⟨S2x2048x2816, .f32⟩
  | 52 => ⟨S1x2816, .f32⟩
  | 53 => ⟨S2816, .f32⟩
  | 54 => ⟨S1x1x2816, .f32⟩
  | 55 => ⟨S2x2048x2816, .f32⟩
  | 56 => ⟨S2x2048x2816, .f32⟩
  | 57 => ⟨S2x2048x2816, .f32⟩
  | 58 => ⟨S1x1x2816, .f32⟩
  | 59 => ⟨S2x2048x2816, .f32⟩
  | 60 => ⟨S2x2048x2816, .f32⟩
  | 61 => ⟨S2x2048x2816, .f32⟩
  | 62 => ⟨S2x2048x2816, .f32⟩
  | 63 => ⟨S_, .f32⟩
  | 64 => ⟨S2x2048x2816, .f32⟩
  | 65 => ⟨S2x2048x2816, .f32⟩
  | 66 => ⟨S_, .f32⟩
  | 67 => ⟨S2x2048x2816, .f32⟩
  | 68 => ⟨S2x2048x2816, .f32⟩
  | 69 => ⟨S2x2048x2816, .f32⟩
  | 70 => ⟨S2x2048x2816, .f32⟩
  | 71 => ⟨S1x2816x1024, .f32⟩
  | 72 => ⟨S2816x1024, .f32⟩
  | 73 => ⟨S2x2048x1024, .f32⟩
  | 74 => ⟨S2x2048x1024, .f32⟩
  | 75 => ⟨S2x2048x1024, .f32⟩
  | 76 => ⟨S_, .f32⟩
  | 77 => ⟨S2x2048, .f32⟩
  | 78 => ⟨S2x2048x1, .f32⟩
  | 79 => ⟨S_, .f32⟩
  | 80 => ⟨S2x2048x1, .f32⟩
  | 81 => ⟨S2x2048x1, .f32⟩
  | 82 => ⟨S_, .f32⟩
  | 83 => ⟨S2x2048x1, .f32⟩
  | 84 => ⟨S2x2048x1, .f32⟩
  | 85 => ⟨S2x2048x1, .f32⟩
  | 86 => ⟨S2x2048x1, .f32⟩
  | 87 => ⟨S_, .f32⟩
  | 88 => ⟨S2x2048x1, .f32⟩
  | 89 => ⟨S2x2048x1, .f32⟩
  | 90 => ⟨S2x2048x1024, .f32⟩
  | 91 => ⟨S2x2048x1024, .f32⟩
  | 92 => ⟨S1x1x1024, .f32⟩
  | 93 => ⟨S2x2048x1024, .f32⟩
  | 94 => ⟨S2x2048x1024, .f32⟩
  | 95 => ⟨S2x2048x1024, .f32⟩
  | 96 => ⟨S2x2048x1024, .f32⟩
  | 97 => ⟨S_, .f32⟩
  | 98 => ⟨S2x2048x1024, .f32⟩
  | 99 => ⟨S2x2048x1024, .f32⟩
  | 100 => ⟨S_, .f32⟩
  | 101 => ⟨S2x2048x1024, .f32⟩
  | 102 => ⟨S2x2048x1024, .f32⟩
  | 103 => ⟨S_, .f32⟩
  | 104 => ⟨S2x2048x1024, .f32⟩
  | 105 => ⟨S2x2048x1024, .f32⟩
  | 106 => ⟨S_, .f32⟩
  | 107 => ⟨S1024, .f32⟩
  | 108 => ⟨S_, .f32⟩
  | 109 => ⟨S1024, .f32⟩
  | 110 => ⟨S2x2048x1024, .f32⟩
  | 111 => ⟨S_, .f32⟩
  | 112 => ⟨S2x2048x1024, .f32⟩
  | 113 => ⟨S2x2048x1024, .f32⟩
  | 114 => ⟨S_, .f32⟩
  | 115 => ⟨S2x2048x1024, .f32⟩
  | 116 => ⟨S2x2048x1024, .f32⟩
  | 117 => ⟨S2x2048x1024, .f32⟩
  | 118 => ⟨S2x2048x1024, .f32⟩
  | 119 => ⟨S_, .f32⟩
  | 120 => ⟨S1024, .f32⟩
  | 121 => ⟨S1x1x1024, .f32⟩
  | 122 => ⟨S2x2048x1024, .f32⟩
  | 123 => ⟨S2x2048x1024, .f32⟩
  | 124 => ⟨S_, .f32⟩
  | 125 => ⟨S1024, .f32⟩
  | 126 => ⟨S2x2048x1024, .f32⟩
  | 127 => ⟨S_, .f32⟩
  | _ => ⟨S2x2048x1024, .f32⟩

abbrev hbmTy0_1 (i : Nat) : BufTy := match i % 128 with
  | 0 => ⟨S2x2048, .f32⟩
  | 1 => ⟨S2x2048x1, .f32⟩
  | 2 => ⟨S2x2048x1024, .f32⟩
  | 3 => ⟨S2x2048x1024, .f32⟩
  | 4 => ⟨S2x2048x1, .f32⟩
  | 5 => ⟨S_, .f32⟩
  | 6 => ⟨S2x2048x1, .f32⟩
  | 7 => ⟨S2x2048x1, .f32⟩
  | 8 => ⟨S_, .f32⟩
  | 9 => ⟨S2x2048, .f32⟩
  | 10 => ⟨S2x2048x1024, .f32⟩
  | 11 => ⟨S2x2048x1024, .f32⟩
  | 12 => ⟨S2x2048x1024, .f32⟩
  | 13 => ⟨S2x2048x1024, .f32⟩
  | 14 => ⟨S2x2048x1024, .f32⟩
  | 15 => ⟨S4096x1024, .f32⟩
  | 16 => ⟨S16x256x2816, .f32⟩
  | 17 => ⟨S16x2816x256, .f32⟩
  | 18 => ⟨S16x2816x256, .bf16⟩
  | 19 => ⟨S4096x5632, .f32⟩
  | 20 => ⟨S4096x1024, .bf16⟩
  | 21 => ⟨S1x1024, .f32⟩
  | 22 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_3 : Ref sig .tc := ⟨.hbm, 76, rfl⟩
abbrev main_v56 : Ref sig .tc := ⟨.hbm, 77, rfl⟩
abbrev main_v57 : Ref sig .tc := ⟨.hbm, 78, rfl⟩
abbrev main_cst_4 : Ref sig .tc := ⟨.hbm, 79, rfl⟩
abbrev main_v58 : Ref sig .tc := ⟨.hbm, 80, rfl⟩
abbrev main_v59 : Ref sig .tc := ⟨.hbm, 81, rfl⟩
abbrev main_cst_5 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_6 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_7 : Ref sig .tc := ⟨.hbm, 97, rfl⟩
abbrev main_v73 : Ref sig .tc := ⟨.hbm, 98, rfl⟩
abbrev main_v74 : Ref sig .tc := ⟨.hbm, 99, rfl⟩
abbrev main_cst_8 : Ref sig .tc := ⟨.hbm, 100, rfl⟩
abbrev main_v75 : Ref sig .tc := ⟨.hbm, 101, rfl⟩
abbrev main_v76 : Ref sig .tc := ⟨.hbm, 102, rfl⟩
abbrev main_cst_9 : Ref sig .tc := ⟨.hbm, 103, rfl⟩
abbrev main_v77 : Ref sig .tc := ⟨.hbm, 104, rfl⟩
abbrev main_v78 : Ref sig .tc := ⟨.hbm, 105, rfl⟩
abbrev main_cst_10 : Ref sig .tc := ⟨.hbm, 106, rfl⟩
abbrev main_v79 : Ref sig .tc := ⟨.hbm, 107, rfl⟩
abbrev main_cst_11 : Ref sig .tc := ⟨.hbm, 108, rfl⟩
abbrev main_v80 : Ref sig .tc := ⟨.hbm, 109, rfl⟩
abbrev main_v81 : Ref sig .tc := ⟨.hbm, 110, rfl⟩
abbrev main_cst_12 : Ref sig .tc := ⟨.hbm, 111, rfl⟩
abbrev main_v82 : Ref sig .tc := ⟨.hbm, 112, rfl⟩
abbrev main_v83 : Ref sig .tc := ⟨.hbm, 113, rfl⟩
abbrev main_cst_13 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_14 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_15 : Ref sig .tc := ⟨.hbm, 124, rfl⟩
abbrev main_v92 : Ref sig .tc := ⟨.hbm, 125, rfl⟩
abbrev main_v93 : Ref sig .tc := ⟨.hbm, 126, rfl⟩
abbrev main_cst_16 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_17 : Ref sig .tc := ⟨.hbm, 133, rfl⟩
abbrev main_v99 : Ref sig .tc := ⟨.hbm, 134, rfl⟩
abbrev main_v100 : Ref sig .tc := ⟨.hbm, 135, rfl⟩
abbrev main_cst_18 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩

abbrev nD : Nat := 1
abbrev τ : Topo := Topo.v7x

variable {F : FTy → Type} [FloatOps F]
-- ==== Pool.lean ====
abbrev S2x2048x1024 : Shape := ⟨3, ![2, 2048, 1024]⟩
abbrev S2x1024 : Shape := ⟨2, ![2, 1024]⟩
abbrev S1x4x256x256 : Shape := ⟨4, ![1, 4, 256, 256]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2049x1024 : Shape := ⟨3, ![2, 2049, 1024]⟩
abbrev S2048 : Shape := ⟨1, ![2048]⟩
abbrev S2x2049x256 : Shape := ⟨3, ![2, 2049, 256]⟩
abbrev S2x1x256 : Shape := ⟨3, ![2, 1, 256]⟩
abbrev S2x2047x256 : Shape := ⟨3, ![2, 2047, 256]⟩
abbrev S2x2048x256 : Shape := ⟨3, ![2, 2048, 256]⟩
abbrev S1x2048x1 : Shape := ⟨3, ![1, 2048, 1]⟩
abbrev S2x3x256 : Shape := ⟨3, ![2, 3, 256]⟩
abbrev S2x2045x256 : Shape := ⟨3, ![2, 2045, 256]⟩
abbrev S2x7x256 : Shape := ⟨3, ![2, 7, 256]⟩
abbrev S2x2041x256 : Shape := ⟨3, ![2, 2041, 256]⟩
abbrev S2x15x256 : Shape := ⟨3, ![2, 15, 256]⟩
abbrev S2x2033x256 : Shape := ⟨3, ![2, 2033, 256]⟩
abbrev S2x2048x1x256 : Shape := ⟨4, ![2, 2048, 1, 256]⟩
abbrev S2x2048x4x256 : Shape := ⟨4, ![2, 2048, 4, 256]⟩
abbrev S4096x1024 : Shape := ⟨2, ![4096, 1024]⟩
abbrev S4x256x256 : Shape := ⟨3, ![4, 256, 256]⟩
abbrev S8x1024 : Shape := ⟨2, ![8, 1024]⟩
abbrev S512x1024 : Shape := ⟨2, ![512, 1024]⟩
abbrev S32x1024 : Shape := ⟨2, ![32, 1024]⟩
abbrev S544x1024 : Shape := ⟨2, ![544, 1024]⟩
abbrev S512x256 : Shape := ⟨2, ![512, 256]⟩
abbrev S1x256x256 : Shape := ⟨3, ![1, 256, 256]⟩
abbrev S256x256 : Shape := ⟨2, ![256, 256]⟩
abbrev S512x1 : Shape := ⟨2, ![512, 1]⟩
abbrev S32x256 : Shape := ⟨2, ![32, 256]⟩
abbrev S536x1024 : Shape := ⟨2, ![536, 1024]⟩
abbrev S528x768 : Shape := ⟨2, ![528, 768]⟩
abbrev S520x512 : Shape := ⟨2, ![520, 512]⟩
abbrev S512 : Shape := ⟨1, ![512]⟩
abbrev S5x1024 : Shape := ⟨2, ![5, 1024]⟩

abbrev nBuf : Space → Nat
  | .hbm => 123
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S1x4x256x256, .f32⟩
  | .hbm, ⟨3, _⟩ => ⟨S1x1024, .f32⟩
  | .hbm, ⟨4, _⟩ => ⟨S1x1024, .f32⟩
  | .hbm, ⟨5, _⟩ => ⟨S2x2048x1024, .f32⟩
  | .hbm, ⟨6, _⟩ => ⟨S1x1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x1x1024, .f32⟩
  | .hbm, ⟨26, _⟩ => ⟨S_, .f32⟩
  | .hbm, ⟨27, _⟩ => ⟨S_, .f32⟩
  | .hbm, ⟨28, _⟩ => ⟨S2x2048x1024, .f32⟩
  | .hbm, ⟨29, _⟩ => ⟨S2x2049x1024, .f32⟩
  | .hbm, ⟨30, _⟩ => ⟨S2048, .i32⟩
  | .hbm, ⟨31, _⟩ => ⟨S2x2049x256, .f32⟩
  | .hbm, ⟨32, _⟩ => ⟨S_, .f32⟩
  | .hbm, ⟨33, _⟩ => ⟨S2x1x256, .f32⟩
  | .hbm, ⟨34, _⟩ => ⟨S2x2047x256, .f32⟩
  | .hbm, ⟨35, _⟩ => ⟨S2x2048x256, .f32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .f32⟩
  | .hbm, ⟨43, _⟩ => ⟨S1x2048x1, .f32⟩
  | .hbm, ⟨44, _⟩ => ⟨S2x2048x256, .f32⟩
  | .hbm, ⟨45, _⟩ => ⟨S2x2048x256, .f32⟩
  | .hbm, ⟨46, _⟩ => ⟨S2x2048x256, .f32⟩
  | .hbm, ⟨47, _⟩ => ⟨S2x2048x256, .f32⟩
  | .hbm, ⟨48, _⟩ => ⟨S2x2048x256, .f32⟩
  | .hbm, ⟨49, _⟩ => ⟨S2x2048x256, .f32⟩
  | .hbm, ⟨50, _⟩ => ⟨S2x2049x256, .f32⟩
  | .hbm, ⟨51, _⟩ => ⟨S_, .f32⟩
  | .hbm, ⟨52, _⟩ => ⟨S2x3x256, .f32⟩
  | .hbm, ⟨53, _⟩ => ⟨S2x2045x256, .f32⟩
  | .hbm, ⟨54, _⟩ => ⟨S2x2048x256, .f32⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .f32⟩
  | .hbm, ⟨62, _⟩ => ⟨S1x2048x1, .f32⟩
  | .hbm, ⟨63, _⟩ => ⟨S2x2048x256, .f32⟩
  | .hbm, ⟨64, _⟩ => ⟨S2x2048x256, .f32⟩
  | .hbm, ⟨65, _⟩ => ⟨S2x2048x256, .f32⟩
  | .hbm, ⟨66, _⟩ => ⟨S2x2048x256, .f32⟩
  | .hbm, ⟨67, _⟩ => ⟨S2x2048x256, .f32⟩
  | .hbm, ⟨68, _⟩ => ⟨S2x2048x256, .f32⟩
  | .hbm, ⟨69, _⟩ => ⟨S2x2049x256, .f32⟩
  | .hbm, ⟨70, _⟩ => ⟨S_, .f32⟩
  | .hbm, ⟨71, _⟩ => ⟨S2x7x256, .f32⟩
  | .hbm, ⟨72, _⟩ => ⟨S2x2041x256, .f32⟩
  | .hbm, ⟨73, _⟩ => ⟨S2x2048x256, .f32⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S_, .i32⟩
  | .hbm, ⟨78, _⟩ => ⟨S2048, .i32⟩
  | .hbm, ⟨79, _⟩ => ⟨S2048, .i32⟩
  | .hbm, ⟨80, _⟩ => ⟨S2048, .f32⟩
  | .hbm, ⟨81, _⟩ => ⟨S1x2048x1, .f32⟩
  | .hbm, ⟨82, _⟩ => ⟨S2x2048x256, .f32⟩
  | .hbm, ⟨83, _⟩ => ⟨S2x2048x256, .f32⟩
  | .hbm, ⟨84, _⟩ => ⟨S2x2048x256, .f32⟩
  | .hbm, ⟨85, _⟩ => ⟨S2x2048x256, .f32⟩
  | .hbm, ⟨86, _⟩ => ⟨S2x2048x256, .f32⟩
  | .hbm, ⟨87, _⟩ => ⟨S2x2048x256, .f32⟩
  | .hbm, ⟨88, _⟩ => ⟨S2x2049x256, .f32⟩
  | .hbm, ⟨89, _⟩ => ⟨S_, .f32⟩
  | .hbm, ⟨90, _⟩ => ⟨S2x15x256, .f32⟩
  | .hbm, ⟨91, _⟩ => ⟨S2x2033x256, .f32⟩
  | .hbm, ⟨92, _⟩ => ⟨S2x2048x256, .f32⟩
  | .hbm, ⟨93, _⟩ => ⟨S_, .i32⟩
  | .hbm, ⟨94, _⟩ => ⟨S2048, .i32⟩
  | .hbm, ⟨95, _⟩ => ⟨S2048, .i32⟩
  | .hbm, ⟨96, _⟩ => ⟨S_, .i32⟩
  | .hbm, ⟨97, _⟩ => ⟨S2048, .i32⟩
  | .hbm, ⟨98, _⟩ => ⟨S2048, .i32⟩
  | .hbm, ⟨99, _⟩ => ⟨S2048, .f32⟩
  | .hbm, ⟨100, _⟩ => ⟨S1x2048x1, .f32⟩
  | .hbm, ⟨101, _⟩ => ⟨S2x2048x256, .f32⟩
  | .hbm, ⟨102, _⟩ => ⟨S2x2048x256, .f32⟩
  | .hbm, ⟨103, _⟩ => ⟨S2x2048x256, .f32⟩
  | .hbm, ⟨104, _⟩ => ⟨S2x2048x256, .f32⟩
  | .hbm, ⟨105, _⟩ => ⟨S2x2048x256, .f32⟩
  | .hbm, ⟨106, _⟩ => ⟨S2x2048x256, .f32⟩
  | .hbm, ⟨107, _⟩ => ⟨S2x2048x1x256, .f32⟩
  | .hbm, ⟨108, _⟩ => ⟨S2x2048x1x256, .f32⟩
  | .hbm, ⟨109, _⟩ => ⟨S2x2048x1x256, .f32⟩
  | .hbm, ⟨110, _⟩ => ⟨S2x2048x1x256, .f32⟩
  | .hbm, ⟨111, _⟩ => ⟨S2x2048x4x256, .f32⟩
  | .hbm, ⟨112, _⟩ => ⟨S4096x1024, .f32⟩
  | .hbm, ⟨113, _⟩ => ⟨S4096x1024, .bf16⟩
  | .hbm, ⟨114, _⟩ => ⟨S4096x1024, .f32⟩
  | .hbm, ⟨115, _⟩ => ⟨S4096x1024, .f32⟩
  | .hbm, ⟨116, _⟩ => ⟨S4x256x256, .f32⟩
  | .hbm, ⟨117, _⟩ => ⟨S4x256x256, .bf16⟩
  | .hbm, ⟨118, _⟩ => ⟨S1x1024, .f32⟩
  | .hbm, ⟨119, _⟩ => ⟨S4096x1024, .f32⟩
  | .hbm, ⟨120, _⟩ => ⟨S4096x1024, .bf16⟩
  | .hbm, ⟨121, _⟩ => ⟨S4x256x256, .f32⟩
  | .hbm, ⟨122, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S4x256x256, .f32⟩
  | .local _ .vmem, ⟨17, _⟩ => ⟨S8x1024, .f32⟩
  | .local _ .vmem, ⟨18, _⟩ => ⟨S544x1024, .f32⟩
  | .local _ .vmem, ⟨19, _⟩ => ⟨S544x1024, .f32⟩
  | .local _ .vmem, ⟨20, _⟩ => ⟨S544x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_12 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95_0 : Ref sig .tc := ⟨.hbm, 119, rfl⟩
abbrev main_v95_1 : Ref sig .tc := ⟨.hbm, 120, rfl⟩
abbrev main_v95_2 : Ref sig .tc := ⟨.hbm, 121, rfl⟩
abbrev main_v95_3 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_30 : BitVec 32 := 0#32
  let v55 : BitVec 1 := Scalar.cmpi .eq arg0 c0_i32_30
  let v56 : BitVec 32 := Scalar.extui v55
  let c0_i32_32 : BitVec 32 := 0#32
  let v57 : BitVec 1 := Scalar.cmpi .ne v56 c0_i32_32
  v57

def k0_cond2 (i : grid0.Coords) : BitVec 1 :=
  let arg0 : BitVec 32 := BitVec.ofNat 32 (i 0).val
  let c0_i32_30 : BitVec 32 := 0#32
  let v55 : BitVec 1 := Scalar.cmpi .eq arg0 c0_i32_30
  let v_true : BitVec 1 := 1#1
  let v58 : BitVec 1 := Scalar.xori v55 v_true
  let v59 : BitVec 32 := Scalar.extui v58
  let c0_i32_34 : BitVec 32 := 0#32
  let v60 : BitVec 1 := Scalar.cmpi .ne v59 c0_i32_34
  v60

def k0_cond3 (i : grid0.Coords) : BitVec 1 :=
  let arg0 : BitVec 32 := BitVec.ofNat 32 (i 0).val
  let c0_i32_57 : BitVec 32 := 0#32
  let v104 : BitVec 1 := Scalar.cmpi .eq arg0 c0_i32_57
  let v105 : BitVec 32 := Scalar.extui v104
  let c0_i32_59 : BitVec 32 := 0#32
  let v106 : BitVec 1 := Scalar.cmpi .ne v105 c0_i32_59
  v106

def k0_cond4 (i : grid0.Coords) : BitVec 1 :=
  let arg0 : BitVec 32 := BitVec.ofNat 32 (i 0).val
  let c0_i32_57 : BitVec 32 := 0#32
  let v104 : BitVec 1 := Scalar.cmpi .eq arg0 c0_i32_57
  let true_60 : BitVec 1 := 1#1
  let v107 : BitVec 1 := Scalar.xori v104 true_60
  let v108 : BitVec 32 := Scalar.extui v107
  let c0_i32_62 : BitVec 32 := 0#32
  let v109 : BitVec 1 := Scalar.cmpi .ne v108 c0_i32_62
  v109

def k0_cond5 (i : grid0.Coords) : BitVec 1 :=
  let arg0 : BitVec 32 := BitVec.ofNat 32 (i 0).val
  let c0_i32_87 : BitVec 32 := 0#32
  let v153 : BitVec 1 := Scalar.cmpi .eq arg0 c0_i32_87
  let v154 : BitVec 32 := Scalar.extui v153
  let c0_i32_89 : BitVec 32 := 0#32
  let v155 : BitVec 1 := Scalar.cmpi .ne v154 c0_i32_89
  v155

def k0_cond6 (i : grid0.Coords) : BitVec 1 :=
  let arg0 : BitVec 32 := BitVec.ofNat 32 (i 0).val
  let c0_i32_87 : BitVec 32 := 0#32
  let v153 : BitVec 1 := Scalar.cmpi .eq arg0 c0_i32_87
  let true_90 : BitVec 1 := 1#1
  let v156 : BitVec 1 := Scalar.xori v153 true_90
  let v157 : BitVec 32 := Scalar.extui v156
  let c0_i32_92 : BitVec 32 := 0#32
  let v158 : BitVec 1 := Scalar.cmpi .ne v157 c0_i32_92
  v158

def k0_cond7 (i : grid0.Coords) : BitVec 1 :=
  let arg0 : BitVec 32 := BitVec.ofNat 32 (i 0).val
  let c0_i32_117 : BitVec 32 := 0#32
  let v202 : BitVec 1 := Scalar.cmpi .eq arg0 c0_i32_117
  let v203 : BitVec 32 := Scalar.extui v202
  let c0_i32_119 : BitVec 32 := 0#32
  let v204 : BitVec 1 := Scalar.cmpi .ne v203 c0_i32_119
  v204

def k0_cond8 (i : grid0.Coords) : BitVec 1 :=
  let arg0 : BitVec 32 := BitVec.ofNat 32 (i 0).val
  let c0_i32_117 : BitVec 32 := 0#32
  let v202 : BitVec 1 := Scalar.cmpi .eq arg0 c0_i32_117
  let true_120 : BitVec 1 := 1#1
  let v205 : BitVec 1 := Scalar.xori v202 true_120
  let v206 : BitVec 32 := Scalar.extui v205
  let c0_i32_122 : BitVec 32 := 0#32
  let v207 : BitVec 1 := Scalar.cmpi .ne v206 c0_i32_122
  v207

def k0_cond9 (i : grid0.Coords) : BitVec 1 :=
  let arg0 : BitVec 32 := BitVec.ofNat 32 (i 0).val
  let c0_i32_208 : BitVec 32 := 0#32
  let v332 : BitVec 1 := Scalar.cmpi .eq arg0 c0_i32_208
  let v333 : BitVec 32 := Scalar.extui v332
  let c0_i32_209 : BitVec 32 := 0#32
  let v334 : BitVec 1 := Scalar.cmpi .ne v333 c0_i32_209
  v334

def k0_cond10 (i : grid0.Coords) : BitVec 1 :=
  let arg0 : BitVec 32 := BitVec.ofNat 32 (i 0).val
  let c0_i32_208 : BitVec 32 := 0#32
  let v332 : BitVec 1 := Scalar.cmpi .eq arg0 c0_i32_208
  let true_210 : BitVec 1 := 1#1
  let v335 : BitVec 1 := Scalar.xori v332 true_210
  let v336 : BitVec 32 := Scalar.extui v335
  let c0_i32_211 : BitVec 32 := 0#32
  let v337 : BitVec 1 := Scalar.cmpi .ne v336 c0_i32_211
  v337

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PoolRefIdeal.lean ====
abbrev S2x2048x1024 : Shape := ⟨3, ![2, 2048, 1024]⟩
abbrev S2x1024 : Shape := ⟨2, ![2, 1024]⟩
abbrev S1x4x256x256 : Shape := ⟨4, ![1, 4, 256, 256]⟩
abbrev S1x1024 : Shape := ⟨2, ![1, 1024]⟩
abbrev S1024 : Shape := ⟨1, ![1024]⟩
abbrev S4x256x256 : Shape := ⟨3, ![4, 256, 256]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2049x1024 : Shape := ⟨3, ![2, 2049, 1024]⟩
abbrev S2048 : Shape := ⟨1, ![2048]⟩
abbrev S2x2049x256 : Shape := ⟨3, ![2, 2049, 256]⟩
abbrev S2x1x256 : Shape := ⟨3, ![2, 1, 256]⟩
abbrev S2x2047x256 : Shape := ⟨3, ![2, 2047, 256]⟩
abbrev S2x2048x256 : Shape := ⟨3, ![2, 2048, 256]⟩
abbrev S1x2048x1 : Shape := ⟨3, ![1, 2048, 1]⟩
abbrev S2x3x256 : Shape := ⟨3, ![2, 3, 256]⟩
abbrev S2x2045x256 : Shape := ⟨3, ![2, 2045, 256]⟩
abbrev S2x7x256 : Shape := ⟨3, ![2, 7, 256]⟩
abbrev S2x2041x256 : Shape := ⟨3, ![2, 2041, 256]⟩
abbrev S2x15x256 : Shape := ⟨3, ![2, 15, 256]⟩
abbrev S2x2033x256 : Shape := ⟨3, ![2, 2033, 256]⟩
abbrev S2x2048x1x256 : Shape := ⟨4, ![2, 2048, 1, 256]⟩
abbrev S2x2048x4x256 : Shape := ⟨4, ![2, 2048, 4, 256]⟩
abbrev S4x256x2x2048 : Shape := ⟨4, ![4, 256, 2, 2048]⟩
abbrev S4x2x2048x256 : Shape := ⟨4, ![4, 2, 2048, 256]⟩
abbrev S4096x1024 : Shape := ⟨2, ![4096, 1024]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 274
  | .vmem => 0
  | .smem => 0
  | _ => 0

abbrev hbmTy0_0 (i : Nat) : BufTy := match i % 128 with
  | 0 => ⟨S2x2048x1024, .f32⟩
  | 1 => ⟨S2x1024, .f32⟩
  | 2 => ⟨S1x4x256x256, .f32⟩
  | 3 => ⟨S1x1024, .f32⟩
  | 4 => ⟨S1x1024, .f32⟩
  | 5 => ⟨S2x2048x1024, .f32⟩
  | 6 => ⟨S1x1024, .f32⟩
  | 7 => ⟨S1024, .f32⟩
  | 8 => ⟨S4x256x256, .f32⟩
  | 9 => ⟨S1024, .f32⟩
  | 10 => ⟨S1024, .f32⟩
  | 11 => ⟨S2x2048x1024, .f32⟩
  | 12 => ⟨S_, .f32⟩
  | 13 => ⟨S2x2048, .f32⟩
  | 14 => ⟨S2x2048x1, .f32⟩
  | 15 => ⟨S_, .f32⟩
  | 16 => ⟨S2x2048x1, .f32⟩
  | 17 => ⟨S2x2048x1, .f32⟩
  | 18 => ⟨S_, .f32⟩
  | 19 => ⟨S2x2048x1, .f32⟩
  | 20 => ⟨S2x2048x1, .f32⟩
  | 21 => ⟨S2x2048x1, .f32⟩
  | 22 => ⟨S2x2048x1, .f32⟩
  | 23 => ⟨S_, .f32⟩
  | 24 => ⟨S2x2048x1, .f32⟩
  | 25 => ⟨S2x2048x1, .f32⟩
  | 26 => ⟨S2x2048x1024, .f32⟩
  | 27 => ⟨S2x2048x1024, .f32⟩
  | 28 => ⟨S1x1x1024, .f32⟩
  | 29 => ⟨S2x2048x1024, .f32⟩
  | 30 => ⟨S2x2048x1024, .f32⟩
  | 31 => ⟨S_, .f32⟩
  | 32 => ⟨S2x1x1024, .f32⟩
  | 33 => ⟨S_, .f32⟩
  | 34 => ⟨S_, .f32⟩
  | 35 => ⟨S2x2048x1024, .f32⟩
  | 36 => ⟨S2x2049x1024, .f32⟩
  | 37 => ⟨S_, .f32⟩
  | 38 => ⟨S2x1x1024, .f32⟩
  | 39 => ⟨S2048, .i32⟩
  | 40 => ⟨S2x2049x256, .f32⟩
  | 41 => ⟨S_, .f32⟩
  | 42 => ⟨S2x1x256, .f32⟩
  | 43 => ⟨S2x2047x256, .f32⟩
  | 44 => ⟨S2x2048x256, .f32⟩
  | 45 => ⟨S_, .f32⟩
  | 46 => ⟨S2x1x256, .f32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S2048, .f32⟩
  | 54 => ⟨S1x2048x1, .f32⟩
  | 55 => ⟨S2x2048x256, .f32⟩
  | 56 => ⟨S2x2048x256, .f32⟩
  | 57 => ⟨S2x2048x256, .f32⟩
  | 58 => ⟨S2x2048x256, .f32⟩
  | 59 => ⟨S2x2048x256, .f32⟩
  | 60 => ⟨S2x2048x256, .f32⟩
  | 61 => ⟨S2x2049x256, .f32⟩
  | 62 => ⟨S_, .f32⟩
  | 63 => ⟨S2x3x256, .f32⟩
  | 64 => ⟨S2x2045x256, .f32⟩
  | 65 => ⟨S2x2048x256, .f32⟩
  | 66 => ⟨S_, .f32⟩
  | 67 => ⟨S2x3x256, .f32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S2048, .f32⟩
  | 75 => ⟨S1x2048x1, .f32⟩
  | 76 => ⟨S2x2048x256, .f32⟩
  | 77 => ⟨S2x2048x256, .f32⟩
  | 78 => ⟨S2x2048x256, .f32⟩
  | 79 => ⟨S2x2048x256, .f32⟩
  | 80 => ⟨S2x2048x256, .f32⟩
  | 81 => ⟨S2x2048x256, .f32⟩
  | 82 => ⟨S2x2049x256, .f32⟩
  | 83 => ⟨S_, .f32⟩
  | 84 => ⟨S2x7x256, .f32⟩
  | 85 => ⟨S2x2041x256, .f32⟩
  | 86 => ⟨S2x2048x256, .f32⟩
  | 87 => ⟨S_, .f32⟩
  | 88 => ⟨S2x7x256, .f32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S2048, .f32⟩
  | 96 => ⟨S1x2048x1, .f32⟩
  | 97 => ⟨S2x2048x256, .f32⟩
  | 98 => ⟨S2x2048x256, .f32⟩
  | 99 => ⟨S2x2048x256, .f32⟩
  | 100 => ⟨S2x2048x256, .f32⟩
  | 101 => ⟨S2x2048x256, .f32⟩
  | 102 => ⟨S2x2048x256, .f32⟩
  | 103 => ⟨S2x2049x256, .f32⟩
  | 104 => ⟨S_, .f32⟩
  | 105 => ⟨S2x15x256, .f32⟩
  | 106 => ⟨S2x2033x256, .f32⟩
  | 107 => ⟨S2x2048x256, .f32⟩
  | 108 => ⟨S_, .f32⟩
  | 109 => ⟨S2x15x256, .f32⟩
  | 110 => ⟨S_, .i32⟩
  | 111 => ⟨S2048, .i32⟩
  | 112 => ⟨S2048, .i32⟩
  | 113 => ⟨S_, .i32⟩
  | 114 => ⟨S2048, .i32⟩
  | 115 => ⟨S2048, .i32⟩
  | 116 => ⟨S2048, .f32⟩
  | 117 => ⟨S1x2048x1, .f32⟩
  | 118 => ⟨S2x2048x256, .f32⟩
  | 119 => ⟨S2x2048x256, .f32⟩
  | 120 => ⟨S2x2048x256, .f32⟩
  | 121 => ⟨S2x2048x256, .f32⟩
  | 122 => ⟨S2x2048x256, .f32⟩
  | 123 => ⟨S2x2048x256, .f32⟩
  | 124 => ⟨S2x2048x1x256, .f32⟩
  | 125 => ⟨S2x2048x1x256, .f32⟩
  | 126 => ⟨S2x2048x1x256, .f32⟩
  | 127 => ⟨S2x2048x1x256, .f32⟩
  | _ => ⟨S2x2048x1024, .f32⟩

abbrev hbmTy0_1 (i : Nat) : BufTy := match i % 128 with
  | 0 => ⟨S2x2048x4x256, .f32⟩
  | 1 => ⟨S4x256x2x2048, .f32⟩
  | 2 => ⟨S2x2048x4x256, .f32⟩
  | 3 => ⟨S2x2048x1024, .f32⟩
  | 4 => ⟨S1x1x1024, .f32⟩
  | 5 => ⟨S2x2048x1024, .f32⟩
  | 6 => ⟨S2x2048x1024, .f32⟩
  | 7 => ⟨S1x1x1024, .f32⟩
  | 8 => ⟨S2x2048x1024, .f32⟩
  | 9 => ⟨S2x2048x1024, .f32⟩
  | 10 => ⟨S2x2048x1024, .f32⟩
  | 11 => ⟨S2x2048x1024, .f32⟩
  | 12 => ⟨S2x2048x1024, .f32⟩
  | 13 => ⟨S2x2048x1024, .f32⟩
  | 14 => ⟨S2x2048x1024, .f32⟩
  | 15 => ⟨S_, .f32⟩
  | 16 => ⟨S1024, .f32⟩
  | 17 => ⟨S1x1x1024, .f32⟩
  | 18 => ⟨S_, .f32⟩
  | 19 => ⟨S1024, .f32⟩
  | 20 => ⟨S_, .f32⟩
  | 21 => ⟨S1024, .f32⟩
  | 22 => ⟨S1x1x1024, .f32⟩
  | 23 => ⟨S_, .f32⟩
  | 24 => ⟨S1024, .f32⟩
  | 25 => ⟨S2x2048x4x256, .f32⟩
  | 26 => ⟨S4x256x2x2048, .f32⟩
  | 27 => ⟨S4x2x2048x256, .f32⟩
  | 28 => ⟨S2x2048x4x256, .f32⟩
  | 29 => ⟨S4x256x256, .f32⟩
  | 30 => ⟨S4x256x256, .f32⟩
  | 31 => ⟨S2x2048x1x256, .f32⟩
  | 32 => ⟨S2x2048x256, .f32⟩
  | 33 => ⟨S2x2048x1x256, .f32⟩
  | 34 => ⟨S2x2048x256, .f32⟩
  | 35 => ⟨S2x2048x1x256, .f32⟩
  | 36 => ⟨S2x2048x256, .f32⟩
  | 37 => ⟨S2x2048x1x256, .f32⟩
  | 38 => ⟨S2x2048x256, .f32⟩
  | 39 => ⟨S2x2048x256, .f32⟩
  | 40 => ⟨S_, .f32⟩
  | 41 => ⟨S2x2048x1024, .f32⟩
  | 42 => ⟨S2x2048x256, .f32⟩
  | 43 => ⟨S2x2048x256, .f32⟩
  | 44 => ⟨S2x2048x256, .f32⟩
  | 45 => ⟨S_, .f32⟩
  | 46 => ⟨S2x2049x256, .f32⟩
  | 47 => ⟨S2x15x256, .f32⟩
  | 48 => ⟨S2x2033x256, .f32⟩
  | 49 => ⟨S_, .f32⟩
  | 50 => ⟨S2x2049x256, .f32⟩
  | 51 => ⟨S2x2049x256, .f32⟩
  | 52 => ⟨S_, .f32⟩
  | 53 => ⟨S2x2049x1024, .f32⟩
  | 54 => ⟨S2x2048x256, .f32⟩
  | 55 => ⟨S_, .f32⟩
  | 56 => ⟨S2x2048x1024, .f32⟩
  | 57 => ⟨S2x2048x1024, .f32⟩
  | 58 => ⟨S2x2048x256, .f32⟩
  | 59 => ⟨S2x2048x256, .f32⟩
  | 60 => ⟨S2x2048x256, .f32⟩
  | 61 => ⟨S_, .f32⟩
  | 62 => ⟨S2x2049x256, .f32⟩
  | 63 => ⟨S2x7x256, .f32⟩
  | 64 => ⟨S2x2041x256, .f32⟩
  | 65 => ⟨S_, .f32⟩
  | 66 => ⟨S2x2049x256, .f32⟩
  | 67 => ⟨S2x2049x256, .f32⟩
  | 68 => ⟨S_, .f32⟩
  | 69 => ⟨S2x2049x1024, .f32⟩
  | 70 => ⟨S2x2049x1024, .f32⟩
  | 71 => ⟨S2x2048x256, .f32⟩
  | 72 => ⟨S_, .f32⟩
  | 73 => ⟨S2x2048x1024, .f32⟩
  | 74 => ⟨S2x2048x1024, .f32⟩
  | 75 => ⟨S2x2048x256, .f32⟩
  | 76 => ⟨S2x2048x256, .f32⟩
  | 77 => ⟨S2x2048x256, .f32⟩
  | 78 => ⟨S_, .f32⟩
  | 79 => ⟨S2x2049x256, .f32⟩
  | 80 => ⟨S2x3x256, .f32⟩
  | 81 => ⟨S2x2045x256, .f32⟩
  | 82 => ⟨S_, .f32⟩
  | 83 => ⟨S2x2049x256, .f32⟩
  | 84 => ⟨S2x2049x256, .f32⟩
  | 85 => ⟨S_, .f32⟩
  | 86 => ⟨S2x2049x1024, .f32⟩
  | 87 => ⟨S2x2049x1024, .f32⟩
  | 88 => ⟨S2x2048x256, .f32⟩
  | 89 => ⟨S_, .f32⟩
  | 90 => ⟨S2x2048x1024, .f32⟩
  | 91 => ⟨S2x2048x1024, .f32⟩
  | 92 => ⟨S2x2048x256, .f32⟩
  | 93 => ⟨S2x2048x256, .f32⟩
  | 94 => ⟨S2x2048x256, .f32⟩
  | 95 => ⟨S_, .f32⟩
  | 96 => ⟨S2x2049x256, .f32⟩
  | 97 => ⟨S2x1x256, .f32⟩
  | 98 => ⟨S2x2047x256, .f32⟩
  | 99 => ⟨S_, .f32⟩
  | 100 => ⟨S2x2049x256, .f32⟩
  | 101 => ⟨S2x2049x256, .f32⟩
  | 102 => ⟨S_, .f32⟩
  | 103 => ⟨S2x2049x1024, .f32⟩
  | 104 => ⟨S2x2049x1024, .f32⟩
  | 105 => ⟨S2x1x1024, .f32⟩
  | 106 => ⟨S2x2048x1024, .f32⟩
  | 107 => ⟨S_, .f32⟩
  | 108 => ⟨S_, .f32⟩
  | 109 => ⟨S2x2048x1024, .f32⟩
  | 110 => ⟨S2x2048x1024, .f32⟩
  | 111 => ⟨S2x2048x1024, .f32⟩
  | 112 => ⟨S_, .f32⟩
  | 113 => ⟨S1024, .f32⟩
  | 114 => ⟨S1x1x1024, .f32⟩
  | 115 => ⟨S2x2048x1024, .f32⟩
  | 116 => ⟨S2x2048x1024, .f32⟩
  | 117 => ⟨S_, .f32⟩
  | 118 => ⟨S1024, .f32⟩
  | 119 => ⟨S2x2048x1024, .f32⟩
  | 120 => ⟨S_, .f32⟩
  | 121 => ⟨S2x2048, .f32⟩
  | 122 => ⟨S2x2048x1, .f32⟩
  | 123 => ⟨S2x2048x1024, .f32⟩
  | 124 => ⟨S2x2048x1024, .f32⟩
  | 125 => ⟨S2x2048x1024, .f32⟩
  | 126 => ⟨S2x2048x1, .f32⟩
  | 127 => ⟨S_, .f32⟩
  | _ => ⟨S2x2048x1024, .f32⟩

abbrev hbmTy0_2 (i : Nat) : BufTy := match i % 128 with
  | 0 => ⟨S2x2048x1, .f32⟩
  | 1 => ⟨S2x2048x1, .f32⟩
  | 2 => ⟨S_, .f32⟩
  | 3 => ⟨S2x2048, .f32⟩
  | 4 => ⟨S2x2048x1024, .f32⟩
  | 5 => ⟨S2x2048x1024, .f32⟩
  | 6 => ⟨S2x2048x1024, .f32⟩
  | 7 => ⟨S2x2048x1024, .f32⟩
  | 8 => ⟨S2x2048x1024, .f32⟩
  | 9 => ⟨S4096x1024, .f32⟩
  | 10 => ⟨S4096x1024, .bf16⟩
  | 11 => ⟨S1x1024, .f32⟩
  | 12 => ⟨S1x1024, .f32⟩
  | 13 => ⟨S1x1024, .f32⟩
  | 14 => ⟨S3x1024, .f32⟩
  | 15 => ⟨S_, .f32⟩
  | 16 => ⟨S5x1024, .f32⟩
  | 17 => ⟨S8x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_c : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_c_18 : Ref sig .tc := ⟨.hbm, 110, rfl⟩
abbrev main_v82 : Ref sig .tc := ⟨.hbm, 111, rfl⟩
abbrev main_v83 : Ref sig .tc := ⟨.hbm, 112, rfl⟩
abbrev main_c_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_20 : Ref sig .tc := ⟨.hbm, 143, rfl⟩
abbrev main_v113 : Ref sig .tc := ⟨.hbm, 144, rfl⟩
abbrev main_v114 : Ref sig .tc := ⟨.hbm, 145, rfl⟩
abbrev main_cst_21 : Ref sig .tc := ⟨.hbm, 146, rfl⟩
abbrev main_v115 : Ref sig .tc := ⟨.hbm, 147, rfl⟩
abbrev main_cst_22 : Ref sig .tc := ⟨.hbm, 148, rfl⟩
abbrev main_v116 : Ref sig .tc := ⟨.hbm, 149, rfl⟩
abbrev main_v117 : Ref sig .tc := ⟨.hbm, 150, rfl⟩
abbrev main_cst_23 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_24 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_25 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_26 : Ref sig .tc := ⟨.hbm, 177, rfl⟩
abbrev main_v141 : Ref sig .tc := ⟨.hbm, 178, rfl⟩
abbrev main_v142 : Ref sig .tc := ⟨.hbm, 179, rfl⟩
abbrev main_cst_27 : Ref sig .tc := ⟨.hbm, 180, rfl⟩
abbrev main_v143 : Ref sig .tc := ⟨.hbm, 181, rfl⟩
abbrev main_v144 : Ref sig .tc := ⟨.hbm, 182, rfl⟩
abbrev main_cst_28 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_29 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_30 : Ref sig .tc := ⟨.hbm, 193, rfl⟩
abbrev main_v153 : Ref sig .tc := ⟨.hbm, 194, rfl⟩
abbrev main_v154 : Ref sig .tc := ⟨.hbm, 195, rfl⟩
abbrev main_cst_31 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_32 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_33 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_34 : Ref sig .tc := ⟨.hbm, 210, rfl⟩
abbrev main_v166 : Ref sig .tc := ⟨.hbm, 211, rfl⟩
abbrev main_v167 : Ref sig .tc := ⟨.hbm, 212, rfl⟩
abbrev main_cst_35 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_36 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_37 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_38 : Ref sig .tc := ⟨.hbm, 227, rfl⟩
abbrev main_v179 : Ref sig .tc := ⟨.hbm, 228, rfl⟩
abbrev main_v180 : Ref sig .tc := ⟨.hbm, 229, rfl⟩
abbrev main_cst_39 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_call1_cst : Ref sig .tc := ⟨.hbm, 235, rfl⟩
abbrev main_call1_v0 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_cst_40 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_cst_41 : Ref sig .tc := ⟨.hbm, 245, rfl⟩
abbrev main_v192 : Ref sig .tc := ⟨.hbm, 246, rfl⟩
abbrev main_v193 : Ref sig .tc := ⟨.hbm, 247, rfl⟩
abbrev main_cst_42 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_cst_43 : Ref sig .tc := ⟨.hbm, 255, rfl⟩
abbrev main_v200 : Ref sig .tc := ⟨.hbm, 256, rfl⟩
abbrev main_v201 : Ref sig .tc := ⟨.hbm, 257, rfl⟩
abbrev main_cst_44 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_cst_45 : Ref sig .tc := ⟨.hbm, 271, rfl⟩
abbrev main_v214 : Ref sig .tc := ⟨.hbm, 272, rfl⟩
abbrev main_v215 : Ref sig .tc := ⟨.hbm, 273, rfl⟩

abbrev nD : Nat := 1
abbrev τ : Topo := Topo.v7x

variable {F : FTy → Type} [FloatOps F]
-- ==== Fwd.lean ====
abbrev S2x2048x1024 : Shape := ⟨3, ![2, 2048, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S_ : Shape := ⟨0, ![]⟩
abbrev S2x8x2816 : Shape := ⟨3, ![2, 8, 2816]⟩
abbrev S1x8x2816 : Shape := ⟨3, ![1, 8, 2816]⟩
abbrev S8x2816 : Shape := ⟨2, ![8, 2816]⟩
abbrev S1x1024x5632 : Shape := ⟨3, ![1, 1024, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x2816 : Shape := ⟨2, ![1, 2816]⟩
abbrev S1x2816x1024 : Shape := ⟨3, ![1, 2816, 1024]⟩
abbrev S2816x1024 : Shape := ⟨2, ![2816, 1024]⟩
abbrev S4096x5632 : Shape := ⟨2, ![4096, 5632]⟩
abbrev S16x2816x256 : Shape := ⟨3, ![16, 2816, 256]⟩
abbrev S256x1024 : Shape := ⟨2, ![256, 1024]⟩
abbrev S16x1024 : Shape := ⟨2, ![16, 1024]⟩
abbrev S256x5632 : Shape := ⟨2, ![256, 5632]⟩
abbrev S1x2816x256 : Shape := ⟨3, ![1, 2816, 256]⟩
abbrev S264x2816 : Shape := ⟨2, ![264, 2816]⟩
abbrev S2x256x2816 : Shape := ⟨3, ![2, 256, 2816]⟩
abbrev S1x1024x1408 : Shape := ⟨3, ![1, 1024, 1408]⟩
abbrev S1024x1408 : Shape := ⟨2, ![1024, 1408]⟩
abbrev S256x1408 : Shape := ⟨2, ![256, 1408]⟩
abbrev S16x1408 : Shape := ⟨2, ![16, 1408]⟩
abbrev S16x2816 : Shape := ⟨2, ![16, 2816]⟩
abbrev S256x2816 : Shape := ⟨2, ![256, 2816]⟩
abbrev S1x256x2816 : Shape := ⟨3, ![1, 256, 2816]⟩
abbrev S2816x256 : Shape := ⟨2, ![2816, 256]⟩
abbrev S256 : Shape := ⟨1, ![256]⟩
abbrev S256x1 : Shape := ⟨2, ![256, 1]⟩

abbrev nBuf : Space → Nat
  | .hbm => 47
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024x5632, .f32⟩
  | .hbm, ⟨3, _⟩ => ⟨S2x3x2816, .f32⟩
  | .hbm, ⟨4, _⟩ => ⟨S2x2816, .f32⟩
  | .hbm, ⟨5, _⟩ => ⟨S2x2816x1024, .f32⟩
  | .hbm, ⟨6, _⟩ => ⟨S2x1024, .f32⟩
  | .hbm, ⟨7, _⟩ => ⟨S_, .i32⟩
  | .hbm, ⟨8, _⟩ => ⟨S_, .f32⟩
  | .hbm, ⟨9, _⟩ => ⟨S2x8x2816, .f32⟩
  | .hbm, ⟨10, _⟩ => ⟨S1x8x2816, .f32⟩
  | .hbm, ⟨11, _⟩ => ⟨S8x2816, .f32⟩
  | .hbm, ⟨12, _⟩ => ⟨S1x1024x5632, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | .hbm, ⟨16, _⟩ => ⟨S4x1024x1408, .bf16⟩
  | .hbm, ⟨17, _⟩ => ⟨S1x1024, .f32⟩
  | .hbm, ⟨18, _⟩ => ⟨S1024, .f32⟩
  | .hbm, ⟨19, _⟩ => ⟨S2x2048x1024, .f32⟩
  | .hbm, ⟨20, _⟩ => ⟨S_, .f32⟩
  | .hbm, ⟨21, _⟩ => ⟨S2x2048, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S4096x1024, .f32⟩
  | .hbm, ⟨36, _⟩ => ⟨S4096x1024, .bf16⟩
  | .hbm, ⟨37, _⟩ => ⟨S4096x1024, .f32⟩
  | .hbm, ⟨38, _⟩ => ⟨S1x2816, .f32⟩
  | .hbm, ⟨39, _⟩ => ⟨S1x2816x1024, .f32⟩
  | .hbm, ⟨40, _⟩ => ⟨S2816x1024, .f32⟩
  | .hbm, ⟨41, _⟩ => ⟨S2816x1024, .bf16⟩
  | .hbm, ⟨42, _⟩ => ⟨S1x1024, .f32⟩
  | .hbm, ⟨43, _⟩ => ⟨S4096x5632, .f32⟩
  | .hbm, ⟨44, _⟩ => ⟨S16x2816x256, .bf16⟩
  | .hbm, ⟨45, _⟩ => ⟨S4096x1024, .f32⟩
  | .hbm, ⟨46, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S256x1024, .f32⟩
  | .local _ .vmem, ⟨5, _⟩ => ⟨S256x1024, .f32⟩
  | .local _ .vmem, ⟨6, _⟩ => ⟨S4x1024x1408, .bf16⟩
  | .local _ .vmem, ⟨7, _⟩ => ⟨S8x2816, .f32⟩
  | .local _ .vmem, ⟨8, _⟩ => ⟨S1x2816, .f32⟩
  | .local _ .vmem, ⟨9, _⟩ => ⟨S2816x1024, .bf16⟩
  | .local _ .vmem, ⟨10, _⟩ => ⟨S1x1024, .f32⟩
  | .local _ .vmem, ⟨11, _⟩ => ⟨S256x5632, .f32⟩
  | .local _ .vmem, ⟨12, _⟩ => ⟨S256x5632, .f32⟩
  | .local _ .vmem, ⟨13, _⟩ => ⟨S1x2816x256, .bf16⟩
  | .local _ .vmem, ⟨14, _⟩ => ⟨S1x2816x256, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S264x2816, .f32⟩
  | .local _ .vmem, ⟨20, _⟩ => ⟨S2x256x2816, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2816x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FwdRefIdeal.lean ====
abbrev S2x2048x1024 : Shape := ⟨3, ![2, 2048, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x2048x5632 : Shape := ⟨3, ![2, 2048, 5632]⟩
abbrev S2x2048x2816 : Shape := ⟨3, ![2, 2048, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S2x2x2816 : Shape := ⟨3, ![2, 2, 2816]⟩
abbrev S2x2050x2816 : Shape := ⟨3, ![2, 2050, 2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S16x256x2816 : Shape := ⟨3, ![16, 256, 2816]⟩
abbrev S16x2816x256 : Shape := ⟨3, ![16, 2816, 256]⟩
abbrev S4096x5632 : Shape := ⟨2, ![4096, 5632]⟩
abbrev S4096x1024 : Shape := ⟨2, ![4096, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024x5632, .f32⟩
  | .hbm, ⟨3, _⟩ => ⟨S2x3x2816, .f32⟩
  | .hbm, ⟨4, _⟩ => ⟨S2x2816, .f32⟩
  | .hbm, ⟨5, _⟩ => ⟨S2x2816x1024, .f32⟩
  | .hbm, ⟨6, _⟩ => ⟨S2x1024, .f32⟩
  | .hbm, ⟨7, _⟩ => ⟨S1x1024, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S1x1024x5632, .f32⟩
  | .hbm, ⟨26, _⟩ => ⟨S1024x5632, .f32⟩
  | .hbm, ⟨27, _⟩ => ⟨S2x2048x5632, .f32⟩
  | .hbm, ⟨28, _⟩ => ⟨S2x2048x2816, .f32⟩
  | .hbm, ⟨29, _⟩ => ⟨S2x2048x2816, .f32⟩
  | .hbm, ⟨30, _⟩ => ⟨S1x3x2816, .f32⟩
  | .hbm, ⟨31, _⟩ => ⟨S3x2816, .f32⟩
  | .hbm, ⟨32, _⟩ => ⟨S1x2816, .f32⟩
  | .hbm, ⟨33, _⟩ => ⟨S2816, .f32⟩
  | .hbm, ⟨34, _⟩ => ⟨S_, .f32⟩
  | .hbm, ⟨35, _⟩ => ⟨S2x2x2816, .f32⟩
  | .hbm, ⟨36, _⟩ => ⟨S2x2050x2816, .f32⟩
  | .hbm, ⟨37, _⟩ => ⟨S2x2048x2816, .f32⟩
  | .hbm, ⟨38, _⟩ => ⟨S1x2816, .f32⟩
  | .hbm, ⟨39, _⟩ => ⟨S2816, .f32⟩
  | .hbm, ⟨40, _⟩ => ⟨S1x1x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S1x1x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S2x2048x2816, .f32⟩
  | .hbm, ⟨62, _⟩ => ⟨S_, .f32⟩
  | .hbm, ⟨63, _⟩ => ⟨S2x2048x2816, .f32⟩
  | .hbm, ⟨64, _⟩ => ⟨S2x2048x2816, .f32⟩
  | .hbm, ⟨65, _⟩ => ⟨S_, .f32⟩
  | .hbm, ⟨66, _⟩ => ⟨S2x2048x2816, .f32⟩
  | .hbm, ⟨67, _⟩ => ⟨S2x2048x2816, .f32⟩
  | .hbm, ⟨68, _⟩ => ⟨S2x2048x2816, .f32⟩
  | .hbm, ⟨69, _⟩ => ⟨S2x2048x2816, .f32⟩
  | .hbm, ⟨70, _⟩ => ⟨S1x2816x1024, .f32⟩
  | .hbm, ⟨71, _⟩ => ⟨S2816x1024, .f32⟩
  | .hbm, ⟨72, _⟩ => ⟨S2x2048x1024, .f32⟩
  | .hbm, ⟨73, _⟩ => ⟨S2x2048x1024, .f32⟩
  | .hbm, ⟨74, _⟩ => ⟨S16x256x2816, .f32⟩
  | .hbm, ⟨75, _⟩ => ⟨S16x2816x256, .f32⟩
  | .hbm, ⟨76, _⟩ => ⟨S16x2816x256, .bf16⟩
  | .hbm, ⟨77, _⟩ => ⟨S4096x5632, .f32⟩
  | .hbm, ⟨78, _⟩ => ⟨S4096x1024, .f32⟩
  | .hbm, ⟨79, _⟩ => ⟨S1x1024, .f32⟩
  | .hbm, ⟨80, _⟩ => ⟨S1024, .f32⟩
  | .hbm, ⟨81, _⟩ => ⟨S2x2048x1024, .f32⟩
  | .hbm, ⟨82, _⟩ => ⟨S_, .f32⟩
  | .hbm, ⟨83, _⟩ => ⟨S2x2048, .f32⟩
  | .hbm, ⟨84, _⟩ => ⟨S2x2048x1, .f32⟩
  | .hbm, ⟨85, _⟩ => ⟨S_, .f32⟩
  | .hbm, ⟨86, _⟩ => ⟨S2x2048x1, .f32⟩
  | .hbm, ⟨87, _⟩ => ⟨S2x2048x1, .f32⟩
  | .hbm, ⟨88, _⟩ => ⟨S_, .f32⟩
  | .hbm, ⟨89, _⟩ => ⟨S2x2048x1, .f32⟩
  | .hbm, ⟨90, _⟩ => ⟨S2x2048x1, .f32⟩
  | .hbm, ⟨91, _⟩ => ⟨S2x2048x1, .f32⟩
  | .hbm, ⟨92, _⟩ => ⟨S2x2048x1024, .f32⟩
  | .hbm, ⟨93, _⟩ => ⟨S2x2048x1024, .f32⟩
  | .hbm, ⟨94, _⟩ => ⟨S1x1x1024, .f32⟩
  | .hbm, ⟨95, _⟩ => ⟨S2x2048x1024, .f32⟩
  | .hbm, ⟨96, _⟩ => ⟨S2x2048x1024, .f32⟩
  | .hbm, ⟨97, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_3 : Ref sig .tc := ⟨.hbm, 82, rfl⟩
abbrev main_v63 : Ref sig .tc := ⟨.hbm, 83, rfl⟩
abbrev main_v64 : Ref sig .tc := ⟨.hbm, 84, rfl⟩
abbrev main_cst_4 : Ref sig .tc := ⟨.hbm, 85, rfl⟩
abbrev main_v65 : Ref sig .tc := ⟨.hbm, 86, rfl⟩
abbrev main_v66 : Ref sig .tc := ⟨.hbm, 87, rfl⟩
abbrev main_cst_5 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Into.lean ====
abbrev S2x2048x1024 : Shape := ⟨3, ![2, 2048, 1024]⟩
abbrev S2x1024 : Shape := ⟨2, ![2, 1024]⟩
abbrev S1x1024x2048 : Shape := ⟨3, ![1, 1024, 2048]⟩
abbrev S1x2048 : Shape := ⟨2, ![1, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S4096x1024 : Shape := ⟨2, ![4096, 1024]⟩
abbrev S1x1024 : Shape := ⟨2, ![1, 1024]⟩
abbrev S8x1024x512 : Shape := ⟨3, ![8, 1024, 512]⟩
abbrev S4096x2048 : Shape := ⟨2, ![4096, 2048]⟩
abbrev S512x1024 : Shape := ⟨2, ![512, 1024]⟩
abbrev S1x1024x512 : Shape := ⟨3, ![1, 1024, 512]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩

abbrev nBuf : Space → Nat
  | .hbm => 12
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1024x2048, .f32⟩
  | .hbm, ⟨5, _⟩ => ⟨S1024x4x512, .f32⟩
  | .hbm, ⟨6, _⟩ => ⟨S4x1024x512, .f32⟩
  | .hbm, ⟨7, _⟩ => ⟨S4x1024x512, .bf16⟩
  | .hbm, ⟨8, _⟩ => ⟨S4096x1024, .f32⟩
  | .hbm, ⟨9, _⟩ => ⟨S1x1024, .f32⟩
  | .hbm, ⟨10, _⟩ => ⟨S8x1024x512, .bf16⟩
  | .hbm, ⟨11, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S1x2048, .f32⟩
  | .local _ .vmem, ⟨5, _⟩ => ⟨S1x1024x512, .bf16⟩
  | .local _ .vmem, ⟨6, _⟩ => ⟨S1x1024x512, .bf16⟩
  | .local _ .vmem, ⟨7, _⟩ => ⟨S512x2048, .f32⟩
  | .local _ .vmem, ⟨8, _⟩ => ⟨S512x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== IntoRefIdeal.lean ====
abbrev S2x2048x1024 : Shape := ⟨3, ![2, 2048, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2048 : Shape := ⟨2, ![1024, 2048]⟩
abbrev S2x2048x2048 : Shape := ⟨3, ![2, 2048, 2048]⟩
abbrev S2048 : Shape := ⟨1, ![2048]⟩
abbrev S1x1x2048 : Shape := ⟨3, ![1, 1, 2048]⟩
abbrev S8x512x1024 : Shape := ⟨3, ![8, 512, 1024]⟩
abbrev S8x1024x512 : Shape := ⟨3, ![8, 1024, 512]⟩
abbrev S4096x2048 : Shape := ⟨2, ![4096, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S1024x2048, .f32⟩
  | .hbm, ⟨23, _⟩ => ⟨S2x2048x2048, .f32⟩
  | .hbm, ⟨24, _⟩ => ⟨S2048, .f32⟩
  | .hbm, ⟨25, _⟩ => ⟨S1x1x2048, .f32⟩
  | .hbm, ⟨26, _⟩ => ⟨S2x2048x2048, .f32⟩
  | .hbm, ⟨27, _⟩ => ⟨S2x2048x2048, .f32⟩
  | .hbm, ⟨28, _⟩ => ⟨S8x512x1024, .f32⟩
  | .hbm, ⟨29, _⟩ => ⟨S8x1024x512, .f32⟩
  | .hbm, ⟨30, _⟩ => ⟨S8x1024x512, .bf16⟩
  | .hbm, ⟨31, _⟩ => ⟨S4096x2048, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Weight.lean ====
abbrev S2x2048x1024 : Shape := ⟨3, ![2, 2048, 1024]⟩
abbrev S2x2048x5632 : Shape := ⟨3, ![2, 2048, 5632]⟩
abbrev S16x256x1024 : Shape := ⟨3, ![16, 256, 1024]⟩
abbrev S16x1024x256 : Shape := ⟨3, ![16, 1024, 256]⟩
abbrev S4096x5632 : Shape := ⟨2, ![4096, 5632]⟩
abbrev S4x1024x1408 : Shape := ⟨3, ![4, 1024, 1408]⟩
abbrev S16x512x256 : Shape := ⟨3, ![16, 512, 256]⟩
abbrev S4096x1408 : Shape := ⟨2, ![4096, 1408]⟩
abbrev S1x512x1408 : Shape := ⟨3, ![1, 512, 1408]⟩
abbrev S1x512x256 : Shape := ⟨3, ![1, 512, 256]⟩
abbrev S512x256 : Shape := ⟨2, ![512, 256]⟩
abbrev S512x4096 : Shape := ⟨2, ![512, 4096]⟩
abbrev S512x1408 : Shape := ⟨2, ![512, 1408]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S16x256x1024, .f32⟩
  | .hbm, ⟨3, _⟩ => ⟨S16x1024x256, .f32⟩
  | .hbm, ⟨4, _⟩ => ⟨S16x1024x256, .bf16⟩
  | .hbm, ⟨5, _⟩ => ⟨S4096x5632, .f32⟩
  | .hbm, ⟨6, _⟩ => ⟨S4096x5632, .bf16⟩
  | .hbm, ⟨7, _⟩ => ⟨S4x1024x1408, .bf16⟩
  | .local _ .vmem, ⟨0, _⟩ => ⟨S16x512x256, .bf16⟩
  | .local _ .vmem, ⟨1, _⟩ => ⟨S16x512x256, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WeightRefIdeal.lean ====
abbrev S2x2048x1024 : Shape := ⟨3, ![2, 2048, 1024]⟩
abbrev S2x2048x5632 : Shape := ⟨3, ![2, 2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S_, .f32⟩
  | .hbm, ⟨3, _⟩ => ⟨S1024x5632, .f32⟩
  | .hbm, ⟨4, _⟩ => ⟨S2x2048x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adam.lean ====
abbrev S2x1024x1408 : Shape := ⟨3, ![2, 1024, 1408]⟩
abbrev S1x128x1408 : Shape := ⟨3, ![1, 128, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Chip.lean ====
abbrev S4x2x512x1408 : Shape := ⟨4, ![4, 2, 512, 1408]⟩
abbrev S4x512x1408 : Shape := ⟨3, ![4, 512, 1408]⟩
abbrev S_ : Shape := ⟨0, ![]⟩
abbrev S2 : Shape := ⟨1, ![2]⟩
abbrev S1x1x512x1408 : Shape := ⟨4, ![1, 1, 512, 1408]⟩
abbrev S1 : Shape := ⟨1, ![1]⟩
abbrev S1x512x1408 : Shape := ⟨3, ![1, 512, 1408]⟩
abbrev S512x1408 : Shape := ⟨2, ![512, 1408]⟩

abbrev nBuf : Space → Nat
  | .hbm => 6
  | .vmem => 6
  | .smem => 1
  | _ => 0

abbrev bufTy : (tb : Table) → Fin (tcTables nBuf tb) → BufTy
  | .hbm, ⟨0, _⟩ => ⟨S4x2x512x1408, .f32⟩
  | .hbm, ⟨1, _⟩ => ⟨S4x512x1408, .f32⟩
  | .hbm, ⟨2, _⟩ => ⟨S4x2x512x1408, .bf16⟩
  | .hbm, ⟨3, _⟩ => ⟨S4x512x1408, .bf16⟩
  | .hbm, ⟨4, _⟩ => ⟨S_, .i32⟩
  | .hbm, ⟨5, _⟩ => ⟨S4x512x1408, .bf16⟩
  | .local _ .vmem, ⟨0, _⟩ => ⟨S1x1x512x1408, .bf16⟩
  | .local _ .vmem, ⟨1, _⟩ => ⟨S1x1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .smem, ⟨0, _⟩ => ⟨S2, .i32⟩
  | _, _ => ⟨S4x2x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v3 : Ref sig .tc := ⟨.hbm, 5, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChipRefIdeal.lean ====
abbrev S4x2x512x1408 : Shape := ⟨4, ![4, 2, 512, 1408]⟩
abbrev S4x512x1408 : Shape := ⟨3, ![4, 512, 1408]⟩
abbrev S4x1x512x1408 : Shape := ⟨4, ![4, 1, 512, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4x2x512x1408, .f32⟩
  | .hbm, ⟨1, _⟩ => ⟨S4x512x1408, .f32⟩
  | .hbm, ⟨2, _⟩ => ⟨S4x1x512x1408, .f32⟩
  | .hbm, ⟨3, _⟩ => ⟨S4x512x1408, .f32⟩
  | .hbm, ⟨4, _⟩ => ⟨S4x512x1408, .bf16⟩
  | .hbm, ⟨5, _⟩ => ⟨S4x512x1408, .f32⟩
  | .hbm, ⟨6, _⟩ => ⟨S4x512x1408, .bf16⟩
  | .hbm, ⟨7, _⟩ => ⟨S4x512x1408, .f32⟩
  | .hbm, ⟨8, _⟩ => ⟨S4x512x1408, .f32⟩
  | .hbm, ⟨9, _⟩ => ⟨S4x512x1408, .bf16⟩
  | _, _ => ⟨S4x2x512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Total.lean ====
abbrev S4x2x512x512 : Shape := ⟨4, ![4, 2, 512, 512]⟩
abbrev S4x512x512 : Shape := ⟨3, ![4, 512, 512]⟩
abbrev S3x512x512 : Shape := ⟨3, ![3, 512, 512]⟩
abbrev S_ : Shape := ⟨0, ![]⟩
abbrev S2 : Shape := ⟨1, ![2]⟩
abbrev S1x2x512x512 : Shape := ⟨4, ![1, 2, 512, 512]⟩
abbrev S1x1x512x512 : Shape := ⟨4, ![1, 1, 512, 512]⟩
abbrev S1 : Shape := ⟨1, ![1]⟩
abbrev S1x512x512 : Shape := ⟨3, ![1, 512, 512]⟩
abbrev S512x512 : Shape := ⟨2, ![512, 512]⟩

abbrev nBuf : Space → Nat
  | .hbm => 8
  | .vmem => 4
  | .smem => 1
  | _ => 0

abbrev bufTy : (tb : Table) → Fin (tcTables nBuf tb) → BufTy
  | .hbm, ⟨0, _⟩ => ⟨S4x2x512x512, .f32⟩
  | .hbm, ⟨1, _⟩ => ⟨S4x512x512, .f32⟩
  | .hbm, ⟨2, _⟩ => ⟨S3x512x512, .f32⟩
  | .hbm, ⟨3, _⟩ => ⟨S4x2x512x512, .bf16⟩
  | .hbm, ⟨4, _⟩ => ⟨S4x512x512, .bf16⟩
  | .hbm, ⟨5, _⟩ => ⟨S3x512x512, .bf16⟩
  | .hbm, ⟨6, _⟩ => ⟨S_, .i32⟩
  | .hbm, ⟨7, _⟩ => ⟨S1x2x512x512, .f32⟩
  | .local _ .vmem, ⟨0, _⟩ => ⟨S1x1x512x512, .bf16⟩
  | .local _ .vmem, ⟨1, _⟩ => ⟨S1x512x512, .bf16⟩
  | .local _ .vmem, ⟨2, _⟩ => ⟨S3x512x512, .bf16⟩
  | .local _ .vmem, ⟨3, _⟩ => ⟨S1x1x512x512, .f32⟩
  | .local _ .smem, ⟨0, _⟩ => ⟨S2, .i32⟩
  | _, _ => ⟨S4x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v4 : Ref sig .tc := ⟨.hbm, 7, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![c0_i32.toNat, v0.toNat, arg0.toNat, c0_i32_0.toNat]

abbrev stage0_0 : Fin 1 → Memref sig .tc .vmem S1x1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== TotalRefIdeal.lean ====
abbrev S4x2x512x512 : Shape := ⟨4, ![4, 2, 512, 512]⟩
abbrev S4x512x512 : Shape := ⟨3, ![4, 512, 512]⟩
abbrev S3x512x512 : Shape := ⟨3, ![3, 512, 512]⟩
abbrev S1x1x512x512 : Shape := ⟨4, ![1, 1, 512, 512]⟩
abbrev S512x512 : Shape := ⟨2, ![512, 512]⟩
abbrev S1x512x512 : Shape := ⟨3, ![1, 512, 512]⟩
abbrev S_ : Shape := ⟨0, ![]⟩
abbrev S2x512x512 : Shape := ⟨3, ![2, 512, 512]⟩
abbrev S1x2x512x512 : Shape := ⟨4, ![1, 2, 512, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x2x512x512, .f32⟩
  | .hbm, ⟨1, _⟩ => ⟨S4x512x512, .f32⟩
  | .hbm, ⟨2, _⟩ => ⟨S3x512x512, .f32⟩
  | .hbm, ⟨3, _⟩ => ⟨S1x1x512x512, .f32⟩
  | .hbm, ⟨4, _⟩ => ⟨S512x512, .f32⟩
  | .hbm, ⟨5, _⟩ => ⟨S512x512, .bf16⟩
  | .hbm, ⟨6, _⟩ => ⟨S512x512, .f32⟩
  | .hbm, ⟨7, _⟩ => ⟨S1x512x512, .f32⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .f32⟩
  | .hbm, ⟨12, _⟩ => ⟨S3x512x512, .bf16⟩
  | .hbm, ⟨13, _⟩ => ⟨S3x512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S1x512x512, .f32⟩
  | .hbm, ⟨20, _⟩ => ⟨S1x512x512, .f32⟩
  | .hbm, ⟨21, _⟩ => ⟨S2x512x512, .f32⟩
  | .hbm, ⟨22, _⟩ => ⟨S1x2x512x512, .f32⟩
  | _, _ => ⟨S4x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Mix.lean ====
abbrev S2x2048x1024 : Shape := ⟨3, ![2, 2048, 1024]⟩
abbrev S2x1024 : Shape := ⟨2, ![2, 1024]⟩
abbrev S1x4x256x256 : Shape := ⟨4, ![1, 4, 256, 256]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S4x256x256 : Shape := ⟨3, ![4, 256, 256]⟩
abbrev S8x1024x512 : Shape := ⟨3, ![8, 1024, 512]⟩
abbrev S512x1024 : Shape := ⟨2, ![512, 1024]⟩
abbrev S32x1024 : Shape := ⟨2, ![32, 1024]⟩
abbrev S1x1024x512 : Shape := ⟨3, ![1, 1024, 512]⟩
abbrev S544x1024 : Shape := ⟨2, ![544, 1024]⟩
abbrev S536x1024 : Shape := ⟨2, ![536, 1024]⟩
abbrev S528x768 : Shape := ⟨2, ![528, 768]⟩
abbrev S520x512 : Shape := ⟨2, ![520, 512]⟩
abbrev S512x256 : Shape := ⟨2, ![512, 256]⟩
abbrev S512x1 : Shape := ⟨2, ![512, 1]⟩
abbrev S1x256x256 : Shape := ⟨3, ![1, 256, 256]⟩
abbrev S256x256 : Shape := ⟨2, ![256, 256]⟩
abbrev S512 : Shape := ⟨1, ![512]⟩
abbrev S1024x512 : Shape := ⟨2, ![1024, 512]⟩

abbrev nBuf : Space → Nat
  | .hbm => 33
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S1x4x256x256, .f32⟩
  | .hbm, ⟨3, _⟩ => ⟨S1x1024, .f32⟩
  | .hbm, ⟨4, _⟩ => ⟨S1x1024, .f32⟩
  | .hbm, ⟨5, _⟩ => ⟨S2x1024, .f32⟩
  | .hbm, ⟨6, _⟩ => ⟨S1x1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S4096x1024, .f32⟩
  | .hbm, ⟨25, _⟩ => ⟨S4096x1024, .f32⟩
  | .hbm, ⟨26, _⟩ => ⟨S4x256x256, .f32⟩
  | .hbm, ⟨27, _⟩ => ⟨S4x256x256, .bf16⟩
  | .hbm, ⟨28, _⟩ => ⟨S1x1024, .f32⟩
  | .hbm, ⟨29, _⟩ => ⟨S4096x1024, .bf16⟩
  | .hbm, ⟨30, _⟩ => ⟨S4096x1024, .f32⟩
  | .hbm, ⟨31, _⟩ => ⟨S4096x1024, .bf16⟩
  | .hbm, ⟨32, _⟩ => ⟨S8x1024x512, .bf16⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024x512, .bf16⟩
  | .local _ .vmem, ⟨17, _⟩ => ⟨S1x1024x512, .bf16⟩
  | .local _ .vmem, ⟨18, _⟩ => ⟨S544x1024, .f32⟩
  | .local _ .vmem, ⟨19, _⟩ => ⟨S544x1024, .f32⟩
  | .local _ .vmem, ⟨20, _⟩ => ⟨S544x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S2x2048x1024 : Shape := ⟨3, ![2, 2048, 1024]⟩
abbrev S2x1024 : Shape := ⟨2, ![2, 1024]⟩
abbrev S1x4x256x256 : Shape := ⟨4, ![1, 4, 256, 256]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2049x1024 : Shape := ⟨3, ![2, 2049, 1024]⟩
abbrev S2048 : Shape := ⟨1, ![2048]⟩
abbrev S2x2049x256 : Shape := ⟨3, ![2, 2049, 256]⟩
abbrev S2x1x256 : Shape := ⟨3, ![2, 1, 256]⟩
abbrev S2x2047x256 : Shape := ⟨3, ![2, 2047, 256]⟩
abbrev S2x2048x256 : Shape := ⟨3, ![2, 2048, 256]⟩
abbrev S1x2048x1 : Shape := ⟨3, ![1, 2048, 1]⟩
abbrev S2x3x256 : Shape := ⟨3, ![2, 3, 256]⟩
abbrev S2x2045x256 : Shape := ⟨3, ![2, 2045, 256]⟩
abbrev S2x7x256 : Shape := ⟨3, ![2, 7, 256]⟩
abbrev S2x2041x256 : Shape := ⟨3, ![2, 2041, 256]⟩
abbrev S2x15x256 : Shape := ⟨3, ![2, 15, 256]⟩
abbrev S2x2033x256 : Shape := ⟨3, ![2, 2033, 256]⟩
abbrev S2x2048x1x256 : Shape := ⟨4, ![2, 2048, 1, 256]⟩
abbrev S2x2048x4x256 : Shape := ⟨4, ![2, 2048, 4, 256]⟩
abbrev S4x256x256 : Shape := ⟨3, ![4, 256, 256]⟩
abbrev S4x256x2x2048 : Shape := ⟨4, ![4, 256, 2, 2048]⟩
abbrev S4096x1024 : Shape := ⟨2, ![4096, 1024]⟩
abbrev S8x512x1024 : Shape := ⟨3, ![8, 512, 1024]⟩
abbrev S8x1024x512 : Shape := ⟨3, ![8, 1024, 512]⟩

abbrev nBuf : Space → Nat
  | .hbm => 151
  | .vmem => 0
  | .smem => 0
  | _ => 0

abbrev hbmTy0_0 (i : Nat) : BufTy := match i % 128 with
  | 0 => ⟨S2x2048x1024, .f32⟩
  | 1 => ⟨S2x1024, .f32⟩
  | 2 => ⟨S1x4x256x256, .f32⟩
  | 3 => ⟨S1x1024, .f32⟩
  | 4 => ⟨S1x1024, .f32⟩
  | 5 => ⟨S2x1024, .f32⟩
  | 6 => ⟨S1x1024, .f32⟩
  | 7 => ⟨S1024, .f32⟩
  | 8 => ⟨S2x2048x1024, .f32⟩
  | 9 => ⟨S_, .f32⟩
  | 10 => ⟨S2x2048, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048x1, .f32⟩
  | 17 => ⟨S2x2048x1, .f32⟩
  | 18 => ⟨S2x2048x1, .f32⟩
  | 19 => ⟨S2x2048x1024, .f32⟩
  | 20 => ⟨S2x2048x1024, .f32⟩
  | 21 => ⟨S1x1x1024, .f32⟩
  | 22 => ⟨S2x2048x1024, .f32⟩
  | 23 => ⟨S2x2048x1024, .f32⟩
  | 24 => ⟨S_, .f32⟩
  | 25 => ⟨S2x1x1024, .f32⟩
  | 26 => ⟨S_, .f32⟩
  | 27 => ⟨S_, .f32⟩
  | 28 => ⟨S2x2048x1024, .f32⟩
  | 29 => ⟨S2x2049x1024, .f32⟩
  | 30 => ⟨S2048, .i32⟩
  | 31 => ⟨S2x2049x256, .f32⟩
  | 32 => ⟨S_, .f32⟩
  | 33 => ⟨S2x1x256, .f32⟩
  | 34 => ⟨S2x2047x256, .f32⟩
  | 35 => ⟨S2x2048x256, .f32⟩
  | 36 => ⟨S_, .i32⟩
  | 37 => ⟨S2048, .i32⟩
  | 38 => ⟨S2048, .i32⟩
  | 39 => ⟨S_, .i32⟩
  | 40 => ⟨S2048, .i32⟩
  | 41 => ⟨S2048, .i32⟩
  | 42 => ⟨S2048, .f32⟩
  | 43 => ⟨S1x2048x1, .f32⟩
  | 44 => ⟨S2x2048x256, .f32⟩
  | 45 => ⟨S2x2048x256, .f32⟩
  | 46 => ⟨S2x2048x256, .f32⟩
  | 47 => ⟨S2x2048x256, .f32⟩
  | 48 => ⟨S2x2048x256, .f32⟩
  | 49 => ⟨S2x2048x256, .f32⟩
  | 50 => ⟨S2x2049x256, .f32⟩
  | 51 => ⟨S_, .f32⟩
  | 52 => ⟨S2x3x256, .f32⟩
  | 53 => ⟨S2x2045x256, .f32⟩
  | 54 => ⟨S2x2048x256, .f32⟩
  | 55 => ⟨S_, .i32⟩
  | 56 => ⟨S2048, .i32⟩
  | 57 => ⟨S2048, .i32⟩
  | 58 => ⟨S_, .i32⟩
  | 59 => ⟨S2048, .i32⟩
  | 60 => ⟨S2048, .i32⟩
  | 61 => ⟨S2048, .f32⟩
  | 62 => ⟨S1x2048x1, .f32⟩
  | 63 => ⟨S2x2048x256, .f32⟩
  | 64 => ⟨S2x2048x256, .f32⟩
  | 65 => ⟨S2x2048x256, .f32⟩
  | 66 => ⟨S2x2048x256, .f32⟩
  | 67 => ⟨S2x2048x256, .f32⟩
  | 68 => ⟨S2x2048x256, .f32⟩
  | 69 => ⟨S2x2049x256, .f32⟩
  | 70 => ⟨S_, .f32⟩
  | 71 => ⟨S2x7x256, .f32⟩
  | 72 => ⟨S2x2041x256, .f32⟩
  | 73 => ⟨S2x2048x256, .f32⟩
  | 74 => ⟨S_, .i32⟩
  | 75 => ⟨S2048, .i32⟩
  | 76 => ⟨S2048, .i32⟩
  | 77 => ⟨S_, .i32⟩
  | 78 => ⟨S2048, .i32⟩
  | 79 => ⟨S2048, .i32⟩
  | 80 => ⟨S2048, .f32⟩
  | 81 => ⟨S1x2048x1, .f32⟩
  | 82 => ⟨S2x2048x256, .f32⟩
  | 83 => ⟨S2x2048x256, .f32⟩
  | 84 => ⟨S2x2048x256, .f32⟩
  | 85 => ⟨S2x2048x256, .f32⟩
  | 86 => ⟨S2x2048x256, .f32⟩
  | 87 => ⟨S2x2048x256, .f32⟩
  | 88 => ⟨S2x2049x256, .f32⟩
  | 89 => ⟨S_, .f32⟩
  | 90 => ⟨S2x15x256, .f32⟩
  | 91 => ⟨S2x2033x256, .f32⟩
  | 92 => ⟨S2x2048x256, .f32⟩
  | 93 => ⟨S_, .i32⟩
  | 94 => ⟨S2048, .i32⟩
  | 95 => ⟨S2048, .i32⟩
  | 96 => ⟨S_, .i32⟩
  | 97 => ⟨S2048, .i32⟩
  | 98 => ⟨S2048, .i32⟩
  | 99 => ⟨S2048, .f32⟩
  | 100 => ⟨S1x2048x1, .f32⟩
  | 101 => ⟨S2x2048x256, .f32⟩
  | 102 => ⟨S2x2048x256, .f32⟩
  | 103 => ⟨S2x2048x256, .f32⟩
  | 104 => ⟨S2x2048x256, .f32⟩
  | 105 => ⟨S2x2048x256, .f32⟩
  | 106 => ⟨S2x2048x256, .f32⟩
  | 107 => ⟨S2x2048x1x256, .f32⟩
  | 108 => ⟨S2x2048x1x256, .f32⟩
  | 109 => ⟨S2x2048x1x256, .f32⟩
  | 110 => ⟨S2x2048x1x256, .f32⟩
  | 111 => ⟨S2x2048x4x256, .f32⟩
  | 112 => ⟨S4x256x256, .f32⟩
  | 113 => ⟨S4x256x2x2048, .f32⟩
  | 114 => ⟨S2x2048x4x256, .f32⟩
  | 115 => ⟨S2x2048x1024, .f32⟩
  | 116 => ⟨S1024, .f32⟩
  | 117 => ⟨S1024, .f32⟩
  | 118 => ⟨S1x1x1024, .f32⟩
  | 119 => ⟨S2x2048x1024, .f32⟩
  | 120 => ⟨S2x2048x1024, .f32⟩
  | 121 => ⟨S1x1x1024, .f32⟩
  | 122 => ⟨S2x2048x1024, .f32⟩
  | 123 => ⟨S2x2048x1024, .f32⟩
  | 124 => ⟨S2x2048x1024, .f32⟩
  | 125 => ⟨S1x1024, .f32⟩
  | 126 => ⟨S1024, .f32⟩
  | 127 => ⟨S2x2048x1024, .f32⟩
  | _ => ⟨S2x2048x1024, .f32⟩

abbrev hbmTy0_1 (i : Nat) : BufTy := match i % 128 with
  | 0 => ⟨S_, .f32⟩
  | 1 => ⟨S2x2048, .f32⟩
  | 2 => ⟨S2x2048x1, .f32⟩
  | 3 => ⟨S_, .f32⟩
  | 4 => ⟨S2x2048x1, .f32⟩
  | 5 => ⟨S2x2048x1, .f32⟩
  | 6 => ⟨S_, .f32⟩
  | 7 => ⟨S2x2048x1, .f32⟩
  | 8 => ⟨S2x2048x1, .f32⟩
  | 9 => ⟨S2x2048x1, .f32⟩
  | 10 => ⟨S2x2048x1024, .f32⟩
  | 11 => ⟨S2x2048x1024, .f32⟩
  | 12 => ⟨S1x1x1024, .f32⟩
  | 13 => ⟨S2x2048x1024, .f32⟩
  | 14 => ⟨S2x2048x1024, .f32⟩
  | 15 => ⟨S4096x1024, .f32⟩
  | 16 => ⟨S4096x1024, .bf16⟩
  | 17 => ⟨S4096x1024, .f32⟩
  | 18 => ⟨S4096x1024, .f32⟩
  | 19 => ⟨S4096x1024, .bf16⟩
  | 20 => ⟨S8x512x1024, .f32⟩
  | 21 => ⟨S8x1024x512, .f32⟩
  | 22 => ⟨S8x1024x512, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_12 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_14 : Ref sig .tc := ⟨.hbm, 128, rfl⟩
abbrev main_v104 : Ref sig .tc := ⟨.hbm, 129, rfl⟩
abbrev main_v105 : Ref sig .tc := ⟨.hbm, 130, rfl⟩
abbrev main_cst_15 : Ref sig .tc := ⟨.hbm, 131, rfl⟩
abbrev main_v106 : Ref sig .tc := ⟨.hbm, 132, rfl⟩
abbrev main_v107 : Ref sig .tc := ⟨.hbm, 133, rfl⟩
abbrev main_cst_16 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩

abbrev nD : Nat := 1
abbrev τ : Topo := Topo.v7x

variable {F : FTy → Type} [FloatOps F]
-- ==== Proof.Real.lean ====
/- Extended reals that are real: what the finiteness of the arguments buys. Sums, quotients, square roots and literal
   words of finite values are finite, so an identity between two programs' elements is an identity of real numbers. -/
module

public import Idealize.ShloMosaic.Lib.Pointwise
public import Idealize.ShloMosaic.Lib.Pipeline.ValueKit
public import Mathlib.Tactic.Ring
public import Mathlib.Tactic.FieldSimp
public import Mathlib.Tactic.Positivity

@[expose] public section

set_option maxRecDepth 16384

noncomputable section

namespace Cert.Reals

open Idealize.ShloMosaic

/-- A finite sum of reals, as an extended real. -/
theorem coe_sum {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

/-- A quotient of reals whose divisor is not zero. -/
theorem div_coe_coe (x y : ℝ) (h : y ≠ 0) : Ideal.div (x : EReal) (y : EReal) = ((x / y : ℝ) : EReal) := by
  rw [Ideal.div_coe h, ← EReal.coe_mul, mul_one_div]

/-- The reciprocal square root of a positive real. -/
theorem rsqrt_coe_pos (x : ℝ) (h : 0 < x) : Ideal.rsqrt (x : EReal) = (((Real.sqrt x)⁻¹ : ℝ) : EReal) := by
  rw [Ideal.rsqrt_coe, if_neg (not_lt.2 h.le), if_neg h.ne']

/-- The sigmoid of a real. -/
def sgm (x : ℝ) : ℝ := (1 + Real.exp (-x))⁻¹

theorem logistic_coe' (x : ℝ) : Ideal.logistic (x : EReal) = (sgm x : EReal) := Ideal.logistic_coe x

theorem one_add_exp_ne (x : ℝ) : (1 : ℝ) + Real.exp x ≠ 0 := by positivity

/-- The sigmoid of a real, by its formula. -/
theorem sgm_of_div (x : ℝ) : Ideal.div 1 (1 + Ideal.exp (-(x : EReal))) = (sgm x : EReal) := by
  rw [← EReal.coe_neg, Ideal.exp_coe, ← EReal.coe_one, ← EReal.coe_add, div_coe_coe _ _ (one_add_exp_ne _), one_div]; rfl

theorem w1024 : Ideal.ofBits .f32 0x44800000#32 = ((1024 : ℝ) : EReal) := by
  simp [Ideal.ofBits, Ideal.ieee, -EReal.coe_mul]; norm_num
theorem wTwo : Ideal.ofBits .f32 0x40000000#32 = ((2 : ℝ) : EReal) := by
  simp [Ideal.ofBits, Ideal.ieee, -EReal.coe_mul]; norm_num
theorem wNegHalf : Ideal.ofBits .f32 0xBF000000#32 = ((-(1 / 2) : ℝ) : EReal) := by
  simp [Ideal.ofBits, Ideal.ieee, -EReal.coe_mul]; norm_num

/-- The layer norm's epsilon: the number its word denotes. -/
def lnEps : ℝ := 10995116 / 2 ^ 40
theorem wLn : Ideal.ofBits .f32 0x3727C5AC#32 = (lnEps : EReal) := by
  simp [Ideal.ofBits, Ideal.ieee, lnEps, -EReal.coe_mul]; norm_num

/-- An extended real below infinity in absolute value is a real. -/
theorem coe_toReal_of_abs_lt {x : EReal} (h : max x (-x) < ⊤) : ((x.toReal : ℝ) : EReal) = x := by
  refine EReal.coe_toReal ?_ ?_
  · rintro rfl; simp at h
  · rintro rfl; simp at h

/-! ## Rows of 1024 numbers -/

/-- The real array `f` as an array of extended reals. -/
def up {ι : Type} (f : ι → ℝ) : ι → EReal := fun i => (f i : EReal)

/-- The mean of a row. -/
def mean (v : Fin 1024 → ℝ) : ℝ := (∑ k, v k) / 1024

/-- The layer norm's centred row, its variance plus epsilon, the reciprocal of its deviation, the normalised row. -/
def lnX (v : Fin 1024 → ℝ) (d : Fin 1024) : ℝ := v d - mean v
def lnV (v : Fin 1024 → ℝ) : ℝ := mean (fun d => lnX v d * lnX v d) + lnEps
def lnR (v : Fin 1024 → ℝ) : ℝ := (Real.sqrt (lnV v))⁻¹
def lnH (v : Fin 1024 → ℝ) (d : Fin 1024) : ℝ := lnX v d * lnR v

theorem mean_sq_nonneg (x : Fin 1024 → ℝ) : 0 ≤ mean (fun d => x d * x d) :=
  div_nonneg (Finset.sum_nonneg fun _ _ => mul_self_nonneg _) (by norm_num)

theorem lnEps_pos : 0 < lnEps := by norm_num [lnEps]

theorem lnV_pos (v : Fin 1024 → ℝ) : 0 < lnV v := add_pos_of_nonneg_of_pos (mean_sq_nonneg _) lnEps_pos

theorem inv_sqrt_sq (x : ℝ) (h : 0 < x) : (Real.sqrt x)⁻¹ * (Real.sqrt x)⁻¹ = x⁻¹ := by
  rw [← mul_inv, Real.mul_self_sqrt h.le]

theorem sum_lnX (v : Fin 1024 → ℝ) : ∑ d, lnX v d = 0 := by
  simp [lnX, mean, Finset.sum_sub_distrib]; ring

/-- The gradient through the layer norm's normalisation: of the deviation and of the mean taken apart on the left, in one
    formula on the right. They agree because the centred row sums to zero. -/
theorem lnBwd (v y : Fin 1024 → ℝ) (d : Fin 1024) :
    y d * lnR v + (∑ k, lnX v k * y k) * (-(1 / 2) * (lnR v / lnV v)) / 1024 * (2 * lnX v d)
        + ((∑ k, -(y k * lnR v)) + ∑ k, -((∑ k, lnX v k * y k) * (-(1 / 2) * (lnR v / lnV v)) / 1024 * (2 * lnX v k))) / 1024
      = lnR v * (y d - mean y - lnH v d * mean (fun k => y k * lnH v k)) := by
  have hs : ∑ k, -((∑ k, lnX v k * y k) * (-(1 / 2) * (lnR v / lnV v)) / 1024 * (2 * lnX v k)) = 0 := by
    rw [Finset.sum_neg_distrib, ← Finset.mul_sum, ← Finset.mul_sum, sum_lnX]; ring
  have hy : ∑ k, -(y k * lnR v) = -((∑ k, y k) * lnR v) := by rw [Finset.sum_neg_distrib, Finset.sum_mul]
  have hh : mean (fun k => y k * lnH v k) = (∑ k, lnX v k * y k) * lnR v / 1024 := by
    unfold mean; rw [Finset.sum_mul]; exact congrArg (· / 1024) (Finset.sum_congr rfl fun k _ => by unfold lnH; ring)
  have hr : lnR v * lnR v = (lnV v)⁻¹ := inv_sqrt_sq _ (lnV_pos v)
  rw [hs, hy, hh, mean, lnH, div_eq_mul_inv (lnR v), ← hr]; ring

/-- The gradient of `x * sgm x` as a factor: in one formula, and by the product rule. -/
def dsilu (x : ℝ) : ℝ := sgm x * (1 + x * (1 - sgm x))
theorem dsilu_eq (y x : ℝ) : y * sgm x + x * y * (sgm x * (1 - sgm x)) = y * dsilu x := by unfold dsilu; ring

/-! ## The gradient through `silu (layernorm v) · w`, for one row -/

section Row
variable (v g h y : Fin 1024 → ℝ) (w : Fin 1024 → Fin 1024 → ℝ)

/-- The layer norm's output, the cotangent behind the product, behind the activation, behind the scale, behind the norm. -/
def cN (d : Fin 1024) : ℝ := lnH v d * g d + h d
def cDs (d : Fin 1024) : ℝ := ∑ e : Fin 1024, y e * w d e
def cDn (d : Fin 1024) : ℝ := cDs y w d * dsilu (cN v g h d)
def cDh (d : Fin 1024) : ℝ := cDn v g h y w d * g d
def cDc (d : Fin 1024) : ℝ :=
  lnR v * (cDh v g h y w d - mean (cDh v g h y w) - lnH v d * mean fun k => cDh v g h y w k * lnH v k)

/-- What a row adds to the eight rows of column sums. -/
def cSm (q : Fin 8) (d : Fin 1024) : ℝ :=
  if q.val = 0 then lnH v d * cDn v g h y w d
  else if q.val = 1 then cDn v g h y w d
  else if q.val = 2 then y d
  else if q.val = 3 then cDc v g h y w d
  else 0

end Row

end Cert.Reals

end
-- ==== Proof.Norm.lean ====
/- The layer norm's backward call: the two result arrays over real arguments. -/
module

public import proofs.«01_k».proof.Proof.Real
public import proofs.«01_k».proof.Proof.Gen.NormIdeal.Value

@[expose] public section

set_option maxRecDepth 16384

noncomputable section

namespace Cert.NormIdeal.Elt

open Cert.NormIdeal Cert.NormIdeal.Gen Cert.Reals Idealize.ShloMosaic Idealize.ShloMosaic.TcCoe Idealize.SL.Sem
open Idealize.ShloMosaic.Pipeline (Dat)

/-! ## The body's values at an element, over blocks of reals -/

section Body
variable (X0 X1 : Vec Ideal S512x1024 .f32) (X2 : Vec Ideal S1024x1024 .bf16) (X3 X4 : Vec Ideal S1x1024 .f32)
variable (y v : Fin 512 → Fin 1024 → ℝ) (w : Fin 1024 → Fin 1024 → ℝ) (g h : Fin 1024 → ℝ)
variable (h0 : ∀ r d, X0 (ix2 r d) = (y r d : EReal)) (h1 : ∀ r d, X1 (ix2 r d) = (v r d : EReal))
variable (h2 : ∀ d e, X2 (ix2 d e) = (w d e : EReal)) (h3 : ∀ d, X3 (ix2 0 d) = (g d : EReal)) (h4 : ∀ d, X4 (ix2 0 d) = (h d : EReal))
variable (r : Fin 512) (d : Fin 1024)
include h1

theorem pay5_at : k0_pay5 X1 (ix2 r d) = (lnX (v r) d : EReal) := by
  pointwise [k0_pay5, h1]
  simp only [coe_sum, w1024, div_coe_coe, ne_eq, OfNat.ofNat_ne_zero, not_false_eq_true, ← EReal.coe_sub]
  rfl

theorem pay6_at : k0_pay6 X1 (ix2 r 0) = (lnR (v r) : EReal) := by
  pointwise [k0_pay6, pay5_at X1 v h1]
  simp only [← EReal.coe_mul, coe_sum, w1024, wLn, div_coe_coe, ne_eq, OfNat.ofNat_ne_zero, not_false_eq_true, ← EReal.coe_add]
  exact rsqrt_coe_pos _ (lnV_pos _)

theorem pay7_at : k0_pay7 X1 (ix2 r d) = (lnH (v r) d : EReal) := by
  pointwise [k0_pay7, pay5_at X1 v h1, pay6_at X1 v h1]
  rw [← EReal.coe_mul]; rfl

include h0 h2 h3 h4

theorem pay8_at : k0_pay8 X0 X2 X1 X3 X4 (ix2 r d) = (cDn (v r) g h (y r) w d : EReal) := by
  pointwise [k0_pay8, k0_pay4, pay7_at X1 v h1, h0, h2, h3, h4]
  simp only [← EReal.coe_mul, coe_sum, ← EReal.coe_add, logistic_coe', ← EReal.coe_one, ← EReal.coe_sub]
  rfl

theorem pay1_at : k0_pay1 (k0_pay6 X1) (k0_pay7 X1) (k0_pay8 X0 X2 X1 X3 X4) X3 (ix2 r d)
    = (cDc (v r) g h (y r) w d : EReal) := by
  pointwise [k0_pay1, pay8_at X0 X1 X2 X3 X4 y v w g h h0 h1 h2 h3 h4, pay7_at X1 v h1, pay6_at X1 v h1, h3]
  simp only [← EReal.coe_mul, coe_sum, w1024, div_coe_coe, ne_eq, OfNat.ofNat_ne_zero, not_false_eq_true, ← EReal.coe_sub]
  rfl

theorem pay2_at (q : Fin 8) : k0_pay2 (k0_pay4 X0) (k0_pay6 X1) (k0_pay7 X1) (k0_pay8 X0 X2 X1 X3 X4) X3 (ix2 q d)
    = ((∑ r, cSm (v r) g h (y r) w q d : ℝ) : EReal) := by
  fin_vals q with hq <;>
  pointwise [k0_pay2, k0_pay4, pay1_at X0 X1 X2 X3 X4 y v w g h h0 h1 h2 h3 h4, pay8_at X0 X1 X2 X3 X4 y v w g h h0 h1 h2 h3 h4,
    pay7_at X1 v h1, h0] <;>
  simp [cSm, hq, Fin.ext_iff, ← EReal.coe_mul, coe_sum, mul_comm]

end Body

/-! ## The blocks of the grid's points -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0] ∧ t.val < 8 :=
  (by decide +kernel : ∀ t : Fin grid0.N, _)

/-- Row `r` of the block of point `t`, among all rows; the batch and the position of a row. -/
def rowOf (t : Fin cfg0.N) (r : Fin 512) : Fin 4096 := ⟨t.val * 512 + r.val, by have := (idx t).2.2.2.2.2.2.2; omega⟩
def bOf (R : Fin 4096) : Fin 2 := ⟨R.val / 2048, by omega⟩
def sOf (R : Fin 4096) : Fin 2048 := ⟨R.val % 2048, by omega⟩

theorem blk0 (t : Fin cfg0.N) (r : Fin 512) (d : Fin 1024) : iblk m c 0 t (ix2 r d)
    = m ((c : Thread nD τ).loc main_arg5) (ix3 (bOf (rowOf t r)) (sOf (rowOf t r)) d) := by
  blk_point [iblk, V, idx t, bOf, sOf, rowOf]

theorem blk1 (t : Fin cfg0.N) (r : Fin 512) (d : Fin 1024) : iblk m c 1 t (ix2 r d)
    = (show FVec Ideal S2x2048x1024 .f32 from m ((c : Thread nD τ).loc main_arg0)) (ix3 (bOf (rowOf t r)) (sOf (rowOf t r)) d)
      + (show FVec Ideal S1x1024 .f32 from m ((c : Thread nD τ).loc main_arg1)) (ix2 0 d) := by
  blk_simp [iblk, V]
  entry_read
  pointwise
  refine congrArg₂ (fun a b : EReal => a + b) ?_ ?_
  · blk_ext [idx t, bOf, sOf, rowOf]
  · blk_ext [idx t]

theorem blk2 (t : Fin cfg0.N) (d e : Fin 1024) : iblk m c 2 t (ix2 d e)
    = m ((c : Thread nD τ).loc main_arg4) (ix3 0 d e) := by
  blk_point [iblk, V, idx t]

theorem blk3 (t : Fin cfg0.N) (d : Fin 1024) : iblk m c 3 t (ix2 0 d) = m ((c : Thread nD τ).loc main_arg2) (ix2 0 d) := by
  blk_point [iblk, V, idx t]

theorem blk4 (t : Fin cfg0.N) (d : Fin 1024) : iblk m c 4 t (ix2 0 d) = m ((c : Thread nD τ).loc main_arg3) (ix2 0 d) := by
  blk_point [iblk, V, idx t]

/-! ## The result arrays -/

/-- Summing over the blocks and the rows of a block is summing over all rows. -/
theorem sum_rows (f : Fin 4096 → ℝ) : ∑ p : Fin cfg0.N, ((∑ r, f (rowOf p r) : ℝ) : EReal) = ((∑ R, f R : ℝ) : EReal) := by
  rw [coe_sum]
  refine congrArg _ (Fin.sum_mul_add_congr fun s k hl => ?_)
  rfl

section Final
variable (C : S2x2048x1024.Idx → ℝ) (B G H : S1x1024.Idx → ℝ) (W : S1x1024x1024.Idx → ℝ) (Y : S2x2048x1024.Idx → ℝ)

def vRow (R : Fin 4096) (d : Fin 1024) : ℝ := C (ix3 (bOf R) (sOf R) d) + B (ix2 0 d)
def yRow (R : Fin 4096) (d : Fin 1024) : ℝ := Y (ix3 (bOf R) (sOf R) d)
def wOf (d e : Fin 1024) : ℝ := W (ix3 0 d e)
def gOf (d : Fin 1024) : ℝ := G (ix2 0 d)

/-- The cotangent of the convolution's output, and the rows of column sums. -/
def DC (i : S4096x1024.Idx) : EReal := (cDc (vRow C B (i 0)) (gOf G) (gOf H) (yRow Y (i 0)) (wOf W) (i 1) : EReal)
def SM (i : S8x1024.Idx) : EReal :=
  ((∑ R, cSm (vRow C B R) (gOf G) (gOf H) (yRow Y R) (wOf W) (i 0) (i 1) : ℝ) : EReal)

variable (hC : m ((c : Thread nD τ).loc main_arg0) = up C) (hB : m ((c : Thread nD τ).loc main_arg1) = up B)
variable (hG : m ((c : Thread nD τ).loc main_arg2) = up G) (hH : m ((c : Thread nD τ).loc main_arg3) = up H)
variable (hW : m ((c : Thread nD τ).loc main_arg4) = up W) (hY : m ((c : Thread nD τ).loc main_arg5) = up Y)
include hC hB hG hH hW hY

theorem dc_at (t : Fin cfg0.N) (r : Fin 512) (d : Fin 1024) :
    k0_pay1 (k0_pay6 (iblk m c 1 t)) (k0_pay7 (iblk m c 1 t))
      (k0_pay8 (iblk m c 0 t) (iblk m c 2 t) (iblk m c 1 t) (iblk m c 3 t) (iblk m c 4 t)) (iblk m c 3 t) (ix2 r d)
    = DC C B G H W Y (ix2 (rowOf t r) d) :=
  pay1_at _ _ _ _ _ (fun r => yRow Y (rowOf t r)) (fun r => vRow C B (rowOf t r)) (wOf W) (gOf G) (gOf H)
    (fun r d => (blk0 m c t r d).trans (congrFun hY _))
    (fun r d => (blk1 m c t r d).trans (by rw [hC, hB]; exact (EReal.coe_add _ _).symm))
    (fun d e => (blk2 m c t d e).trans (congrFun hW _)) (fun d => (blk3 m c t d).trans (congrFun hG _))
    (fun d => (blk4 m c t d).trans (congrFun hH _)) r d

theorem sm_at (t : Fin cfg0.N) (q : Fin 8) (d : Fin 1024) :
    k0_pay2 (k0_pay4 (iblk m c 0 t)) (k0_pay6 (iblk m c 1 t)) (k0_pay7 (iblk m c 1 t))
      (k0_pay8 (iblk m c 0 t) (iblk m c 2 t) (iblk m c 1 t) (iblk m c 3 t) (iblk m c 4 t)) (iblk m c 3 t) (ix2 q d)
    = ((∑ r, cSm (vRow C B (rowOf t r)) (gOf G) (gOf H) (yRow Y (rowOf t r)) (wOf W) q d : ℝ) : EReal) :=
  pay2_at _ _ _ _ _ (fun r => yRow Y (rowOf t r)) (fun r => vRow C B (rowOf t r)) (wOf W) (gOf G) (gOf H)
    (fun r d => (blk0 m c t r d).trans (congrFun hY _))
    (fun r d => (blk1 m c t r d).trans (by rw [hC, hB]; exact (EReal.coe_add _ _).symm))
    (fun d e => (blk2 m c t d e).trans (congrFun hW _)) (fun d => (blk3 m c t d).trans (congrFun hG _))
    (fun d => (blk4 m c t d).trans (congrFun hH _)) d q

theorem final5 : (dats m 0 c).arrAt 5 (cfgs 0).N = DC C B G H W Y := by
  refine (dats m 0 c).arrAt_eq_of_covers 5 _ (by decide +kernel) fun t _ z => ?_
  blk_simp
  rw [after0_5]
  by_cases h0 : t.val % 8 = 0
  · rw [outsAt0_A m c t h0 (by have := (idx t).2.2.2.2.2.2.2; omega)]; frame_out
    idx_vars z
    refine (dc_at m c C B G H W Y hC hB hG hH hW hY t _ _).trans (congrArg _ ?_)
    blk_ext [idx t, rowOf]
  · rw [outsAt0_B m c t h0 (by omega)]; frame_out
    idx_vars z
    refine (dc_at m c C B G H W Y hC hB hG hH hW hY t _ _).trans (congrArg _ ?_)
    blk_ext [idx t, rowOf]

theorem final6 : (dats m 0 c).arrAt 6 (cfgs 0).N = SM C B G H W Y := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => (0 : EReal))
    (fun t j => ((∑ r, cSm (vRow C B (rowOf t r)) (gOf G) (gOf H) (yRow Y (rowOf t r)) (wOf W) (j 0) (j 1) : ℝ) : EReal))
    (fun t h j => ?_) (fun t h j => ?_) (le_of_eq N_0) t0_7 rfl j]
  · rw [zero_add]
    exact sum_rows (fun R => cSm (vRow C B R) (gOf G) (gOf H) (yRow Y R) (wOf W) (j 0) (j 1))
  · rw [outsAt0_A m c t h (by have := (idx t).2.2.2.2.2.2.2; omega)]; frame_out
    idx_vars j
    exact (sm_at m c C B G H W Y hC hB hG hH hW hY t _ _).trans (zero_add _).symm
  · rw [outsAt0_B m c t h (by omega)]; frame_out
    idx_vars j
    refine Eq.trans ?_ (congrArg (fun a : EReal => _ + a) (sm_at m c C B G H W Y hC hB hG hH hW hY t _ _))
    pointwise [k0_pay3]

end Final

end Cert.NormIdeal.Elt

end
-- ==== Proof.Sums.lean ====
/- Host sums over the two leading axes of a rank-three array, read at an index, and the real-number forms of the operations
   that the programs' elements are made of. -/
module

public import proofs.«01_k».proof.Proof.Real

@[expose] public section

set_option maxRecDepth 16384

noncomputable section

namespace Cert.Reals

open Idealize.ShloMosaic

variable {n0 n1 n2 : ℕ}

/-- The source indices that drop to `j` when the two leading axes are summed. -/
theorem fiber_r3_a01 (h : (⟨3, ![n0, n1, n2]⟩ : Shape).ReducesTo [0, 1] ⟨1, ![n2]⟩) (j : (⟨1, ![n2]⟩ : Shape).Idx)
    (i : (⟨3, ![n0, n1, n2]⟩ : Shape).Idx) : h.drop i = j ↔ ∃ k : Fin n0 × Fin n1, ix3 k.1 k.2 (j 0) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl

/-- A sum over the indices that drop to `j`. -/
theorem sum_fiber_r3_a01 (h : (⟨3, ![n0, n1, n2]⟩ : Shape).ReducesTo [0, 1] ⟨1, ![n2]⟩) (j : (⟨1, ![n2]⟩ : Shape).Idx)
    (v : (⟨3, ![n0, n1, n2]⟩ : Shape).Idx → EReal) :
    ∑ i ∈ Finset.univ.filter (fun i => h.drop i = j), v i = ∑ a : Fin n0, ∑ b : Fin n1, v (ix3 a b (j 0)) := by
  refine (Finset.sum_filter_eq_sum_of_fiber (fun i => h.drop i = j) (fun k : Fin n0 × Fin n1 => ix3 k.1 k.2 (j 0))
    (fun _ _ e => Prod.ext (congrFun e 0) (congrFun e 1)) (fiber_r3_a01 h j) v).trans ?_
  exact Fintype.sum_prod_type _

/-- A host sum over the two leading axes. -/
theorem hostReduceAdd_r3_a01 (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) :=
  congrArg (init + ·) (sum_fiber_r3_a01 h j v)

/-! ## Finite arguments -/

/-- An array whose elements are below infinity in absolute value is an array of reals. -/
theorem eq_up_of_abs_lt {s : Shape} (x : FVec Ideal s .f32) (b : (⟨0, ![]⟩ : Shape).BroadcastsInDim s (![] : Fin 0 → Fin s.rank))
    (h : cmpf .olt (Host.absf x) (broadcastInDim s ![] b (constant ⟨0, ![]⟩ .f32 0x7F800000#32)) = fun _ => 1#1) :
    x = up fun i => (x i).toReal := by
  funext i
  have hi := congrFun h i
  refine (coe_toReal_of_abs_lt (x := x i) ?_).symm
  by_contra hn
  revert hi
  have hw : Ideal.ofBits .f32 0x7F800000#32 = (⊤ : EReal) := by simp [Ideal.ofBits, Ideal.ieee]
  pointwise
  rw [hw]
  change ¬BitVec.ofBool (decide (max (x i) (-x i) < ⊤)) = 1#1
  rw [decide_eq_false hn]
  decide

end Cert.Reals

end
-- ==== Proof.NormRef.lean ====
/- The reference of the layer norm's backward call, read at an element over real arguments. -/
module

public import proofs.«01_k».proof.Proof.Sums
public import proofs.«01_k».proof.Proof.Gen.NormRefIdeal.Read

@[expose] public section

set_option maxRecDepth 16384

noncomputable section

namespace Cert.NormRefIdeal.Elt

open Cert.NormRefIdeal Cert.NormRefIdeal.Read Cert.Reals Idealize.ShloMosaic

variable (C : S2x2048x1024.Idx → ℝ) (B G H : S1x1024.Idx → ℝ) (W : S1x1024x1024.Idx → ℝ) (Y : S2x2048x1024.Idx → ℝ)
variable (b : Fin 2) (s : Fin 2048) (d : Fin 1024)

/-- The row of the convolution's output at a token. -/
def row (b : Fin 2) (s : Fin 2048) : Fin 1024 → ℝ := fun d => C (ix3 b s d) + B (ix2 0 d)

theorem v6_at : val_main_v6 (F := Ideal) (up C) (up B) (ix3 b s d) = (row C B b s d : EReal) := by
  pointwise [val_main_v6, val_main_v5, val_main_v4, val_main_v0]
  simp only [up, row, ← EReal.coe_add]

theorem v12_at : val_main_v12 (F := Ideal) (up C) (up B) (ix3 b s d) = (lnX (row C B b s) d : EReal) := by
  pointwise [val_main_v12, val_main_v11, val_main_v10, val_main_v9, val_main_v8, val_main_v7, val_main_cst_0, val_main_cst_1,
    v6_at]
  simp only [← EReal.coe_add, ← EReal.coe_sub, coe_sum, w1024, div_coe_coe, ne_eq, OfNat.ofNat_ne_zero, not_false_eq_true]
  rfl

theorem v21_at : val_main_v21 (F := Ideal) (up C) (up B) (ix3 b s d) = (lnX (row C B b s) d : EReal) := by
  pointwise [val_main_v21, val_main_v20, val_main_v10, val_main_v9, val_main_v8, val_main_v7, val_main_cst_0, val_main_cst_1,
    v6_at]
  simp only [← EReal.coe_add, ← EReal.coe_sub, coe_sum, w1024, div_coe_coe, ne_eq, OfNat.ofNat_ne_zero, not_false_eq_true]
  rfl

theorem v15_at : val_main_v15 (F := Ideal) (up C) (up B) (ix3 b s d) = ((2 * lnX (row C B b s) d : ℝ) : EReal) := by
  pointwise [val_main_v15, val_main_v14, val_main_cst_2, v12_at]
  simp only [← EReal.coe_mul, wTwo]

theorem v23_at : val_main_v23 (F := Ideal) (up C) (up B) (ix3 b s 0) = (lnV (row C B b s) : EReal) := by
  pointwise [val_main_v23, val_main_v22, val_main_v19, val_main_v18, val_main_v17, val_main_v16, val_main_v13, val_main_cst_3,
    val_main_cst_4, val_main_cst_5, v12_at]
  simp only [← EReal.coe_add, ← EReal.coe_mul, coe_sum, w1024, wLn, div_coe_coe, ne_eq, OfNat.ofNat_ne_zero, not_false_eq_true]
  rfl

theorem v24_at : val_main_v24 (F := Ideal) (up C) (up B) (ix3 b s 0) = (lnR (row C B b s) : EReal) := by
  pointwise [val_main_v24, v23_at]
  exact rsqrt_coe_pos _ (lnV_pos _)

theorem v27_at : val_main_v27 (F := Ideal) (up C) (up B) (ix3 b s 0)
    = ((-(1 / 2) * (lnR (row C B b s) / lnV (row C B b s)) : ℝ) : EReal) := by
  pointwise [val_main_v27, val_main_v26, val_main_v25, val_main_cst_6, v24_at, v23_at]
  rw [div_coe_coe _ _ (lnV_pos _).ne', wNegHalf, ← EReal.coe_mul]

theorem v29_at : val_main_v29 (F := Ideal) (up C) (up B) (ix3 b s d) = (lnH (row C B b s) d : EReal) := by
  pointwise [val_main_v29, val_main_v28, v24_at, v21_at]
  rw [← EReal.coe_mul]; rfl

/-- The layer norm's output at a token. -/
def nrm (b : Fin 2) (s : Fin 2048) (d : Fin 1024) : ℝ := lnH (row C B b s) d * G (ix2 0 d) + H (ix2 0 d)

theorem v35_at : val_main_v35 (F := Ideal) (up C) (up B) (up G) (up H) (ix3 b s d) = (nrm C B G H b s d : EReal) := by
  pointwise [val_main_v35, val_main_v34, val_main_v33, val_main_v32, val_main_v31, val_main_v30, val_main_v1, val_main_v2, v29_at]
  simp only [up, ← EReal.coe_mul, ← EReal.coe_add]; rfl

theorem v36_2_at : val_main_v36_2 (F := Ideal) (up C) (up B) (up G) (up H) (ix3 b s d) = (sgm (nrm C B G H b s d) : EReal) := by
  pointwise [val_main_v36_2, val_main_call0_v4, val_main_call0_v3, val_main_call0_v2, val_main_call0_v1, val_main_call0_v0,
    val_main_call0_cst, val_main_call0_cst_0, v35_at]
  exact sgm_of_div _

theorem v36_1_at : val_main_v36_1 (F := Ideal) (up C) (up B) (up G) (up H) (ix3 b s d)
    = ((sgm (nrm C B G H b s d) * (1 - sgm (nrm C B G H b s d)) : ℝ) : EReal) := by
  pointwise [val_main_v36_1, val_main_call0_v7, val_main_call0_v6, val_main_call0_cst_1, v36_2_at]
  rw [← EReal.coe_one, ← EReal.coe_sub, ← EReal.coe_mul]

/-- The cotangent before the second pointwise product. -/
def ds (b : Fin 2) (s : Fin 2048) (d : Fin 1024) : ℝ := ∑ e : Fin 1024, Y (ix3 b s e) * W (ix3 0 d e)

theorem v46_at : val_main_v46 (F := Ideal) (up W) (up Y) (ix3 b s d) = (ds W Y b s d : EReal) := by
  pointwise [val_main_v46, val_main_v42, val_main_v37]
  simp only [up, ← EReal.coe_mul, coe_sum]; rfl

/-- The cotangent of the layer norm's output, and that of its normalised row. -/
def dn (b : Fin 2) (s : Fin 2048) (d : Fin 1024) : ℝ := ds W Y b s d * dsilu (nrm C B G H b s d)
def dnh (b : Fin 2) (s : Fin 2048) (d : Fin 1024) : ℝ := dn C B G H W Y b s d * G (ix2 0 d)

theorem v47_at : val_main_v47 (F := Ideal) (up C) (up B) (up G) (up H) (up W) (up Y) (ix3 b s d)
    = (dn C B G H W Y b s d : EReal) := by
  pointwise [val_main_v47, val_main_call1_v2, val_main_call1_v1, val_main_call1_v0, v36_1_at, v36_2_at, v35_at, v46_at]
  simp only [← EReal.coe_mul, ← EReal.coe_add]
  exact congrArg _ (dsilu_eq _ _)

theorem v55_at : val_main_v55 (F := Ideal) (up C) (up B) (up G) (up H) (up W) (up Y) (ix3 b s d)
    = (dnh C B G H W Y b s d : EReal) := by
  pointwise [val_main_v55, val_main_v54, val_main_v30, val_main_v1, v47_at]
  simp only [up, ← EReal.coe_mul]; rfl

theorem v61_at : val_main_v61 (F := Ideal) (up C) (up B) (up G) (up H) (up W) (up Y) (ix3 b s d)
    = ((dnh C B G H W Y b s d * lnR (row C B b s) : ℝ) : EReal) := by
  pointwise [val_main_v61, val_main_v60, v24_at, v55_at]
  rw [← EReal.coe_mul]

theorem v67_at : val_main_v67 (F := Ideal) (up C) (up B) (up G) (up H) (up W) (up Y) (ix3 b s 0)
    = (((∑ k, lnX (row C B b s) k * dnh C B G H W Y b s k) * (-(1 / 2) * (lnR (row C B b s) / lnV (row C B b s))) / 1024 : ℝ)
        : EReal) := by
  pointwise [val_main_v67, val_main_v66, val_main_v62, val_main_v59, val_main_v58, val_main_v57, val_main_cst_13, val_main_cst_15,
    v27_at, v55_at, v21_at]
  simp only [← EReal.coe_mul, coe_sum, w1024, div_coe_coe, ne_eq, OfNat.ofNat_ne_zero, not_false_eq_true]

theorem v70_at : val_main_v70 (F := Ideal) (up C) (up B) (up G) (up H) (up W) (up Y) (ix3 b s d)
    = (((∑ k, lnX (row C B b s) k * dnh C B G H W Y b s k) * (-(1 / 2) * (lnR (row C B b s) / lnV (row C B b s))) / 1024
          * (2 * lnX (row C B b s) d) : ℝ) : EReal) := by
  pointwise [val_main_v70, val_main_v69, val_main_v68, val_main_cst_16, v67_at, v15_at]
  simp only [Fin.sum_univ_one, v67_at, ← EReal.coe_mul]

/-- The cotangent of the convolution's output at a token. -/
def dc (b : Fin 2) (s : Fin 2048) (d : Fin 1024) : ℝ :=
  lnR (row C B b s) * (dnh C B G H W Y b s d - mean (dnh C B G H W Y b s)
    - lnH (row C B b s) d * mean fun k => dnh C B G H W Y b s k * lnH (row C B b s) k)

theorem v80_at : val_main_v80 (F := Ideal) (up C) (up B) (up G) (up H) (up W) (up Y) (ix3 b s d)
    = (dc C B G H W Y b s d : EReal) := by
  pointwise [val_main_v80, val_main_v79, val_main_v78, val_main_v77, val_main_v76, val_main_v75, val_main_v74, val_main_v73,
    val_main_v72, val_main_v71, val_main_v65, val_main_v64, val_main_v63, val_main_cst_14, val_main_cst_17, val_main_cst_18,
    val_main_cst_19, v70_at, v61_at]
  simp only [Fin.sum_univ_one, ← EReal.coe_neg, coe_sum, ← EReal.coe_add, w1024, div_coe_coe, ne_eq, OfNat.ofNat_ne_zero, not_false_eq_true]
  exact congrArg _ (lnBwd _ _ _)

/-! ## The two results -/

theorem v84_at (r : Fin 4096) : val_main_v84 (F := Ideal) (up C) (up B) (up G) (up H) (up W) (up Y) (ix2 r d)
    = (dc C B G H W Y ⟨r.val / 2048, by omega⟩ ⟨r.val % 2048, by omega⟩ d : EReal) := by
  pointwise [val_main_v84, v80_at]

theorem v56_at : val_main_v56 (F := Ideal) (up C) (up B) (up G) (up H) (up W) (up Y) (ix1 d)
    = ((∑ b, ∑ s, lnH (row C B b s) d * dn C B G H W Y b s d : ℝ) : EReal) := by
  pointwise [val_main_v56, val_main_v53, val_main_v52, val_main_v51, val_main_cst_11, val_main_cst_12, hostReduceAdd_r3_a01,
    v29_at, v47_at]
  simp only [← EReal.coe_mul, coe_sum, Fin.sum_univ_one]

theorem v50_at : val_main_v50 (F := Ideal) (up C) (up B) (up G) (up H) (up W) (up Y) (ix1 d)
    = ((∑ b, ∑ s, dn C B G H W Y b s d : ℝ) : EReal) := by
  pointwise [val_main_v50, val_main_v49, val_main_v48, val_main_cst_9, val_main_cst_10, hostReduceAdd_r3_a01, v47_at]
  simp only [coe_sum, Fin.sum_univ_one]

theorem v45_at : val_main_v45 (F := Ideal) (up Y) (ix1 d) = ((∑ b, ∑ s, Y (ix3 b s d) : ℝ) : EReal) := by
  pointwise [val_main_v45, val_main_v44, val_main_v43, val_main_cst_7, val_main_cst_8, hostReduceAdd_r3_a01]
  simp only [up, coe_sum, Fin.sum_univ_one]

theorem v83_at : val_main_v83 (F := Ideal) (up C) (up B) (up G) (up H) (up W) (up Y) (ix1 d)
    = ((∑ b, ∑ s, dc C B G H W Y b s d : ℝ) : EReal) := by
  pointwise [val_main_v83, val_main_v82, val_main_v81, val_main_cst_20, val_main_cst_21, hostReduceAdd_r3_a01, v80_at]
  simp only [coe_sum, Fin.sum_univ_one]

/-- What the second result adds over the tokens, row by row. -/
def smTerm (q : Fin 8) (b : Fin 2) (s : Fin 2048) (d : Fin 1024) : ℝ :=
  if q.val = 0 then lnH (row C B b s) d * dn C B G H W Y b s d
  else if q.val = 1 then dn C B G H W Y b s d
  else if q.val = 2 then Y (ix3 b s d)
  else if q.val = 3 then dc C B G H W Y b s d
  else 0

theorem v91_at (q : Fin 8) : val_main_v91 (F := Ideal) (up C) (up B) (up G) (up H) (up W) (up Y) (ix2 q d)
    = ((∑ b, ∑ s, smTerm C B G H W Y q b s d : ℝ) : EReal) := by
  fin_vals q with hq <;>
  pointwise [val_main_v91, val_main_v90, val_main_v89, val_main_v88, val_main_v87, val_main_v86, val_main_v85, val_main_cst_22,
    v56_at, v50_at, v45_at, v83_at] <;>
  simp [smTerm, hq, Fin.ext_iff, -Fin.sum_univ_two]

end Cert.NormRefIdeal.Elt

end
-- ==== Proof.NormPair.lean ====
module

public import proofs.«01_k».proof.Defs
public import Idealize.ShloMosaic.Lib.Claim
public import proofs.«01_k».proof.Proof.Norm
public import proofs.«01_k».proof.Proof.NormRef
public import proofs.«01_k».proof.Proof.Gen.Pre_conv_finite
@[expose] public section

set_option maxRecDepth 16384

noncomputable section

/-! # The layer norm's gradient: the kernel's two results are the reference's -/

namespace Cert.NormPair

open Idealize.ShloMosaic Idealize.ShloMosaic.StableHlo Idealize.SL.Sem Cert.Reals

section Results
variable (C Y : NormIdeal.S2x2048x1024.Idx → ℝ) (B G H : NormIdeal.S1x1024.Idx → ℝ) (W : NormIdeal.S1x1024x1024.Idx → ℝ)

theorem first : NormRefIdeal.Read.val_main_v84 (F := Ideal) (up C) (up B) (up G) (up H) (up W) (up Y)
    = NormIdeal.Elt.DC C B G H W Y := by
  funext i
  idx_vars i
  exact NormRefIdeal.Elt.v84_at C B G H W Y _ _

theorem second : NormRefIdeal.Read.val_main_v91 (F := Ideal) (up C) (up B) (up G) (up H) (up W) (up Y)
    = NormIdeal.Elt.SM C B G H W Y := by
  funext i
  idx_vars i
  refine (NormRefIdeal.Elt.v91_at C B G H W Y _ _).trans (congrArg _ ?_)
  refine Fin.sum_mul_add_congr fun b s hl => ?_
  have hb : NormIdeal.Elt.bOf ⟨b.val * 2048 + s.val, hl⟩ = b := Fin.ext (by simp only [NormIdeal.Elt.bOf]; omega)
  have hs : NormIdeal.Elt.sOf ⟨b.val * 2048 + s.val, hl⟩ = s := Fin.ext (by simp only [NormIdeal.Elt.sOf]; omega)
  have hv : NormIdeal.Elt.vRow C B ⟨b.val * 2048 + s.val, hl⟩ = NormRefIdeal.Elt.row C B b s := by
    funext k; unfold NormIdeal.Elt.vRow; rw [hb, hs]; rfl
  have hy : NormIdeal.Elt.yRow Y ⟨b.val * 2048 + s.val, hl⟩ = fun k => Y (ix3 b s k) := by
    funext k; unfold NormIdeal.Elt.yRow; rw [hb, hs]
  rw [hv, hy]
  rfl

end Results

theorem frame_ref : quiescent_NormRefIdeal := fun m g _ =>
  θ_run_mono (NormRefIdeal.Value.run m g) fun r h =>
    ⟨fun c => (h c).2.2, sem_eq_zero_of_no_sems (by decide) r.2⟩

theorem algebraic : algebraic_NormIdeal_NormRefIdeal_pre_conv_finite := by
  pair_intro
  · run_from NormIdeal.Value.run_blocks m g
  · run_from NormRefIdeal.Value.run m' g'
    all_goals
      obtain ⟨h0, h1, h2, h3, h4, h5⟩ := hpre c
      obtain ⟨a0, a1, a2, a3, a4, a5⟩ := hagree c
      have e0 := eq_up_of_abs_lt _ _ h0
      have e1 := eq_up_of_abs_lt _ _ h1
      have e2 := eq_up_of_abs_lt _ _ h2
      have e3 := eq_up_of_abs_lt _ _ h3
      have e4 := eq_up_of_abs_lt _ _ h4
      have e5 := eq_up_of_abs_lt _ _ h5
    · refine ((NormRefIdeal.Read.val_main_v84_eq (launchContents m' c)).trans ?_).trans
        (NormIdeal.Elt.final5 m c _ _ _ _ _ _ e0 e1 e2 e3 e4 e5).symm
      rw [← first, ← e0, ← e1, ← e2, ← e3, ← e4, ← e5, ← a0, ← a1, ← a2, ← a3, ← a4, ← a5]
    · refine ((NormRefIdeal.Read.val_main_v91_eq (launchContents m' c)).trans ?_).trans
        (NormIdeal.Elt.final6 m c _ _ _ _ _ _ e0 e1 e2 e3 e4 e5).symm
      rw [← second, ← e0, ← e1, ← e2, ← e3, ← e4, ← e5, ← a0, ← a1, ← a2, ← a3, ← a4, ← a5]

end Cert.NormPair

end
-- ==== Proof.Conv.lean ====
/- The causal convolution of three taps over a sequence of 2048 tokens, and the gated feed-forward block behind it, over
   the reals. -/
module

public import proofs.«01_k».proof.Proof.Sums

@[expose] public section

set_option maxRecDepth 16384

noncomputable section

namespace Cert.Reals

open Idealize.ShloMosaic

variable {n : ℕ}

/-- What tap `k` reads at token `s`: the token `2 - k` places before, zero before the sequence's start. -/
def tap (A : Fin 2048 → Fin n → ℝ) (k : Fin 3) (s : Fin 2048) (j : Fin n) : ℝ :=
  if h : 2 ≤ s.val + k.val then A ⟨s.val + k.val - 2, by omega⟩ j else 0

theorem tap_eq (A : Fin 2048 → Fin n → ℝ) (k : Fin 3) (s : Fin 2048) (j : Fin n) (z : Fin 2048) (h : z.val + 2 = s.val + k.val) :
    tap A k s j = A z j := by
  rw [tap, dif_pos (by omega)]; exact congrArg (fun z => A z j) (Fin.ext (by simp only []; omega))

theorem tap_zero (A : Fin 2048 → Fin n → ℝ) (k : Fin 3) (s : Fin 2048) (j : Fin n) (h : s.val + k.val < 2) : tap A k s j = 0 := by
  rw [tap, dif_neg (by omega)]

/-- The convolution's value from its bias, its three weights and the three taps. -/
def acv (b w0 w1 w2 t0 t1 t2 : ℝ) : ℝ := b + w0 * t0 + w1 * t1 + w2 * t2

/-- The cotangents of the gate and of the convolution's output, from that of their product `g`. -/
def dgt (g a : ℝ) : ℝ := g * a * sgm a
def dcv (g u a : ℝ) : ℝ := g * u * dsilu a

/-- What a token adds to the eight rows of column sums: the gradients of the three taps' weights and of the bias. -/
def wSm (t0 t1 t2 y : ℝ) (q : Fin 8) : ℝ :=
  if q.val = 0 then t0 * y else if q.val = 1 then t1 * y else if q.val = 2 then t2 * y else if q.val = 3 then y else 0

/-- Row `R` of 4096 is token `R % 2048` of sequence `R / 2048`. -/
def bOf (R : Fin 4096) : Fin 2 := ⟨R.val / 2048, by omega⟩
def sOf (R : Fin 4096) : Fin 2048 := ⟨R.val % 2048, by omega⟩

/-- Summing over all rows is summing over the sequences and their tokens. -/
theorem sum_bs (f : Fin 2 → Fin 2048 → ℝ) : ∑ R : Fin 4096, f (bOf R) (sOf R) = ∑ b, ∑ s, f b s :=
  Fin.sum_divmod_congr fun R hb hs => rfl

/-! ## The second feed-forward block's gradient, token by token

From the up projection's output `U`, the convolution's weights `W` and biases `B`, the down projection `D` and the cotangent
of the block's output `Y`. -/

section Block
variable (U : (⟨3, ![2, 2048, 5632]⟩ : Shape).Idx → ℝ) (W : (⟨3, ![2, 3, 2816]⟩ : Shape).Idx → ℝ)
variable (B : (⟨2, ![2, 2816]⟩ : Shape).Idx → ℝ) (D : (⟨3, ![2, 2816, 1024]⟩ : Shape).Idx → ℝ)
variable (Y : (⟨3, ![2, 2048, 1024]⟩ : Shape).Idx → ℝ) (b : Fin 2) (s : Fin 2048) (j : Fin 2816)

/-- The two halves of the up projection's output: the convolved one and the gate. -/
def act (b : Fin 2) (s : Fin 2048) (j : Fin 2816) : ℝ := U (ix3 b s ⟨j.val, by omega⟩)
def gate (b : Fin 2) (s : Fin 2048) (j : Fin 2816) : ℝ := U (ix3 b s ⟨2816 + j.val, by omega⟩)

/-- The convolution's output, and the cotangent before the down projection. -/
def ac : ℝ :=
  acv (B (ix2 1 j)) (W (ix3 1 0 j)) (W (ix3 1 1 j)) (W (ix3 1 2 j)) (tap (act U b) 0 s j) (tap (act U b) 1 s j) (tap (act U b) 2 s j)
def dg : ℝ := ∑ e : Fin 1024, Y (ix3 b s e) * D (ix3 1 j e)

/-- The cotangents of the convolution's output and of the gate. -/
def dac : ℝ := dcv (dg D Y b s j) (gate U b s j) (ac U W B b s j)
def dgate : ℝ := dgt (dg D Y b s j) (ac U W B b s j)

/-- What a token adds to the column sums. -/
def dSm (q : Fin 8) : ℝ := wSm (tap (act U b) 0 s j) (tap (act U b) 1 s j) (tap (act U b) 2 s j) (dac U W B D Y b s j) q

end Block

end Cert.Reals

end
-- ==== Proof.Rows.lean ====
/- A buffer whose rows are stored in two parts, read back from any row on. -/
module

public import proofs.«01_k».proof.Proof.Conv

@[expose] public section

set_option maxRecDepth 16384

noncomputable section

namespace Cert.Reals

open Idealize.ShloMosaic

variable {K k m n : ℕ}

/-- A buffer of rows stored in two parts, read at an element: the rows before `k` hold the first part, the others the second. -/
theorem canon_two_rows (X : (⟨2, ![k, n]⟩ : Shape).Idx → EReal) (Y : (⟨2, ![m, n]⟩ : Shape).Idx → EReal)
    (hY : ∀ a, (![k, 0] : Fin 2 → ℕ) a + (![m, n] : Fin 2 → ℕ) a ≤ (⟨2, ![K, n]⟩ : Shape).size a)
    (hX : ∀ a, (![0, 0] : Fin 2 → ℕ) a + (![k, n] : Fin 2 → ℕ) a ≤ (⟨2, ![K, n]⟩ : Shape).size a) (hK : K = k + m)
    (i : Fin K) (j : Fin n) :
    View.canon (Val := Elt Ideal) (s := ⟨2, ![K, n]⟩) (e := .f32)
      [⟨Rect.unit ![k, 0] ![m, n] hY, Y⟩, ⟨Rect.unit ![0, 0] ![k, n] hX, X⟩] (ix2 i j)
      = if h : i.val < k then X (ix2 ⟨i.val, h⟩ j) else Y (ix2 ⟨i.val - k, by omega⟩ j) := by
  by_cases h : i.val < k
  · rw [dif_pos h, View.canon_cons_of_not_mem]
    · have e : (ix2 i j : (⟨2, ![K, n]⟩ : Shape).Idx) = (Rect.unit (s := ⟨2, ![K, n]⟩) ![0, 0] ![k, n] hX).emb (ix2 ⟨i.val, h⟩ j) := by
        funext a; apply Fin.ext
        match a with
        | ⟨0, _⟩ => show i.val = 0 + 1 * i.val; omega
        | ⟨1, _⟩ => show j.val = 0 + 1 * j.val; omega
      rw [e]; exact View.canon_cons_emb _ _ _ _
    · intro hm
      obtain ⟨x, hx⟩ := (Rect.unit (s := ⟨2, ![K, n]⟩) ![k, 0] ![m, n] hY).exists_idx_of_mem hm
      have := congrArg Fin.val (congrFun hx 0)
      have h1 : k + 1 * (x 0).val = i.val := this
      omega
  · rw [dif_neg h]
    have e : (ix2 i j : (⟨2, ![K, n]⟩ : Shape).Idx) = (Rect.unit (s := ⟨2, ![K, n]⟩) ![k, 0] ![m, n] hY).emb (ix2 ⟨i.val - k, by omega⟩ j) := by
      funext a; apply Fin.ext
      match a with
      | ⟨0, _⟩ => show i.val = k + 1 * (i.val - k); omega
      | ⟨1, _⟩ => show j.val = 0 + 1 * j.val; omega
    rw [e]; exact View.canon_cons_emb _ _ _ _

/-- The same, loading rows from row `o` on. -/
theorem load_two_rows {sig : RefSig} {κ : Kind} {sp : Space} {l o : ℕ} (v : View sig κ sp (⟨2, ![K, n]⟩ : Shape) .f32)
    (X : (⟨2, ![k, n]⟩ : Shape).Idx → EReal) (Y : (⟨2, ![m, n]⟩ : Shape).Idx → EReal)
    (hY : ∀ a, (![k, 0] : Fin 2 → ℕ) a + (![m, n] : Fin 2 → ℕ) a ≤ (⟨2, ![K, n]⟩ : Shape).size a)
    (hX : ∀ a, (![0, 0] : Fin 2 → ℕ) a + (![k, n] : Fin 2 → ℕ) a ≤ (⟨2, ![K, n]⟩ : Shape).size a)
    (hO : ∀ a, (![o, 0] : Fin 2 → ℕ) a + (![l, n] : Fin 2 → ℕ) a ≤ (⟨2, ![K, n]⟩ : Shape).size a) (hK : K = k + m)
    (r : Fin l) (j : Fin n) :
    v.readCov (Val := Elt Ideal) [⟨Rect.unit ![k, 0] ![m, n] hY, Y⟩, ⟨Rect.unit ![0, 0] ![k, n] hX, X⟩]
        (Rect.unit (s := ⟨2, ![K, n]⟩) ![o, 0] ![l, n] hO).toLoadRect (ix2 r j)
      = if h : o + r.val < k then X (ix2 ⟨o + r.val, h⟩ j)
        else Y (ix2 ⟨o + r.val - k, by have : o + l ≤ K := hO 0; omega⟩ j) := by
  have hl : o + l ≤ K := hO 0
  have e : (Rect.unit (s := ⟨2, ![K, n]⟩) ![o, 0] ![l, n] hO).toLoadRect.idx (ix2 r j)
      = (ix2 ⟨o + r.val, by omega⟩ j : (⟨2, ![K, n]⟩ : Shape).Idx) := by
    funext a; apply Fin.ext
    match a with
    | ⟨0, _⟩ => show o + 1 * r.val = o + r.val; omega
    | ⟨1, _⟩ => show 0 + 1 * j.val = j.val; omega
  rw [View.readCov_eq_canon']
  exact (congrArg (View.canon _) e).trans (canon_two_rows X Y hY hX hK ⟨o + r.val, by omega⟩ j)

end Cert.Reals

end
-- ==== Proof.Down.lean ====
/- The second feed-forward block's backward call: the three result arrays over real arguments. -/
module

public import proofs.«01_k».proof.Proof.Conv
public import proofs.«01_k».proof.Proof.Rows
public import Idealize.ShloMosaic.Lib.Pipeline.ReadBack
public import proofs.«01_k».proof.Proof.Gen.DownIdeal.Value

@[expose] public section

set_option maxRecDepth 16384

noncomputable section

namespace Cert.DownIdeal.Elt

open Cert.DownIdeal Cert.DownIdeal.Gen Cert.Reals Idealize.ShloMosaic Idealize.ShloMosaic.TcCoe Idealize.SL.Sem
open Idealize.ShloMosaic.Pipeline (Dat)

/-! ## The body's values at an element, over blocks of reals -/

section Body
variable (B W0 W1 W2 : Vec Ideal S1x2816 .f32) (T0 T1 : Vec Ideal S1x256x2816 .f32) (T2 G : Vec Ideal S256x2816 .f32)
variable (Y : Vec Ideal S256x1024 .f32) (D : Vec Ideal S2816x1024 .bf16)
variable (b w0 w1 w2 : Fin 2816 → ℝ) (t0 t1 t2 g : Fin 256 → Fin 2816 → ℝ) (y : Fin 256 → Fin 1024 → ℝ)
variable (d : Fin 2816 → Fin 1024 → ℝ)
variable (hB : ∀ j, B (ix2 0 j) = (b j : EReal)) (hW0 : ∀ j, W0 (ix2 0 j) = (w0 j : EReal))
variable (hW1 : ∀ j, W1 (ix2 0 j) = (w1 j : EReal)) (hW2 : ∀ j, W2 (ix2 0 j) = (w2 j : EReal))
variable (hT0 : ∀ r j, T0 (ix3 0 r j) = (t0 r j : EReal)) (hT1 : ∀ r j, T1 (ix3 0 r j) = (t1 r j : EReal))
variable (hT2 : ∀ r j, T2 (ix2 r j) = (t2 r j : EReal)) (hG : ∀ r j, G (ix2 r j) = (g r j : EReal))
variable (hY : ∀ r e, Y (ix2 r e) = (y r e : EReal)) (hD : ∀ j e, D (ix2 j e) = (d j e : EReal))
variable (r : Fin 256) (j : Fin 2816)

/-- The convolution's output and the cotangent before the down projection, in a block. -/
def bAc (r : Fin 256) (j : Fin 2816) : ℝ := acv (b j) (w0 j) (w1 j) (w2 j) (t0 r j) (t1 r j) (t2 r j)
def bDg (r : Fin 256) (j : Fin 2816) : ℝ := ∑ e, y r e * d j e

section
include hB hW0 hW1 hW2 hT0 hT1 hT2

theorem pay6_at : k0_pay6 B W0 T0 W1 T1 W2 T2 (ix2 r j) = (bAc b w0 w1 w2 t0 t1 t2 r j : EReal) := by
  pointwise [k0_pay6, hB, hW0, hW1, hW2, hT0, hT1, hT2]
  simp only [← EReal.coe_mul, ← EReal.coe_add]
  rfl

theorem pay8_at : k0_pay8 B W0 T0 W1 T1 W2 T2 (ix2 r j) = (sgm (bAc b w0 w1 w2 t0 t1 t2 r j) : EReal) := by
  pointwise [k0_pay8, pay6_at B W0 W1 W2 T0 T1 T2 b w0 w1 w2 t0 t1 t2 hB hW0 hW1 hW2 hT0 hT1 hT2]
  exact logistic_coe' _

end

include hY hD in
theorem pay7_at : k0_pay7 Y D (ix2 r j) = (bDg y d r j : EReal) := by
  pointwise [k0_pay7, hY, hD]
  simp only [← EReal.coe_mul, coe_sum]
  rfl

include hB hW0 hW1 hW2 hT0 hT1 hT2 hY hD

theorem pay9_at : k0_pay9 B W0 T0 W1 T1 W2 T2 Y D (ix2 r j) = (dgt (bDg y d r j) (bAc b w0 w1 w2 t0 t1 t2 r j) : EReal) := by
  pointwise [k0_pay9, pay6_at B W0 W1 W2 T0 T1 T2 b w0 w1 w2 t0 t1 t2 hB hW0 hW1 hW2 hT0 hT1 hT2,
    pay8_at B W0 W1 W2 T0 T1 T2 b w0 w1 w2 t0 t1 t2 hB hW0 hW1 hW2 hT0 hT1 hT2, pay7_at Y D y d hY hD]
  simp only [← EReal.coe_mul]
  rfl

include hG

theorem pay10_at : k0_pay10 (k0_pay6 B W0 T0 W1 T1 W2 T2) (k0_pay7 Y D) (k0_pay8 B W0 T0 W1 T1 W2 T2) G (ix2 r j)
    = (dcv (bDg y d r j) (g r j) (bAc b w0 w1 w2 t0 t1 t2 r j) : EReal) := by
  pointwise [k0_pay10, pay6_at B W0 W1 W2 T0 T1 T2 b w0 w1 w2 t0 t1 t2 hB hW0 hW1 hW2 hT0 hT1 hT2,
    pay8_at B W0 W1 W2 T0 T1 T2 b w0 w1 w2 t0 t1 t2 hB hW0 hW1 hW2 hT0 hT1 hT2, pay7_at Y D y d hY hD, hG]
  simp only [← EReal.coe_mul, ← EReal.coe_add, ← EReal.coe_sub, ← EReal.coe_one]
  rfl

theorem pay11_at (q : Fin 8) :
    k0_pay11 (k0_pay6 B W0 T0 W1 T1 W2 T2) (k0_pay7 Y D) (k0_pay8 B W0 T0 W1 T1 W2 T2) G T0 T1 T2 (ix2 q j)
    = ((∑ r, wSm (t0 r j) (t1 r j) (t2 r j) (dcv (bDg y d r j) (g r j) (bAc b w0 w1 w2 t0 t1 t2 r j)) q : ℝ) : EReal) := by
  fin_vals q with hq <;>
  pointwise [k0_pay11, pay10_at B W0 W1 W2 T0 T1 T2 G Y D b w0 w1 w2 t0 t1 t2 g y d hB hW0 hW1 hW2 hT0 hT1 hT2 hG hY hD,
    hT0, hT1, hT2] <;>
  simp [wSm, hq, Fin.ext_iff, ← EReal.coe_mul, coe_sum, mul_comm]

end Body

/-! ## The blocks of the grid's points -/

variable (m : (ℓ : Loc nD τ sig) → Buf (Elt Ideal) ℓ) (c : Dev nD)

theorem idx : ∀ t : Fin cfg0.N, win0_0.index t = ![t.val, 0] ∧ win0_1.index t = ![t.val, 0]
    ∧ win0_2.index t = ![max (32 * t.val - 1) 0, 0]
    ∧ win0_3.index t = ![0, 0] ∧ win0_4.index t = ![0, 0] ∧ win0_5.index t = ![0, 0] ∧ win0_6.index t = ![t.val, 0]
    ∧ win0_7.index t = ![t.val, 1] ∧ win0_8.index t = ![0, 0] ∧ t.val < 16 :=
  (by decide +kernel : ∀ t : Fin grid0.N, _)

theorem lt16 (t : Fin cfg0.N) : t.val < 16 := (idx t).2.2.2.2.2.2.2.2.2

theorem coord : ∀ t : Fin cfg0.N, ((grid0.coords t) 0).val = t.val := (by decide +kernel : ∀ t : Fin grid0.N, _)

/-- Row `r` of the block of point `t`, among all rows. -/
def rowOf (t : Fin cfg0.N) (r : Fin 256) : Fin 4096 := ⟨t.val * 256 + r.val, by have := lt16 t; omega⟩

theorem blk0 (t : Fin cfg0.N) (r : Fin 256) (e : Fin 1024) : iblk m c 0 t (ix2 r e)
    = m ((c : Thread nD τ).loc main_arg4) (ix3 (bOf (rowOf t r)) (sOf (rowOf t r)) e) := by
  blk_simp [iblk]
  simp only [V, List.flatten_cons, List.flatten_nil, List.append_nil, hostOps0, hostOps0_1, hostOps0_2, List.cons_append,
    List.nil_append]
  entry_read
  pointwise
  blk_ext [idx t, bOf, sOf, rowOf]

theorem blk1 (t : Fin cfg0.N) (r : Fin 256) (j : Fin 5632) : iblk m c 1 t (ix2 r j)
    = m ((c : Thread nD τ).loc main_arg0) (ix3 (bOf (rowOf t r)) (sOf (rowOf t r)) j) := by
  blk_simp [iblk]
  simp only [V, List.flatten_cons, List.flatten_nil, List.append_nil, hostOps0, hostOps0_1, hostOps0_2, List.cons_append,
    List.nil_append]
  entry_read
  pointwise
  blk_ext [idx t, bOf, sOf, rowOf]

theorem blk1a (t : Fin cfg0.N) (r : Fin 256) (j : Fin 2816) :
    View.ld (iblk m c 1 t) (Rect.unit ![0, 0] ![256, 2816] inb_S256x5632_S256x2816_0_0) (ix2 r j)
    = m ((c : Thread nD τ).loc main_arg0) (ix3 (bOf (rowOf t r)) (sOf (rowOf t r)) ⟨j.val, by omega⟩) := by
  pointwise
  exact blk1 m c t r _

theorem blk1b (t : Fin cfg0.N) (r : Fin 256) (j : Fin 2816) :
    View.ld (iblk m c 1 t) (Rect.unit ![0, 2816] ![256, 2816] inb_S256x5632_S256x2816_0_2816) (ix2 r j)
    = m ((c : Thread nD τ).loc main_arg0) (ix3 (bOf (rowOf t r)) (sOf (rowOf t r)) ⟨2816 + j.val, by omega⟩) := by
  pointwise
  exact blk1 m c t r _

theorem blk2 (t : Fin cfg0.N) (h : ¬t.val % 8 = 0) (q : Fin 8) (j : Fin 2816) : iblk m c 2 t (ix2 q j)
    = m ((c : Thread nD τ).loc main_arg0) (ix3 ⟨t.val / 8, by have := lt16 t; omega⟩ ⟨t.val % 8 * 256 + q.val - 8, by omega⟩
        ⟨j.val, by omega⟩) := by
  have := lt16 t
  blk_simp [iblk]
  simp only [V, List.flatten_cons, List.flatten_nil, List.append_nil, hostOps0, hostOps0_1, hostOps0_2, List.cons_append,
    List.nil_append]
  entry_read
  pointwise
  blk_ext [idx t]

/-- The weights of the second block's convolution, under five rows of zeros. -/
theorem V_main_v2 : V m c main_v2 = shapeCast S8x2816 (extractStridedSlice S1x8x2816 ![1, 0, 0]
    (pad S2x8x2816 ![0, 0, 0] ![0, 5, 0] ![0, 0, 0] (show FVec Ideal S2x3x2816 .f32 from m ((c : Thread nD τ).loc main_arg1))
      (sitofp .f32 (constantI S_ 32 0#32)) pads_S2x3x2816_S2x8x2816_000_050_000 h_S_) slices_S2x8x2816_S1x8x2816_1_0_0)
    shapeCasts_S1x8x2816_S8x2816 := by
  simp only [V, List.flatten_cons, List.flatten_nil, List.append_nil, hostOps0, hostOps0_1, hostOps0_2, List.cons_append,
    List.nil_append]
  entry_read
  rfl

theorem blk3 (k : Fin 3) (t : Fin cfg0.N) (j : Fin 2816) : iblk m c 3 t (ix2 ⟨k.val, by omega⟩ j)
    = m ((c : Thread nD τ).loc main_arg1) (ix3 1 k j) := by
  blk_simp [iblk]
  rw [V_main_v2]
  pointwise
  refine (dif_pos ?_).trans ?_
  · blk_simp [idx t]; exact k.isLt
  · blk_ext [idx t]

theorem blk4 (t : Fin cfg0.N) (j : Fin 2816) : iblk m c 4 t (ix2 0 j) = m ((c : Thread nD τ).loc main_arg2) (ix2 1 j) := by
  blk_simp [iblk]
  simp only [V, List.flatten_cons, List.flatten_nil, List.append_nil, hostOps0, hostOps0_1, hostOps0_2, List.cons_append,
    List.nil_append]
  entry_read
  pointwise
  blk_ext [idx t]

theorem blk5 (t : Fin cfg0.N) (j : Fin 2816) (e : Fin 1024) : iblk m c 5 t (ix2 j e)
    = m ((c : Thread nD τ).loc main_arg3) (ix3 1 j e) := by
  blk_simp [iblk]
  simp only [V, List.flatten_cons, List.flatten_nil, List.append_nil, hostOps0, hostOps0_1, hostOps0_2, List.cons_append,
    List.nil_append]
  entry_read
  pointwise
  blk_ext [idx t]

/-- Whether a point is the first of its sequence, as the body computes it from the point's number. -/
def first (n : ℕ) : BitVec 1 :=
  Scalar.cmpi .eq
    (Scalar.select
      (Scalar.andi
        (Scalar.xori
          (Scalar.cmpi .slt (Scalar.remsi (BitVec.ofNat 32 n) (Scalar.select (Scalar.cmpi .eq 8#32 0#32) 1#32 8#32)) 0#32)
          (Scalar.cmpi .slt (Scalar.select (Scalar.cmpi .eq 8#32 0#32) 1#32 8#32) 0#32))
        (Scalar.cmpi .ne (Scalar.remsi (BitVec.ofNat 32 n) (Scalar.select (Scalar.cmpi .eq 8#32 0#32) 1#32 8#32)) 0#32))
      (Scalar.addi (Scalar.remsi (BitVec.ofNat 32 n) (Scalar.select (Scalar.cmpi .eq 8#32 0#32) 1#32 8#32))
        (Scalar.select (Scalar.cmpi .eq 8#32 0#32) 1#32 8#32))
      (Scalar.remsi (BitVec.ofNat 32 n) (Scalar.select (Scalar.cmpi .eq 8#32 0#32) 1#32 8#32)))
    0#32

theorem first_eq : ∀ n < 16, first n = if n % 8 = 0 then 1#1 else 0#1 := by decide +kernel

theorem pay1_at (X P : Vec Ideal S8x2816 .f32) (q : Fin 8) (j : Fin 2816) :
    k0_pay1 X P (ix2 q j) = P (ix2 q j) + X (ix2 q j) := by
  pointwise [k0_pay1]

theorem pay2_at (t : Fin cfg0.N) (X : Vec Ideal S8x2816 .f32) (q : Fin 8) (j : Fin 2816) :
    k0_pay2 (grid0.coords t) X (ix2 q j) = if t.val % 8 = 0 then (0 : EReal) else X (ix2 q j) := by
  pointwise [k0_pay2]
  have e := first_eq t.val (lt16 t)
  rw [← coord t] at e
  refine (congrArg (fun a => Scalar.select a (0 : EReal) (X (ix2 q j))) e).trans ?_
  rw [coord t]
  split <;> rfl

theorem pay3_at (X : Vec Ideal S256x2816 .f32) (r : Fin 256) (j : Fin 2816) : k0_pay3 X (ix2 r j) = X (ix2 r j) := by
  pointwise [k0_pay3]

/-- A row of the weights' block, as the body loads it. -/
theorem bW_at (k : Fin 3) (o : ℕ) (ho : o = k.val) (t : Fin cfg0.N)
    (inb : ∀ a, (![o, 0] : Fin 2 → ℕ) a + (![1, 2816] : Fin 2 → ℕ) a ≤ S8x2816.size a) (j : Fin 2816) :
    View.ld (iblk m c 3 t) (Rect.unit (s := S8x2816) ![o, 0] ![1, 2816] inb) (ix2 0 j)
    = m ((c : Thread nD τ).loc main_arg1) (ix3 1 k j) := by
  subst ho
  refine (congrArg (iblk m c 3 t) ?_).trans (blk3 m c k t j)
  funext a; apply Fin.ext
  match a with
  | ⟨0, _⟩ => show k.val + 1 * 0 = k.val; omega
  | ⟨1, _⟩ => show 0 + 1 * j.val = j.val; omega

/-- Summing over the blocks and the rows of a block is summing over all rows. -/
theorem sum_rows (f : Fin 4096 → ℝ) : ∑ p : Fin cfg0.N, ((∑ r, f (rowOf p r) : ℝ) : EReal) = ((∑ R, f R : ℝ) : EReal) := by
  rw [coe_sum]
  refine congrArg _ (Fin.sum_mul_add_congr fun s k hl => ?_)
  rfl

/-! ## The result arrays -/

section Final
variable (U : S2x2048x5632.Idx → ℝ) (W : S2x3x2816.Idx → ℝ) (B : S2x2816.Idx → ℝ) (D : S2x2816x1024.Idx → ℝ)
variable (Y : S2x2048x1024.Idx → ℝ)

/-- What the three results hold: the cotangents of the convolution's output and of the gate, and the column sums. -/
def DAC (i : S4096x2816.Idx) : EReal := (dac U W B D Y (bOf (i 0)) (sOf (i 0)) (i 1) : EReal)
def SM (i : S8x2816.Idx) : EReal := ((∑ R, dSm U W B D Y (bOf R) (sOf R) (i 1) (i 0) : ℝ) : EReal)

def DGH (i : S4096x5632.Idx) : EReal :=
  if h : 2816 ≤ (i 1).val then
    (dgate U W B D Y (bOf (i 0)) (sOf (i 0)) ⟨(i 1).val - 2816, by have := (i 1).isLt; change (i 1).val < 5632 at this; omega⟩ : EReal)
  else 0

theorem DGH_at (R : Fin 4096) (j : Fin 2816) : DGH U W B D Y (ix2 R ⟨2816 + j.val, by omega⟩)
    = (dgate U W B D Y (bOf R) (sOf R) j : EReal) := by
  refine (dif_pos (Nat.le_add_right 2816 j.val)).trans ?_
  exact congrArg (fun a => ((dgate U W B D Y (bOf R) (sOf R) a : ℝ) : EReal)) (Fin.ext (Nat.add_sub_cancel_left 2816 j.val))

variable (hU : m ((c : Thread nD τ).loc main_arg0) = up U) (hW : m ((c : Thread nD τ).loc main_arg1) = up W)
variable (hB : m ((c : Thread nD τ).loc main_arg2) = up B) (hD : m ((c : Thread nD τ).loc main_arg3) = up D)
variable (hY : m ((c : Thread nD τ).loc main_arg4) = up Y)

/-- The scratch buffer's two pieces: the eight rows before the block, and the block. -/
abbrev pieces (t : Fin cfg0.N) : List (View.Piece (Elt Ideal) S264x2816 .f32) :=
  [⟨Rect.unit ![8, 0] ![256, 2816] inb_S264x2816_S256x2816_8_0,
      k0_pay3 (View.ld (iblk m c 1 t) (Rect.unit ![0, 0] ![256, 2816] inb_S256x5632_S256x2816_0_0))⟩,
    ⟨Rect.unit ![0, 0] ![8, 2816] inb_S264x2816_S8x2816_0_0, k0_pay2 (grid0.coords t) (iblk m c 2 t)⟩]

include hU in
theorem ext_at (t : Fin cfg0.N) (k : Fin 3) (o : ℕ) (ho : o = 6 + k.val)
    (inb : ∀ a, (![o, 0] : Fin 2 → ℕ) a + (![256, 2816] : Fin 2 → ℕ) a ≤ S264x2816.size a) (r : Fin 256) (j : Fin 2816) :
    (View.whole cc0_scratch0).readCov (pieces m c t) (Rect.unit (s := S264x2816) ![o, 0] ![256, 2816] inb).toLoadRect (ix2 r j)
    = (tap (act U (bOf (rowOf t r))) k (sOf (rowOf t r)) j : EReal) := by
  have ht := lt16 t
  refine (load_two_rows _ _ _ _ _ inb rfl r j).trans ?_
  by_cases h : o + r.val < 8
  · rw [dif_pos h, pay2_at]
    by_cases h0 : t.val % 8 = 0
    · rw [if_pos h0]
      exact congrArg Real.toEReal (tap_zero _ _ _ _ (by unfold sOf rowOf; simp only []; omega)).symm
    · rw [if_neg h0, blk2 m c t h0, hU]
      have e : bOf (rowOf t r) = ⟨t.val / 8, by omega⟩ := by unfold bOf rowOf; simp only [Fin.mk.injEq]; omega
      rw [e]
      exact congrArg Real.toEReal (tap_eq (act U _) k _ j ⟨t.val % 8 * 256 + (o + r.val) - 8, by omega⟩
        (by unfold sOf rowOf; simp only []; omega)).symm
  · rw [dif_neg h, pay3_at, blk1a, hU]
    have e : bOf (rowOf t ⟨o + r.val - 8, by omega⟩) = bOf (rowOf t r) := by
      unfold bOf rowOf; simp only [Fin.mk.injEq]; omega
    rw [e]
    exact congrArg Real.toEReal (tap_eq (act U _) k _ j _ (by unfold sOf rowOf; simp only []; omega)).symm

/-- The realigned copies' two pieces: the rows two tokens back, and those one token back. -/
abbrev copies (t : Fin cfg0.N) : List (View.Piece (Elt Ideal) S2x256x2816 .f32) :=
  [⟨Rect.unit ![1, 0, 0] ![1, 256, 2816] inb_S2x256x2816_S1x256x2816_1_0_0, k0_pay5
      ((View.whole cc0_scratch0).readCov (pieces m c t)
        (Rect.unit (s := S264x2816) ![7, 0] ![256, 2816] inb_S264x2816_S256x2816_7_0).toLoadRect)⟩,
    ⟨Rect.unit ![0, 0, 0] ![1, 256, 2816] inb_S2x256x2816_S1x256x2816_0_0_0, k0_pay4
      ((View.whole cc0_scratch0).readCov (pieces m c t)
        (Rect.unit (s := S264x2816) ![6, 0] ![256, 2816] inb_S264x2816_S256x2816_6_0).toLoadRect)⟩]

/-- The three taps, as the body loads them. -/
abbrev T0 (t : Fin cfg0.N) : Vec Ideal S1x256x2816 .f32 := (View.whole cc0_scratch1).readCov (copies m c t)
  (Rect.unit (s := S2x256x2816) ![0, 0, 0] ![1, 256, 2816] inb_S2x256x2816_S1x256x2816_0_0_0).toLoadRect
abbrev T1 (t : Fin cfg0.N) : Vec Ideal S1x256x2816 .f32 := (View.whole cc0_scratch1).readCov (copies m c t)
  (Rect.unit (s := S2x256x2816) ![1, 0, 0] ![1, 256, 2816] inb_S2x256x2816_S1x256x2816_1_0_0).toLoadRect
abbrev T2 (t : Fin cfg0.N) : Vec Ideal S256x2816 .f32 :=
  (View.whole cc0_scratch0).readCov (pieces m c t) (Rect.unit (s := S264x2816) ![8, 0] ![256, 2816] inb_S264x2816_S256x2816_8_0).toLoadRect

include hU in
theorem T0_at (t : Fin cfg0.N) (r : Fin 256) (j : Fin 2816) :
    T0 m c t (ix3 0 r j) = (tap (act U (bOf (rowOf t r))) 0 (sOf (rowOf t r)) j : EReal) := by
  unfold T0
  rw [View.readCov_skip _ _ _ _ _ (by decide +kernel), View.readCov_cons_toLoadRect]
  pointwise [k0_pay4]
  exact ext_at m c U hU t 0 6 rfl _ r j

include hU in
theorem T1_at (t : Fin cfg0.N) (r : Fin 256) (j : Fin 2816) :
    T1 m c t (ix3 0 r j) = (tap (act U (bOf (rowOf t r))) 1 (sOf (rowOf t r)) j : EReal) := by
  unfold T1
  rw [View.readCov_cons_toLoadRect]
  pointwise [k0_pay5]
  exact ext_at m c U hU t 1 7 rfl _ r j

include hU in
theorem T2_at (t : Fin cfg0.N) (r : Fin 256) (j : Fin 2816) :
    T2 m c t (ix2 r j) = (tap (act U (bOf (rowOf t r))) 2 (sOf (rowOf t r)) j : EReal) :=
  ext_at m c U hU t 2 8 rfl _ r j

/-- The operands of the body's formulas at a point. -/
abbrev bB (t : Fin cfg0.N) : Vec Ideal S1x2816 .f32 := iblk m c 4 t
abbrev bW0 (t : Fin cfg0.N) : Vec Ideal S1x2816 .f32 := View.ld (iblk m c 3 t) (Rect.unit ![0, 0] ![1, 2816] inb_S8x2816_S1x2816_0_0)
abbrev bW1 (t : Fin cfg0.N) : Vec Ideal S1x2816 .f32 := View.ld (iblk m c 3 t) (Rect.unit ![1, 0] ![1, 2816] inb_S8x2816_S1x2816_1_0)
abbrev bW2 (t : Fin cfg0.N) : Vec Ideal S1x2816 .f32 := View.ld (iblk m c 3 t) (Rect.unit ![2, 0] ![1, 2816] inb_S8x2816_S1x2816_2_0)
abbrev bG (t : Fin cfg0.N) : Vec Ideal S256x2816 .f32 :=
  View.ld (iblk m c 1 t) (Rect.unit ![0, 2816] ![256, 2816] inb_S256x5632_S256x2816_0_2816)

include hU hW hB hD hY

theorem dac_at (t : Fin cfg0.N) (r : Fin 256) (j : Fin 2816) :
    k0_pay10 (k0_pay6 (bB m c t) (bW0 m c t) (T0 m c t) (bW1 m c t) (T1 m c t) (bW2 m c t) (T2 m c t))
      (k0_pay7 (iblk m c 0 t) (iblk m c 5 t))
      (k0_pay8 (bB m c t) (bW0 m c t) (T0 m c t) (bW1 m c t) (T1 m c t) (bW2 m c t) (T2 m c t)) (bG m c t) (ix2 r j)
    = DAC U W B D Y (ix2 (rowOf t r) j) :=
  pay10_at (bB m c t) (bW0 m c t) (bW1 m c t) (bW2 m c t) (T0 m c t) (T1 m c t) (T2 m c t) (bG m c t) (iblk m c 0 t) (iblk m c 5 t)
    (fun j => B (ix2 1 j)) (fun j => W (ix3 1 0 j)) (fun j => W (ix3 1 1 j)) (fun j => W (ix3 1 2 j))
    (fun r j => tap (act U (bOf (rowOf t r))) 0 (sOf (rowOf t r)) j) (fun r j => tap (act U (bOf (rowOf t r))) 1 (sOf (rowOf t r)) j)
    (fun r j => tap (act U (bOf (rowOf t r))) 2 (sOf (rowOf t r)) j) (fun r j => gate U (bOf (rowOf t r)) (sOf (rowOf t r)) j)
    (fun r e => Y (ix3 (bOf (rowOf t r)) (sOf (rowOf t r)) e)) (fun j e => D (ix3 1 j e))
    (fun j => (blk4 m c t j).trans (congrFun hB _)) (fun j => (bW_at m c 0 0 rfl t _ j).trans (congrFun hW _))
    (fun j => (bW_at m c 1 1 rfl t _ j).trans (congrFun hW _)) (fun j => (bW_at m c 2 2 rfl t _ j).trans (congrFun hW _))
    (T0_at m c U hU t) (T1_at m c U hU t) (T2_at m c U hU t) (fun r j => (blk1b m c t r j).trans (congrFun hU _))
    (fun r e => (blk0 m c t r e).trans (congrFun hY _)) (fun j e => (blk5 m c t j e).trans (congrFun hD _)) r j

theorem dgate_at (t : Fin cfg0.N) (r : Fin 256) (j : Fin 2816) :
    k0_pay9 (bB m c t) (bW0 m c t) (T0 m c t) (bW1 m c t) (T1 m c t) (bW2 m c t) (T2 m c t)
      (iblk m c 0 t) (iblk m c 5 t) (ix2 r j)
    = (dgate U W B D Y (bOf (rowOf t r)) (sOf (rowOf t r)) j : EReal) :=
  pay9_at (bB m c t) (bW0 m c t) (bW1 m c t) (bW2 m c t) (T0 m c t) (T1 m c t) (T2 m c t) (iblk m c 0 t) (iblk m c 5 t)
    (fun j => B (ix2 1 j)) (fun j => W (ix3 1 0 j)) (fun j => W (ix3 1 1 j)) (fun j => W (ix3 1 2 j))
    (fun r j => tap (act U (bOf (rowOf t r))) 0 (sOf (rowOf t r)) j) (fun r j => tap (act U (bOf (rowOf t r))) 1 (sOf (rowOf t r)) j)
    (fun r j => tap (act U (bOf (rowOf t r))) 2 (sOf (rowOf t r)) j)
    (fun r e => Y (ix3 (bOf (rowOf t r)) (sOf (rowOf t r)) e)) (fun j e => D (ix3 1 j e))
    (fun j => (blk4 m c t j).trans (congrFun hB _)) (fun j => (bW_at m c 0 0 rfl t _ j).trans (congrFun hW _))
    (fun j => (bW_at m c 1 1 rfl t _ j).trans (congrFun hW _)) (fun j => (bW_at m c 2 2 rfl t _ j).trans (congrFun hW _))
    (T0_at m c U hU t) (T1_at m c U hU t) (T2_at m c U hU t)
    (fun r e => (blk0 m c t r e).trans (congrFun hY _)) (fun j e => (blk5 m c t j e).trans (congrFun hD _)) r j

theorem sm_at (t : Fin cfg0.N) (q : Fin 8) (j : Fin 2816) :
    k0_pay11 (k0_pay6 (bB m c t) (bW0 m c t) (T0 m c t) (bW1 m c t) (T1 m c t) (bW2 m c t) (T2 m c t))
      (k0_pay7 (iblk m c 0 t) (iblk m c 5 t))
      (k0_pay8 (bB m c t) (bW0 m c t) (T0 m c t) (bW1 m c t) (T1 m c t) (bW2 m c t) (T2 m c t)) (bG m c t)
      (T0 m c t) (T1 m c t) (T2 m c t) (ix2 q j)
    = ((∑ r, dSm U W B D Y (bOf (rowOf t r)) (sOf (rowOf t r)) j q : ℝ) : EReal) :=
  pay11_at (bB m c t) (bW0 m c t) (bW1 m c t) (bW2 m c t) (T0 m c t) (T1 m c t) (T2 m c t) (bG m c t) (iblk m c 0 t) (iblk m c 5 t)
    (fun j => B (ix2 1 j)) (fun j => W (ix3 1 0 j)) (fun j => W (ix3 1 1 j)) (fun j => W (ix3 1 2 j))
    (fun r j => tap (act U (bOf (rowOf t r))) 0 (sOf (rowOf t r)) j) (fun r j => tap (act U (bOf (rowOf t r))) 1 (sOf (rowOf t r)) j)
    (fun r j => tap (act U (bOf (rowOf t r))) 2 (sOf (rowOf t r)) j) (fun r j => gate U (bOf (rowOf t r)) (sOf (rowOf t r)) j)
    (fun r e => Y (ix3 (bOf (rowOf t r)) (sOf (rowOf t r)) e)) (fun j e => D (ix3 1 j e))
    (fun j => (blk4 m c t j).trans (congrFun hB _)) (fun j => (bW_at m c 0 0 rfl t _ j).trans (congrFun hW _))
    (fun j => (bW_at m c 1 1 rfl t _ j).trans (congrFun hW _)) (fun j => (bW_at m c 2 2 rfl t _ j).trans (congrFun hW _))
    (T0_at m c U hU t) (T1_at m c U hU t) (T2_at m c U hU t) (fun r j => (blk1b m c t r j).trans (congrFun hU _))
    (fun r e => (blk0 m c t r e).trans (congrFun hY _)) (fun j e => (blk5 m c t j e).trans (congrFun hD _)) j q

theorem final6 : (dats m 0 c).arrAt 6 (cfgs 0).N = DAC U W B D Y := by
  refine (dats m 0 c).arrAt_eq_of_covers 6 _ (by decide +kernel) fun t _ z => ?_
  have ht := lt16 t
  blk_simp
  rw [after0_6]
  by_cases h0 : t.val % 16 = 0
  · rw [outsAt0_A m c t h0 (by omega)]; frame_out
    idx_vars z
    refine (dac_at m c U W B D Y hU hW hB hD hY t _ _).trans (congrArg _ ?_)
    blk_ext [idx t, rowOf]
  · rw [outsAt0_B m c t h0 (by omega)]; frame_out
    idx_vars z
    refine (dac_at m c U W B D Y hU hW hB hD hY t _ _).trans (congrArg _ ?_)
    blk_ext [idx t, rowOf]

/-- The gate's half of the second result. -/
theorem final7 (i : S4096x5632.Idx) (h : 2816 ≤ (i 1).val) : (dats m 0 c).arrAt 7 (cfgs 0).N i = DGH U W B D Y i := by
  refine ((dats m 0 c).arrAt_apply_of_coversWhere 7
    (DGH U W B D Y) (P := fun i => 2816 ≤ (i 1).val) (fun β => 1 ≤ β 1) (by decide +kernel) (fun t _ z => ?_)
    (fun i => by blk_simp [Pipeline.Window.cell_apply]; omega) _).trans ?_
  · have ht := lt16 t
    blk_simp
    rw [after0_7]
    by_cases h0 : t.val % 16 = 0
    · rw [outsAt0_A m c t h0 (by omega)]; frame_out
      idx_vars z
      refine (dgate_at m c U W B D Y hU hW hB hD hY t _ _).trans ((DGH_at U W B D Y _ _).symm.trans (congrArg _ ?_))
      blk_ext [idx t, rowOf]
    · rw [outsAt0_B m c t h0 (by omega)]; frame_out
      idx_vars z
      refine (dgate_at m c U W B D Y hU hW hB hD hY t _ _).trans ((DGH_at U W B D Y _ _).symm.trans (congrArg _ ?_))
      blk_ext [idx t, rowOf]
  · exact if_pos h

theorem final8 : (dats m 0 c).arrAt 8 (cfgs 0).N = SM U W B D Y := by
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => (0 : EReal))
    (fun t j => ((∑ r, dSm U W B D Y (bOf (rowOf t r)) (sOf (rowOf t r)) (j 1) (j 0) : ℝ) : EReal))
    (fun t h j => ?_) (fun t h j => ?_) (le_of_eq N_0) t0_15 rfl j]
  · rw [zero_add]
    exact sum_rows (fun a : Fin 4096 => dSm U W B D Y (bOf a) (sOf a) (j 1) (j 0))
  · rw [outsAt0_A m c t h (by have := lt16 t; omega)]; frame_out
    idx_vars j
    exact (sm_at m c U W B D Y hU hW hB hD hY t _ _).trans (zero_add _).symm
  · rw [outsAt0_B m c t h (by omega)]; frame_out
    idx_vars j
    exact (pay1_at _ _ _ _).trans (congrArg (fun a : EReal => _ + a) (sm_at m c U W B D Y hU hW hB hD hY t _ _))

end Final

end Cert.DownIdeal.Elt

end
-- ==== Proof.DownRef.lean ====
/- The reference of the second feed-forward block's backward call, read at an element over real arguments. -/
module

public import proofs.«01_k».proof.Proof.Conv
public import proofs.«01_k».proof.Proof.Gen.DownRefIdeal.Read

@[expose] public section

set_option maxRecDepth 16384

noncomputable section

namespace Cert.DownRefIdeal.Elt

open Cert.DownRefIdeal Cert.DownRefIdeal.Read Cert.Reals Idealize.ShloMosaic

variable (U : S2x2048x5632.Idx → ℝ) (W : S2x3x2816.Idx → ℝ) (B : S2x2816.Idx → ℝ) (D : S2x2816x1024.Idx → ℝ)
variable (Y : S2x2048x1024.Idx → ℝ)
variable (b : Fin 2) (s : Fin 2048) (j : Fin 2816)

theorem v8_at : val_main_v8 (F := Ideal) (up U) (ix3 b s j) = (tap (act U b) 0 s j : EReal) := by
  pointwise [val_main_v8, val_main_v7, val_main_v6, val_main_v0, val_main_cst]
  by_cases h : s.val < 2
  · rw [dif_pos h]; exact congrArg Real.toEReal (tap_zero _ _ _ _ (show s.val + 0 < 2 from h)).symm
  · rw [dif_neg h]
    exact congrArg Real.toEReal (tap_eq (act U b) 0 s j ⟨s.val - 2, by omega⟩ (show s.val - 2 + 2 = s.val + 0 by omega)).symm

theorem v14_at : val_main_v14 (F := Ideal) (up U) (ix3 b s j) = (tap (act U b) 1 s j : EReal) := by
  pointwise [val_main_v14, val_main_v7, val_main_v6, val_main_v0, val_main_cst]
  by_cases h : 1 + s.val < 2
  · rw [dif_pos h]; exact congrArg Real.toEReal (tap_zero _ _ _ _ (show s.val + 1 < 2 by omega)).symm
  · rw [dif_neg h]
    exact congrArg Real.toEReal (tap_eq (act U b) 1 s j ⟨1 + s.val - 2, by omega⟩ (show 1 + s.val - 2 + 2 = s.val + 1 by omega)).symm

theorem v21_at : val_main_v21 (F := Ideal) (up U) (ix3 b s j) = (tap (act U b) 2 s j : EReal) := by
  pointwise [val_main_v21, val_main_v7, val_main_v6, val_main_v0, val_main_cst]
  exact congrArg Real.toEReal (tap_eq (act U b) 2 s j s rfl).symm

theorem v30_at : val_main_v30 (F := Ideal) (up U) (up W) (up B) (ix3 b s j) = (ac U W B b s j : EReal) := by
  pointwise [val_main_v30, val_main_v29, val_main_v28, val_main_v27, val_main_v26, val_main_v25, val_main_v24, val_main_v23,
    val_main_v22, val_main_v20, val_main_v19, val_main_v18, val_main_v17, val_main_v16, val_main_v15, val_main_v13, val_main_v12,
    val_main_v11, val_main_v10, val_main_v9, val_main_v5, val_main_v4, val_main_v3, val_main_v2, v8_at, v14_at, v21_at]
  simp only [up, ← EReal.coe_mul, ← EReal.coe_add]
  refine congrArg _ ?_
  unfold ac acv; ring

theorem v31_2_at : val_main_v31_2 (F := Ideal) (up U) (up W) (up B) (ix3 b s j) = (sgm (ac U W B b s j) : EReal) := by
  pointwise [val_main_v31_2, val_main_call0_v4, val_main_call0_v3, val_main_call0_v2, val_main_call0_v1, val_main_call0_v0,
    val_main_call0_cst, val_main_call0_cst_0, v30_at]
  exact sgm_of_div _

theorem v31_1_at : val_main_v31_1 (F := Ideal) (up U) (up W) (up B) (ix3 b s j)
    = ((sgm (ac U W B b s j) * (1 - sgm (ac U W B b s j)) : ℝ) : EReal) := by
  pointwise [val_main_v31_1, val_main_call0_v7, val_main_call0_v6, val_main_call0_cst_1, v31_2_at]
  rw [← EReal.coe_one, ← EReal.coe_sub, ← EReal.coe_mul]

theorem v36_at : val_main_v36 (F := Ideal) (up D) (up Y) (ix3 b s j) = (dg D Y b s j : EReal) := by
  pointwise [val_main_v36, val_main_v34, val_main_v33]
  simp only [up, ← EReal.coe_mul, coe_sum]; rfl

theorem v37_at : val_main_v37 (F := Ideal) (up U) (up W) (up B) (up D) (up Y) (ix3 b s j)
    = (dgate U W B D Y b s j : EReal) := by
  pointwise [val_main_v37, val_main_v31_0, v30_at, v31_2_at, v36_at]
  simp only [← EReal.coe_mul]
  refine congrArg _ ?_
  unfold dgate dgt; ring

theorem v39_at : val_main_v39 (F := Ideal) (up U) (up W) (up B) (up D) (up Y) (ix3 b s j)
    = (dac U W B D Y b s j : EReal) := by
  pointwise [val_main_v39, val_main_call1_v2, val_main_call1_v1, val_main_call1_v0, val_main_v38, val_main_v1, v30_at, v31_2_at,
    v31_1_at, v36_at]
  simp only [up, ← EReal.coe_mul, ← EReal.coe_add]
  exact congrArg _ (dsilu_eq _ _)

/-! ## The three results -/

theorem v67_at (r : Fin 4096) : val_main_v67 (F := Ideal) (up U) (up W) (up B) (up D) (up Y) (ix2 r j)
    = (dac U W B D Y (bOf r) (sOf r) j : EReal) := by
  pointwise [val_main_v67, v39_at]
  rfl

theorem v66_at (r : Fin 4096) : val_main_v66 (F := Ideal) (up U) (up W) (up B) (up D) (up Y) (ix2 r ⟨2816 + j.val, by omega⟩)
    = (dgate U W B D Y (bOf r) (sOf r) j : EReal) := by
  pointwise [val_main_v66, val_main_v65, val_main_v64, v37_at]
  rfl

theorem v42_at : val_main_v42 (F := Ideal) (up U) (up W) (up B) (up D) (up Y) (ix1 j)
    = ((∑ b, ∑ s, dac U W B D Y b s j : ℝ) : EReal) := by
  pointwise [val_main_v42, val_main_v41, val_main_v40, val_main_cst_0, val_main_cst_1, hostReduceAdd_r3_a01, v39_at]
  simp only [coe_sum, Fin.sum_univ_one]

theorem v46_at : val_main_v46 (F := Ideal) (up U) (up W) (up B) (up D) (up Y) (ix1 j)
    = ((∑ b, ∑ s, tap (act U b) 2 s j * dac U W B D Y b s j : ℝ) : EReal) := by
  pointwise [val_main_v46, val_main_v45, val_main_v44, val_main_v43, val_main_cst_2, val_main_cst_3, hostReduceAdd_r3_a01, v39_at,
    v21_at]
  simp only [← EReal.coe_mul, coe_sum, Fin.sum_univ_one]

theorem v52_at : val_main_v52 (F := Ideal) (up U) (up W) (up B) (up D) (up Y) (ix1 j)
    = ((∑ b, ∑ s, tap (act U b) 1 s j * dac U W B D Y b s j : ℝ) : EReal) := by
  pointwise [val_main_v52, val_main_v51, val_main_v50, val_main_v49, val_main_cst_5, val_main_cst_6, hostReduceAdd_r3_a01, v39_at,
    v14_at]
  simp only [← EReal.coe_mul, coe_sum, Fin.sum_univ_one]

theorem v59_at : val_main_v59 (F := Ideal) (up U) (up W) (up B) (up D) (up Y) (ix1 j)
    = ((∑ b, ∑ s, tap (act U b) 0 s j * dac U W B D Y b s j : ℝ) : EReal) := by
  pointwise [val_main_v59, val_main_v58, val_main_v57, val_main_v56, val_main_cst_8, val_main_cst_9, hostReduceAdd_r3_a01, v39_at,
    v8_at]
  simp only [← EReal.coe_mul, coe_sum, Fin.sum_univ_one]

theorem v62_at (q : Fin 3) : val_main_v62 (F := Ideal) (up U) (up W) (up B) (up D) (up Y) (ix2 q j)
    = ((∑ b, ∑ s, tap (act U b) q s j * dac U W B D Y b s j : ℝ) : EReal) := by
  rcases (by omega : q = 0 ∨ q = 1 ∨ q = 2) with rfl | rfl | rfl <;>
  pointwise [val_main_v62, val_main_v61, val_main_v60, val_main_v55, val_main_v54, val_main_v53, val_main_v48, val_main_v47,
    val_main_cst_4, val_main_cst_7, val_main_cst_10, v46_at, v52_at, v59_at] <;>
  simp [-Fin.sum_univ_two]

theorem v70_at (q : Fin 8) : val_main_v70 (F := Ideal) (up U) (up W) (up B) (up D) (up Y) (ix2 q j)
    = ((∑ b, ∑ s, dSm U W B D Y b s j q : ℝ) : EReal) := by
  fin_vals q with hq <;>
  pointwise [val_main_v70, val_main_v69, val_main_v68, val_main_cst_12, v42_at, v62_at] <;>
  simp [dSm, wSm, hq, Fin.ext_iff, -Fin.sum_univ_two]

end Cert.DownRefIdeal.Elt

end
-- ==== Proof.DownPair.lean ====
module

public import proofs.«01_k».proof.Defs
public import Idealize.ShloMosaic.Lib.Claim
public import proofs.«01_k».proof.Proof.Down
public import proofs.«01_k».proof.Proof.DownRef
public import proofs.«01_k».proof.Proof.Gen.Pre_down_finite
public import proofs.«01_k».proof.Proof.Gen.On_down_written
@[expose] public section

set_option maxRecDepth 16384

noncomputable section

/-! # The gated convolution's gradient: the kernel's three results are the reference's, where they are written -/

namespace Cert.DownPair

open Idealize.ShloMosaic Idealize.ShloMosaic.StableHlo Idealize.SL.Sem Cert.Reals

section Results
variable (U : DownIdeal.S2x2048x5632.Idx → ℝ) (W : DownIdeal.S2x3x2816.Idx → ℝ) (B : DownIdeal.S2x2816.Idx → ℝ)
variable (D : DownIdeal.S2x2816x1024.Idx → ℝ) (Y : DownIdeal.S2x2048x1024.Idx → ℝ)

theorem first : DownRefIdeal.Read.val_main_v67 (F := Ideal) (up U) (up W) (up B) (up D) (up Y)
    = DownIdeal.Elt.DAC U W B D Y := by
  funext i
  idx_vars i
  exact DownRefIdeal.Elt.v67_at U W B D Y _ _

theorem second (i : DownIdeal.S4096x5632.Idx) (h : 2816 ≤ (i 1).val) :
    DownRefIdeal.Read.val_main_v66 (F := Ideal) (up U) (up W) (up B) (up D) (up Y) i = DownIdeal.Elt.DGH U W B D Y i := by
  idx_vars i
  have h' : 2816 ≤ i1.val := h
  have hlt := i1.isLt
  have e : i1 = ⟨2816 + (⟨i1.val - 2816, by omega⟩ : Fin 2816).val, by show 2816 + (i1.val - 2816) < 5632; omega⟩ :=
    Fin.ext (Nat.add_sub_cancel' h').symm
  rw [e]
  exact (DownRefIdeal.Elt.v66_at U W B D Y _ _).trans (DownIdeal.Elt.DGH_at U W B D Y _ _).symm

theorem third : DownRefIdeal.Read.val_main_v70 (F := Ideal) (up U) (up W) (up B) (up D) (up Y)
    = DownIdeal.Elt.SM U W B D Y := by
  funext i
  idx_vars i
  exact (DownRefIdeal.Elt.v70_at U W B D Y _ _).trans (congrArg _ (sum_bs fun b s => dSm U W B D Y b s _ _).symm)

/-- The mask of the second result is one only at columns of its right half. -/
theorem right_half (u : FVec Ideal DownIdeal.S2x2048x5632 .f32) (w : FVec Ideal DownIdeal.S2x3x2816 .f32)
    (b : FVec Ideal DownIdeal.S2x2816 .f32) (d : FVec Ideal DownIdeal.S2x2816x1024 .f32)
    (y : FVec Ideal DownIdeal.S2x2048x1024 .f32) (i : DownIdeal.S4096x5632.Idx)
    (h : (On_down_written.fn u w b d y).2.1 i = 1#1) : 2816 ≤ (i 1).val := by
  idx_vars i
  have e : (On_down_written.fn u w b d y).2.1 (ix2 i0 i1) = IntOp.cmpi .sge (BitVec.ofNat 32 i1.val) (BitVec.ofNat 32 2816) := by
    pointwise [On_down_written.fn]
  rw [e, WordCmp.cmpi_sge_ofNat (by omega) (by omega)] at h
  by_contra hn
  have hn' : ¬ 2816 ≤ i1.val := hn
  simp [hn'] at h

end Results

theorem frame_ref : quiescent_DownRefIdeal := fun m g _ =>
  θ_run_mono (DownRefIdeal.Value.run m g) fun r h =>
    ⟨fun c => (h c).2.2.2, sem_eq_zero_of_no_sems (by decide) r.2⟩

theorem algebraic : algebraic_DownIdeal_DownRefIdeal_on_down_written_pre_down_finite := by
  intro m g m' g' hpre hagree
  refine ⟨fun c => (DownIdeal.Gen.dats m 0 c).arrAt 6 DownIdeal.cfg0.N,
    fun c => (DownIdeal.Gen.dats m 0 c).arrAt 7 DownIdeal.cfg0.N,
    fun c => (DownIdeal.Gen.dats m 0 c).arrAt 8 DownIdeal.cfg0.N, ?_, ?_⟩
  · exact θ_run_mono (DownIdeal.Value.run_blocks m g) fun r h c =>
      ⟨fun i _ => congrFun (h c).1 i, fun i _ => congrFun (h c).2.1 i, fun i _ => congrFun (h c).2.2.1 i, (h c).2.2.2⟩
  · refine θ_run_mono (DownRefIdeal.Value.run m' g') fun r h c => ⟨fun i _ => (congrFun (h c).1 i).trans ?_,
      fun i hi => (congrFun (h c).2.1 i).trans ?_, fun i _ => (congrFun (h c).2.2.1 i).trans ?_, (h c).2.2.2⟩
    all_goals
      obtain ⟨h0, h1, h2, h3, h4⟩ := hpre c
      obtain ⟨a0, a1, a2, a3, a4⟩ := hagree c
      have e0 := eq_up_of_abs_lt _ _ h0
      have e1 := eq_up_of_abs_lt _ _ h1
      have e2 := eq_up_of_abs_lt _ _ h2
      have e3 := eq_up_of_abs_lt _ _ h3
      have e4 := eq_up_of_abs_lt _ _ h4
    · refine congrFun (((DownRefIdeal.Read.val_main_v67_eq m' c).trans ?_).trans
        (DownIdeal.Elt.final6 m c _ _ _ _ _ e0 e1 e2 e3 e4).symm) i
      rw [← first, ← e0, ← e1, ← e2, ← e3, ← e4, ← a0, ← a1, ← a2, ← a3, ← a4]
    · have hq := right_half _ _ _ _ _ i hi
      refine (congrFun ((DownRefIdeal.Read.val_main_v66_eq m' c).trans ?_) i).trans
        ((second _ _ _ _ _ i hq).trans (DownIdeal.Elt.final7 m c _ _ _ _ _ e0 e1 e2 e3 e4 i hq).symm)
      rw [← e0, ← e1, ← e2, ← e3, ← e4, ← a0, ← a1, ← a2, ← a3, ← a4]
    · refine congrFun (((DownRefIdeal.Read.val_main_v70_eq m' c).trans ?_).trans
        (DownIdeal.Elt.final8 m c _ _ _ _ _ e0 e1 e2 e3 e4).symm) i
      rw [← third, ← e0, ← e1, ← e2, ← e3, ← e4, ← a0, ← a1, ← a2, ← a3, ← a4]

end Cert.DownPair

end
-- ==== Proof.Rms.lean ====
/- The root-mean-square norm of a row of 1024 numbers and its gradient, over the reals. -/
module

public import proofs.«01_k».proof.Proof.Sums

@[expose] public section

set_option maxRecDepth 16384

noncomputable section

namespace Cert.Reals

open Idealize.ShloMosaic

/-- The norm's epsilon: the number its word denotes. -/
def rmsEps : ℝ := 8796093 / 2 ^ 43
theorem wRms : Ideal.ofBits .f32 0x358637BD#32 = (rmsEps : EReal) := by
  simp [Ideal.ofBits, Ideal.ieee, rmsEps, -EReal.coe_mul]; norm_num

theorem rmsEps_pos : 0 < rmsEps := by norm_num [rmsEps]

/-- The row's mean square plus epsilon, the reciprocal of its root, the normalised row. -/
def rmsV (v : Fin 1024 → ℝ) : ℝ := mean (fun d => v d * v d) + rmsEps
def rmsR (v : Fin 1024 → ℝ) : ℝ := (Real.sqrt (rmsV v))⁻¹
def rmsH (v : Fin 1024 → ℝ) (d : Fin 1024) : ℝ := v d * rmsR v

theorem rmsV_pos (v : Fin 1024 → ℝ) : 0 < rmsV v := add_pos_of_nonneg_of_pos (mean_sq_nonneg _) rmsEps_pos

/-- The cotangent of the row, from the cotangent `y` of the normalised row. -/
def rmsD (v y : Fin 1024 → ℝ) (d : Fin 1024) : ℝ := rmsR v * (y d - rmsH v d * mean (fun k => y k * rmsH v k))

/-- The gradient by the product rule: through the row, and through its root mean square. -/
theorem rmsBwd (v y : Fin 1024 → ℝ) (d : Fin 1024) :
    y d * rmsR v + 2 * (v d * ((∑ k, v k * y k) * (-(1 / 2) * (rmsR v / rmsV v)) / 1024)) = rmsD v y d := by
  have hh : mean (fun k => y k * rmsH v k) = (∑ k, v k * y k) * rmsR v / 1024 := by
    unfold mean; rw [Finset.sum_mul]; exact congrArg (· / 1024) (Finset.sum_congr rfl fun k _ => by unfold rmsH; ring)
  have hr : rmsR v * rmsR v = (rmsV v)⁻¹ := inv_sqrt_sq _ (rmsV_pos v)
  rw [rmsD, hh, rmsH, div_eq_mul_inv (rmsR v), ← hr]; ring

end Cert.Reals

end
-- ==== Proof.Back.lean ====
/- The second feed-forward block's gradient from its convolution down to its input, over the reals. -/
module

public import proofs.«01_k».proof.Proof.Conv
public import proofs.«01_k».proof.Proof.Rms

@[expose] public section

set_option maxRecDepth 16384

noncomputable section

namespace Cert.Reals

open Idealize.ShloMosaic

variable {n : ℕ}

/-- The token `o` places ahead, zero behind the sequence's end. -/
def ahead (A : Fin 2048 → Fin n → ℝ) (o : ℕ) (s : Fin 2048) (j : Fin n) : ℝ := if h : s.val + o < 2048 then A ⟨s.val + o, h⟩ j else 0

theorem ahead_eq (A : Fin 2048 → Fin n → ℝ) (o : ℕ) (s : Fin 2048) (j : Fin n) (z : Fin 2048) (h : z.val = s.val + o) :
    ahead A o s j = A z j := by
  rw [ahead, dif_pos (by omega)]; exact congrArg (fun z => A z j) (Fin.ext h.symm)

theorem ahead_none (A : Fin 2048 → Fin n → ℝ) (o : ℕ) (s : Fin 2048) (j : Fin n) (h : 2048 ≤ s.val + o) : ahead A o s j = 0 := by
  rw [ahead, dif_neg (by omega)]

/-- A sum over 5632 columns, in four parts. -/
theorem sum_four (f : Fin 5632 → ℝ) : ∑ k, f k = ∑ q : Fin 4, ∑ i : Fin 1408, f ⟨q.val * 1408 + i.val, by omega⟩ :=
  (Fin.sum_mul_add_congr (f := f) (F := fun (q : Fin 4) (i : Fin 1408) => f ⟨q.val * 1408 + i.val, by omega⟩) fun q i hl => rfl).symm

section Block
variable (X : (⟨3, ![2, 2048, 1024]⟩ : Shape).Idx → ℝ) (G : (⟨2, ![2, 1024]⟩ : Shape).Idx → ℝ)
variable (P : (⟨3, ![2, 1024, 5632]⟩ : Shape).Idx → ℝ) (W : (⟨3, ![2, 3, 2816]⟩ : Shape).Idx → ℝ)
variable (A E : (⟨3, ![2, 2048, 2816]⟩ : Shape).Idx → ℝ) (Z : (⟨3, ![2, 2048, 1024]⟩ : Shape).Idx → ℝ)
variable (b : Fin 2) (s : Fin 2048)

/-- The convolution's cotangent `A`, sequence by sequence, and the row the norm reads. -/
def conv (b : Fin 2) (s : Fin 2048) (j : Fin 2816) : ℝ := A (ix3 b s j)
def xrow (d : Fin 1024) : ℝ := X (ix3 b s d)

/-- The cotangent of the convolution's input. -/
def dact (j : Fin 2816) : ℝ :=
  W (ix3 1 2 j) * conv A b s j + W (ix3 1 0 j) * ahead (conv A b) 2 s j + W (ix3 1 1 j) * ahead (conv A b) 1 s j

/-- The cotangent of the up projection's output: the convolution's half and the gate's half. -/
def dup (f : Fin 5632) : ℝ := if h : f.val < 2816 then dact W A b s ⟨f.val, h⟩ else E (ix3 b s ⟨f.val - 2816, by omega⟩)

/-- The cotangent of the norm's output, of the norm's scaled row, of the block's input, and a token's part of the scale's. -/
def dhU (d : Fin 1024) : ℝ := ∑ f : Fin 5632, dup W A E b s f * P (ix3 1 d f)
def dyU (d : Fin 1024) : ℝ := dhU P W A E b s d * G (ix2 1 d)
def dxU (d : Fin 1024) : ℝ := Z (ix3 b s d) + rmsD (xrow X b s) (dyU G P W A E b s) d
def dgU (d : Fin 1024) : ℝ := dhU P W A E b s d * rmsH (xrow X b s) d

end Block

end Cert.Reals

end
-- ==== Proof.UpBody.lean ====
/- The backward call behind the second feed-forward block's convolution: the body's values and the blocks it reads. -/
module

public import proofs.«01_k».proof.Proof.Back
public import proofs.«01_k».proof.Proof.Rows
public import Idealize.ShloMosaic.Lib.Pipeline.ReadBack
public import proofs.«01_k».proof.Proof.Gen.UpIdeal.Value

@[expose] public section

set_option maxRecDepth 16384
set_option maxHeartbeats 1000000

noncomputable section

namespace Cert.UpIdeal.Elt

open Cert.UpIdeal Cert.UpIdeal.Gen Cert.Reals Idealize.ShloMosaic Idealize.ShloMosaic.TcCoe Idealize.SL.Sem
open Idealize.ShloMosaic.Pipeline (Dat)

/-! ## The body's values at an element, over blocks of reals -/

section Conv
variable (W2 W0 W1 : Vec Ideal S1x2816 .f32) (T0 T1 T2 : Vec Ideal S256x2816 .f32)
variable (w0 w1 w2 : Fin 2816 → ℝ) (t0 t1 t2 : Fin 256 → Fin 2816 → ℝ)
variable (hW0 : ∀ j, W0 (ix2 0 j) = (w0 j : EReal)) (hW1 : ∀ j, W1 (ix2 0 j) = (w1 j : EReal))
variable (hW2 : ∀ j, W2 (ix2 0 j) = (w2 j : EReal))
variable (hT0 : ∀ r j, T0 (ix2 r j) = (t0 r j : EReal)) (hT1 : ∀ r j, T1 (ix2 r j) = (t1 r j : EReal))
variable (hT2 : ∀ r j, T2 (ix2 r j) = (t2 r j : EReal)) (r : Fin 256) (j : Fin 2816)
include hW0 hW1 hW2 hT0 hT1 hT2

theorem pay6_at : k0_pay6 (k0_pay4 W2 T0) T2 (k0_pay5 W0) W1 T1 (ix2 r j)
    = ((w2 j * t0 r j + w0 j * t2 r j + w1 j * t1 r j : ℝ) : EReal) := by
  pointwise [k0_pay6, k0_pay5, k0_pay4, hW0, hW1, hW2, hT0, hT1, hT2]
  simp only [← EReal.coe_mul, ← EReal.coe_add]

end Conv

section Norm
variable (C0 C1 C2 C3 : Vec Ideal S256x1408 .bf16) (P0 P1 P2 P3 : Vec Ideal S1x1024x1408 .bf16)
variable (X Z : Vec Ideal S256x1024 .f32) (G : Vec Ideal S1x1024 .f32)
variable (u : Fin 4 → Fin 256 → Fin 1408 → ℝ) (p : Fin 4 → Fin 1024 → Fin 1408 → ℝ)
variable (x z : Fin 256 → Fin 1024 → ℝ) (g : Fin 1024 → ℝ)

/-- The cotangent of the norm's output in a block: the products of the four column chunks. -/
def bDh (r : Fin 256) (d : Fin 1024) : ℝ := ∑ q : Fin 4, ∑ k, u q r k * p q d k

variable (hC0 : ∀ r k, C0 (ix2 r k) = (u 0 r k : EReal)) (hC1 : ∀ r k, C1 (ix2 r k) = (u 1 r k : EReal))
variable (hC2 : ∀ r k, C2 (ix2 r k) = (u 2 r k : EReal)) (hC3 : ∀ r k, C3 (ix2 r k) = (u 3 r k : EReal))
variable (hP0 : ∀ d k, P0 (ix3 0 d k) = (p 0 d k : EReal)) (hP1 : ∀ d k, P1 (ix3 0 d k) = (p 1 d k : EReal))
variable (hP2 : ∀ d k, P2 (ix3 0 d k) = (p 2 d k : EReal)) (hP3 : ∀ d k, P3 (ix3 0 d k) = (p 3 d k : EReal))
variable (hX : ∀ r d, X (ix2 r d) = (x r d : EReal)) (hZ : ∀ r d, Z (ix2 r d) = (z r d : EReal))
variable (hG : ∀ d, G (ix2 0 d) = (g d : EReal)) (r : Fin 256) (d : Fin 1024)

section
include hX

theorem pay11_at : k0_pay11 X (ix2 r 0) = (rmsR (x r) : EReal) := by
  pointwise [k0_pay11, k0_pay10, hX]
  simp only [← EReal.coe_mul, coe_sum, w1024, wRms, div_coe_coe, ne_eq, OfNat.ofNat_ne_zero, not_false_eq_true, ← EReal.coe_add]
  exact rsqrt_coe_pos _ (rmsV_pos _)

theorem pay12_at : k0_pay12 X (ix2 r d) = (rmsH (x r) d : EReal) := by
  pointwise [k0_pay12, k0_pay10, hX, pay11_at X x hX]
  rw [← EReal.coe_mul]; rfl

end

include hC0 hC1 hC2 hC3 hP0 hP1 hP2 hP3

theorem pay9_at : k0_pay9 (k0_pay7 C0 P0 C1 P1 C2 P2) (k0_pay8 C3) P3 (ix2 r d) = (bDh u p r d : EReal) := by
  pointwise [k0_pay9, k0_pay8, k0_pay7, hC0, hC1, hC2, hC3, hP0, hP1, hP2, hP3]
  simp only [← EReal.coe_mul, coe_sum, ← EReal.coe_add]
  rw [bDh, Fin.sum_univ_four]

include hX

theorem pay13_at : k0_pay13 (k0_pay7 C0 P0 C1 P1 C2 P2) (k0_pay8 C3) P3 X (ix2 0 d)
    = ((∑ r, bDh u p r d * rmsH (x r) d : ℝ) : EReal) := by
  pointwise [k0_pay13, pay9_at C0 C1 C2 C3 P0 P1 P2 P3 u p hC0 hC1 hC2 hC3 hP0 hP1 hP2 hP3, pay12_at X x hX]
  simp only [← EReal.coe_mul, coe_sum]

include hZ hG

theorem pay14_at : k0_pay14 (k0_pay7 C0 P0 C1 P1 C2 P2) (k0_pay8 C3) P3 X G Z (ix2 r d)
    = ((z r d + rmsD (x r) (fun k => bDh u p r k * g k) d : ℝ) : EReal) := by
  pointwise [k0_pay14, pay9_at C0 C1 C2 C3 P0 P1 P2 P3 u p hC0 hC1 hC2 hC3 hP0 hP1 hP2 hP3, pay12_at X x hX, pay11_at X x hX, hZ, hG]
  simp only [← EReal.coe_mul, coe_sum, w1024, div_coe_coe, ne_eq, OfNat.ofNat_ne_zero, not_false_eq_true, ← EReal.coe_sub,
    ← EReal.coe_add]
  rfl

theorem pay15_at : k0_pay15 (k0_pay7 C0 P0 C1 P1 C2 P2) (k0_pay8 C3) P3 X G Z (ix2 r d)
    = ((z r d + rmsD (x r) (fun k => bDh u p r k * g k) d : ℝ) : EReal) := by
  pointwise [k0_pay15, pay14_at C0 C1 C2 C3 P0 P1 P2 P3 X Z G u p x z g hC0 hC1 hC2 hC3 hP0 hP1 hP2 hP3 hX hZ hG]

end Norm

/-! ## The blocks of the grid's points -/

variable (m : (ℓ : Loc nD τ sig) → Buf (Elt Ideal) ℓ) (c : Dev nD)

theorem idx : ∀ t : Fin cfg0.N, win0_0.index t = ![t.val, 0] ∧ win0_1.index t = ![min (32 * (t.val + 1)) 511, 0]
    ∧ win0_2.index t = ![t.val, 1] ∧ win0_3.index t = ![0, 0, 0] ∧ win0_4.index t = ![0, 0] ∧ win0_5.index t = ![t.val, 0]
    ∧ win0_6.index t = ![0, 0] ∧ win0_7.index t = ![t.val, 0] ∧ win0_8.index t = ![t.val, 0] ∧ win0_9.index t = ![t.val, 0]
    ∧ win0_10.index t = ![t.val, 0] ∧ win0_11.index t = ![0, 0] ∧ t.val < 16 :=
  (by decide +kernel : ∀ t : Fin grid0.N, _)

theorem lt16 (t : Fin cfg0.N) : t.val < 16 := (idx t).2.2.2.2.2.2.2.2.2.2.2.2

theorem coord : ∀ t : Fin cfg0.N, ((grid0.coords t) 0).val = t.val := (by decide +kernel : ∀ t : Fin grid0.N, _)

/-- Row `r` of the block of point `t`, among all rows. -/
def rowOf (t : Fin cfg0.N) (r : Fin 256) : Fin 4096 := ⟨t.val * 256 + r.val, by have := lt16 t; omega⟩

theorem blk0 (t : Fin cfg0.N) (r : Fin 256) (j : Fin 2816) : iblk m c 0 t (ix2 r j)
    = m ((c : Thread nD τ).loc main_arg4) (ix3 (bOf (rowOf t r)) (sOf (rowOf t r)) j) := by
  blk_simp [iblk]
  simp only [V, List.flatten_cons, List.flatten_nil, List.append_nil, hostOps0, hostOps0_1, hostOps0_2, List.cons_append,
    List.nil_append]
  entry_read
  pointwise
  blk_ext [idx t, bOf, sOf, rowOf]

theorem blk1 (t : Fin cfg0.N) (h : ¬t.val % 8 = 7) (q : Fin 8) (j : Fin 2816) : iblk m c 1 t (ix2 q j)
    = m ((c : Thread nD τ).loc main_arg4) (ix3 ⟨t.val / 8, by have := lt16 t; omega⟩ ⟨t.val % 8 * 256 + 256 + q.val, by omega⟩ j) := by
  have := lt16 t
  blk_simp [iblk]
  simp only [V, List.flatten_cons, List.flatten_nil, List.append_nil, hostOps0, hostOps0_1, hostOps0_2, List.cons_append,
    List.nil_append]
  entry_read
  pointwise
  blk_ext [idx t]

/-- The gate's cotangent, behind as many columns of zeros. -/
theorem V_main_v11 : V m c main_v11 = concatenate S4096x5632 1
    [⟨S4096x2816, broadcastInDim S4096x2816 ![] bcast_S_S4096x2816 (constant (F := Ideal) S_ .bf16 0x0000#16)⟩,
      ⟨S4096x2816, truncf .bf16 (shapeCast S4096x2816 (show FVec Ideal S2x2048x2816 .f32 from m ((c : Thread nD τ).loc main_arg5))
        shapeCasts_S2x2048x2816_S4096x2816) bitsLt_bf16_f32⟩] concatenates_S4096x2816_S4096x2816_S4096x5632_d1 := by
  simp only [V, List.flatten_cons, List.flatten_nil, List.append_nil, hostOps0, hostOps0_1, hostOps0_2, List.cons_append,
    List.nil_append]
  entry_read
  rfl

theorem blk2 (t : Fin cfg0.N) (r : Fin 256) (j : Fin 2816) : iblk m c 2 t (ix2 r j)
    = m ((c : Thread nD τ).loc main_arg5) (ix3 (bOf (rowOf t r)) (sOf (rowOf t r)) j) := by
  blk_simp [iblk]
  rw [V_main_v11]
  pointwise
  blk_simp [idx t]
  refine (dif_neg (by omega)).trans (congrArg _ ?_)
  blk_ext [bOf, sOf, rowOf]

theorem blk3 (t : Fin cfg0.N) (q : Fin 4) (d : Fin 1024) (k : Fin 1408) : iblk m c 3 t (ix3 q d k)
    = m ((c : Thread nD τ).loc main_arg2) (ix3 1 d ⟨q.val * 1408 + k.val, by omega⟩) := by
  blk_simp [iblk]
  simp only [V, List.flatten_cons, List.flatten_nil, List.append_nil, hostOps0, hostOps0_1, hostOps0_2, List.cons_append,
    List.nil_append]
  entry_read
  pointwise
  blk_ext [idx t]

/-- The weights of the second block's convolution, under five rows of zeros. -/
theorem V_main_v2 : V m c main_v2 = shapeCast S8x2816 (extractStridedSlice S1x8x2816 ![1, 0, 0]
    (pad S2x8x2816 ![0, 0, 0] ![0, 5, 0] ![0, 0, 0] (show FVec Ideal S2x3x2816 .f32 from m ((c : Thread nD τ).loc main_arg3))
      (sitofp .f32 (constantI S_ 32 0#32)) pads_S2x3x2816_S2x8x2816_000_050_000 h_S_) slices_S2x8x2816_S1x8x2816_1_0_0)
    shapeCasts_S1x8x2816_S8x2816 := by
  simp only [V, List.flatten_cons, List.flatten_nil, List.append_nil, hostOps0, hostOps0_1, hostOps0_2, List.cons_append,
    List.nil_append]
  entry_read
  rfl

theorem blk4 (k : Fin 3) (t : Fin cfg0.N) (j : Fin 2816) : iblk m c 4 t (ix2 ⟨k.val, by omega⟩ j)
    = m ((c : Thread nD τ).loc main_arg3) (ix3 1 k j) := by
  blk_simp [iblk]
  rw [V_main_v2]
  pointwise
  refine (dif_pos ?_).trans ?_
  · blk_simp [idx t]; exact k.isLt
  · blk_ext [idx t]

theorem blk5 (t : Fin cfg0.N) (r : Fin 256) (d : Fin 1024) : iblk m c 5 t (ix2 r d)
    = m ((c : Thread nD τ).loc main_arg0) (ix3 (bOf (rowOf t r)) (sOf (rowOf t r)) d) := by
  blk_simp [iblk]
  simp only [V, List.flatten_cons, List.flatten_nil, List.append_nil, hostOps0, hostOps0_1, hostOps0_2, List.cons_append,
    List.nil_append]
  entry_read
  pointwise
  blk_ext [idx t, bOf, sOf, rowOf]

theorem blk6 (t : Fin cfg0.N) (d : Fin 1024) : iblk m c 6 t (ix2 0 d) = m ((c : Thread nD τ).loc main_arg1) (ix2 1 d) := by
  blk_simp [iblk]
  simp only [V, List.flatten_cons, List.flatten_nil, List.append_nil, hostOps0, hostOps0_1, hostOps0_2, List.cons_append,
    List.nil_append]
  entry_read
  pointwise
  blk_ext [idx t]

theorem blk7 (t : Fin cfg0.N) (r : Fin 256) (d : Fin 1024) : iblk m c 7 t (ix2 r d)
    = m ((c : Thread nD τ).loc main_arg6) (ix3 (bOf (rowOf t r)) (sOf (rowOf t r)) d) := by
  blk_simp [iblk]
  simp only [V, List.flatten_cons, List.flatten_nil, List.append_nil, hostOps0, hostOps0_1, hostOps0_2, List.cons_append,
    List.nil_append]
  entry_read
  pointwise
  blk_ext [idx t, bOf, sOf, rowOf]

/-- Whether a point is the last of its sequence, as the body computes it from the point's number. -/
def last (n : ℕ) : BitVec 1 :=
  Scalar.cmpi .eq
    (Scalar.select
      (Scalar.andi
        (Scalar.xori
          (Scalar.cmpi .slt (Scalar.remsi (BitVec.ofNat 32 n) (Scalar.select (Scalar.cmpi .eq 8#32 0#32) 1#32 8#32)) 0#32)
          (Scalar.cmpi .slt (Scalar.select (Scalar.cmpi .eq 8#32 0#32) 1#32 8#32) 0#32))
        (Scalar.cmpi .ne (Scalar.remsi (BitVec.ofNat 32 n) (Scalar.select (Scalar.cmpi .eq 8#32 0#32) 1#32 8#32)) 0#32))
      (Scalar.addi (Scalar.remsi (BitVec.ofNat 32 n) (Scalar.select (Scalar.cmpi .eq 8#32 0#32) 1#32 8#32))
        (Scalar.select (Scalar.cmpi .eq 8#32 0#32) 1#32 8#32))
      (Scalar.remsi (BitVec.ofNat 32 n) (Scalar.select (Scalar.cmpi .eq 8#32 0#32) 1#32 8#32)))
    7#32

theorem last_eq : ∀ n < 16, last n = if n % 8 = 7 then 1#1 else 0#1 := by decide +kernel

theorem pay1_at (X P : Vec Ideal S1x1024 .f32) (q : Fin 1) (d : Fin 1024) : k0_pay1 X P (ix2 q d) = P (ix2 q d) + X (ix2 q d) := by
  pointwise [k0_pay1]

theorem pay2_at (X : Vec Ideal S256x2816 .f32) (r : Fin 256) (j : Fin 2816) : k0_pay2 X (ix2 r j) = X (ix2 r j) := by
  pointwise [k0_pay2]

theorem pay3_at (t : Fin cfg0.N) (X : Vec Ideal S8x2816 .f32) (q : Fin 8) (j : Fin 2816) :
    k0_pay3 (grid0.coords t) X (ix2 q j) = if t.val % 8 = 7 then (0 : EReal) else X (ix2 q j) := by
  pointwise [k0_pay3]
  have e := last_eq t.val (lt16 t)
  rw [← coord t] at e
  refine (congrArg (fun a => Scalar.select a (0 : EReal) (X (ix2 q j))) e).trans ?_
  rw [coord t]
  split <;> rfl

/-- A row of the weights' block, as the body loads it. -/
theorem bW_at (k : Fin 3) (o : ℕ) (ho : o = k.val) (t : Fin cfg0.N)
    (inb : ∀ a, (![o, 0] : Fin 2 → ℕ) a + (![1, 2816] : Fin 2 → ℕ) a ≤ S8x2816.size a) (j : Fin 2816) :
    View.ld (iblk m c 4 t) (Rect.unit (s := S8x2816) ![o, 0] ![1, 2816] inb) (ix2 0 j)
    = m ((c : Thread nD τ).loc main_arg3) (ix3 1 k j) := by
  subst ho
  refine (congrArg (iblk m c 4 t) ?_).trans (blk4 m c k t j)
  funext a; apply Fin.ext
  match a with
  | ⟨0, _⟩ => show k.val + 1 * 0 = k.val; omega
  | ⟨1, _⟩ => show 0 + 1 * j.val = j.val; omega

/-- Columns of the gate's block, as the body loads them. -/
theorem bE_at (t : Fin cfg0.N) (o : ℕ) (inb : ∀ a, (![0, o] : Fin 2 → ℕ) a + (![256, 1408] : Fin 2 → ℕ) a ≤ S256x2816.size a)
    (r : Fin 256) (k : Fin 1408) :
    View.ld (iblk m c 2 t) (Rect.unit (s := S256x2816) ![0, o] ![256, 1408] inb) (ix2 r k)
    = m ((c : Thread nD τ).loc main_arg5) (ix3 (bOf (rowOf t r)) (sOf (rowOf t r))
        ⟨o + k.val, by have : o + 1408 ≤ 2816 := inb 1; omega⟩) := by
  have ho : o + 1408 ≤ 2816 := inb 1
  refine (congrArg (iblk m c 2 t) ?_).trans (blk2 m c t r ⟨o + k.val, by omega⟩)
  funext a; apply Fin.ext
  match a with
  | ⟨0, _⟩ => show 0 + 1 * r.val = r.val; omega
  | ⟨1, _⟩ => show o + 1 * k.val = o + k.val; omega

/-- A chunk of the projection's block, as the body loads it. -/
theorem bP_at (q : Fin 4) (o : ℕ) (ho : o = q.val) (t : Fin cfg0.N)
    (inb : ∀ a, (![o, 0, 0] : Fin 3 → ℕ) a + (![1, 1024, 1408] : Fin 3 → ℕ) a ≤ S4x1024x1408.size a) (d : Fin 1024) (k : Fin 1408) :
    View.ld (iblk m c 3 t) (Rect.unit (s := S4x1024x1408) ![o, 0, 0] ![1, 1024, 1408] inb) (ix3 0 d k)
    = m ((c : Thread nD τ).loc main_arg2) (ix3 1 d ⟨q.val * 1408 + k.val, by omega⟩) := by
  subst ho
  refine (congrArg (iblk m c 3 t) ?_).trans (blk3 m c t q d k)
  funext a; apply Fin.ext
  match a with
  | ⟨0, _⟩ => show q.val + 1 * 0 = q.val; omega
  | ⟨1, _⟩ => show 0 + 1 * d.val = d.val; omega
  | ⟨2, _⟩ => show 0 + 1 * k.val = k.val; omega

/-- Summing over the blocks and the rows of a block is summing over all rows. -/
theorem sum_rows (f : Fin 4096 → ℝ) : ∑ p : Fin cfg0.N, ((∑ r, f (rowOf p r) : ℝ) : EReal) = ((∑ R, f R : ℝ) : EReal) := by
  rw [coe_sum]
  refine congrArg _ (Fin.sum_mul_add_congr fun s k hl => ?_)
  rfl

/-- Columns of a buffer that was stored whole. -/
theorem load_cols {κ : Kind} {sp : Space} {o : ℕ} (v : View sig κ sp S256x2816 .bf16) (Y : Vec Ideal S256x2816 .bf16)
    (hY : ∀ a, (![0, 0] : Fin 2 → ℕ) a + (![256, 2816] : Fin 2 → ℕ) a ≤ S256x2816.size a)
    (hO : ∀ a, (![0, o] : Fin 2 → ℕ) a + (![256, 1408] : Fin 2 → ℕ) a ≤ S256x2816.size a) (r : Fin 256) (k : Fin 1408) :
    v.readCov (Val := Elt Ideal) [⟨Rect.unit (s := S256x2816) ![0, 0] ![256, 2816] hY, Y⟩]
      (Rect.unit (s := S256x2816) ![0, o] ![256, 1408] hO).toLoadRect (ix2 r k)
    = Y (ix2 r ⟨o + k.val, by have : o + 1408 ≤ 2816 := hO 1; omega⟩) := by
  have ho : o + 1408 ≤ 2816 := hO 1
  have e : (Rect.unit (s := S256x2816) ![0, o] ![256, 1408] hO).toLoadRect.idx (ix2 r k)
      = (Rect.unit (s := S256x2816) ![0, 0] ![256, 2816] hY).emb (ix2 r ⟨o + k.val, by omega⟩) := by
    funext a; apply Fin.ext
    match a with
    | ⟨0, _⟩ => show 0 + 1 * r.val = 0 + 1 * r.val; rfl
    | ⟨1, _⟩ => show o + 1 * k.val = 0 + 1 * (o + k.val); omega
  rw [View.readCov_eq_canon']
  exact (congrArg (View.canon _) e).trans (View.canon_cons_emb _ _ _ _)

end Cert.UpIdeal.Elt

end
-- ==== Proof.Up.lean ====
/- The backward call behind the second feed-forward block's convolution: the result arrays, from the body's values. -/
module

public import proofs.«01_k».proof.Proof.UpBody

@[expose] public section

set_option maxRecDepth 16384
set_option maxHeartbeats 1000000

noncomputable section

namespace Cert.UpIdeal.Elt

open Cert.UpIdeal Cert.UpIdeal.Gen Cert.Reals Idealize.ShloMosaic Idealize.ShloMosaic.TcCoe Idealize.SL.Sem
open Idealize.ShloMosaic.Pipeline (Dat)

variable (m : (ℓ : Loc nD τ sig) → Buf (Elt Ideal) ℓ) (c : Dev nD)

section Final
variable (X : S2x2048x1024.Idx → ℝ) (G : S2x1024.Idx → ℝ) (P : S2x1024x5632.Idx → ℝ) (W : S2x3x2816.Idx → ℝ)
variable (A E : S2x2048x2816.Idx → ℝ) (Z : S2x2048x1024.Idx → ℝ)

/-- What the results hold: the convolution input's cotangent in the left half, the block input's, and the scale's. -/
def DXO (i : S4096x1024.Idx) : EReal := (dxU X G P W A E Z (bOf (i 0)) (sOf (i 0)) (i 1) : EReal)
def DGN (i : S1x1024.Idx) : EReal := ((∑ R, dgU X P W A E (bOf R) (sOf R) (i 1) : ℝ) : EReal)

def DAH (i : S4096x5632.Idx) : EReal :=
  if h : (i 1).val < 2816 then (dact W A (bOf (i 0)) (sOf (i 0)) ⟨(i 1).val, h⟩ : EReal) else 0

theorem DAH_at (R : Fin 4096) (j : Fin 2816) : DAH W A (ix2 R ⟨j.val, by omega⟩) = (dact W A (bOf R) (sOf R) j : EReal) :=
  dif_pos j.isLt

/-- The up projection's cotangent at row `r` of a point's block, in four chunks of columns, and the projection's chunks. -/
def bU (t : Fin cfg0.N) (q : Fin 4) (r : Fin 256) (k : Fin 1408) : ℝ :=
  dup W A E (bOf (rowOf t r)) (sOf (rowOf t r)) ⟨q.val * 1408 + k.val, by omega⟩
def bP (q : Fin 4) (d : Fin 1024) (k : Fin 1408) : ℝ := P (ix3 1 d ⟨q.val * 1408 + k.val, by omega⟩)

theorem bDh_eq (t : Fin cfg0.N) (r : Fin 256) (d : Fin 1024) :
    bDh (bU W A E t) (bP P) r d = dhU P W A E (bOf (rowOf t r)) (sOf (rowOf t r)) d := by
  unfold dhU; rw [sum_four]; rfl

variable (hX : m ((c : Thread nD τ).loc main_arg0) = up X) (hG : m ((c : Thread nD τ).loc main_arg1) = up G)
variable (hP : m ((c : Thread nD τ).loc main_arg2) = up P) (hW : m ((c : Thread nD τ).loc main_arg3) = up W)
variable (hA : m ((c : Thread nD τ).loc main_arg4) = up A) (hE : m ((c : Thread nD τ).loc main_arg5) = up E)
variable (hZ : m ((c : Thread nD τ).loc main_arg6) = up Z)

/-- The scratch buffer's two pieces: the eight rows behind the block, and the block. -/
abbrev pieces (t : Fin cfg0.N) : List (View.Piece (Elt Ideal) S264x2816 .f32) :=
  [⟨Rect.unit ![256, 0] ![8, 2816] inb_S264x2816_S8x2816_256_0, k0_pay3 (grid0.coords t) (iblk m c 1 t)⟩,
    ⟨Rect.unit ![0, 0] ![256, 2816] inb_S264x2816_S256x2816_0_0, k0_pay2 (iblk m c 0 t)⟩]

include hA in
theorem ext_at (t : Fin cfg0.N) (o : ℕ) (ho : o < 9)
    (inb : ∀ a, (![o, 0] : Fin 2 → ℕ) a + (![256, 2816] : Fin 2 → ℕ) a ≤ S264x2816.size a) (r : Fin 256) (j : Fin 2816) :
    (View.whole cc0_scratch0).readCov (pieces m c t) (Rect.unit (s := S264x2816) ![o, 0] ![256, 2816] inb).toLoadRect (ix2 r j)
    = (ahead (conv A (bOf (rowOf t r))) o (sOf (rowOf t r)) j : EReal) := by
  have ht := lt16 t
  refine (load_two_rows _ _ _ _ _ inb rfl r j).trans ?_
  by_cases h : o + r.val < 256
  · rw [dif_pos h, pay2_at, blk0, hA]
    have e : bOf (rowOf t ⟨o + r.val, h⟩) = bOf (rowOf t r) := by unfold bOf rowOf; simp only [Fin.mk.injEq]; omega
    rw [e]
    exact congrArg Real.toEReal (ahead_eq (conv A _) o _ j _ (by unfold sOf rowOf; simp only []; omega)).symm
  · rw [dif_neg h, pay3_at]
    by_cases h0 : t.val % 8 = 7
    · rw [if_pos h0]
      exact congrArg Real.toEReal (ahead_none _ _ _ _ (by unfold sOf rowOf; simp only []; omega)).symm
    · rw [if_neg h0, blk1 m c t h0, hA]
      have e : bOf (rowOf t r) = ⟨t.val / 8, by omega⟩ := by unfold bOf rowOf; simp only [Fin.mk.injEq]; omega
      rw [e]
      exact congrArg Real.toEReal (ahead_eq (conv A _) o _ j ⟨t.val % 8 * 256 + 256 + (o + r.val - 256), by omega⟩
        (by unfold sOf rowOf; simp only []; omega)).symm

/-- The operands of the body's formulas at a point. -/
abbrev bW0 (t : Fin cfg0.N) : Vec Ideal S1x2816 .f32 := View.ld (iblk m c 4 t) (Rect.unit ![0, 0] ![1, 2816] inb_S8x2816_S1x2816_0_0)
abbrev bW1 (t : Fin cfg0.N) : Vec Ideal S1x2816 .f32 := View.ld (iblk m c 4 t) (Rect.unit ![1, 0] ![1, 2816] inb_S8x2816_S1x2816_1_0)
abbrev bW2 (t : Fin cfg0.N) : Vec Ideal S1x2816 .f32 := View.ld (iblk m c 4 t) (Rect.unit ![2, 0] ![1, 2816] inb_S8x2816_S1x2816_2_0)
abbrev bT1 (t : Fin cfg0.N) : Vec Ideal S256x2816 .f32 := (View.whole cc0_scratch0).readCov (pieces m c t)
  (Rect.unit (s := S264x2816) ![1, 0] ![256, 2816] inb_S264x2816_S256x2816_1_0).toLoadRect
abbrev bT2 (t : Fin cfg0.N) : Vec Ideal S256x2816 .f32 := (View.whole cc0_scratch0).readCov (pieces m c t)
  (Rect.unit (s := S264x2816) ![2, 0] ![256, 2816] inb_S264x2816_S256x2816_2_0).toLoadRect
abbrev bAct (t : Fin cfg0.N) : Vec Ideal S256x2816 .bf16 :=
  k0_pay6 (k0_pay4 (bW2 m c t) (iblk m c 0 t)) (bT2 m c t) (k0_pay5 (bW0 m c t)) (bW1 m c t) (bT1 m c t)

abbrev bC0 (t : Fin cfg0.N) : Vec Ideal S256x1408 .bf16 :=
  (ms0_8 t).view.readCov [⟨Rect.unit (s := S256x2816) ![0, 0] ![256, 2816] inb_S256x2816_S256x2816_0_0, bAct m c t⟩]
    (Rect.unit (s := S256x2816) ![0, 0] ![256, 1408] inb_S256x2816_S256x1408_0_0).toLoadRect
abbrev bC1 (t : Fin cfg0.N) : Vec Ideal S256x1408 .bf16 :=
  (ms0_8 t).view.readCov [⟨Rect.unit (s := S256x2816) ![0, 0] ![256, 2816] inb_S256x2816_S256x2816_0_0, bAct m c t⟩]
    (Rect.unit (s := S256x2816) ![0, 1408] ![256, 1408] inb_S256x2816_S256x1408_0_1408).toLoadRect
abbrev bC2 (t : Fin cfg0.N) : Vec Ideal S256x1408 .bf16 :=
  View.ld (iblk m c 2 t) (Rect.unit (s := S256x2816) ![0, 0] ![256, 1408] inb_S256x2816_S256x1408_0_0)
abbrev bC3 (t : Fin cfg0.N) : Vec Ideal S256x1408 .bf16 :=
  View.ld (iblk m c 2 t) (Rect.unit (s := S256x2816) ![0, 1408] ![256, 1408] inb_S256x2816_S256x1408_0_1408)
abbrev bP0 (t : Fin cfg0.N) : Vec Ideal S1x1024x1408 .bf16 :=
  View.ld (iblk m c 3 t) (Rect.unit ![0, 0, 0] ![1, 1024, 1408] inb_S4x1024x1408_S1x1024x1408_0_0_0)
abbrev bP1 (t : Fin cfg0.N) : Vec Ideal S1x1024x1408 .bf16 :=
  View.ld (iblk m c 3 t) (Rect.unit ![1, 0, 0] ![1, 1024, 1408] inb_S4x1024x1408_S1x1024x1408_1_0_0)
abbrev bP2 (t : Fin cfg0.N) : Vec Ideal S1x1024x1408 .bf16 :=
  View.ld (iblk m c 3 t) (Rect.unit ![2, 0, 0] ![1, 1024, 1408] inb_S4x1024x1408_S1x1024x1408_2_0_0)
abbrev bP3 (t : Fin cfg0.N) : Vec Ideal S1x1024x1408 .bf16 :=
  View.ld (iblk m c 3 t) (Rect.unit ![3, 0, 0] ![1, 1024, 1408] inb_S4x1024x1408_S1x1024x1408_3_0_0)

include hW hA in
theorem act_at (t : Fin cfg0.N) (r : Fin 256) (j : Fin 2816) :
    bAct m c t (ix2 r j) = (dact W A (bOf (rowOf t r)) (sOf (rowOf t r)) j : EReal) :=
  pay6_at (bW2 m c t) (bW0 m c t) (bW1 m c t) (iblk m c 0 t) (bT1 m c t) (bT2 m c t)
    (fun j => W (ix3 1 0 j)) (fun j => W (ix3 1 1 j)) (fun j => W (ix3 1 2 j))
    (fun r j => conv A (bOf (rowOf t r)) (sOf (rowOf t r)) j)
    (fun r j => ahead (conv A (bOf (rowOf t r))) 1 (sOf (rowOf t r)) j) (fun r j => ahead (conv A (bOf (rowOf t r))) 2 (sOf (rowOf t r)) j)
    (fun j => (bW_at m c 0 0 rfl t _ j).trans (congrFun hW _)) (fun j => (bW_at m c 1 1 rfl t _ j).trans (congrFun hW _))
    (fun j => (bW_at m c 2 2 rfl t _ j).trans (congrFun hW _)) (fun r j => (blk0 m c t r j).trans (congrFun hA _))
    (fun r j => ext_at m c A hA t 1 (by omega) _ r j) (fun r j => ext_at m c A hA t 2 (by omega) _ r j) r j

include hW hA in
theorem c0_at (t : Fin cfg0.N) (r : Fin 256) (k : Fin 1408) : bC0 m c t (ix2 r k) = (bU W A E t 0 r k : EReal) := by
  refine (load_cols _ _ _ _ r k).trans ((act_at m c W A hW hA t r _).trans (congrArg Real.toEReal ?_))
  rw [bU, dup, dif_pos (by show 0 * 1408 + k.val < 2816; omega)]
  exact congrArg _ (Fin.ext (by show 0 + k.val = 0 * 1408 + k.val; omega))

include hW hA in
theorem c1_at (t : Fin cfg0.N) (r : Fin 256) (k : Fin 1408) : bC1 m c t (ix2 r k) = (bU W A E t 1 r k : EReal) := by
  refine (load_cols _ _ _ _ r k).trans ((act_at m c W A hW hA t r _).trans (congrArg Real.toEReal ?_))
  rw [bU, dup, dif_pos (by show 1 * 1408 + k.val < 2816; omega)]
  exact congrArg _ (Fin.ext (by show 1408 + k.val = 1 * 1408 + k.val; omega))

include hE in
theorem c2_at (t : Fin cfg0.N) (r : Fin 256) (k : Fin 1408) : bC2 m c t (ix2 r k) = (bU W A E t 2 r k : EReal) := by
  refine (bE_at m c t 0 _ r k).trans ?_
  rw [hE, bU, dup, dif_neg (by show ¬2 * 1408 + k.val < 2816; omega)]
  exact congrArg (fun a => (E (ix3 _ _ a) : EReal)) (Fin.ext (by show 0 + k.val = 2 * 1408 + k.val - 2816; omega))

include hE in
theorem c3_at (t : Fin cfg0.N) (r : Fin 256) (k : Fin 1408) : bC3 m c t (ix2 r k) = (bU W A E t 3 r k : EReal) := by
  refine (bE_at m c t 1408 _ r k).trans ?_
  rw [hE, bU, dup, dif_neg (by show ¬3 * 1408 + k.val < 2816; omega)]
  exact congrArg (fun a => (E (ix3 _ _ a) : EReal)) (Fin.ext (by show 1408 + k.val = 3 * 1408 + k.val - 2816; omega))

section
include hX hG hP hW hA hE hZ

theorem dxo_at (t : Fin cfg0.N) (r : Fin 256) (d : Fin 1024) :
    k0_pay14 (k0_pay7 (bC0 m c t) (bP0 m c t) (bC1 m c t) (bP1 m c t) (bC2 m c t) (bP2 m c t)) (k0_pay8 (bC3 m c t)) (bP3 m c t)
      (iblk m c 5 t) (iblk m c 6 t) (iblk m c 7 t) (ix2 r d)
    = DXO X G P W A E Z (ix2 (rowOf t r) d) := by
  refine (pay14_at (bC0 m c t) (bC1 m c t) (bC2 m c t) (bC3 m c t) (bP0 m c t) (bP1 m c t) (bP2 m c t) (bP3 m c t)
    (iblk m c 5 t) (iblk m c 7 t) (iblk m c 6 t) (bU W A E t) (bP P)
    (fun r => xrow X (bOf (rowOf t r)) (sOf (rowOf t r))) (fun r d => Z (ix3 (bOf (rowOf t r)) (sOf (rowOf t r)) d))
    (fun d => G (ix2 1 d)) (c0_at m c W A E hW hA t) (c1_at m c W A E hW hA t) (c2_at m c W A E hE t) (c3_at m c W A E hE t)
    (fun d k => (bP_at m c 0 0 rfl t _ d k).trans (congrFun hP _)) (fun d k => (bP_at m c 1 1 rfl t _ d k).trans (congrFun hP _))
    (fun d k => (bP_at m c 2 2 rfl t _ d k).trans (congrFun hP _)) (fun d k => (bP_at m c 3 3 rfl t _ d k).trans (congrFun hP _))
    (fun r d => (blk5 m c t r d).trans (congrFun hX _)) (fun r d => (blk7 m c t r d).trans (congrFun hZ _))
    (fun d => (blk6 m c t d).trans (congrFun hG _)) r d).trans (congrArg Real.toEReal ?_)
  simp only [bDh_eq]
  rfl

end

section
include hX hP hW hA hE

theorem dgn_at (t : Fin cfg0.N) (q : Fin 1) (d : Fin 1024) :
    k0_pay13 (k0_pay7 (bC0 m c t) (bP0 m c t) (bC1 m c t) (bP1 m c t) (bC2 m c t) (bP2 m c t)) (k0_pay8 (bC3 m c t)) (bP3 m c t)
      (iblk m c 5 t) (ix2 q d)
    = ((∑ r, dgU X P W A E (bOf (rowOf t r)) (sOf (rowOf t r)) d : ℝ) : EReal) := by
  obtain rfl : q = 0 := Subsingleton.elim _ _
  refine (pay13_at (bC0 m c t) (bC1 m c t) (bC2 m c t) (bC3 m c t) (bP0 m c t) (bP1 m c t) (bP2 m c t) (bP3 m c t)
    (iblk m c 5 t) (bU W A E t) (bP P) (fun r => xrow X (bOf (rowOf t r)) (sOf (rowOf t r)))
    (c0_at m c W A E hW hA t) (c1_at m c W A E hW hA t) (c2_at m c W A E hE t) (c3_at m c W A E hE t)
    (fun d k => (bP_at m c 0 0 rfl t _ d k).trans (congrFun hP _)) (fun d k => (bP_at m c 1 1 rfl t _ d k).trans (congrFun hP _))
    (fun d k => (bP_at m c 2 2 rfl t _ d k).trans (congrFun hP _)) (fun d k => (bP_at m c 3 3 rfl t _ d k).trans (congrFun hP _))
    (fun r d => (blk5 m c t r d).trans (congrFun hX _)) d).trans (congrArg Real.toEReal ?_)
  simp only [bDh_eq]
  rfl

end

include hW hA in
/-- The convolution's half of the first result. -/
theorem final8 (i : S4096x5632.Idx) (h : (i 1).val < 2816) : (dats m 0 c).arrAt 8 (cfgs 0).N i = DAH W A i := by
  refine ((dats m 0 c).arrAt_apply_of_coversWhere 8
    (DAH W A) (P := fun i => (i 1).val < 2816) (fun β => β 1 < 1) (by decide +kernel) (fun t _ z => ?_)
    (fun i => by blk_simp [Pipeline.Window.cell_apply]; omega) _).trans ?_
  · have ht := lt16 t
    blk_simp
    rw [after0_8]
    by_cases h0 : t.val % 16 = 0
    · rw [outsAt0_A m c t h0 (by omega)]; dsimp only; frame_out
      idx_vars z
      refine (act_at m c W A hW hA t _ _).trans ((DAH_at W A _ _).symm.trans (congrArg _ ?_))
      blk_ext [idx t, rowOf]
    · rw [outsAt0_B m c t h0 (by omega)]; dsimp only; frame_out
      idx_vars z
      refine (act_at m c W A hW hA t _ _).trans ((DAH_at W A _ _).symm.trans (congrArg _ ?_))
      blk_ext [idx t, rowOf]
  · exact if_pos h

section
include hX hG hP hW hA hE hZ

theorem final9 : (dats m 0 c).arrAt 9 (cfgs 0).N = DXO X G P W A E Z := by
  refine (dats m 0 c).arrAt_eq_of_covers 9 _ (by decide +kernel) fun t _ z => ?_
  have ht := lt16 t
  blk_simp
  rw [after0_9]
  by_cases h0 : t.val % 16 = 0
  · rw [outsAt0_A m c t h0 (by omega)]; dsimp only; frame_out
    idx_vars z
    refine (dxo_at m c X G P W A E Z hX hG hP hW hA hE hZ t _ _).trans (congrArg _ ?_)
    blk_ext [idx t, rowOf]
  · rw [outsAt0_B m c t h0 (by omega)]; dsimp only; frame_out
    idx_vars z
    refine (dxo_at m c X G P W A E Z hX hG hP hW hA hE hZ t _ _).trans (congrArg _ ?_)
    blk_ext [idx t, rowOf]

theorem dxb_at (t : Fin cfg0.N) (r : Fin 256) (d : Fin 1024) :
    k0_pay15 (k0_pay7 (bC0 m c t) (bP0 m c t) (bC1 m c t) (bP1 m c t) (bC2 m c t) (bP2 m c t)) (k0_pay8 (bC3 m c t)) (bP3 m c t)
      (iblk m c 5 t) (iblk m c 6 t) (iblk m c 7 t) (ix2 r d)
    = DXO X G P W A E Z (ix2 (rowOf t r) d) :=
  dxo_at m c X G P W A E Z hX hG hP hW hA hE hZ t r d

theorem final10 : (dats m 0 c).arrAt 10 (cfgs 0).N = DXO X G P W A E Z := by
  refine (dats m 0 c).arrAt_eq_of_covers 10 _ (by decide +kernel) fun t _ z => ?_
  have ht := lt16 t
  blk_simp
  rw [after0_10]
  by_cases h0 : t.val % 16 = 0
  · rw [outsAt0_A m c t h0 (by omega)]; dsimp only; frame_out
    idx_vars z
    refine (dxb_at m c X G P W A E Z hX hG hP hW hA hE hZ t _ _).trans (congrArg _ ?_)
    blk_ext [idx t, rowOf]
  · rw [outsAt0_B m c t h0 (by omega)]; dsimp only; frame_out
    idx_vars z
    refine (dxb_at m c X G P W A E Z hX hG hP hW hA hE hZ t _ _).trans (congrArg _ ?_)
    blk_ext [idx t, rowOf]

end

include hX hP hW hA hE in
theorem final11 : (dats m 0 c).arrAt 11 (cfgs 0).N = DGN X P W A E := by
  refine (dats m 0 c).arrAt_eq_of_after_last 11 t0_15 (by decide +kernel) _ fun j => ?_
  blk_simp
  rw [after0_11, Pipeline.eq_sum_fin_of_reset_step_apply_last (fun n h => (outsAt0 m c n h).2.2.2) 16 (fun _ => (0 : EReal))
    (fun t j => ((∑ r, dgU X P W A E (bOf (rowOf t r)) (sOf (rowOf t r)) (j 1) : ℝ) : EReal))
    (fun t h j => ?_) (fun t h j => ?_) (le_of_eq N_0) t0_15 rfl j]
  · rw [zero_add]
    exact sum_rows (fun R => dgU X P W A E (bOf R) (sOf R) (j 1))
  · rw [outsAt0_A m c t h (by have := lt16 t; omega)]; dsimp only; frame_out
    idx_vars j
    exact (dgn_at m c X P W A E hX hP hW hA hE t _ _).trans (zero_add _).symm
  · rw [outsAt0_B m c t h (by omega)]; dsimp only; frame_out
    idx_vars j
    exact (pay1_at _ _ _ _).trans (congrArg (fun a : EReal => _ + a) (dgn_at m c X P W A E hX hP hW hA hE t _ _))

end Final

end Cert.UpIdeal.Elt

end
-- ==== Proof.UpRef.lean ====
/- The reference of the call behind the second feed-forward block's convolution, read at an element over real arguments. -/
module

public import proofs.«01_k».proof.Proof.Back
public import proofs.«01_k».proof.Proof.Gen.UpRefIdeal.Read

@[expose] public section

set_option maxRecDepth 16384

noncomputable section

namespace Cert.UpRefIdeal.Elt

open Cert.UpRefIdeal Cert.UpRefIdeal.Read Cert.Reals Idealize.ShloMosaic

variable (X : S2x2048x1024.Idx → ℝ) (G : S2x1024.Idx → ℝ) (P : S2x1024x5632.Idx → ℝ) (W : S2x3x2816.Idx → ℝ)
variable (A E : S2x2048x2816.Idx → ℝ) (Z : S2x2048x1024.Idx → ℝ)
variable (b : Fin 2) (s : Fin 2048) (j : Fin 2816) (d : Fin 1024)

theorem v8_at : val_main_v8 (F := Ideal) (up X) (ix3 b s 0) = (rmsV (xrow X b s) : EReal) := by
  pointwise [val_main_v8, val_main_v7, val_main_v6, val_main_v5, val_main_v4, val_main_v3, val_main_v2, val_main_cst,
    val_main_cst_0, val_main_cst_1]
  simp only [up, ← EReal.coe_mul, coe_sum, w1024, wRms, div_coe_coe, ne_eq, OfNat.ofNat_ne_zero, not_false_eq_true, ← EReal.coe_add]
  rfl

theorem v9_at : val_main_v9 (F := Ideal) (up X) (ix3 b s 0) = (rmsR (xrow X b s) : EReal) := by
  pointwise [val_main_v9, v8_at]
  exact rsqrt_coe_pos _ (rmsV_pos _)

theorem v12_at : val_main_v12 (F := Ideal) (up X) (ix3 b s 0)
    = ((-(1 / 2) * (rmsR (xrow X b s) / rmsV (xrow X b s)) : ℝ) : EReal) := by
  pointwise [val_main_v12, val_main_v11, val_main_v10, val_main_cst_2, v9_at, v8_at]
  rw [div_coe_coe _ _ (rmsV_pos _).ne', wNegHalf, ← EReal.coe_mul]

theorem v14_at : val_main_v14 (F := Ideal) (up X) (ix3 b s d) = (rmsH (xrow X b s) d : EReal) := by
  pointwise [val_main_v14, val_main_v13, v9_at]
  simp only [up, ← EReal.coe_mul]; rfl

/-! ## The convolution's input -/

theorem v64_at : val_main_v64 (F := Ideal) (up W) (up A) (ix3 b s j) = (dact W A b s j : EReal) := by
  pointwise [val_main_v64, val_main_v62, val_main_v61, val_main_v60, val_main_v59, val_main_v58, val_main_v57, val_main_v56,
    val_main_v55, val_main_v54, val_main_v53, val_main_v52, val_main_v51, val_main_v50, val_main_v44, val_main_v43, val_main_v42,
    val_main_v37, val_main_v36, val_main_v35, val_main_v31, val_main_v30, val_main_v29, val_main_v24, val_main_v23,
    val_main_cst_6, val_main_cst_7, val_main_cst_8]
  have h1 : ahead (conv A b) 1 s j = if h : s.val + 1 < 2048 then A (ix3 b ⟨s.val + 1, h⟩ j) else 0 := rfl
  have h2 : ahead (conv A b) 2 s j = if h : s.val + 2 < 2048 then A (ix3 b ⟨s.val + 2, h⟩ j) else 0 := rfl
  rw [dact, h1, h2]
  simp only [Nat.add_comm 2 s.val]
  by_cases c1 : s.val + 1 < 2048 <;> by_cases c2 : s.val + 2 < 2048
  · rw [dif_pos (by omega), dif_pos c2, dif_pos c1, dif_pos c2]
    simp only [up, conv, ← EReal.coe_mul, ← EReal.coe_add]
    refine congrArg Real.toEReal ?_
    have e : (⟨s.val + 2 - 1, by omega⟩ : Fin 2048) = ⟨s.val + 1, c1⟩ := Fin.ext (by simp)
    rw [e]; ring
  · rw [dif_pos (by omega), dif_neg c2, dif_pos c1, dif_neg c2]
    simp only [up, conv, ← EReal.coe_mul, ← EReal.coe_add, ← EReal.coe_zero]
    refine congrArg Real.toEReal ?_
    have e : (⟨s.val + 2 - 1, by omega⟩ : Fin 2048) = ⟨s.val + 1, c1⟩ := Fin.ext (by simp)
    rw [e]; ring
  · omega
  · rw [dif_neg (by omega), dif_neg c2, dif_neg c1, dif_neg c2]
    simp only [up, conv, ← EReal.coe_mul, ← EReal.coe_add, ← EReal.coe_zero]
    refine congrArg Real.toEReal ?_
    ring

theorem v67_at (f : Fin 5632) : val_main_v67 (F := Ideal) (up W) (up A) (up E) (ix3 b s f) = (dup W A E b s f : EReal) := by
  pointwise [val_main_v67, val_main_v66, val_main_v65, val_main_cst_9, val_main_cst_10, v64_at]
  by_cases h : f.val < 2816
  · rw [dif_neg (by omega), dif_pos h, dup, dif_pos h, zero_add]
  · rw [dif_pos (by omega), dif_neg h, dup, dif_neg h, add_zero]
    rfl

theorem v68_at : val_main_v68 (F := Ideal) (up P) (up W) (up A) (up E) (ix3 b s d) = (dhU P W A E b s d : EReal) := by
  pointwise [val_main_v68, val_main_v19, val_main_v18, v67_at]
  simp only [up, ← EReal.coe_mul, coe_sum]; rfl

theorem v73_at : val_main_v73 (F := Ideal) (up G) (up P) (up W) (up A) (up E) (ix3 b s d) = (dyU G P W A E b s d : EReal) := by
  pointwise [val_main_v73, val_main_v72, val_main_v15, val_main_v1, val_main_v0, v68_at]
  simp only [up, ← EReal.coe_mul]; rfl

theorem v85_at : val_main_v85 (F := Ideal) (up X) (up G) (up P) (up W) (up A) (up E) (ix3 b s d)
    = (((∑ k, xrow X b s k * dyU G P W A E b s k) * (-(1 / 2) * (rmsR (xrow X b s) / rmsV (xrow X b s))) / 1024 : ℝ) : EReal) := by
  pointwise [val_main_v85, val_main_v84, val_main_v83, val_main_v82, val_main_v81, val_main_v77, val_main_v76, val_main_v75,
    val_main_cst_13, val_main_cst_14, val_main_cst_15, v73_at, v12_at]
  simp only [up, ← EReal.coe_mul, coe_sum, w1024, div_coe_coe, ne_eq, OfNat.ofNat_ne_zero, not_false_eq_true, Fin.sum_univ_one, v12_at]
  rfl

theorem v89_at : val_main_v89 (F := Ideal) (up X) (up G) (up P) (up W) (up A) (up E) (up Z) (ix3 b s d)
    = (dxU X G P W A E Z b s d : EReal) := by
  pointwise [val_main_v89, val_main_v88, val_main_v87, val_main_v86, val_main_v80, val_main_v79, val_main_v78, v9_at, v73_at, v85_at]
  simp only [up, ← EReal.coe_mul, ← EReal.coe_add]
  refine congrArg _ ?_
  rw [dxU, ← rmsBwd]
  simp only [xrow]; ring

/-! ## The four results -/

theorem v93_at (r : Fin 4096) : val_main_v93 (F := Ideal) (up W) (up A) (ix2 r ⟨j.val, by omega⟩)
    = (dact W A (bOf r) (sOf r) j : EReal) := by
  pointwise [val_main_v93, val_main_v92, val_main_v91, v64_at]
  rfl

theorem v94_at (r : Fin 4096) : val_main_v94 (F := Ideal) (up X) (up G) (up P) (up W) (up A) (up E) (up Z) (ix2 r d)
    = (dxU X G P W A E Z (bOf r) (sOf r) d : EReal) := by
  pointwise [val_main_v94, v89_at]
  rfl

theorem v95_at (r : Fin 4096) : val_main_v95 (F := Ideal) (up X) (up G) (up P) (up W) (up A) (up E) (up Z) (ix2 r d)
    = (dxU X G P W A E Z (bOf r) (sOf r) d : EReal) := by
  pointwise [val_main_v95, v94_at]

theorem v96_at : val_main_v96 (F := Ideal) (up X) (up P) (up W) (up A) (up E) (ix2 0 d)
    = ((∑ b, ∑ s, dgU X P W A E b s d : ℝ) : EReal) := by
  pointwise [val_main_v96, val_main_v74, val_main_v71, val_main_v70, val_main_v69, val_main_cst_11, val_main_cst_12,
    hostReduceAdd_r3_a01, v14_at, v68_at]
  simp only [← EReal.coe_mul, coe_sum, Fin.sum_univ_one, mul_comm]
  rfl

end Cert.UpRefIdeal.Elt

end
-- ==== Proof.UpPair.lean ====
module

public import proofs.«01_k».proof.Defs
public import Idealize.ShloMosaic.Lib.Claim
public import proofs.«01_k».proof.Proof.Up
public import proofs.«01_k».proof.Proof.UpRef
public import proofs.«01_k».proof.Proof.Gen.Pre_up_finite
public import proofs.«01_k».proof.Proof.Gen.On_up_written
@[expose] public section

set_option maxRecDepth 16384
set_option maxHeartbeats 2000000

noncomputable section

/-! # From the convolution down to the block's input: the kernel's four results are the reference's, where they are written -/

namespace Cert.UpPair

open Idealize.ShloMosaic Idealize.ShloMosaic.StableHlo Idealize.SL.Sem Cert.Reals

section Results
variable (X : UpIdeal.S2x2048x1024.Idx → ℝ) (G : UpIdeal.S2x1024.Idx → ℝ) (P : UpIdeal.S2x1024x5632.Idx → ℝ)
variable (W : UpIdeal.S2x3x2816.Idx → ℝ) (A E : UpIdeal.S2x2048x2816.Idx → ℝ) (Z : UpIdeal.S2x2048x1024.Idx → ℝ)

theorem first (i : UpIdeal.S4096x5632.Idx) (h : (i 1).val < 2816) :
    UpRefIdeal.Read.val_main_v93 (F := Ideal) (up W) (up A) i = UpIdeal.Elt.DAH W A i := by
  idx_vars i
  have e : i1 = ⟨(⟨i1.val, h⟩ : Fin 2816).val, i1.isLt⟩ := rfl
  rw [e]
  exact (UpRefIdeal.Elt.v93_at W A _ _).trans (UpIdeal.Elt.DAH_at W A _ _).symm

theorem second : UpRefIdeal.Read.val_main_v94 (F := Ideal) (up X) (up G) (up P) (up W) (up A) (up E) (up Z)
    = UpIdeal.Elt.DXO X G P W A E Z := by
  funext i
  idx_vars i
  exact UpRefIdeal.Elt.v94_at X G P W A E Z _ _

theorem third : UpRefIdeal.Read.val_main_v95 (F := Ideal) (up X) (up G) (up P) (up W) (up A) (up E) (up Z)
    = UpIdeal.Elt.DXO X G P W A E Z := by
  funext i
  idx_vars i
  exact UpRefIdeal.Elt.v95_at X G P W A E Z _ _

theorem fourth : UpRefIdeal.Read.val_main_v96 (F := Ideal) (up X) (up P) (up W) (up A) (up E) = UpIdeal.Elt.DGN X P W A E := by
  funext i
  idx_vars i
  obtain rfl : i0 = 0 := Subsingleton.elim _ _
  exact (UpRefIdeal.Elt.v96_at X P W A E _).trans (congrArg _ (sum_bs fun b s => dgU X P W A E b s _).symm)

/-- The mask of the first result is one only at columns of its left half. -/
theorem left_half (x : FVec Ideal UpIdeal.S2x2048x1024 .f32) (g : FVec Ideal UpIdeal.S2x1024 .f32)
    (p : FVec Ideal UpIdeal.S2x1024x5632 .f32) (w : FVec Ideal UpIdeal.S2x3x2816 .f32)
    (a e : FVec Ideal UpIdeal.S2x2048x2816 .f32) (z : FVec Ideal UpIdeal.S2x2048x1024 .f32) (i : UpIdeal.S4096x5632.Idx)
    (h : (On_up_written.fn x g p w a e z).1 i = 1#1) : (i 1).val < 2816 := by
  idx_vars i
  have e : (On_up_written.fn x g p w a e z).1 (ix2 i0 i1) = IntOp.cmpi .slt (BitVec.ofNat 32 i1.val) (BitVec.ofNat 32 2816) := by
    pointwise [On_up_written.fn]
  rw [e, WordCmp.cmpi_slt_ofNat (by omega) (by omega)] at h
  by_contra hn
  have hn' : ¬ i1.val < 2816 := hn
  simp [hn'] at h

end Results

theorem frame_ref : quiescent_UpRefIdeal := fun m g _ =>
  θ_run_mono (UpRefIdeal.Value.run m g) fun r h =>
    ⟨fun c => (h c).2.2.2.2, sem_eq_zero_of_no_sems (by decide) r.2⟩

theorem algebraic : algebraic_UpIdeal_UpRefIdeal_on_up_written_pre_up_finite := by
  intro m g m' g' hpre hagree
  refine ⟨fun c => (UpIdeal.Gen.dats m 0 c).arrAt 8 UpIdeal.cfg0.N, fun c => (UpIdeal.Gen.dats m 0 c).arrAt 9 UpIdeal.cfg0.N,
    fun c => (UpIdeal.Gen.dats m 0 c).arrAt 10 UpIdeal.cfg0.N, fun c => (UpIdeal.Gen.dats m 0 c).arrAt 11 UpIdeal.cfg0.N, ?_, ?_⟩
  · exact θ_run_mono (UpIdeal.Value.run_blocks m g) fun r h c =>
      ⟨fun i _ => congrFun (h c).1 i, fun i _ => congrFun (h c).2.1 i, fun i _ => congrFun (h c).2.2.1 i,
        fun i _ => congrFun (h c).2.2.2.1 i, (h c).2.2.2.2⟩
  · refine θ_run_mono (UpRefIdeal.Value.run m' g') fun r h c => ⟨fun i hi => (congrFun (h c).1 i).trans ?_,
      fun i _ => (congrFun (h c).2.1 i).trans ?_, fun i _ => (congrFun (h c).2.2.1 i).trans ?_,
      fun i _ => (congrFun (h c).2.2.2.1 i).trans ?_, (h c).2.2.2.2⟩
    all_goals
      obtain ⟨h0, h1, h2, h3, h4, h5, h6⟩ := hpre c
      obtain ⟨a0, a1, a2, a3, a4, a5, a6⟩ := hagree c
      have e0 := eq_up_of_abs_lt _ _ h0
      have e1 := eq_up_of_abs_lt _ _ h1
      have e2 := eq_up_of_abs_lt _ _ h2
      have e3 := eq_up_of_abs_lt _ _ h3
      have e4 := eq_up_of_abs_lt _ _ h4
      have e5 := eq_up_of_abs_lt _ _ h5
      have e6 := eq_up_of_abs_lt _ _ h6
    · have hq := left_half _ _ _ _ _ _ _ i hi
      refine (congrFun ((UpRefIdeal.Read.val_main_v93_eq _ _).trans ?_) i).trans
        ((first _ _ i hq).trans (UpIdeal.Elt.final8 m c _ _ e3 e4 i hq).symm)
      rw [← e3, ← e4, ← a3, ← a4]
    · refine congrFun (((UpRefIdeal.Read.val_main_v94_eq m' c).trans ?_).trans
        (UpIdeal.Elt.final9 m c _ _ _ _ _ _ _ e0 e1 e2 e3 e4 e5 e6).symm) i
      rw [← second, ← e0, ← e1, ← e2, ← e3, ← e4, ← e5, ← e6, ← a0, ← a1, ← a2, ← a3, ← a4, ← a5, ← a6]
    · refine congrFun (((UpRefIdeal.Read.val_main_v95_eq m' c).trans ?_).trans
        (UpIdeal.Elt.final10 m c _ _ _ _ _ _ _ e0 e1 e2 e3 e4 e5 e6).symm) i
      rw [← third, ← e0, ← e1, ← e2, ← e3, ← e4, ← e5, ← e6, ← a0, ← a1, ← a2, ← a3, ← a4, ← a5, ← a6]
    · refine congrFun (((UpRefIdeal.Read.val_main_v96_eq _ _ _ _ _).trans ?_).trans
        (UpIdeal.Elt.final11 m c _ _ _ _ _ e0 e2 e3 e4 e5).symm) i
      rw [← fourth, ← e0, ← e2, ← e3, ← e4, ← e5, ← a0, ← a2, ← a3, ← a4, ← a5]

end Cert.UpPair

end
-- ==== Proof.Fwd.lean ====
/- The second feed-forward block from its input to its output, the loss behind the last norm, and their gradient at the
   block's output, over the reals. -/
module

public import proofs.«01_k».proof.Proof.Back

@[expose] public section

set_option maxRecDepth 16384

noncomputable section

namespace Cert.Reals

open Idealize.ShloMosaic

section Block
variable (X : (⟨3, ![2, 2048, 1024]⟩ : Shape).Idx → ℝ) (G : (⟨2, ![2, 1024]⟩ : Shape).Idx → ℝ)
variable (P : (⟨3, ![2, 1024, 5632]⟩ : Shape).Idx → ℝ) (W : (⟨3, ![2, 3, 2816]⟩ : Shape).Idx → ℝ)
variable (B : (⟨2, ![2, 2816]⟩ : Shape).Idx → ℝ) (D : (⟨3, ![2, 2816, 1024]⟩ : Shape).Idx → ℝ)
variable (N : (⟨1, ![1024]⟩ : Shape).Idx → ℝ) (T : (⟨3, ![2, 2048, 1024]⟩ : Shape).Idx → ℝ)
variable (b : Fin 2) (s : Fin 2048)

/-- The norm's scaled row, and the up projection's output. -/
def hbF (d : Fin 1024) : ℝ := rmsH (xrow X b s) d * G (ix2 1 d)
def upF (f : Fin 5632) : ℝ := ∑ d : Fin 1024, hbF X G b s d * P (ix3 1 d f)
def UF : (⟨3, ![2, 2048, 5632]⟩ : Shape).Idx → ℝ := fun i => upF X G P (i 0) (i 1) (i 2)

/-- The gated product, and the block's output. -/
def gbF (j : Fin 2816) : ℝ := ac (UF X G P) W B b s j * sgm (ac (UF X G P) W B b s j) * gate (UF X G P) b s j
def xoF (d : Fin 1024) : ℝ := X (ix3 b s d) + ∑ j : Fin 2816, gbF X G P W B b s j * D (ix3 1 j d)

/-- The difference to the target, what it adds to the loss, and the loss's cotangents. -/
def dfF (d : Fin 1024) : ℝ := rmsH (xoF X G P W B D b s) d * N (ix1 d) - T (ix3 b s d)
def lossF (d : Fin 1024) : ℝ := 1 / 2048 * (dfF X G P W B D N T b s d * dfF X G P W B D N T b s d)
def dyF (d : Fin 1024) : ℝ := dfF X G P W B D N T b s d * (1 / 1024) * N (ix1 d)
def dxF (d : Fin 1024) : ℝ := rmsD (xoF X G P W B D b s) (dyF X G P W B D N T b s) d
def dnF (d : Fin 1024) : ℝ := dfF X G P W B D N T b s d * (1 / 1024) * rmsH (xoF X G P W B D b s) d

end Block

theorem wHalf : Ideal.ofBits .f32 0x3F000000#32 = ((1 / 2 : ℝ) : EReal) := by
  simp [Ideal.ofBits, Ideal.ieee, -EReal.coe_mul]; norm_num
theorem w2048th : Ideal.ofBits .f32 0x3A000000#32 = ((1 / 2048 : ℝ) : EReal) := by
  simp [Ideal.ofBits, Ideal.ieee, -EReal.coe_mul]; norm_num
theorem w1024th : Ideal.ofBits .f32 0x3A800000#32 = ((1 / 1024 : ℝ) : EReal) := by
  simp [Ideal.ofBits, Ideal.ieee, -EReal.coe_mul]; norm_num
end Cert.Reals

end
-- ==== Proof.LossBody.lean ====
/- The second feed-forward block with the loss: the body's values and the blocks it reads. -/
module

public import proofs.«01_k».proof.Proof.Fwd
public import proofs.«01_k».proof.Proof.Rows
public import Idealize.ShloMosaic.Lib.Pipeline.ReadBack
public import proofs.«01_k».proof.Proof.Gen.LossIdeal.Value

@[expose] public section

set_option maxRecDepth 16384
set_option maxHeartbeats 1000000

noncomputable section

namespace Cert.LossIdeal.Elt

open Cert.LossIdeal Cert.LossIdeal.Gen Cert.Reals Idealize.ShloMosaic Idealize.ShloMosaic.TcCoe Idealize.SL.Sem
open Idealize.ShloMosaic.Pipeline (Dat)

/-! ## The up projection, in four chunks of columns -/

/-- Column `f` of a row's product with the projection, the projection's columns given chunk by chunk. -/
def bUp (h : Fin 1024 → ℝ) (p : Fin 4 → Fin 1024 → Fin 1408 → ℝ) (f : Fin 5632) : ℝ :=
  ∑ d, h d * p ⟨f.val / 1408, by omega⟩ d ⟨f.val % 1408, by omega⟩

theorem bUp_eq (h : Fin 1024 → ℝ) (p : Fin 4 → Fin 1024 → Fin 1408 → ℝ) (f : Fin 5632) (q : Fin 4) (k : Fin 1408)
    (e : f.val = q.val * 1408 + k.val) : bUp h p f = ∑ d, h d * p q d k := by
  have e1 : (⟨f.val / 1408, by omega⟩ : Fin 4) = q := Fin.ext (by simp only []; omega)
  have e2 : (⟨f.val % 1408, by omega⟩ : Fin 1408) = k := Fin.ext (by simp only []; omega)
  rw [bUp, e1, e2]

section Up
variable (H : Vec Ideal S256x1024 .bf16) (K : Vec Ideal S16x1024 .bf16) (C : Vec Ideal S1x1024x1408 .bf16)
variable (h : Fin 256 → Fin 1024 → ℝ) (a : Fin 16 → Fin 1024 → ℝ) (p : Fin 1024 → Fin 1408 → ℝ)
variable (hH : ∀ r d, H (ix2 r d) = (h r d : EReal)) (hK : ∀ r d, K (ix2 r d) = (a r d : EReal))
variable (hC : ∀ d k, C (ix3 0 d k) = (p d k : EReal)) (r : Fin 256) (k : Fin 1408)

include hH hC in
theorem pay7_at : k0_pay7 H C (ix2 r k) = ((∑ d, h r d * p d k : ℝ) : EReal) := by
  pointwise [k0_pay7, k0_pay6, hH, hC]
  simp only [← EReal.coe_mul, coe_sum]

include hK hC in
theorem pay11_at (r : Fin 16) : k0_pay11 K C (ix2 r k) = ((∑ d, a r d * p d k : ℝ) : EReal) := by
  pointwise [k0_pay11, hK, hC]
  simp only [← EReal.coe_mul, coe_sum]

end Up

/-- Whether a point is the first of its sequence, as the body computes it from the point's number. -/
def first (n : ℕ) : BitVec 1 :=
  Scalar.cmpi .eq
    (Scalar.select
      (Scalar.andi
        (Scalar.xori
          (Scalar.cmpi .slt (Scalar.remsi (BitVec.ofNat 32 n) (Scalar.select (Scalar.cmpi .eq 8#32 0#32) 1#32 8#32)) 0#32)
          (Scalar.cmpi .slt (Scalar.select (Scalar.cmpi .eq 8#32 0#32) 1#32 8#32) 0#32))
        (Scalar.cmpi .ne (Scalar.remsi (BitVec.ofNat 32 n) (Scalar.select (Scalar.cmpi .eq 8#32 0#32) 1#32 8#32)) 0#32))
      (Scalar.addi (Scalar.remsi (BitVec.ofNat 32 n) (Scalar.select (Scalar.cmpi .eq 8#32 0#32) 1#32 8#32))
        (Scalar.select (Scalar.cmpi .eq 8#32 0#32) 1#32 8#32))
      (Scalar.remsi (BitVec.ofNat 32 n) (Scalar.select (Scalar.cmpi .eq 8#32 0#32) 1#32 8#32)))
    0#32

theorem first_eq : ∀ n < 16, first n = if n % 8 = 0 then 1#1 else 0#1 := by decide +kernel

/-- The eight rows before the block: the last rows of the products of both chunks of the left half, zero at the first point. -/
theorem pay12_at (n : ℕ) (hn : n < 16) (K : Vec Ideal S16x1024 .bf16) (C0 C1 : Vec Ideal S1x1024x1408 .bf16)
    (a : Fin 16 → Fin 1024 → ℝ) (p : Fin 4 → Fin 1024 → Fin 1408 → ℝ) (q : Fin 8) (j : Fin 2816)
    (hK : ¬n % 8 = 0 → ∀ r d, K (ix2 r d) = (a r d : EReal))
    (h0 : ∀ d k, C0 (ix3 0 d k) = (p 0 d k : EReal)) (h1 : ∀ d k, C1 (ix3 0 d k) = (p 1 d k : EReal)) :
    k0_pay12 (BitVec.ofNat 32 n) (k0_pay11 K C0) K C1 (ix2 q j)
    = if n % 8 = 0 then (0 : EReal) else (bUp (a ⟨8 + q.val, by omega⟩) p ⟨j.val, by omega⟩ : EReal) := by
  pointwise [k0_pay12]
  have e := first_eq n hn
  refine (congrArg (fun a => Scalar.select a (0 : EReal) _) e).trans ?_
  by_cases hz : n % 8 = 0
  · rw [if_pos hz, if_pos hz]; rfl
  · rw [if_neg hz, if_neg hz]
    refine (show Scalar.select 0#1 (0 : EReal) _ = _ from rfl).trans ?_
    by_cases hj : j.val < 1408
    · rw [dif_pos hj, bUp_eq _ _ _ 0 ⟨j.val, hj⟩ (by simp)]
      exact pay11_at K C0 a (p 0) (hK hz) h0 _ _
    · rw [dif_neg hj, bUp_eq _ _ _ 1 ⟨j.val - 1408, by omega⟩ (by simp; omega)]
      pointwise [hK hz, h1]
      simp only [← EReal.coe_mul, coe_sum]

/-! ## The convolution, the gate, the down projection, the norm and the loss -/

section Gate
variable (B W0 W1 W2 : Vec Ideal S1x2816 .f32) (T0 T1 : Vec Ideal S1x256x2816 .f32) (T2 G : Vec Ideal S256x2816 .f32)
variable (b w0 w1 w2 : Fin 2816 → ℝ) (t0 t1 t2 g : Fin 256 → Fin 2816 → ℝ)
variable (hB : ∀ j, B (ix2 0 j) = (b j : EReal)) (hW0 : ∀ j, W0 (ix2 0 j) = (w0 j : EReal))
variable (hW1 : ∀ j, W1 (ix2 0 j) = (w1 j : EReal)) (hW2 : ∀ j, W2 (ix2 0 j) = (w2 j : EReal))
variable (hT0 : ∀ r j, T0 (ix3 0 r j) = (t0 r j : EReal)) (hT1 : ∀ r j, T1 (ix3 0 r j) = (t1 r j : EReal))
variable (hT2 : ∀ r j, T2 (ix2 r j) = (t2 r j : EReal)) (hG : ∀ r j, G (ix2 r j) = (g r j : EReal))
variable (r : Fin 256) (j : Fin 2816)

/-- The convolution's output in a block. -/
def bAc (r : Fin 256) (j : Fin 2816) : ℝ := acv (b j) (w0 j) (w1 j) (w2 j) (t0 r j) (t1 r j) (t2 r j)

include hB hW0 hW1 hW2 hT0 hT1 hT2 hG

theorem pay16_at : k0_pay16 B W0 T0 W1 T1 W2 T2 G (ix2 r j)
    = ((bAc b w0 w1 w2 t0 t1 t2 r j * sgm (bAc b w0 w1 w2 t0 t1 t2 r j) * g r j : ℝ) : EReal) := by
  pointwise [k0_pay16, hB, hW0, hW1, hW2, hT0, hT1, hT2, hG]
  simp only [← EReal.coe_mul, ← EReal.coe_add]
  rw [logistic_coe', ← EReal.coe_mul, ← EReal.coe_mul]
  rfl

end Gate

section Norm
variable (GB : Vec Ideal S256x2816 .bf16) (X TG : Vec Ideal S256x1024 .f32) (D : Vec Ideal S2816x1024 .bf16)
variable (N : Vec Ideal S1x1024 .f32)
variable (u : Fin 256 → Fin 2816 → ℝ) (x tg : Fin 256 → Fin 1024 → ℝ) (w : Fin 2816 → Fin 1024 → ℝ) (g : Fin 1024 → ℝ)

/-- The block's output, the difference to the target, and the loss's cotangent of the norm's output, in a block. -/
def bXo (r : Fin 256) (d : Fin 1024) : ℝ := x r d + ∑ j, u r j * w j d
def bDf (r : Fin 256) (d : Fin 1024) : ℝ := rmsH (bXo u x w r) d * g d - tg r d
def bDy (r : Fin 256) (d : Fin 1024) : ℝ := bDf u x tg w g r d * (1 / 1024) * g d

variable (hGB : ∀ r j, GB (ix2 r j) = (u r j : EReal)) (hX : ∀ r d, X (ix2 r d) = (x r d : EReal))
variable (hD : ∀ j d, D (ix2 j d) = (w j d : EReal))
variable (hN : ∀ d, N (ix2 0 d) = (g d : EReal)) (hT : ∀ r d, TG (ix2 r d) = (tg r d : EReal))
variable (r : Fin 256) (d : Fin 1024)
include hGB hX hD

theorem pay19_at : k0_pay19 GB X D (ix2 r d) = (bXo u x w r d : EReal) := by
  pointwise [k0_pay19, hGB, hX, hD]
  simp only [← EReal.coe_mul, coe_sum, ← EReal.coe_add]; rfl

theorem pay20_at : k0_pay20 GB X D (ix2 r 0) = (rmsR (bXo u x w r) : EReal) := by
  pointwise [k0_pay20, pay19_at GB X D u x w hGB hX hD]
  simp only [← EReal.coe_mul, coe_sum, w1024, wRms, div_coe_coe, ne_eq, OfNat.ofNat_ne_zero, not_false_eq_true, ← EReal.coe_add]
  exact rsqrt_coe_pos _ (rmsV_pos _)

theorem pay21_at : k0_pay21 GB X D (ix2 r d) = (rmsH (bXo u x w r) d : EReal) := by
  pointwise [k0_pay21, pay19_at GB X D u x w hGB hX hD, pay20_at GB X D u x w hGB hX hD]
  rw [← EReal.coe_mul]; rfl

include hN hT

theorem pay22_at : k0_pay22 GB X D N TG (ix2 r d) = (bDf u x tg w g r d : EReal) := by
  pointwise [k0_pay22, pay21_at GB X D u x w hGB hX hD, hN, hT]
  simp only [← EReal.coe_mul, ← EReal.coe_sub]; rfl

theorem pay23_at : k0_pay23 GB X D N TG (ix2 0 d)
    = ((∑ r, 1 / 2048 * (bDf u x tg w g r d * bDf u x tg w g r d) : ℝ) : EReal) := by
  pointwise [k0_pay23, pay22_at GB X TG D N u x tg w g hGB hX hD hN hT]
  simp only [w2048th, ← EReal.coe_mul, coe_sum, Finset.mul_sum]

theorem pay24_at : k0_pay24 GB X D N TG (ix2 r d) = ((bDf u x tg w g r d * (1 / 1024) : ℝ) : EReal) := by
  pointwise [k0_pay24, pay22_at GB X TG D N u x tg w g hGB hX hD hN hT]
  simp only [w1024th, ← EReal.coe_mul]

theorem pay25_at : k0_pay25 GB X D N TG N (ix2 r d) = (bDy u x tg w g r d : EReal) := by
  pointwise [k0_pay25, pay24_at GB X TG D N u x tg w g hGB hX hD hN hT, hN]
  simp only [← EReal.coe_mul]; rfl

theorem pay26_at : k0_pay26 GB X D N TG N (ix2 r 0) = ((∑ k, bDy u x tg w g r k * rmsH (bXo u x w r) k : ℝ) : EReal) := by
  pointwise [k0_pay26, pay25_at GB X TG D N u x tg w g hGB hX hD hN hT, pay21_at GB X D u x w hGB hX hD]
  simp only [← EReal.coe_mul, coe_sum]

theorem pay1_at : k0_pay1 (k0_pay20 GB X D) (k0_pay21 GB X D) (k0_pay25 GB X D N TG N) (k0_pay26 GB X D N TG N) (ix2 r d)
    = (rmsD (bXo u x w r) (bDy u x tg w g r) d : EReal) := by
  pointwise [k0_pay1, pay20_at GB X D u x w hGB hX hD, pay21_at GB X D u x w hGB hX hD,
    pay25_at GB X TG D N u x tg w g hGB hX hD hN hT, pay26_at GB X TG D N u x tg w g hGB hX hD hN hT]
  simp only [← EReal.coe_mul, w1024, div_coe_coe, ne_eq, OfNat.ofNat_ne_zero, not_false_eq_true, ← EReal.coe_sub]
  rfl

theorem pay2_at : k0_pay2 (k0_pay21 GB X D) (k0_pay24 GB X D N TG) (ix2 0 d)
    = ((∑ r, bDf u x tg w g r d * (1 / 1024) * rmsH (bXo u x w r) d : ℝ) : EReal) := by
  pointwise [k0_pay2, pay21_at GB X D u x w hGB hX hD, pay24_at GB X TG D N u x tg w g hGB hX hD hN hT]
  simp only [← EReal.coe_mul, coe_sum]

end Norm

theorem pay4_at (X P : Vec Ideal S1x1024 .f32) (q : Fin 1) (d : Fin 1024) : k0_pay4 X P (ix2 q d) = P (ix2 q d) + X (ix2 q d) := by
  pointwise [k0_pay4]

theorem pay5_at (Y Z : Vec Ideal S256x1024 .f32) (P : Vec Ideal S1x1024 .f32) (q : Fin 1) (d : Fin 1024) :
    k0_pay5 Y Z P (ix2 q d) = P (ix2 q d) + k0_pay2 Y Z (ix2 q d) := by
  pointwise [k0_pay5]

theorem pay13_at (X : Vec Ideal S256x2816 .f32) (r : Fin 256) (j : Fin 2816) : k0_pay13 X (ix2 r j) = X (ix2 r j) := by
  pointwise [k0_pay13]

theorem pay18_at (B W0 W1 W2 : Vec Ideal S1x2816 .f32) (T0 T1 : Vec Ideal S1x256x2816 .f32) (T2 G : Vec Ideal S256x2816 .f32)
    (o : Fin 1) (j : Fin 2816) (r : Fin 256) :
    k0_pay18 (k0_pay17 B W0 T0 W1 T1 W2 T2 G) (ix3 o j r) = k0_pay16 B W0 T0 W1 T1 W2 T2 G (ix2 r j) := by
  pointwise [k0_pay18, k0_pay17]

/-! ## The blocks of the grid's points -/

variable (m : (ℓ : Loc nD τ sig) → Buf (Elt Ideal) ℓ) (c : Dev nD)

theorem idx : ∀ t : Fin cfg0.N, win0_0.index t = ![t.val, 0] ∧ win0_1.index t = ![max (16 * t.val - 1) 0, 0]
    ∧ win0_2.index t = ![t.val, 0] ∧ win0_3.index t = ![0, 0, 0] ∧ win0_4.index t = ![0, 0] ∧ win0_5.index t = ![0, 0]
    ∧ win0_6.index t = ![0, 0] ∧ win0_7.index t = ![0, 0] ∧ win0_8.index t = ![t.val, 0] ∧ win0_9.index t = ![t.val, 0]
    ∧ win0_10.index t = ![t.val, 0, 0] ∧ win0_11.index t = ![t.val, 0] ∧ win0_12.index t = ![t.val, 0]
    ∧ win0_13.index t = ![0, 0] ∧ win0_14.index t = ![0, 0] ∧ t.val < 16 :=
  (by decide +kernel : ∀ t : Fin grid0.N, _)

theorem lt16 (t : Fin cfg0.N) : t.val < 16 := (idx t).2.2.2.2.2.2.2.2.2.2.2.2.2.2.2

theorem coord : ∀ t : Fin cfg0.N, ((grid0.coords t) 0).val = t.val := (by decide +kernel : ∀ t : Fin grid0.N, _)

/-- Row `r` of the block of point `t`, among all rows. -/
def rowOf (t : Fin cfg0.N) (r : Fin 256) : Fin 4096 := ⟨t.val * 256 + r.val, by have := lt16 t; omega⟩

/-- The scaled row of the norm, as the host computes it. -/
theorem V_main_v24 : V m c main_v24 = truncf .bf16 (shapeCast S4096x1024
    (mulf (mulf (show FVec Ideal S2x2048x1024 .f32 from m ((c : Thread nD τ).loc main_arg0))
      (broadcastInDim S2x2048x1024 ![0, 1, 2] bcast_S2x2048x1_S2x2048x1024_0_1_2 (Host.rsqrt (addf
        (Host.divf (broadcastInDim S2x2048x1 ![0, 1] bcast_S2x2048_S2x2048x1_0_1 (Host.reduceAdd
          (mulf (show FVec Ideal S2x2048x1024 .f32 from m ((c : Thread nD τ).loc main_arg0))
            (show FVec Ideal S2x2048x1024 .f32 from m ((c : Thread nD τ).loc main_arg0)))
          (constant (F := Ideal) S_ .f32 0x00000000#32) reducesTo_S2x2048x1024_S2x2048_d2 h_S_))
          (broadcastInDim S2x2048x1 ![] bcast_S_S2x2048x1 (constant (F := Ideal) S_ .f32 0x44800000#32)))
        (broadcastInDim S2x2048x1 ![] bcast_S_S2x2048x1 (constant (F := Ideal) S_ .f32 0x358637BD#32))))))
      (broadcastInDim S2x2048x1024 ![0, 1, 2] bcast_S1x1x1024_S2x2048x1024_0_1_2 (broadcastInDim S1x1x1024 ![2]
        bcast_S1024_S1x1x1024_2 (shapeCast S1024 (extractStridedSlice S1x1024 ![1, 0]
          (show FVec Ideal S2x1024 .f32 from m ((c : Thread nD τ).loc main_arg1)) slices_S2x1024_S1x1024_1_0)
          shapeCasts_S1x1024_S1024))))
    shapeCasts_S2x2048x1024_S4096x1024) bitsLt_bf16_f32 := by
  simp only [V, List.flatten_cons, List.flatten_nil, List.append_nil, hostOps0, hostOps0_1, hostOps0_2, List.cons_append,
    List.nil_append]
  entry_read
  rfl

section Host
variable (X : S2x2048x1024.Idx → ℝ) (G : S2x1024.Idx → ℝ)
variable (hX : m ((c : Thread nD τ).loc main_arg0) = up X) (hG : m ((c : Thread nD τ).loc main_arg1) = up G)
include hX hG

theorem hb_at (R : Fin 4096) (d : Fin 1024) : V m c main_v24 (ix2 R d) = (hbF X G (bOf R) (sOf R) d : EReal) := by
  rw [V_main_v24, hX, hG]
  pointwise
  simp only [up, ← EReal.coe_mul, coe_sum, w1024, wRms, div_coe_coe, ne_eq, OfNat.ofNat_ne_zero, not_false_eq_true, ← EReal.coe_add]
  have e := rsqrt_coe_pos _ (rmsV_pos (xrow X (bOf R) (sOf R)))
  refine (congrArg (fun a => (X (ix3 (bOf R) (sOf R) d) : EReal) * a * (G (ix2 1 d) : EReal)) e).trans ?_
  rw [← EReal.coe_mul, ← EReal.coe_mul]
  rfl

theorem blk0 (t : Fin cfg0.N) (r : Fin 256) (d : Fin 1024) : iblk m c 0 t (ix2 r d)
    = (hbF X G (bOf (rowOf t r)) (sOf (rowOf t r)) d : EReal) := by
  refine Eq.trans ?_ (hb_at m c X G hX hG (rowOf t r) d)
  blk_simp [iblk]
  blk_ext [idx t, rowOf]

theorem blk1 (t : Fin cfg0.N) (h : ¬t.val % 8 = 0) (q : Fin 16) (d : Fin 1024) : iblk m c 1 t (ix2 q d)
    = (hbF X G ⟨t.val / 8, by have := lt16 t; omega⟩ ⟨t.val % 8 * 256 + q.val - 16, by omega⟩ d : EReal) := by
  have ht := lt16 t
  have e := hb_at m c X G hX hG ⟨t.val * 256 + q.val - 16, by omega⟩ d
  have e1 : bOf ⟨t.val * 256 + q.val - 16, by omega⟩ = ⟨t.val / 8, by omega⟩ := by unfold bOf; simp only [Fin.mk.injEq]; omega
  have e2 : sOf ⟨t.val * 256 + q.val - 16, by omega⟩ = ⟨t.val % 8 * 256 + q.val - 16, by omega⟩ := by
    unfold sOf; simp only [Fin.mk.injEq]; omega
  rw [e1, e2] at e
  refine Eq.trans ?_ e
  blk_simp [iblk]
  blk_ext [idx t]

end Host

theorem blk2 (t : Fin cfg0.N) (r : Fin 256) (d : Fin 1024) : iblk m c 2 t (ix2 r d)
    = m ((c : Thread nD τ).loc main_arg0) (ix3 (bOf (rowOf t r)) (sOf (rowOf t r)) d) := by
  blk_simp [iblk]
  simp only [V, List.flatten_cons, List.flatten_nil, List.append_nil, hostOps0, hostOps0_1, hostOps0_2, List.cons_append,
    List.nil_append]
  entry_read
  pointwise
  blk_ext [idx t, bOf, sOf, rowOf]

theorem blk3 (t : Fin cfg0.N) (q : Fin 4) (d : Fin 1024) (k : Fin 1408) : iblk m c 3 t (ix3 q d k)
    = m ((c : Thread nD τ).loc main_arg2) (ix3 1 d ⟨q.val * 1408 + k.val, by omega⟩) := by
  blk_simp [iblk]
  simp only [V, List.flatten_cons, List.flatten_nil, List.append_nil, hostOps0, hostOps0_1, hostOps0_2, List.cons_append,
    List.nil_append]
  entry_read
  pointwise
  blk_ext [idx t]

/-- The weights of the second block's convolution, under five rows of zeros. -/
theorem V_main_v2 : V m c main_v2 = shapeCast S8x2816 (extractStridedSlice S1x8x2816 ![1, 0, 0]
    (pad S2x8x2816 ![0, 0, 0] ![0, 5, 0] ![0, 0, 0] (show FVec Ideal S2x3x2816 .f32 from m ((c : Thread nD τ).loc main_arg3))
      (sitofp .f32 (constantI S_ 32 0#32)) pads_S2x3x2816_S2x8x2816_000_050_000 h_S_) slices_S2x8x2816_S1x8x2816_1_0_0)
    shapeCasts_S1x8x2816_S8x2816 := by
  simp only [V, List.flatten_cons, List.flatten_nil, List.append_nil, hostOps0, hostOps0_1, hostOps0_2, List.cons_append,
    List.nil_append]
  entry_read
  rfl

theorem blk4 (k : Fin 3) (t : Fin cfg0.N) (j : Fin 2816) : iblk m c 4 t (ix2 ⟨k.val, by omega⟩ j)
    = m ((c : Thread nD τ).loc main_arg3) (ix3 1 k j) := by
  blk_simp [iblk]
  rw [V_main_v2]
  pointwise
  refine (dif_pos ?_).trans ?_
  · blk_simp [idx t]; exact k.isLt
  · blk_ext [idx t]

theorem blk5 (t : Fin cfg0.N) (j : Fin 2816) : iblk m c 5 t (ix2 0 j) = m ((c : Thread nD τ).loc main_arg4) (ix2 1 j) := by
  blk_simp [iblk]
  simp only [V, List.flatten_cons, List.flatten_nil, List.append_nil, hostOps0, hostOps0_1, hostOps0_2, List.cons_append,
    List.nil_append]
  entry_read
  pointwise
  blk_ext [idx t]

theorem blk6 (t : Fin cfg0.N) (j : Fin 2816) (d : Fin 1024) : iblk m c 6 t (ix2 j d)
    = m ((c : Thread nD τ).loc main_arg5) (ix3 1 j d) := by
  blk_simp [iblk]
  simp only [V, List.flatten_cons, List.flatten_nil, List.append_nil, hostOps0, hostOps0_1, hostOps0_2, List.cons_append,
    List.nil_append]
  entry_read
  pointwise
  blk_ext [idx t]

theorem blk7 (t : Fin cfg0.N) (d : Fin 1024) : iblk m c 7 t (ix2 0 d) = m ((c : Thread nD τ).loc main_arg6) (ix1 d) := by
  blk_simp [iblk]
  simp only [V, List.flatten_cons, List.flatten_nil, List.append_nil, hostOps0, hostOps0_1, hostOps0_2, List.cons_append,
    List.nil_append]
  entry_read
  pointwise
  blk_ext [idx t]

theorem blk8 (t : Fin cfg0.N) (r : Fin 256) (d : Fin 1024) : iblk m c 8 t (ix2 r d)
    = m ((c : Thread nD τ).loc main_arg7) (ix3 (bOf (rowOf t r)) (sOf (rowOf t r)) d) := by
  blk_simp [iblk]
  simp only [V, List.flatten_cons, List.flatten_nil, List.append_nil, hostOps0, hostOps0_1, hostOps0_2, List.cons_append,
    List.nil_append]
  entry_read
  pointwise
  blk_ext [idx t, bOf, sOf, rowOf]

/-- A row of the weights' block, as the body loads it. -/
theorem bW_at (k : Fin 3) (o : ℕ) (ho : o = k.val) (t : Fin cfg0.N)
    (inb : ∀ a, (![o, 0] : Fin 2 → ℕ) a + (![1, 2816] : Fin 2 → ℕ) a ≤ S8x2816.size a) (j : Fin 2816) :
    View.ld (iblk m c 4 t) (Rect.unit (s := S8x2816) ![o, 0] ![1, 2816] inb) (ix2 0 j)
    = m ((c : Thread nD τ).loc main_arg3) (ix3 1 k j) := by
  subst ho
  refine (congrArg (iblk m c 4 t) ?_).trans (blk4 m c k t j)
  funext a; apply Fin.ext
  match a with
  | ⟨0, _⟩ => show k.val + 1 * 0 = k.val; omega
  | ⟨1, _⟩ => show 0 + 1 * j.val = j.val; omega

/-- A chunk of the projection's block, as the body loads it. -/
theorem bP_at (q : Fin 4) (o : ℕ) (ho : o = q.val) (t : Fin cfg0.N)
    (inb : ∀ a, (![o, 0, 0] : Fin 3 → ℕ) a + (![1, 1024, 1408] : Fin 3 → ℕ) a ≤ S4x1024x1408.size a) (d : Fin 1024) (k : Fin 1408) :
    View.ld (iblk m c 3 t) (Rect.unit (s := S4x1024x1408) ![o, 0, 0] ![1, 1024, 1408] inb) (ix3 0 d k)
    = m ((c : Thread nD τ).loc main_arg2) (ix3 1 d ⟨q.val * 1408 + k.val, by omega⟩) := by
  subst ho
  refine (congrArg (iblk m c 3 t) ?_).trans (blk3 m c t q d k)
  funext a; apply Fin.ext
  match a with
  | ⟨0, _⟩ => show q.val + 1 * 0 = q.val; omega
  | ⟨1, _⟩ => show 0 + 1 * d.val = d.val; omega
  | ⟨2, _⟩ => show 0 + 1 * k.val = k.val; omega

/-- Summing over the blocks and the rows of a block is summing over all rows. -/
theorem sum_rows (f : Fin 4096 → ℝ) : ∑ p : Fin cfg0.N, ((∑ r, f (rowOf p r) : ℝ) : EReal) = ((∑ R, f R : ℝ) : EReal) := by
  rw [coe_sum]
  refine congrArg _ (Fin.sum_mul_add_congr fun s k hl => ?_)
  rfl

/-- A buffer stored in pieces that all hold the same array, loaded where one of them covers it. -/
theorem load_of_pieces {κ : Kind} {sp : Space} {s : Shape} (v : View sig κ sp s .f32) (A : s.Idx → EReal)
    (L : List (View.Piece (Elt Ideal) s .f32)) (h : View.PiecesOf A L) (b : LoadRect s) (j : b.shape.Idx)
    (hc : ∃ p ∈ L, b.idx j ∈ p.1.set) : v.readCov (Val := Elt Ideal) L b j = A (b.idx j) := by
  rw [View.readCov_eq_canon']
  have e := View.canon_append_of_piecesOf A [] L h (b.idx j) hc
  rw [List.append_nil] at e
  exact e

end Cert.LossIdeal.Elt

end
-- ==== Proof.Loss.lean ====
/- The second feed-forward block with the loss: the six result arrays, from the body's values. -/
module

public import proofs.«01_k».proof.Proof.LossBody

@[expose] public section

set_option maxRecDepth 16384
set_option maxHeartbeats 1000000

noncomputable section

namespace Cert.LossIdeal.Elt

open Cert.LossIdeal Cert.LossIdeal.Gen Cert.Reals Idealize.ShloMosaic Idealize.ShloMosaic.TcCoe Idealize.SL.Sem
open Idealize.ShloMosaic.Pipeline (Dat)

variable (m : (ℓ : Loc nD τ sig) → Buf (Elt Ideal) ℓ) (c : Dev nD)

section Final
variable (X : S2x2048x1024.Idx → ℝ) (G : S2x1024.Idx → ℝ) (P : S2x1024x5632.Idx → ℝ) (W : S2x3x2816.Idx → ℝ)
variable (B : S2x2816.Idx → ℝ) (D : S2x2816x1024.Idx → ℝ) (N : S1024.Idx → ℝ) (T : S2x2048x1024.Idx → ℝ)

/-- What the six results hold. -/
def UPR (i : S4096x5632.Idx) : EReal := (upF X G P (bOf (i 0)) (sOf (i 0)) (i 1) : EReal)
def GBT (i : S16x2816x256.Idx) : EReal :=
  (gbF X G P W B (bOf ⟨(i 0).val * 256 + (i 2).val, by have h0 : (i 0).val < 16 := (i 0).isLt; have h2 : (i 2).val < 256 := (i 2).isLt; omega⟩)
    (sOf ⟨(i 0).val * 256 + (i 2).val, by have h0 : (i 0).val < 16 := (i 0).isLt; have h2 : (i 2).val < 256 := (i 2).isLt; omega⟩) (i 1) : EReal)
def DX (i : S4096x1024.Idx) : EReal := (dxF X G P W B D N T (bOf (i 0)) (sOf (i 0)) (i 1) : EReal)
def LOSSR (i : S1x1024.Idx) : EReal := ((∑ R, lossF X G P W B D N T (bOf R) (sOf R) (i 1) : ℝ) : EReal)
def DGN (i : S1x1024.Idx) : EReal := ((∑ R, dnF X G P W B D N T (bOf R) (sOf R) (i 1) : ℝ) : EReal)

/-- The projection's chunks. -/
def bP (q : Fin 4) (d : Fin 1024) (k : Fin 1408) : ℝ := P (ix3 1 d ⟨q.val * 1408 + k.val, by omega⟩)

theorem bUp_hb (b : Fin 2) (s : Fin 2048) (f : Fin 5632) : bUp (hbF X G b s) (bP P) f = upF X G P b s f := by
  refine Finset.sum_congr rfl fun d _ => ?_
  unfold bP
  exact congrArg (fun f => hbF X G b s d * P (ix3 1 d f)) (Fin.ext (by simp only []; omega))

variable (hX : m ((c : Thread nD τ).loc main_arg0) = up X) (hG : m ((c : Thread nD τ).loc main_arg1) = up G)
variable (hP : m ((c : Thread nD τ).loc main_arg2) = up P) (hW : m ((c : Thread nD τ).loc main_arg3) = up W)
variable (hB : m ((c : Thread nD τ).loc main_arg4) = up B) (hD : m ((c : Thread nD τ).loc main_arg5) = up D)
variable (hN : m ((c : Thread nD τ).loc main_arg6) = up N) (hT : m ((c : Thread nD τ).loc main_arg7) = up T)

/-! ## The up projection's block -/

abbrev bP0 (t : Fin cfg0.N) : Vec Ideal S1x1024x1408 .bf16 :=
  View.ld (iblk m c 3 t) (Rect.unit ![0, 0, 0] ![1, 1024, 1408] inb_S4x1024x1408_S1x1024x1408_0_0_0)
abbrev bP1 (t : Fin cfg0.N) : Vec Ideal S1x1024x1408 .bf16 :=
  View.ld (iblk m c 3 t) (Rect.unit ![1, 0, 0] ![1, 1024, 1408] inb_S4x1024x1408_S1x1024x1408_1_0_0)
abbrev bP2 (t : Fin cfg0.N) : Vec Ideal S1x1024x1408 .bf16 :=
  View.ld (iblk m c 3 t) (Rect.unit ![2, 0, 0] ![1, 1024, 1408] inb_S4x1024x1408_S1x1024x1408_2_0_0)
abbrev bP3 (t : Fin cfg0.N) : Vec Ideal S1x1024x1408 .bf16 :=
  View.ld (iblk m c 3 t) (Rect.unit ![3, 0, 0] ![1, 1024, 1408] inb_S4x1024x1408_S1x1024x1408_3_0_0)

/-- The block of the first result, stored in four chunks of columns. -/
abbrev chunks (t : Fin cfg0.N) : List (View.Piece (Elt Ideal) S256x5632 .f32) :=
  [⟨Rect.unit ![0, 4224] ![256, 1408] inb_S256x5632_S256x1408_0_4224, k0_pay10 (iblk m c 0 t) (bP3 m c t)⟩,
    ⟨Rect.unit ![0, 2816] ![256, 1408] inb_S256x5632_S256x1408_0_2816, k0_pay9 (iblk m c 0 t) (bP2 m c t)⟩,
    ⟨Rect.unit ![0, 1408] ![256, 1408] inb_S256x5632_S256x1408_0_1408, k0_pay8 (iblk m c 0 t) (bP1 m c t)⟩,
    ⟨Rect.unit ![0, 0] ![256, 1408] inb_S256x5632_S256x1408_0_0, k0_pay7 (iblk m c 0 t) (bP0 m c t)⟩]

/-- What the block holds. -/
def AU (t : Fin cfg0.N) (i : S256x5632.Idx) : EReal := (upF X G P (bOf (rowOf t (i 0))) (sOf (rowOf t (i 0))) (i 1) : EReal)

section
include hX hG hP

/-- One chunk holds its columns of the block. -/
theorem chunk_at (t : Fin cfg0.N) (q : Fin 4) (o : ℕ) (ho : o = q.val * 1408) (C : Vec Ideal S1x1024x1408 .bf16)
    (hC : ∀ d k, C (ix3 0 d k) = (bP P q d k : EReal))
    (inb : ∀ a, (![0, o] : Fin 2 → ℕ) a + (![256, 1408] : Fin 2 → ℕ) a ≤ S256x5632.size a)
    (x : (Rect.unit (s := S256x5632) ![0, o] ![256, 1408] inb).shape.Idx) :
    k0_pay7 (iblk m c 0 t) C x = AU X G P t ((Rect.unit (s := S256x5632) ![0, o] ![256, 1408] inb).emb x) := by
  subst ho
  idx_vars x
  have e : (Rect.unit (s := S256x5632) ![0, q.val * 1408] ![256, 1408] inb).emb (ix2 x0 x1)
      = ix2 x0 ⟨q.val * 1408 + x1.val, by omega⟩ := by
    funext a; apply Fin.ext
    match a with
    | ⟨0, _⟩ => show 0 + 1 * x0.val = x0.val; omega
    | ⟨1, _⟩ => show q.val * 1408 + 1 * x1.val = q.val * 1408 + x1.val; omega
  rw [e]
  refine (pay7_at (iblk m c 0 t) C (fun r => hbF X G (bOf (rowOf t r)) (sOf (rowOf t r))) (bP P q)
    (blk0 m c X G hX hG t) hC x0 x1).trans (congrArg Real.toEReal ?_)
  rw [← bUp_eq _ (bP P) ⟨q.val * 1408 + x1.val, by omega⟩ q x1 rfl]
  exact bUp_hb X G P _ _ _

theorem chunks_of (t : Fin cfg0.N) : View.PiecesOf (AU X G P t) (chunks m c t) :=
  ⟨chunk_at m c X G P hX hG hP t 3 4224 rfl (bP3 m c t) (fun d k => (bP_at m c 3 3 rfl t _ d k).trans (congrFun hP _)) inb_S256x5632_S256x1408_0_4224,
    chunk_at m c X G P hX hG hP t 2 2816 rfl (bP2 m c t) (fun d k => (bP_at m c 2 2 rfl t _ d k).trans (congrFun hP _)) inb_S256x5632_S256x1408_0_2816,
    chunk_at m c X G P hX hG hP t 1 1408 rfl (bP1 m c t) (fun d k => (bP_at m c 1 1 rfl t _ d k).trans (congrFun hP _)) inb_S256x5632_S256x1408_0_1408,
    chunk_at m c X G P hX hG hP t 0 0 rfl (bP0 m c t) (fun d k => (bP_at m c 0 0 rfl t _ d k).trans (congrFun hP _)) inb_S256x5632_S256x1408_0_0, trivial⟩

end

theorem chunks_cover (t : Fin cfg0.N) (y : S256x5632.Idx) : ∃ p ∈ chunks m c t, y ∈ p.1.set :=
  View.cover_of_tiled_head _ _ _ rfl y

/-- The two halves of the block, as the body loads them. -/
abbrev bA (t : Fin cfg0.N) : Vec Ideal S256x2816 .f32 := (ms0_9 t).view.readCov (chunks m c t)
  (Rect.unit (s := S256x5632) ![0, 0] ![256, 2816] inb_S256x5632_S256x2816_0_0).toLoadRect
abbrev bG (t : Fin cfg0.N) : Vec Ideal S256x2816 .f32 := (ms0_9 t).view.readCov (chunks m c t)
  (Rect.unit (s := S256x5632) ![0, 2816] ![256, 2816] inb_S256x5632_S256x2816_0_2816).toLoadRect

section
include hX hG hP

theorem bA_at (t : Fin cfg0.N) (r : Fin 256) (j : Fin 2816) :
    bA m c t (ix2 r j) = (act (UF X G P) (bOf (rowOf t r)) (sOf (rowOf t r)) j : EReal) := by
  refine (load_of_pieces _ (AU X G P t) _ (chunks_of m c X G P hX hG hP t) _ _ (chunks_cover m c t _)).trans ?_
  refine congrArg (AU X G P t) (a₂ := ix2 r ⟨j.val, by omega⟩) ?_
  funext a; apply Fin.ext
  match a with
  | ⟨0, _⟩ => show 0 + 1 * r.val = r.val; omega
  | ⟨1, _⟩ => show 0 + 1 * j.val = j.val; omega

theorem bG_at (t : Fin cfg0.N) (r : Fin 256) (j : Fin 2816) :
    bG m c t (ix2 r j) = (gate (UF X G P) (bOf (rowOf t r)) (sOf (rowOf t r)) j : EReal) := by
  refine (load_of_pieces _ (AU X G P t) _ (chunks_of m c X G P hX hG hP t) _ _ (chunks_cover m c t _)).trans ?_
  refine congrArg (AU X G P t) (a₂ := ix2 r ⟨2816 + j.val, by omega⟩) ?_
  funext a; apply Fin.ext
  match a with
  | ⟨0, _⟩ => show 0 + 1 * r.val = r.val; omega
  | ⟨1, _⟩ => show 2816 + 1 * j.val = 2816 + j.val; omega

end

/-! ## The taps -/

/-- The eight rows before the block. -/
abbrev bHalo (t : Fin cfg0.N) : Vec Ideal S8x2816 .f32 :=
  k0_pay12 (BitVec.ofNat 32 (grid0.coords t 0).val) (k0_pay11 (iblk m c 1 t) (bP0 m c t)) (iblk m c 1 t) (bP1 m c t)

/-- The scratch buffer's two pieces: the eight rows before the block, and the block. -/
abbrev pieces (t : Fin cfg0.N) : List (View.Piece (Elt Ideal) S264x2816 .f32) :=
  [⟨Rect.unit ![8, 0] ![256, 2816] inb_S264x2816_S256x2816_8_0, k0_pay13 (bA m c t)⟩,
    ⟨Rect.unit ![0, 0] ![8, 2816] inb_S264x2816_S8x2816_0_0, bHalo m c t⟩]

section
include hX hG hP

theorem halo_at (t : Fin cfg0.N) (q : Fin 8) (j : Fin 2816) : bHalo m c t (ix2 q j)
    = if t.val % 8 = 0 then (0 : EReal) else (act (UF X G P) ⟨t.val / 8, by have := lt16 t; omega⟩
        ⟨t.val % 8 * 256 + q.val - 8, by omega⟩ j : EReal) := by
  unfold bHalo
  rw [coord t]
  refine (pay12_at t.val (lt16 t) (iblk m c 1 t) (bP0 m c t) (bP1 m c t)
    (fun q d => hbF X G ⟨t.val / 8, by have := lt16 t; omega⟩ ⟨t.val % 8 * 256 + q.val - 16, by omega⟩ d) (bP P) q j
    (fun h r d => blk1 m c X G hX hG t h r d) (fun d k => (bP_at m c 0 0 rfl t _ d k).trans (congrFun hP _))
    (fun d k => (bP_at m c 1 1 rfl t _ d k).trans (congrFun hP _))).trans ?_
  refine congrArg (ite _ (0 : EReal)) (congrArg Real.toEReal ((bUp_hb X G P _ _ _).trans ?_))
  exact congrArg (fun s => upF X G P _ s _) (Fin.ext (show t.val % 8 * 256 + (8 + q.val) - 16 = t.val % 8 * 256 + q.val - 8 by omega))

theorem ext_at (t : Fin cfg0.N) (k : Fin 3) (o : ℕ) (ho : o = 6 + k.val)
    (inb : ∀ a, (![o, 0] : Fin 2 → ℕ) a + (![256, 2816] : Fin 2 → ℕ) a ≤ S264x2816.size a) (r : Fin 256) (j : Fin 2816) :
    (View.whole cc0_scratch0).readCov (pieces m c t) (Rect.unit (s := S264x2816) ![o, 0] ![256, 2816] inb).toLoadRect (ix2 r j)
    = (tap (act (UF X G P) (bOf (rowOf t r))) k (sOf (rowOf t r)) j : EReal) := by
  have ht := lt16 t
  refine (load_two_rows _ _ _ _ _ inb rfl r j).trans ?_
  by_cases h : o + r.val < 8
  · rw [dif_pos h, halo_at m c X G P hX hG hP]
    by_cases h0 : t.val % 8 = 0
    · rw [if_pos h0]
      exact congrArg Real.toEReal (tap_zero _ _ _ _ (by unfold sOf rowOf; simp only []; omega)).symm
    · rw [if_neg h0]
      have e : bOf (rowOf t r) = ⟨t.val / 8, by omega⟩ := by unfold bOf rowOf; simp only [Fin.mk.injEq]; omega
      rw [e]
      exact congrArg Real.toEReal (tap_eq (act (UF X G P) _) k _ j ⟨t.val % 8 * 256 + (o + r.val) - 8, by omega⟩
        (by unfold sOf rowOf; simp only []; omega)).symm
  · rw [dif_neg h, pay13_at, bA_at m c X G P hX hG hP]
    have e : bOf (rowOf t ⟨o + r.val - 8, by omega⟩) = bOf (rowOf t r) := by
      unfold bOf rowOf; simp only [Fin.mk.injEq]; omega
    rw [e]
    exact congrArg Real.toEReal (tap_eq (act (UF X G P) _) k _ j _ (by unfold sOf rowOf; simp only []; omega)).symm

end

/-- The realigned copies' two pieces: the rows two tokens back, and those one token back. -/
abbrev copies (t : Fin cfg0.N) : List (View.Piece (Elt Ideal) S2x256x2816 .f32) :=
  [⟨Rect.unit ![1, 0, 0] ![1, 256, 2816] inb_S2x256x2816_S1x256x2816_1_0_0, k0_pay15
      ((View.whole cc0_scratch0).readCov (pieces m c t)
        (Rect.unit (s := S264x2816) ![7, 0] ![256, 2816] inb_S264x2816_S256x2816_7_0).toLoadRect)⟩,
    ⟨Rect.unit ![0, 0, 0] ![1, 256, 2816] inb_S2x256x2816_S1x256x2816_0_0_0, k0_pay14
      ((View.whole cc0_scratch0).readCov (pieces m c t)
        (Rect.unit (s := S264x2816) ![6, 0] ![256, 2816] inb_S264x2816_S256x2816_6_0).toLoadRect)⟩]

/-- The three taps, as the body loads them. -/
abbrev T0 (t : Fin cfg0.N) : Vec Ideal S1x256x2816 .f32 := (View.whole cc0_scratch1).readCov (copies m c t)
  (Rect.unit (s := S2x256x2816) ![0, 0, 0] ![1, 256, 2816] inb_S2x256x2816_S1x256x2816_0_0_0).toLoadRect
abbrev T1 (t : Fin cfg0.N) : Vec Ideal S1x256x2816 .f32 := (View.whole cc0_scratch1).readCov (copies m c t)
  (Rect.unit (s := S2x256x2816) ![1, 0, 0] ![1, 256, 2816] inb_S2x256x2816_S1x256x2816_1_0_0).toLoadRect
abbrev T2 (t : Fin cfg0.N) : Vec Ideal S256x2816 .f32 :=
  (View.whole cc0_scratch0).readCov (pieces m c t) (Rect.unit (s := S264x2816) ![8, 0] ![256, 2816] inb_S264x2816_S256x2816_8_0).toLoadRect

section
include hX hG hP

theorem T0_at (t : Fin cfg0.N) (r : Fin 256) (j : Fin 2816) :
    T0 m c t (ix3 0 r j) = (tap (act (UF X G P) (bOf (rowOf t r))) 0 (sOf (rowOf t r)) j : EReal) := by
  unfold T0
  rw [View.readCov_skip _ _ _ _ _ (by decide +kernel), View.readCov_cons_toLoadRect]
  pointwise [k0_pay14]
  exact ext_at m c X G P hX hG hP t 0 6 rfl _ r j

theorem T1_at (t : Fin cfg0.N) (r : Fin 256) (j : Fin 2816) :
    T1 m c t (ix3 0 r j) = (tap (act (UF X G P) (bOf (rowOf t r))) 1 (sOf (rowOf t r)) j : EReal) := by
  unfold T1
  rw [View.readCov_cons_toLoadRect]
  pointwise [k0_pay15]
  exact ext_at m c X G P hX hG hP t 1 7 rfl _ r j

theorem T2_at (t : Fin cfg0.N) (r : Fin 256) (j : Fin 2816) :
    T2 m c t (ix2 r j) = (tap (act (UF X G P) (bOf (rowOf t r))) 2 (sOf (rowOf t r)) j : EReal) :=
  ext_at m c X G P hX hG hP t 2 8 rfl _ r j

end

/-! ## The gated product and what follows it, at a point -/

abbrev bW0 (t : Fin cfg0.N) : Vec Ideal S1x2816 .f32 := View.ld (iblk m c 4 t) (Rect.unit ![0, 0] ![1, 2816] inb_S8x2816_S1x2816_0_0)
abbrev bW1 (t : Fin cfg0.N) : Vec Ideal S1x2816 .f32 := View.ld (iblk m c 4 t) (Rect.unit ![1, 0] ![1, 2816] inb_S8x2816_S1x2816_1_0)
abbrev bW2 (t : Fin cfg0.N) : Vec Ideal S1x2816 .f32 := View.ld (iblk m c 4 t) (Rect.unit ![2, 0] ![1, 2816] inb_S8x2816_S1x2816_2_0)

/-- The gated product at a point. -/
abbrev bGB (t : Fin cfg0.N) : Vec Ideal S256x2816 .bf16 :=
  k0_pay16 (iblk m c 5 t) (bW0 m c t) (T0 m c t) (bW1 m c t) (T1 m c t) (bW2 m c t) (T2 m c t) (bG m c t)

section
include hX hG hP hW hB

theorem gb_at (t : Fin cfg0.N) (r : Fin 256) (j : Fin 2816) :
    bGB m c t (ix2 r j) = (gbF X G P W B (bOf (rowOf t r)) (sOf (rowOf t r)) j : EReal) :=
  pay16_at (iblk m c 5 t) (bW0 m c t) (bW1 m c t) (bW2 m c t) (T0 m c t) (T1 m c t) (T2 m c t) (bG m c t)
    (fun j => B (ix2 1 j)) (fun j => W (ix3 1 0 j)) (fun j => W (ix3 1 1 j)) (fun j => W (ix3 1 2 j))
    (fun r j => tap (act (UF X G P) (bOf (rowOf t r))) 0 (sOf (rowOf t r)) j)
    (fun r j => tap (act (UF X G P) (bOf (rowOf t r))) 1 (sOf (rowOf t r)) j)
    (fun r j => tap (act (UF X G P) (bOf (rowOf t r))) 2 (sOf (rowOf t r)) j)
    (fun r j => gate (UF X G P) (bOf (rowOf t r)) (sOf (rowOf t r)) j)
    (fun j => (blk5 m c t j).trans (congrFun hB _)) (fun j => (bW_at m c 0 0 rfl t _ j).trans (congrFun hW _))
    (fun j => (bW_at m c 1 1 rfl t _ j).trans (congrFun hW _)) (fun j => (bW_at m c 2 2 rfl t _ j).trans (congrFun hW _))
    (T0_at m c X G P hX hG hP t) (T1_at m c X G P hX hG hP t) (T2_at m c X G P hX hG hP t) (bG_at m c X G P hX hG hP t) r j

theorem gbt_at (t : Fin cfg0.N) (o : Fin 1) (j : Fin 2816) (r : Fin 256) :
    k0_pay18 (k0_pay17 (iblk m c 5 t) (bW0 m c t) (T0 m c t) (bW1 m c t) (T1 m c t) (bW2 m c t) (T2 m c t) (bG m c t)) (ix3 o j r)
    = GBT X G P W B (ix3 ⟨t.val, lt16 t⟩ j r) :=
  (pay18_at _ _ _ _ _ _ _ _ o j r).trans (gb_at m c X G P W B hX hG hP hW hB t r j)

end

section
include hX hG hP hW hB hD hN hT

theorem dx_at (t : Fin cfg0.N) (r : Fin 256) (d : Fin 1024) :
    k0_pay1 (k0_pay20 (bGB m c t) (iblk m c 2 t) (iblk m c 6 t)) (k0_pay21 (bGB m c t) (iblk m c 2 t) (iblk m c 6 t))
      (k0_pay25 (bGB m c t) (iblk m c 2 t) (iblk m c 6 t) (iblk m c 7 t) (iblk m c 8 t) (iblk m c 7 t))
      (k0_pay26 (bGB m c t) (iblk m c 2 t) (iblk m c 6 t) (iblk m c 7 t) (iblk m c 8 t) (iblk m c 7 t)) (ix2 r d)
    = DX X G P W B D N T (ix2 (rowOf t r) d) :=
  pay1_at (bGB m c t) (iblk m c 2 t) (iblk m c 8 t) (iblk m c 6 t) (iblk m c 7 t)
    (fun r => gbF X G P W B (bOf (rowOf t r)) (sOf (rowOf t r))) (fun r => xrow X (bOf (rowOf t r)) (sOf (rowOf t r)))
    (fun r d => T (ix3 (bOf (rowOf t r)) (sOf (rowOf t r)) d)) (fun j d => D (ix3 1 j d)) (fun d => N (ix1 d))
    (gb_at m c X G P W B hX hG hP hW hB t) (fun r d => (blk2 m c t r d).trans (congrFun hX _))
    (fun j d => (blk6 m c t j d).trans (congrFun hD _)) (fun d => (blk7 m c t d).trans (congrFun hN _))
    (fun r d => (blk8 m c t r d).trans (congrFun hT _)) r d

theorem dxb_at (t : Fin cfg0.N) (r : Fin 256) (d : Fin 1024) :
    k0_pay3 (k0_pay20 (bGB m c t) (iblk m c 2 t) (iblk m c 6 t)) (k0_pay21 (bGB m c t) (iblk m c 2 t) (iblk m c 6 t))
      (k0_pay25 (bGB m c t) (iblk m c 2 t) (iblk m c 6 t) (iblk m c 7 t) (iblk m c 8 t) (iblk m c 7 t))
      (k0_pay26 (bGB m c t) (iblk m c 2 t) (iblk m c 6 t) (iblk m c 7 t) (iblk m c 8 t) (iblk m c 7 t)) (ix2 r d)
    = DX X G P W B D N T (ix2 (rowOf t r) d) :=
  dx_at m c X G P W B D N T hX hG hP hW hB hD hN hT t r d

theorem loss_at (t : Fin cfg0.N) (q : Fin 1) (d : Fin 1024) :
    k0_pay23 (bGB m c t) (iblk m c 2 t) (iblk m c 6 t) (iblk m c 7 t) (iblk m c 8 t) (ix2 q d)
    = ((∑ r, lossF X G P W B D N T (bOf (rowOf t r)) (sOf (rowOf t r)) d : ℝ) : EReal) := by
  obtain rfl : q = 0 := Subsingleton.elim _ _
  exact pay23_at (bGB m c t) (iblk m c 2 t) (iblk m c 8 t) (iblk m c 6 t) (iblk m c 7 t)
    (fun r => gbF X G P W B (bOf (rowOf t r)) (sOf (rowOf t r))) (fun r => xrow X (bOf (rowOf t r)) (sOf (rowOf t r)))
    (fun r d => T (ix3 (bOf (rowOf t r)) (sOf (rowOf t r)) d)) (fun j d => D (ix3 1 j d)) (fun d => N (ix1 d))
    (gb_at m c X G P W B hX hG hP hW hB t) (fun r d => (blk2 m c t r d).trans (congrFun hX _))
    (fun j d => (blk6 m c t j d).trans (congrFun hD _)) (fun d => (blk7 m c t d).trans (congrFun hN _))
    (fun r d => (blk8 m c t r d).trans (congrFun hT _)) d

theorem dgn_at (t : Fin cfg0.N) (q : Fin 1) (d : Fin 1024) :
    k0_pay2 (k0_pay21 (bGB m c t) (iblk m c 2 t) (iblk m c 6 t))
      (k0_pay24 (bGB m c t) (iblk m c 2 t) (iblk m c 6 t) (iblk m c 7 t) (iblk m c 8 t)) (ix2 q d)
    = ((∑ r, dnF X G P W B D N T (bOf (rowOf t r)) (sOf (rowOf t r)) d : ℝ) : EReal) := by
  obtain rfl : q = 0 := Subsingleton.elim _ _
  exact pay2_at (bGB m c t) (iblk m c 2 t) (iblk m c 8 t) (iblk m c 6 t) (iblk m c 7 t)
    (fun r => gbF X G P W B (bOf (rowOf t r)) (sOf (rowOf t r))) (fun r => xrow X (bOf (rowOf t r)) (sOf (rowOf t r)))
    (fun r d => T (ix3 (bOf (rowOf t r)) (sOf (rowOf t r)) d)) (fun j d => D (ix3 1 j d)) (fun d => N (ix1 d))
    (gb_at m c X G P W B hX hG hP hW hB t) (fun r d => (blk2 m c t r d).trans (congrFun hX _))
    (fun j d => (blk6 m c t j d).trans (congrFun hD _)) (fun d => (blk7 m c t d).trans (congrFun hN _))
    (fun r d => (blk8 m c t r d).trans (congrFun hT _)) d

end

/-! ## The result arrays -/

include hX hG hP in
theorem final9 : (dats m 0 c).arrAt 9 (cfgs 0).N = UPR X G P := by
  refine (dats m 0 c).arrAt_eq_of_covers 9 _ (by decide +kernel) fun t _ z => ?_
  have ht := lt16 t
  blk_simp
  rw [after0_9]
  by_cases h0 : t.val % 16 = 0
  · rw [outsAt0_A m c t h0 (by omega) (by omega) (by omega)]; dsimp only; frame_out
    refine (View.canon_append_of_piecesOf (AU X G P t) [] (chunks m c t) (chunks_of m c X G P hX hG hP t) z (chunks_cover m c t z)).trans ?_
    idx_vars z
    refine (show AU X G P t (ix2 z0 z1) = UPR X G P (ix2 (rowOf t z0) z1) from rfl).trans (congrArg _ ?_)
    blk_ext [idx t, rowOf]
  · rw [outsAt0_B m c t h0 (by omega) (by omega) (by omega)]; dsimp only; frame_out
    refine (View.canon_append_of_piecesOf (AU X G P t) [] (chunks m c t) (chunks_of m c X G P hX hG hP t) z (chunks_cover m c t z)).trans ?_
    idx_vars z
    refine (show AU X G P t (ix2 z0 z1) = UPR X G P (ix2 (rowOf t z0) z1) from rfl).trans (congrArg _ ?_)
    blk_ext [idx t, rowOf]

include hX hG hP hW hB in
theorem final10 : (dats m 0 c).arrAt 10 (cfgs 0).N = GBT X G P W B := by
  refine (dats m 0 c).arrAt_eq_of_covers 10 _ (by decide +kernel) fun t _ z => ?_
  have ht := lt16 t
  blk_simp
  rw [after0_10]
  by_cases h0 : t.val % 16 = 0
  · rw [outsAt0_A m c t h0 (by omega) (by omega) (by omega)]; dsimp only; frame_out
    idx_vars z
    refine (gbt_at m c X G P W B hX hG hP hW hB t _ _ _).trans (congrArg _ ?_)
    blk_ext [idx t, rowOf]
  · rw [outsAt0_B m c t h0 (by omega) (by omega) (by omega)]; dsimp only; frame_out
    idx_vars z
    refine (gbt_at m c X G P W B hX hG hP hW hB t _ _ _).trans (congrArg _ ?_)
    blk_ext [idx t, rowOf]

include hX hG hP hW hB hD hN hT in
theorem final11 : (dats m 0 c).arrAt 11 (cfgs 0).N = DX X G P W B D N T := by
  refine (dats m 0 c).arrAt_eq_of_covers 11 _ (by decide +kernel) fun t _ z => ?_
  have ht := lt16 t
  blk_simp
  rw [after0_11]
  by_cases h0 : t.val % 16 = 0
  · rw [outsAt0_A m c t h0 (by omega) (by omega) (by omega)]; dsimp only; frame_out
    idx_vars z
    refine (dx_at m c X G P W B D N T hX hG hP hW hB hD hN hT t _ _).trans (congrArg _ ?_)
    blk_ext [idx t, rowOf]
  · rw [outsAt0_B m c t h0 (by omega) (by omega) (by omega)]; dsimp only; frame_out
    idx_vars z
    refine (dx_at m c X G P W B D N T hX hG hP hW hB hD hN hT t _ _).trans (congrArg _ ?_)
    blk_ext [idx t, rowOf]

include hX hG hP hW hB hD hN hT in
theorem final12 : (dats m 0 c).arrAt 12 (cfgs 0).N = DX X G P W B D N T := by
  refine (dats m 0 c).arrAt_eq_of_covers 12 _ (by decide +kernel) fun t _ z => ?_
  have ht := lt16 t
  blk_simp
  rw [after0_12]
  by_cases h0 : t.val % 16 = 0
  · rw [outsAt0_A m c t h0 (by omega) (by omega) (by omega)]; dsimp only; frame_out
    idx_vars z
    refine (dxb_at m c X G P W B D N T hX hG hP hW hB hD hN hT t _ _).trans (congrArg _ ?_)
    blk_ext [idx t, rowOf]
  · rw [outsAt0_B m c t h0 (by omega) (by omega) (by omega)]; dsimp only; frame_out
    idx_vars z
    refine (dxb_at m c X G P W B D N T hX hG hP hW hB hD hN hT t _ _).trans (congrArg _ ?_)
    blk_ext [idx t, rowOf]

include hX hG hP hW hB hD hN hT in
theorem final13 : (dats m 0 c).arrAt 13 (cfgs 0).N = LOSSR X G P W B D N T := by
  refine (dats m 0 c).arrAt_eq_of_after_last 13 t0_15 (by decide +kernel) _ fun j => ?_
  blk_simp
  rw [after0_13, Pipeline.eq_sum_fin_of_reset_step_apply_last (fun n h => (outsAt0 m c n h).2.2.2.2.1) 16 (fun _ => (0 : EReal))
    (fun t j => ((∑ r, lossF X G P W B D N T (bOf (rowOf t r)) (sOf (rowOf t r)) (j 1) : ℝ) : EReal))
    (fun t h j => ?_) (fun t h j => ?_) (le_of_eq N_0) t0_15 rfl j]
  · rw [zero_add]
    exact sum_rows (fun R => lossF X G P W B D N T (bOf R) (sOf R) (j 1))
  · rw [outsAt0_A m c t h (by have := lt16 t; omega) h (by have := lt16 t; omega)]; dsimp only; frame_out
    idx_vars j
    exact (loss_at m c X G P W B D N T hX hG hP hW hB hD hN hT t _ _).trans (zero_add _).symm
  · rw [outsAt0_B m c t h (by omega) h (by omega)]; dsimp only; frame_out
    idx_vars j
    exact (pay4_at _ _ _ _).trans (congrArg (fun a : EReal => _ + a) (loss_at m c X G P W B D N T hX hG hP hW hB hD hN hT t _ _))

include hX hG hP hW hB hD hN hT in
theorem final14 : (dats m 0 c).arrAt 14 (cfgs 0).N = DGN X G P W B D N T := by
  refine (dats m 0 c).arrAt_eq_of_after_last 14 t0_15 (by decide +kernel) _ fun j => ?_
  blk_simp
  rw [after0_14, Pipeline.eq_sum_fin_of_reset_step_apply_last (fun n h => (outsAt0 m c n h).2.2.2.2.2) 16 (fun _ => (0 : EReal))
    (fun t j => ((∑ r, dnF X G P W B D N T (bOf (rowOf t r)) (sOf (rowOf t r)) (j 1) : ℝ) : EReal))
    (fun t h j => ?_) (fun t h j => ?_) (le_of_eq N_0) t0_15 rfl j]
  · rw [zero_add]
    exact sum_rows (fun R => dnF X G P W B D N T (bOf R) (sOf R) (j 1))
  · rw [outsAt0_A m c t h (by have := lt16 t; omega) h (by have := lt16 t; omega)]; dsimp only; frame_out
    idx_vars j
    exact (dgn_at m c X G P W B D N T hX hG hP hW hB hD hN hT t _ _).trans (zero_add _).symm
  · rw [outsAt0_B m c t h (by omega) h (by omega)]; dsimp only; frame_out
    idx_vars j
    exact (pay5_at _ _ _ _ _).trans (congrArg (fun a : EReal => _ + a) (dgn_at m c X G P W B D N T hX hG hP hW hB hD hN hT t _ _))

end Final

end Cert.LossIdeal.Elt

end
-- ==== Proof.LossRef.lean ====
/- The reference of the second feed-forward block with the loss and its gradient, read at an element over real arguments. -/
module

public import proofs.«01_k».proof.Proof.Fwd
public import proofs.«01_k».proof.Proof.Gen.LossRefIdeal.Read

@[expose] public section

set_option maxRecDepth 16384

noncomputable section

namespace Cert.LossRefIdeal.Elt

open Cert.LossRefIdeal Cert.LossRefIdeal.Read Cert.Reals Idealize.ShloMosaic

variable (X : S2x2048x1024.Idx → ℝ) (G : S2x1024.Idx → ℝ) (P : S2x1024x5632.Idx → ℝ) (W : S2x3x2816.Idx → ℝ)
variable (B : S2x2816.Idx → ℝ) (D : S2x2816x1024.Idx → ℝ) (N : S1024.Idx → ℝ) (T : S2x2048x1024.Idx → ℝ)
variable (b : Fin 2) (s : Fin 2048) (j : Fin 2816) (d : Fin 1024)

/-! ## The block -/

theorem v8_at : val_main_v8 (F := Ideal) (up X) (ix3 b s 0) = (rmsV (xrow X b s) : EReal) := by
  pointwise [val_main_v8, val_main_v7, val_main_v6, val_main_v5, val_main_v4, val_main_v3, val_main_v2, val_main_cst,
    val_main_cst_0, val_main_cst_1]
  simp only [up, ← EReal.coe_mul, coe_sum, w1024, wRms, div_coe_coe, ne_eq, OfNat.ofNat_ne_zero, not_false_eq_true, ← EReal.coe_add]
  rfl

theorem v9_at : val_main_v9 (F := Ideal) (up X) (ix3 b s 0) = (rmsR (xrow X b s) : EReal) := by
  pointwise [val_main_v9, v8_at]
  exact rsqrt_coe_pos _ (rmsV_pos _)

theorem v14_at : val_main_v14 (F := Ideal) (up X) (up G) (ix3 b s d) = (hbF X G b s d : EReal) := by
  pointwise [val_main_v14, val_main_v13, val_main_v12, val_main_v11, val_main_v10, val_main_v1, val_main_v0, v9_at]
  simp only [up, ← EReal.coe_mul]; rfl

theorem v17_at (f : Fin 5632) : val_main_v17 (F := Ideal) (up X) (up G) (up P) (ix3 b s f) = (upF X G P b s f : EReal) := by
  pointwise [val_main_v17, val_main_v16, val_main_v15, v14_at]
  simp only [up, ← EReal.coe_mul, coe_sum]; rfl

theorem v26_at : val_main_v26 (F := Ideal) (up X) (up G) (up P) (ix3 b s j) = (tap (act (UF X G P) b) 0 s j : EReal) := by
  pointwise [val_main_v26, val_main_v25, val_main_v24, val_main_v18, val_main_cst_2, v17_at]
  by_cases h : s.val < 2
  · rw [dif_pos h]; exact congrArg Real.toEReal (tap_zero _ _ _ _ (show s.val + 0 < 2 from h)).symm
  · rw [dif_neg h]
    exact congrArg Real.toEReal (tap_eq (act (UF X G P) b) 0 s j ⟨s.val - 2, by omega⟩ (show s.val - 2 + 2 = s.val + 0 by omega)).symm

theorem v32_at : val_main_v32 (F := Ideal) (up X) (up G) (up P) (ix3 b s j) = (tap (act (UF X G P) b) 1 s j : EReal) := by
  pointwise [val_main_v32, val_main_v25, val_main_v24, val_main_v18, val_main_cst_2, v17_at]
  by_cases h : 1 + s.val < 2
  · rw [dif_pos h]; exact congrArg Real.toEReal (tap_zero _ _ _ _ (show s.val + 1 < 2 by omega)).symm
  · rw [dif_neg h]
    exact congrArg Real.toEReal (tap_eq (act (UF X G P) b) 1 s j ⟨1 + s.val - 2, by omega⟩ (show 1 + s.val - 2 + 2 = s.val + 1 by omega)).symm

theorem v39_at : val_main_v39 (F := Ideal) (up X) (up G) (up P) (ix3 b s j) = (tap (act (UF X G P) b) 2 s j : EReal) := by
  pointwise [val_main_v39, val_main_v25, val_main_v24, val_main_v18, val_main_cst_2, v17_at]
  exact congrArg Real.toEReal (tap_eq (act (UF X G P) b) 2 s j s rfl).symm

theorem v48_at : val_main_v48 (F := Ideal) (up X) (up G) (up P) (up W) (up B) (ix3 b s j) = (ac (UF X G P) W B b s j : EReal) := by
  pointwise [val_main_v48, val_main_v47, val_main_v46, val_main_v45, val_main_v44, val_main_v43, val_main_v42, val_main_v41,
    val_main_v40, val_main_v38, val_main_v37, val_main_v36, val_main_v35, val_main_v34, val_main_v33, val_main_v31, val_main_v30,
    val_main_v29, val_main_v28, val_main_v27, val_main_v23, val_main_v22, val_main_v21, val_main_v20, v26_at, v32_at, v39_at]
  simp only [up, ← EReal.coe_mul, ← EReal.coe_add]
  refine congrArg _ ?_
  unfold ac acv; ring

theorem call0_v5_at : val_main_call0_v5 (F := Ideal) (up X) (up G) (up P) (up W) (up B) (ix3 b s j)
    = (sgm (ac (UF X G P) W B b s j) : EReal) := by
  pointwise [val_main_call0_v5, val_main_call0_v4, val_main_call0_v3, val_main_call0_v2, val_main_call0_v1, val_main_call0_v0,
    val_main_call0_cst, val_main_call0_cst_0, v48_at]
  exact sgm_of_div _

theorem v50_at : val_main_v50 (F := Ideal) (up X) (up G) (up P) (up W) (up B) (ix3 b s j) = (gbF X G P W B b s j : EReal) := by
  pointwise [val_main_v50, val_main_v49, val_main_v19, v48_at, call0_v5_at, v17_at]
  simp only [← EReal.coe_mul]; rfl

theorem v54_at : val_main_v54 (F := Ideal) (up X) (up G) (up P) (up W) (up B) (up D) (ix3 b s d)
    = (xoF X G P W B D b s d : EReal) := by
  pointwise [val_main_v54, val_main_v53, val_main_v52, val_main_v51, v50_at]
  simp only [up, ← EReal.coe_mul, coe_sum, ← EReal.coe_add]; rfl

/-! ## The last norm and the loss -/

theorem v61_at : val_main_v61 (F := Ideal) (up X) (up G) (up P) (up W) (up B) (up D) (ix3 b s 0)
    = (rmsV (xoF X G P W B D b s) : EReal) := by
  pointwise [val_main_v61, val_main_v60, val_main_v59, val_main_v58, val_main_v57, val_main_v56, val_main_v55, val_main_cst_3,
    val_main_cst_4, val_main_cst_5, v54_at]
  simp only [← EReal.coe_mul, coe_sum, w1024, wRms, div_coe_coe, ne_eq, OfNat.ofNat_ne_zero, not_false_eq_true, ← EReal.coe_add]
  rfl

theorem v62_at : val_main_v62 (F := Ideal) (up X) (up G) (up P) (up W) (up B) (up D) (ix3 b s 0)
    = (rmsR (xoF X G P W B D b s) : EReal) := by
  pointwise [val_main_v62, v61_at]
  exact rsqrt_coe_pos _ (rmsV_pos _)

theorem v65_at : val_main_v65 (F := Ideal) (up X) (up G) (up P) (up W) (up B) (up D) (ix3 b s 0)
    = ((-(1 / 2) * (rmsR (xoF X G P W B D b s) / rmsV (xoF X G P W B D b s)) : ℝ) : EReal) := by
  pointwise [val_main_v65, val_main_v64, val_main_v63, val_main_cst_6, v62_at, v61_at]
  rw [div_coe_coe _ _ (rmsV_pos _).ne', wNegHalf, ← EReal.coe_mul]

theorem v67_at : val_main_v67 (F := Ideal) (up X) (up G) (up P) (up W) (up B) (up D) (ix3 b s d)
    = (rmsH (xoF X G P W B D b s) d : EReal) := by
  pointwise [val_main_v67, val_main_v66, v62_at, v54_at]
  simp only [← EReal.coe_mul]; rfl

theorem v71_at : val_main_v71 (F := Ideal) (up X) (up G) (up P) (up W) (up B) (up D) (up N) (up T) (ix3 b s d)
    = (dfF X G P W B D N T b s d : EReal) := by
  pointwise [val_main_v71, val_main_v70, val_main_v69, val_main_v68, v67_at]
  simp only [up, ← EReal.coe_mul, ← EReal.coe_sub]; rfl

theorem v78_at : val_main_v78 (F := Ideal) (up X) (up G) (up P) (up W) (up B) (up D) (up N) (up T) (ix3 b s d)
    = (lossF X G P W B D N T b s d : EReal) := by
  pointwise [val_main_v78, val_main_v77, val_main_v76, val_main_v75, val_main_v72, val_main_cst_8, val_main_cst_9, v71_at]
  simp only [w1024, wHalf, ← EReal.coe_mul, div_coe_coe, ne_eq, OfNat.ofNat_ne_zero, not_false_eq_true]
  refine congrArg _ ?_
  unfold lossF; ring

theorem v86_at : val_main_v86 (F := Ideal) (up X) (up G) (up P) (up W) (up B) (up D) (up N) (up T) (ix3 b s d)
    = ((dfF X G P W B D N T b s d * (1 / 1024) : ℝ) : EReal) := by
  pointwise [val_main_v86, val_main_v85, val_main_v84, val_main_v83, val_main_v82, val_main_v81, val_main_v80, val_main_v74,
    val_main_v73, val_main_cst_7, val_main_cst_11, val_main_cst_12, val_main_cst_13, v71_at]
  simp only [w1024, wHalf, wTwo, ← EReal.coe_one, ← EReal.coe_mul, div_coe_coe, ne_eq, OfNat.ofNat_ne_zero, not_false_eq_true]
  refine congrArg _ ?_
  ring

theorem v91_at : val_main_v91 (F := Ideal) (up X) (up G) (up P) (up W) (up B) (up D) (up N) (up T) (ix3 b s d)
    = (dyF X G P W B D N T b s d : EReal) := by
  pointwise [val_main_v91, val_main_v90, val_main_v68, v86_at]
  simp only [up, ← EReal.coe_mul]; rfl

theorem v102_at : val_main_v102 (F := Ideal) (up X) (up G) (up P) (up W) (up B) (up D) (up N) (up T) (ix3 b s d)
    = (((∑ k, xoF X G P W B D b s k * dyF X G P W B D N T b s k)
        * (-(1 / 2) * (rmsR (xoF X G P W B D b s) / rmsV (xoF X G P W B D b s))) / 1024 : ℝ) : EReal) := by
  pointwise [val_main_v102, val_main_v101, val_main_v100, val_main_v99, val_main_v98, val_main_v95, val_main_v94, val_main_v93,
    val_main_cst_16, val_main_cst_17, val_main_cst_18, v91_at, v54_at, v65_at]
  simp only [← EReal.coe_mul, coe_sum, w1024, div_coe_coe, ne_eq, OfNat.ofNat_ne_zero, not_false_eq_true, Fin.sum_univ_one, v65_at]

theorem v106_at : val_main_v106 (F := Ideal) (up X) (up G) (up P) (up W) (up B) (up D) (up N) (up T) (ix3 b s d)
    = (dxF X G P W B D N T b s d : EReal) := by
  pointwise [val_main_v106, val_main_v105, val_main_v104, val_main_v103, val_main_v97, val_main_v96, v91_at, v102_at, v54_at, v62_at]
  simp only [← EReal.coe_mul, ← EReal.coe_add]
  refine congrArg _ ?_
  rw [dxF, ← rmsBwd]; ring

/-! ## The six results -/

theorem v111_at (r : Fin 4096) (f : Fin 5632) : val_main_v111 (F := Ideal) (up X) (up G) (up P) (ix2 r f)
    = (upF X G P (bOf r) (sOf r) f : EReal) := by
  pointwise [val_main_v111, v17_at]
  rfl

theorem v110_at (k : Fin 16) (q : Fin 256) : val_main_v110 (F := Ideal) (up X) (up G) (up P) (up W) (up B) (ix3 k j q)
    = (gbF X G P W B (bOf ⟨k.val * 256 + q.val, by omega⟩) (sOf ⟨k.val * 256 + q.val, by omega⟩) j : EReal) := by
  pointwise [val_main_v110, val_main_v109, val_main_v108, v50_at]
  refine congrArg Real.toEReal ?_
  congr 1 <;> apply Fin.ext <;> simp only [bOf, sOf] <;> omega

theorem v107_at (r : Fin 4096) : val_main_v107 (F := Ideal) (up X) (up G) (up P) (up W) (up B) (up D) (up N) (up T) (ix2 r d)
    = (dxF X G P W B D N T (bOf r) (sOf r) d : EReal) := by
  pointwise [val_main_v107, v106_at]
  rfl

theorem v112_at (r : Fin 4096) : val_main_v112 (F := Ideal) (up X) (up G) (up P) (up W) (up B) (up D) (up N) (up T) (ix2 r d)
    = (dxF X G P W B D N T (bOf r) (sOf r) d : EReal) := by
  pointwise [val_main_v112, v107_at]

theorem v113_at : val_main_v113 (F := Ideal) (up X) (up G) (up P) (up W) (up B) (up D) (up N) (up T) (ix2 0 d)
    = ((∑ b, ∑ s, lossF X G P W B D N T b s d : ℝ) : EReal) := by
  pointwise [val_main_v113, val_main_v79, val_main_cst_10, hostReduceAdd_r3_a01, v78_at]
  simp only [coe_sum]

theorem v114_at : val_main_v114 (F := Ideal) (up X) (up G) (up P) (up W) (up B) (up D) (up N) (up T) (ix2 0 d)
    = ((∑ b, ∑ s, dnF X G P W B D N T b s d : ℝ) : EReal) := by
  pointwise [val_main_v114, val_main_v92, val_main_v89, val_main_v88, val_main_v87, val_main_cst_14, val_main_cst_15,
    hostReduceAdd_r3_a01, v67_at, v86_at]
  simp only [← EReal.coe_mul, coe_sum, Fin.sum_univ_one]
  refine congrArg Real.toEReal (Finset.sum_congr rfl fun b _ => Finset.sum_congr rfl fun s _ => ?_)
  rw [dnF]; ring

end Cert.LossRefIdeal.Elt

end
-- ==== Proof.LossPair.lean ====
module

public import proofs.«01_k».proof.Defs
public import Idealize.ShloMosaic.Lib.Claim
public import proofs.«01_k».proof.Proof.Loss
public import proofs.«01_k».proof.Proof.LossRef
public import proofs.«01_k».proof.Proof.Gen.Pre_loss_finite
@[expose] public section

set_option maxRecDepth 16384
set_option maxHeartbeats 2000000

noncomputable section

/-! # The second feed-forward block with the loss: the kernel's six results are the reference's -/

namespace Cert.LossPair

open Idealize.ShloMosaic Idealize.ShloMosaic.StableHlo Idealize.SL.Sem Cert.Reals

section Results
variable (X : LossIdeal.S2x2048x1024.Idx → ℝ) (G : LossIdeal.S2x1024.Idx → ℝ) (P : LossIdeal.S2x1024x5632.Idx → ℝ)
variable (W : LossIdeal.S2x3x2816.Idx → ℝ) (B : LossIdeal.S2x2816.Idx → ℝ) (D : LossIdeal.S2x2816x1024.Idx → ℝ)
variable (N : LossIdeal.S1024.Idx → ℝ) (T : LossIdeal.S2x2048x1024.Idx → ℝ)

theorem first : LossRefIdeal.Read.val_main_v111 (F := Ideal) (up X) (up G) (up P)
    = LossIdeal.Elt.UPR X G P := by
  funext i
  idx_vars i
  exact LossRefIdeal.Elt.v111_at X G P _ _

theorem second : LossRefIdeal.Read.val_main_v110 (F := Ideal) (up X) (up G) (up P) (up W) (up B)
    = LossIdeal.Elt.GBT X G P W B := by
  funext i
  idx_vars i
  exact LossRefIdeal.Elt.v110_at X G P W B _ _ _

theorem third : LossRefIdeal.Read.val_main_v107 (F := Ideal) (up X) (up G) (up P) (up W) (up B) (up D) (up N) (up T)
    = LossIdeal.Elt.DX X G P W B D N T := by
  funext i
  idx_vars i
  exact LossRefIdeal.Elt.v107_at X G P W B D N T _ _

theorem fourth : LossRefIdeal.Read.val_main_v112 (F := Ideal) (up X) (up G) (up P) (up W) (up B) (up D) (up N) (up T)
    = LossIdeal.Elt.DX X G P W B D N T := by
  funext i
  idx_vars i
  exact LossRefIdeal.Elt.v112_at X G P W B D N T _ _

theorem fifth : LossRefIdeal.Read.val_main_v113 (F := Ideal) (up X) (up G) (up P) (up W) (up B) (up D) (up N) (up T)
    = LossIdeal.Elt.LOSSR X G P W B D N T := by
  funext i
  idx_vars i
  obtain rfl : i0 = 0 := Subsingleton.elim _ _
  exact (LossRefIdeal.Elt.v113_at X G P W B D N T _).trans (congrArg Real.toEReal (sum_bs fun b s => lossF X G P W B D N T b s _).symm)

theorem sixth : LossRefIdeal.Read.val_main_v114 (F := Ideal) (up X) (up G) (up P) (up W) (up B) (up D) (up N) (up T)
    = LossIdeal.Elt.DGN X G P W B D N T := by
  funext i
  idx_vars i
  obtain rfl : i0 = 0 := Subsingleton.elim _ _
  exact (LossRefIdeal.Elt.v114_at X G P W B D N T _).trans (congrArg Real.toEReal (sum_bs fun b s => dnF X G P W B D N T b s _).symm)

end Results

theorem frame_ref : quiescent_LossRefIdeal := fun m g _ =>
  θ_run_mono (LossRefIdeal.Value.run m g) fun r h =>
    ⟨fun c => (h c).2.2.2.2.2.2, sem_eq_zero_of_no_sems (by decide) r.2⟩

theorem algebraic : algebraic_LossIdeal_LossRefIdeal_pre_loss_finite := by
  pair_intro
  · run_from LossIdeal.Value.run_blocks m g
  · run_from LossRefIdeal.Value.run m' g'
    all_goals
      obtain ⟨h0, h1, h2, h3, h4, h5, h6, h7⟩ := hpre c
      obtain ⟨a0, a1, a2, a3, a4, a5, a6, a7⟩ := hagree c
      have e0 := eq_up_of_abs_lt _ _ h0
      have e1 := eq_up_of_abs_lt _ _ h1
      have e2 := eq_up_of_abs_lt _ _ h2
      have e3 := eq_up_of_abs_lt _ _ h3
      have e4 := eq_up_of_abs_lt _ _ h4
      have e5 := eq_up_of_abs_lt _ _ h5
      have e6 := eq_up_of_abs_lt _ _ h6
      have e7 := eq_up_of_abs_lt _ _ h7
    · refine ((LossRefIdeal.Read.val_main_v111_eq (launchContents m' c)).trans ?_).trans
        (LossIdeal.Elt.final9 m c _ _ _ e0 e1 e2).symm
      rw [← first, ← e0, ← e1, ← e2, ← a0, ← a1, ← a2]
    · refine ((LossRefIdeal.Read.val_main_v110_eq (launchContents m' c)).trans ?_).trans
        (LossIdeal.Elt.final10 m c _ _ _ _ _ e0 e1 e2 e3 e4).symm
      rw [← second, ← e0, ← e1, ← e2, ← e3, ← e4, ← a0, ← a1, ← a2, ← a3, ← a4]
    · refine ((LossRefIdeal.Read.val_main_v107_eq (launchContents m' c)).trans ?_).trans
        (LossIdeal.Elt.final11 m c _ _ _ _ _ _ _ _ e0 e1 e2 e3 e4 e5 e6 e7).symm
      rw [← third, ← e0, ← e1, ← e2, ← e3, ← e4, ← e5, ← e6, ← e7, ← a0, ← a1, ← a2, ← a3, ← a4, ← a5, ← a6, ← a7]
    · refine ((LossRefIdeal.Read.val_main_v112_eq (launchContents m' c)).trans ?_).trans
        (LossIdeal.Elt.final12 m c _ _ _ _ _ _ _ _ e0 e1 e2 e3 e4 e5 e6 e7).symm
      rw [← fourth, ← e0, ← e1, ← e2, ← e3, ← e4, ← e5, ← e6, ← e7, ← a0, ← a1, ← a2, ← a3, ← a4, ← a5, ← a6, ← a7]
    · refine ((LossRefIdeal.Read.val_main_v113_eq (launchContents m' c)).trans ?_).trans
        (LossIdeal.Elt.final13 m c _ _ _ _ _ _ _ _ e0 e1 e2 e3 e4 e5 e6 e7).symm
      rw [← fifth, ← e0, ← e1, ← e2, ← e3, ← e4, ← e5, ← e6, ← e7, ← a0, ← a1, ← a2, ← a3, ← a4, ← a5, ← a6, ← a7]
    · refine ((LossRefIdeal.Read.val_main_v114_eq (launchContents m' c)).trans ?_).trans
        (LossIdeal.Elt.final14 m c _ _ _ _ _ _ _ _ e0 e1 e2 e3 e4 e5 e6 e7).symm
      rw [← sixth, ← e0, ← e1, ← e2, ← e3, ← e4, ← e5, ← e6, ← e7, ← a0, ← a1, ← a2, ← a3, ← a4, ← a5, ← a6, ← a7]

end Cert.LossPair

end
-- ==== Proof.PoolPair.lean ====
module

public import proofs.«01_k».proof.Defs
public import Idealize.ShloMosaic.Lib.Claim
public import proofs.«01_k».proof.Proof.Gen.PoolRefIdeal
public import proofs.«01_k».proof.Proof.Gen.PoolRefIdeal.Run
@[expose] public section

noncomputable section

/-! # The pooling block: the reference runs to its end -/

namespace Cert.PoolPair

open Idealize.ShloMosaic Idealize.SL.Sem

/-- The reference leaves its arguments alone and every counter at zero. -/
theorem frame_ref : quiescent_PoolRefIdeal := fun m g _ =>
  θ_run_mono (PoolRefIdeal.Value.run m g) fun r h =>
    ⟨fun c => (h c).2.2.2.2, sem_eq_zero_of_no_sems (by decide) r.2⟩

end Cert.PoolPair

end
-- ==== Proof.Elt.lean ====
/- The norm and the feed-forward block's forward pass, token by token, over the extended reals. -/
module

public import proofs.«01_k».proof.Proof.Conv

@[expose] public section

set_option maxRecDepth 16384

noncomputable section

namespace Cert.Reals

open Idealize.ShloMosaic

/-- A row over the root of its mean square (with the constant added under the root). -/
def nrmE (v : Fin 1024 → EReal) (d : Fin 1024) : EReal :=
  v d * Ideal.rsqrt (Ideal.div (∑ k, v k * v k) (Ideal.ofBits .f32 0x44800000#32) + Ideal.ofBits .f32 0x358637BD#32)

/-- What tap `k` reads at token `s`: the token `2 - k` places before, zero before the sequence's start. -/
def tapE {n : ℕ} (A : Fin 2048 → Fin n → EReal) (k : Fin 3) (s : Fin 2048) (j : Fin n) : EReal :=
  if h : 2 ≤ s.val + k.val then A ⟨s.val + k.val - 2, by omega⟩ j else 0

theorem tapE_eq {n : ℕ} (A : Fin 2048 → Fin n → EReal) (k : Fin 3) (s : Fin 2048) (j : Fin n) (z : Fin 2048)
    (h : z.val + 2 = s.val + k.val) : tapE A k s j = A z j := by
  rw [tapE, dif_pos (by omega)]; exact congrArg (fun z => A z j) (Fin.ext (by simp only []; omega))

theorem tapE_zero {n : ℕ} (A : Fin 2048 → Fin n → EReal) (k : Fin 3) (s : Fin 2048) (j : Fin n) (h : s.val + k.val < 2) :
    tapE A k s j = 0 := by
  rw [tapE, dif_neg (by omega)]

/-! ## The first feed-forward block -/

section Block
variable (X : (⟨3, ![2, 2048, 1024]⟩ : Shape).Idx → EReal) (G : (⟨2, ![2, 1024]⟩ : Shape).Idx → EReal)
variable (P : (⟨3, ![2, 1024, 5632]⟩ : Shape).Idx → EReal) (W : (⟨3, ![2, 3, 2816]⟩ : Shape).Idx → EReal)
variable (B : (⟨2, ![2, 2816]⟩ : Shape).Idx → EReal) (D : (⟨3, ![2, 2816, 1024]⟩ : Shape).Idx → EReal)
variable (N : (⟨2, ![2, 1024]⟩ : Shape).Idx → EReal) (b : Fin 2) (s : Fin 2048)

/-- The norm's scaled row, the up projection's output and its two halves. -/
def hbE (d : Fin 1024) : EReal := nrmE (fun d => X (ix3 b s d)) d * G (ix2 0 d)
def upE (f : Fin 5632) : EReal := ∑ d, hbE X G b s d * P (ix3 0 d f)
def actE (j : Fin 2816) : EReal := upE X G P b s ⟨j.val, by omega⟩
def gateE (j : Fin 2816) : EReal := upE X G P b s ⟨2816 + j.val, by omega⟩

/-- The convolution's output, the gated product, and the block's output. -/
def acE (j : Fin 2816) : EReal :=
  B (ix2 0 j) + W (ix3 0 0 j) * tapE (actE X G P b) 0 s j + W (ix3 0 1 j) * tapE (actE X G P b) 1 s j
    + W (ix3 0 2 j) * tapE (actE X G P b) 2 s j
def gbE (j : Fin 2816) : EReal := acE X G P W B b s j * Ideal.logistic (acE X G P W B b s j) * gateE X G P b s j
def xoE (d : Fin 1024) : EReal := X (ix3 b s d) + ∑ j, gbE X G P W B b s j * D (ix3 0 j d)

/-- The next norm of the block's output. -/
def hoE (d : Fin 1024) : EReal := nrmE (xoE X G P W B D b s) d * N (ix2 1 d)

end Block

/-! ## The input product of the conv block -/

section Into
variable (X : (⟨3, ![2, 2048, 1024]⟩ : Shape).Idx → EReal) (G : (⟨2, ![2, 1024]⟩ : Shape).Idx → EReal)
variable (W : (⟨3, ![1, 1024, 2048]⟩ : Shape).Idx → EReal) (B : (⟨2, ![1, 2048]⟩ : Shape).Idx → EReal)
variable (b : Fin 2) (s : Fin 2048)

def inE (e : Fin 2048) : EReal := (∑ d, hbE X G b s d * W (ix3 0 d e)) + B (ix2 0 e)

end Into

end Cert.Reals

end
-- ==== Proof.FwdBody.lean ====
/- The first feed-forward block: the body's values and the blocks it reads. -/
module

public import proofs.«01_k».proof.Proof.Elt
public import proofs.«01_k».proof.Proof.Rows
public import Idealize.ShloMosaic.Lib.Pipeline.ReadBack
public import proofs.«01_k».proof.Proof.Gen.FwdIdeal.Value

@[expose] public section

set_option maxRecDepth 16384
set_option maxHeartbeats 1000000

noncomputable section

namespace Cert.FwdIdeal.Elt

open Cert.FwdIdeal Cert.FwdIdeal.Gen Cert.Reals Idealize.ShloMosaic Idealize.ShloMosaic.TcCoe Idealize.SL.Sem
open Idealize.ShloMosaic.Pipeline (Dat)

/-! ## The up projection, in four chunks of columns -/

section Up
variable (H : Vec Ideal S256x1024 .bf16) (K : Vec Ideal S16x1024 .bf16) (C : Vec Ideal S1x1024x1408 .bf16)
variable (r : Fin 256) (k : Fin 1408)

theorem pay5_at : k0_pay5 H C (ix2 r k) = ∑ d, H (ix2 r d) * C (ix3 0 d k) := by
  pointwise [k0_pay5, k0_pay4]

theorem pay9_at (r : Fin 16) : k0_pay9 K C (ix2 r k) = ∑ d, K (ix2 r d) * C (ix3 0 d k) := by
  pointwise [k0_pay9]

end Up

/-- Whether a point is the first of its sequence, as the body computes it from the point's number. -/
def first (n : ℕ) : BitVec 1 :=
  Scalar.cmpi .eq
    (Scalar.select
      (Scalar.andi
        (Scalar.xori
          (Scalar.cmpi .slt (Scalar.remsi (BitVec.ofNat 32 n) (Scalar.select (Scalar.cmpi .eq 8#32 0#32) 1#32 8#32)) 0#32)
          (Scalar.cmpi .slt (Scalar.select (Scalar.cmpi .eq 8#32 0#32) 1#32 8#32) 0#32))
        (Scalar.cmpi .ne (Scalar.remsi (BitVec.ofNat 32 n) (Scalar.select (Scalar.cmpi .eq 8#32 0#32) 1#32 8#32)) 0#32))
      (Scalar.addi (Scalar.remsi (BitVec.ofNat 32 n) (Scalar.select (Scalar.cmpi .eq 8#32 0#32) 1#32 8#32))
        (Scalar.select (Scalar.cmpi .eq 8#32 0#32) 1#32 8#32))
      (Scalar.remsi (BitVec.ofNat 32 n) (Scalar.select (Scalar.cmpi .eq 8#32 0#32) 1#32 8#32)))
    0#32

theorem first_eq : ∀ n < 16, first n = if n % 8 = 0 then 1#1 else 0#1 := by decide +kernel

/-- The eight rows before the block: the last rows of the products of both chunks of the left half, zero at the first point. -/
theorem pay10_at (n : ℕ) (hn : n < 16) (K : Vec Ideal S16x1024 .bf16) (C0 C1 : Vec Ideal S1x1024x1408 .bf16)
    (u : Fin 8 → Fin 2816 → EReal) (q : Fin 8) (j : Fin 2816)
    (h0 : ¬n % 8 = 0 → ∀ k : Fin 1408, ∑ d, K (ix2 ⟨8 + q.val, by omega⟩ d) * C0 (ix3 0 d k) = u q ⟨k.val, by omega⟩)
    (h1 : ¬n % 8 = 0 → ∀ k : Fin 1408, ∑ d, K (ix2 ⟨8 + q.val, by omega⟩ d) * C1 (ix3 0 d k) = u q ⟨1408 + k.val, by omega⟩) :
    k0_pay10 (BitVec.ofNat 32 n) (k0_pay9 K C0) K C1 (ix2 q j) = if n % 8 = 0 then (0 : EReal) else u q j := by
  pointwise [k0_pay10]
  have e := first_eq n hn
  refine (congrArg (fun a => Scalar.select a (0 : EReal) _) e).trans ?_
  by_cases hz : n % 8 = 0
  · rw [if_pos hz, if_pos hz]; rfl
  · rw [if_neg hz, if_neg hz]
    refine (show Scalar.select 0#1 (0 : EReal) _ = _ from rfl).trans ?_
    by_cases hj : j.val < 1408
    · rw [dif_pos hj]
      exact (pay9_at K C0 _ _).trans (h0 hz ⟨j.val, hj⟩)
    · rw [dif_neg hj]
      refine Eq.trans ?_ ((h1 hz ⟨j.val - 1408, by omega⟩).trans (congrArg (u q) (Fin.ext (show 1408 + (j.val - 1408) = j.val by omega))))
      pointwise

/-! ## The convolution, the gate, the down projection and the norm -/

section Gate
variable (B W0 W1 W2 : Vec Ideal S1x2816 .f32) (T0 T1 : Vec Ideal S1x256x2816 .f32) (T2 G : Vec Ideal S256x2816 .f32)
variable (r : Fin 256) (j : Fin 2816)

/-- The convolution's output in a block. -/
def bAc : EReal :=
  B (ix2 0 j) + W0 (ix2 0 j) * T0 (ix3 0 r j) + W1 (ix2 0 j) * T1 (ix3 0 r j) + W2 (ix2 0 j) * T2 (ix2 r j)

theorem pay14_at : k0_pay14 B W0 T0 W1 T1 W2 T2 G (ix2 r j)
    = bAc B W0 W1 W2 T0 T1 T2 r j * Ideal.logistic (bAc B W0 W1 W2 T0 T1 T2 r j) * G (ix2 r j) := by
  pointwise [k0_pay14]
  rfl

theorem pay1_at (o : Fin 1) :
    k0_pay1 (k0_pay15 B W0 T0 W1 T1 W2 T2 G) (ix3 o j r) = k0_pay14 B W0 T0 W1 T1 W2 T2 G (ix2 r j) := by
  pointwise [k0_pay1, k0_pay15]

end Gate

section Norm
variable (U : Vec Ideal S256x2816 .bf16) (X : Vec Ideal S256x1024 .f32) (D : Vec Ideal S2816x1024 .bf16)
variable (N : Vec Ideal S1x1024 .f32) (r : Fin 256) (d : Fin 1024)

theorem pay2_at : k0_pay2 U X D (ix2 r d) = X (ix2 r d) + ∑ j, U (ix2 r j) * D (ix2 j d) := by
  pointwise [k0_pay2]

theorem pay3_at : k0_pay3 U X D N (ix2 r d) = nrmE (fun d => k0_pay2 U X D (ix2 r d)) d * N (ix2 0 d) := by
  pointwise [k0_pay3]
  rfl

end Norm

theorem pay11_at (X : Vec Ideal S256x2816 .f32) (r : Fin 256) (j : Fin 2816) : k0_pay11 X (ix2 r j) = X (ix2 r j) := by
  pointwise [k0_pay11]

/-! ## The blocks of the grid's points -/

variable (m : (ℓ : Loc nD τ sig) → Buf (Elt Ideal) ℓ) (c : Dev nD)

theorem idx : ∀ t : Fin cfg0.N, win0_0.index t = ![t.val, 0] ∧ win0_1.index t = ![max (16 * t.val - 1) 0, 0]
    ∧ win0_2.index t = ![t.val, 0] ∧ win0_3.index t = ![0, 0, 0] ∧ win0_4.index t = ![0, 0] ∧ win0_5.index t = ![0, 0]
    ∧ win0_6.index t = ![0, 0] ∧ win0_7.index t = ![0, 0] ∧ win0_8.index t = ![t.val, 0] ∧ win0_9.index t = ![t.val, 0, 0]
    ∧ win0_10.index t = ![t.val, 0] ∧ win0_11.index t = ![t.val, 0] ∧ t.val < 16 :=
  (by decide +kernel : ∀ t : Fin grid0.N, _)

theorem lt16 (t : Fin cfg0.N) : t.val < 16 := (idx t).2.2.2.2.2.2.2.2.2.2.2.2

theorem coord : ∀ t : Fin cfg0.N, ((grid0.coords t) 0).val = t.val := (by decide +kernel : ∀ t : Fin grid0.N, _)

/-- Row `r` of the block of point `t`, among all rows. -/
def rowOf (t : Fin cfg0.N) (r : Fin 256) : Fin 4096 := ⟨t.val * 256 + r.val, by have := lt16 t; omega⟩

/-- The seven arguments. -/
abbrev AX : S2x2048x1024.Idx → EReal := m ((c : Thread nD τ).loc main_arg0)
abbrev AG : S2x1024.Idx → EReal := m ((c : Thread nD τ).loc main_arg1)
abbrev AP : S2x1024x5632.Idx → EReal := m ((c : Thread nD τ).loc main_arg2)
abbrev AW : S2x3x2816.Idx → EReal := m ((c : Thread nD τ).loc main_arg3)
abbrev AB : S2x2816.Idx → EReal := m ((c : Thread nD τ).loc main_arg4)
abbrev AD : S2x2816x1024.Idx → EReal := m ((c : Thread nD τ).loc main_arg5)
abbrev AN : S2x1024.Idx → EReal := m ((c : Thread nD τ).loc main_arg6)

/-- The scaled row of the norm, as the host computes it. -/
theorem V_main_v24 : V m c main_v24 = truncf .bf16 (shapeCast S4096x1024
    (mulf (mulf (show FVec Ideal S2x2048x1024 .f32 from m ((c : Thread nD τ).loc main_arg0))
      (broadcastInDim S2x2048x1024 ![0, 1, 2] bcast_S2x2048x1_S2x2048x1024_0_1_2 (Host.rsqrt (addf
        (Host.divf (broadcastInDim S2x2048x1 ![0, 1] bcast_S2x2048_S2x2048x1_0_1 (Host.reduceAdd
          (mulf (show FVec Ideal S2x2048x1024 .f32 from m ((c : Thread nD τ).loc main_arg0))
            (show FVec Ideal S2x2048x1024 .f32 from m ((c : Thread nD τ).loc main_arg0)))
          (constant (F := Ideal) S_ .f32 0x00000000#32) reducesTo_S2x2048x1024_S2x2048_d2 h_S_))
          (broadcastInDim S2x2048x1 ![] bcast_S_S2x2048x1 (constant (F := Ideal) S_ .f32 0x44800000#32)))
        (broadcastInDim S2x2048x1 ![] bcast_S_S2x2048x1 (constant (F := Ideal) S_ .f32 0x358637BD#32))))))
      (broadcastInDim S2x2048x1024 ![0, 1, 2] bcast_S1x1x1024_S2x2048x1024_0_1_2 (broadcastInDim S1x1x1024 ![2]
        bcast_S1024_S1x1x1024_2 (shapeCast S1024 (extractStridedSlice S1x1024 ![0, 0]
          (show FVec Ideal S2x1024 .f32 from m ((c : Thread nD τ).loc main_arg1)) slices_S2x1024_S1x1024_0_0)
          shapeCasts_S1x1024_S1024))))
    shapeCasts_S2x2048x1024_S4096x1024) bitsLt_bf16_f32 := by
  simp only [V, List.flatten_cons, List.flatten_nil, List.append_nil, hostOps0, hostOps0_1, hostOps0_2, List.cons_append,
    List.nil_append]
  entry_read
  rfl

theorem hb_at (R : Fin 4096) (d : Fin 1024) : V m c main_v24 (ix2 R d) = hbE (AX m c) (AG m c) (bOf R) (sOf R) d := by
  rw [V_main_v24]
  pointwise
  rfl

theorem blk0 (t : Fin cfg0.N) (r : Fin 256) (d : Fin 1024) : iblk m c 0 t (ix2 r d)
    = hbE (AX m c) (AG m c) (bOf (rowOf t r)) (sOf (rowOf t r)) d := by
  refine Eq.trans ?_ (hb_at m c (rowOf t r) d)
  blk_simp [iblk]
  blk_ext [idx t, rowOf]

theorem blk1 (t : Fin cfg0.N) (h : ¬t.val % 8 = 0) (q : Fin 16) (d : Fin 1024) : iblk m c 1 t (ix2 q d)
    = hbE (AX m c) (AG m c) ⟨t.val / 8, by have := lt16 t; omega⟩ ⟨t.val % 8 * 256 + q.val - 16, by omega⟩ d := by
  have ht := lt16 t
  have e := hb_at m c ⟨t.val * 256 + q.val - 16, by omega⟩ d
  have e1 : bOf ⟨t.val * 256 + q.val - 16, by omega⟩ = ⟨t.val / 8, by omega⟩ := by unfold bOf; simp only [Fin.mk.injEq]; omega
  have e2 : sOf ⟨t.val * 256 + q.val - 16, by omega⟩ = ⟨t.val % 8 * 256 + q.val - 16, by omega⟩ := by
    unfold sOf; simp only [Fin.mk.injEq]; omega
  rw [e1, e2] at e
  refine Eq.trans ?_ e
  blk_simp [iblk]
  blk_ext [idx t]

theorem blk2 (t : Fin cfg0.N) (r : Fin 256) (d : Fin 1024) : iblk m c 2 t (ix2 r d)
    = AX m c (ix3 (bOf (rowOf t r)) (sOf (rowOf t r)) d) := by
  blk_simp [iblk]
  simp only [V, List.flatten_cons, List.flatten_nil, List.append_nil, hostOps0, hostOps0_1, hostOps0_2, List.cons_append,
    List.nil_append]
  entry_read
  pointwise
  blk_ext [idx t, bOf, sOf, rowOf]

theorem blk3 (t : Fin cfg0.N) (q : Fin 4) (d : Fin 1024) (k : Fin 1408) : iblk m c 3 t (ix3 q d k)
    = AP m c (ix3 0 d ⟨q.val * 1408 + k.val, by omega⟩) := by
  blk_simp [iblk]
  simp only [V, List.flatten_cons, List.flatten_nil, List.append_nil, hostOps0, hostOps0_1, hostOps0_2, List.cons_append,
    List.nil_append]
  entry_read
  pointwise
  blk_ext [idx t]

/-- The weights of the first block's convolution, under five rows of zeros. -/
theorem V_main_v2 : V m c main_v2 = shapeCast S8x2816 (extractStridedSlice S1x8x2816 ![0, 0, 0]
    (pad S2x8x2816 ![0, 0, 0] ![0, 5, 0] ![0, 0, 0] (show FVec Ideal S2x3x2816 .f32 from m ((c : Thread nD τ).loc main_arg3))
      (sitofp .f32 (constantI S_ 32 0#32)) pads_S2x3x2816_S2x8x2816_000_050_000 h_S_) slices_S2x8x2816_S1x8x2816_0_0_0)
    shapeCasts_S1x8x2816_S8x2816 := by
  simp only [V, List.flatten_cons, List.flatten_nil, List.append_nil, hostOps0, hostOps0_1, hostOps0_2, List.cons_append,
    List.nil_append]
  entry_read
  rfl

theorem blk4 (k : Fin 3) (t : Fin cfg0.N) (j : Fin 2816) : iblk m c 4 t (ix2 ⟨k.val, by omega⟩ j)
    = AW m c (ix3 0 k j) := by
  blk_simp [iblk]
  rw [V_main_v2]
  pointwise
  refine (dif_pos ?_).trans ?_
  · blk_simp [idx t]; exact k.isLt
  · blk_ext [idx t]

theorem blk5 (t : Fin cfg0.N) (j : Fin 2816) : iblk m c 5 t (ix2 0 j) = AB m c (ix2 0 j) := by
  blk_simp [iblk]
  simp only [V, List.flatten_cons, List.flatten_nil, List.append_nil, hostOps0, hostOps0_1, hostOps0_2, List.cons_append,
    List.nil_append]
  entry_read
  pointwise
  blk_ext [idx t]

theorem blk6 (t : Fin cfg0.N) (j : Fin 2816) (d : Fin 1024) : iblk m c 6 t (ix2 j d)
    = AD m c (ix3 0 j d) := by
  blk_simp [iblk]
  simp only [V, List.flatten_cons, List.flatten_nil, List.append_nil, hostOps0, hostOps0_1, hostOps0_2, List.cons_append,
    List.nil_append]
  entry_read
  pointwise
  blk_ext [idx t]

theorem blk7 (t : Fin cfg0.N) (d : Fin 1024) : iblk m c 7 t (ix2 0 d) = AN m c (ix2 1 d) := by
  blk_simp [iblk]
  simp only [V, List.flatten_cons, List.flatten_nil, List.append_nil, hostOps0, hostOps0_1, hostOps0_2, List.cons_append,
    List.nil_append]
  entry_read
  pointwise
  blk_ext [idx t]

/-- A row of the weights' block, as the body loads it. -/
theorem bW_at (k : Fin 3) (o : ℕ) (ho : o = k.val) (t : Fin cfg0.N)
    (inb : ∀ a, (![o, 0] : Fin 2 → ℕ) a + (![1, 2816] : Fin 2 → ℕ) a ≤ S8x2816.size a) (j : Fin 2816) :
    View.ld (iblk m c 4 t) (Rect.unit (s := S8x2816) ![o, 0] ![1, 2816] inb) (ix2 0 j)
    = AW m c (ix3 0 k j) := by
  subst ho
  refine (congrArg (iblk m c 4 t) ?_).trans (blk4 m c k t j)
  funext a; apply Fin.ext
  match a with
  | ⟨0, _⟩ => show k.val + 1 * 0 = k.val; omega
  | ⟨1, _⟩ => show 0 + 1 * j.val = j.val; omega

/-- A chunk of the projection's block, as the body loads it. -/
theorem bP_at (q : Fin 4) (o : ℕ) (ho : o = q.val) (t : Fin cfg0.N)
    (inb : ∀ a, (![o, 0, 0] : Fin 3 → ℕ) a + (![1, 1024, 1408] : Fin 3 → ℕ) a ≤ S4x1024x1408.size a) (d : Fin 1024) (k : Fin 1408) :
    View.ld (iblk m c 3 t) (Rect.unit (s := S4x1024x1408) ![o, 0, 0] ![1, 1024, 1408] inb) (ix3 0 d k)
    = AP m c (ix3 0 d ⟨q.val * 1408 + k.val, by omega⟩) := by
  subst ho
  refine (congrArg (iblk m c 3 t) ?_).trans (blk3 m c t q d k)
  funext a; apply Fin.ext
  match a with
  | ⟨0, _⟩ => show q.val + 1 * 0 = q.val; omega
  | ⟨1, _⟩ => show 0 + 1 * d.val = d.val; omega
  | ⟨2, _⟩ => show 0 + 1 * k.val = k.val; omega

/-- A buffer stored in pieces that all hold the same array, loaded where one of them covers it. -/
theorem load_of_pieces {κ : Kind} {sp : Space} {s : Shape} (v : View sig κ sp s .f32) (A : s.Idx → EReal)
    (L : List (View.Piece (Elt Ideal) s .f32)) (h : View.PiecesOf A L) (b : LoadRect s) (j : b.shape.Idx)
    (hc : ∃ p ∈ L, b.idx j ∈ p.1.set) : v.readCov (Val := Elt Ideal) L b j = A (b.idx j) := by
  rw [View.readCov_eq_canon']
  have e := View.canon_append_of_piecesOf A [] L h (b.idx j) hc
  rw [List.append_nil] at e
  exact e

end Cert.FwdIdeal.Elt

end
-- ==== Proof.FwdVal.lean ====
/- The first feed-forward block: the four result arrays, from the body's values. -/
module

public import proofs.«01_k».proof.Proof.FwdBody

@[expose] public section

set_option maxRecDepth 16384
set_option maxHeartbeats 1000000

noncomputable section

namespace Cert.FwdIdeal.Elt

open Cert.FwdIdeal Cert.FwdIdeal.Gen Cert.Reals Idealize.ShloMosaic Idealize.ShloMosaic.TcCoe Idealize.SL.Sem
open Idealize.ShloMosaic.Pipeline (Dat)

variable (m : (ℓ : Loc nD τ sig) → Buf (Elt Ideal) ℓ) (c : Dev nD)

/-- What the four results hold, token by token. -/
abbrev tHb (b : Fin 2) (s : Fin 2048) : Fin 1024 → EReal := hbE (AX m c) (AG m c) b s
abbrev tUp (b : Fin 2) (s : Fin 2048) : Fin 5632 → EReal := upE (AX m c) (AG m c) (AP m c) b s
abbrev tAct (b : Fin 2) (s : Fin 2048) : Fin 2816 → EReal := actE (AX m c) (AG m c) (AP m c) b s
abbrev tGb (b : Fin 2) (s : Fin 2048) : Fin 2816 → EReal := gbE (AX m c) (AG m c) (AP m c) (AW m c) (AB m c) b s
abbrev tXo (b : Fin 2) (s : Fin 2048) : Fin 1024 → EReal := xoE (AX m c) (AG m c) (AP m c) (AW m c) (AB m c) (AD m c) b s
abbrev tHo (b : Fin 2) (s : Fin 2048) : Fin 1024 → EReal :=
  hoE (AX m c) (AG m c) (AP m c) (AW m c) (AB m c) (AD m c) (AN m c) b s

/-- The four results. -/
def UPR (i : S4096x5632.Idx) : EReal := tUp m c (bOf (i 0)) (sOf (i 0)) (i 1)
def GBT (i : S16x2816x256.Idx) : EReal :=
  tGb m c (bOf ⟨(i 0).val * 256 + (i 2).val, by have h0 : (i 0).val < 16 := (i 0).isLt; have h2 : (i 2).val < 256 := (i 2).isLt; omega⟩)
    (sOf ⟨(i 0).val * 256 + (i 2).val, by have h0 : (i 0).val < 16 := (i 0).isLt; have h2 : (i 2).val < 256 := (i 2).isLt; omega⟩) (i 1)
def XO (i : S4096x1024.Idx) : EReal := tXo m c (bOf (i 0)) (sOf (i 0)) (i 1)
def HO (i : S4096x1024.Idx) : EReal := tHo m c (bOf (i 0)) (sOf (i 0)) (i 1)

/-! ## The up projection's block -/

abbrev bP0 (t : Fin cfg0.N) : Vec Ideal S1x1024x1408 .bf16 :=
  View.ld (iblk m c 3 t) (Rect.unit ![0, 0, 0] ![1, 1024, 1408] inb_S4x1024x1408_S1x1024x1408_0_0_0)
abbrev bP1 (t : Fin cfg0.N) : Vec Ideal S1x1024x1408 .bf16 :=
  View.ld (iblk m c 3 t) (Rect.unit ![1, 0, 0] ![1, 1024, 1408] inb_S4x1024x1408_S1x1024x1408_1_0_0)
abbrev bP2 (t : Fin cfg0.N) : Vec Ideal S1x1024x1408 .bf16 :=
  View.ld (iblk m c 3 t) (Rect.unit ![2, 0, 0] ![1, 1024, 1408] inb_S4x1024x1408_S1x1024x1408_2_0_0)
abbrev bP3 (t : Fin cfg0.N) : Vec Ideal S1x1024x1408 .bf16 :=
  View.ld (iblk m c 3 t) (Rect.unit ![3, 0, 0] ![1, 1024, 1408] inb_S4x1024x1408_S1x1024x1408_3_0_0)

/-- The block of the first result, stored in four chunks of columns. -/
abbrev chunks (t : Fin cfg0.N) : List (View.Piece (Elt Ideal) S256x5632 .f32) :=
  [⟨Rect.unit ![0, 4224] ![256, 1408] inb_S256x5632_S256x1408_0_4224, k0_pay8 (iblk m c 0 t) (bP3 m c t)⟩,
    ⟨Rect.unit ![0, 2816] ![256, 1408] inb_S256x5632_S256x1408_0_2816, k0_pay7 (iblk m c 0 t) (bP2 m c t)⟩,
    ⟨Rect.unit ![0, 1408] ![256, 1408] inb_S256x5632_S256x1408_0_1408, k0_pay6 (iblk m c 0 t) (bP1 m c t)⟩,
    ⟨Rect.unit ![0, 0] ![256, 1408] inb_S256x5632_S256x1408_0_0, k0_pay5 (iblk m c 0 t) (bP0 m c t)⟩]

/-- What the block holds. -/
def AU (t : Fin cfg0.N) (i : S256x5632.Idx) : EReal := UPR m c (ix2 (rowOf t (i 0)) (i 1))

/-- One chunk holds its columns of the block. -/
theorem chunk_at (t : Fin cfg0.N) (q : Fin 4) (o : ℕ) (ho : o = q.val * 1408) (C : Vec Ideal S1x1024x1408 .bf16)
    (hC : ∀ d k, C (ix3 0 d k) = AP m c (ix3 0 d ⟨q.val * 1408 + k.val, by omega⟩))
    (inb : ∀ a, (![0, o] : Fin 2 → ℕ) a + (![256, 1408] : Fin 2 → ℕ) a ≤ S256x5632.size a)
    (x : (Rect.unit (s := S256x5632) ![0, o] ![256, 1408] inb).shape.Idx) :
    k0_pay5 (iblk m c 0 t) C x = AU m c t ((Rect.unit (s := S256x5632) ![0, o] ![256, 1408] inb).emb x) := by
  subst ho
  idx_vars x
  have e : (Rect.unit (s := S256x5632) ![0, q.val * 1408] ![256, 1408] inb).emb (ix2 x0 x1)
      = ix2 x0 ⟨q.val * 1408 + x1.val, by omega⟩ := by
    funext a; apply Fin.ext
    match a with
    | ⟨0, _⟩ => show 0 + 1 * x0.val = x0.val; omega
    | ⟨1, _⟩ => show q.val * 1408 + 1 * x1.val = q.val * 1408 + x1.val; omega
  rw [e, pay5_at]
  simp only [blk0, hC]
  rfl

theorem chunks_of (t : Fin cfg0.N) : View.PiecesOf (AU m c t) (chunks m c t) :=
  ⟨chunk_at m c t 3 4224 rfl (bP3 m c t) (bP_at m c 3 3 rfl t _) inb_S256x5632_S256x1408_0_4224,
    chunk_at m c t 2 2816 rfl (bP2 m c t) (bP_at m c 2 2 rfl t _) inb_S256x5632_S256x1408_0_2816,
    chunk_at m c t 1 1408 rfl (bP1 m c t) (bP_at m c 1 1 rfl t _) inb_S256x5632_S256x1408_0_1408,
    chunk_at m c t 0 0 rfl (bP0 m c t) (bP_at m c 0 0 rfl t _) inb_S256x5632_S256x1408_0_0, trivial⟩

theorem chunks_cover (t : Fin cfg0.N) (y : S256x5632.Idx) : ∃ p ∈ chunks m c t, y ∈ p.1.set :=
  View.cover_of_tiled_head _ _ _ rfl y

/-- The two halves of the block, as the body loads them. -/
abbrev bA (t : Fin cfg0.N) : Vec Ideal S256x2816 .f32 := (ms0_8 t).view.readCov (chunks m c t)
  (Rect.unit (s := S256x5632) ![0, 0] ![256, 2816] inb_S256x5632_S256x2816_0_0).toLoadRect
abbrev bG (t : Fin cfg0.N) : Vec Ideal S256x2816 .f32 := (ms0_8 t).view.readCov (chunks m c t)
  (Rect.unit (s := S256x5632) ![0, 2816] ![256, 2816] inb_S256x5632_S256x2816_0_2816).toLoadRect

theorem bA_at (t : Fin cfg0.N) (r : Fin 256) (j : Fin 2816) :
    bA m c t (ix2 r j) = tAct m c (bOf (rowOf t r)) (sOf (rowOf t r)) j := by
  refine (load_of_pieces _ (AU m c t) _ (chunks_of m c t) _ _ (chunks_cover m c t _)).trans ?_
  refine congrArg (AU m c t) (a₂ := ix2 r ⟨j.val, by omega⟩) ?_
  funext a; apply Fin.ext
  match a with
  | ⟨0, _⟩ => show 0 + 1 * r.val = r.val; omega
  | ⟨1, _⟩ => show 0 + 1 * j.val = j.val; omega

theorem bG_at (t : Fin cfg0.N) (r : Fin 256) (j : Fin 2816) :
    bG m c t (ix2 r j) = gateE (AX m c) (AG m c) (AP m c) (bOf (rowOf t r)) (sOf (rowOf t r)) j := by
  refine (load_of_pieces _ (AU m c t) _ (chunks_of m c t) _ _ (chunks_cover m c t _)).trans ?_
  refine congrArg (AU m c t) (a₂ := ix2 r ⟨2816 + j.val, by omega⟩) ?_
  funext a; apply Fin.ext
  match a with
  | ⟨0, _⟩ => show 0 + 1 * r.val = r.val; omega
  | ⟨1, _⟩ => show 2816 + 1 * j.val = 2816 + j.val; omega

/-! ## The taps -/

/-- The eight rows before the block. -/
abbrev bHalo (t : Fin cfg0.N) : Vec Ideal S8x2816 .f32 :=
  k0_pay10 (BitVec.ofNat 32 (grid0.coords t 0).val) (k0_pay9 (iblk m c 1 t) (bP0 m c t)) (iblk m c 1 t) (bP1 m c t)

/-- The scratch buffer's two pieces: the eight rows before the block, and the block. -/
abbrev pieces (t : Fin cfg0.N) : List (View.Piece (Elt Ideal) S264x2816 .f32) :=
  [⟨Rect.unit ![8, 0] ![256, 2816] inb_S264x2816_S256x2816_8_0, k0_pay11 (bA m c t)⟩,
    ⟨Rect.unit ![0, 0] ![8, 2816] inb_S264x2816_S8x2816_0_0, bHalo m c t⟩]

theorem halo_at (t : Fin cfg0.N) (q : Fin 8) (j : Fin 2816) : bHalo m c t (ix2 q j)
    = if t.val % 8 = 0 then (0 : EReal) else tAct m c ⟨t.val / 8, by have := lt16 t; omega⟩ ⟨t.val % 8 * 256 + q.val - 8, by omega⟩ j := by
  have ht := lt16 t
  have hk : ∀ (h : ¬t.val % 8 = 0) (d : Fin 1024), iblk m c 1 t (ix2 ⟨8 + q.val, by omega⟩ d)
      = tHb m c ⟨t.val / 8, by omega⟩ ⟨t.val % 8 * 256 + q.val - 8, by omega⟩ d := fun h d => by
    refine (blk1 m c t h ⟨8 + q.val, by omega⟩ d).trans ?_
    exact congrArg (fun s => tHb m c _ s d) (Fin.ext (show t.val % 8 * 256 + (8 + q.val) - 16 = t.val % 8 * 256 + q.val - 8 by omega))
  unfold bHalo
  rw [coord t]
  refine (pay10_at t.val ht (iblk m c 1 t) (bP0 m c t) (bP1 m c t)
    (fun q j => tAct m c ⟨t.val / 8, by omega⟩ ⟨t.val % 8 * 256 + q.val - 8, by omega⟩ j) q j (fun h k => ?_) (fun h k => ?_))
  · refine (Finset.sum_congr rfl fun d _ => (?_ : _ = tHb m c ⟨t.val / 8, by omega⟩ ⟨t.val % 8 * 256 + q.val - 8, by omega⟩ d
      * AP m c (ix3 0 d ⟨k.val, by omega⟩))).trans rfl
    rw [hk h d]
    refine congrArg (tHb m c _ _ d * ·) ((bP_at m c 0 0 rfl t _ d k).trans ?_)
    exact congrArg (fun f => AP m c (ix3 0 d f)) (Fin.ext (show 0 * 1408 + k.val = k.val by omega))
  · refine (Finset.sum_congr rfl fun d _ => (?_ : _ = tHb m c ⟨t.val / 8, by omega⟩ ⟨t.val % 8 * 256 + q.val - 8, by omega⟩ d
      * AP m c (ix3 0 d ⟨1408 + k.val, by omega⟩))).trans rfl
    rw [hk h d]
    refine congrArg (tHb m c _ _ d * ·) ((bP_at m c 1 1 rfl t _ d k).trans ?_)
    exact congrArg (fun f => AP m c (ix3 0 d f)) (Fin.ext (show 1 * 1408 + k.val = 1408 + k.val by omega))

theorem ext_at (t : Fin cfg0.N) (k : Fin 3) (o : ℕ) (ho : o = 6 + k.val)
    (inb : ∀ a, (![o, 0] : Fin 2 → ℕ) a + (![256, 2816] : Fin 2 → ℕ) a ≤ S264x2816.size a) (r : Fin 256) (j : Fin 2816) :
    (View.whole cc0_scratch0).readCov (pieces m c t) (Rect.unit (s := S264x2816) ![o, 0] ![256, 2816] inb).toLoadRect (ix2 r j)
    = tapE (tAct m c (bOf (rowOf t r))) k (sOf (rowOf t r)) j := by
  have ht := lt16 t
  refine (load_two_rows _ _ _ _ _ inb rfl r j).trans ?_
  by_cases h : o + r.val < 8
  · rw [dif_pos h, halo_at m c]
    by_cases h0 : t.val % 8 = 0
    · rw [if_pos h0]
      exact (tapE_zero _ _ _ _ (by unfold sOf rowOf; simp only []; omega)).symm
    · rw [if_neg h0]
      have e : bOf (rowOf t r) = ⟨t.val / 8, by omega⟩ := by unfold bOf rowOf; simp only [Fin.mk.injEq]; omega
      rw [e]
      exact (tapE_eq (tAct m c _) k _ j ⟨t.val % 8 * 256 + (o + r.val) - 8, by omega⟩
        (by unfold sOf rowOf; simp only []; omega)).symm
  · rw [dif_neg h, pay11_at, bA_at m c]
    have e : bOf (rowOf t ⟨o + r.val - 8, by omega⟩) = bOf (rowOf t r) := by
      unfold bOf rowOf; simp only [Fin.mk.injEq]; omega
    rw [e]
    exact (tapE_eq (tAct m c _) k _ j _ (by unfold sOf rowOf; simp only []; omega)).symm

/-- The realigned copies' two pieces: the rows two tokens back, and those one token back. -/
abbrev copies (t : Fin cfg0.N) : List (View.Piece (Elt Ideal) S2x256x2816 .f32) :=
  [⟨Rect.unit ![1, 0, 0] ![1, 256, 2816] inb_S2x256x2816_S1x256x2816_1_0_0, k0_pay13
      ((View.whole cc0_scratch0).readCov (pieces m c t)
        (Rect.unit (s := S264x2816) ![7, 0] ![256, 2816] inb_S264x2816_S256x2816_7_0).toLoadRect)⟩,
    ⟨Rect.unit ![0, 0, 0] ![1, 256, 2816] inb_S2x256x2816_S1x256x2816_0_0_0, k0_pay12
      ((View.whole cc0_scratch0).readCov (pieces m c t)
        (Rect.unit (s := S264x2816) ![6, 0] ![256, 2816] inb_S264x2816_S256x2816_6_0).toLoadRect)⟩]

/-- The three taps, as the body loads them. -/
abbrev T0 (t : Fin cfg0.N) : Vec Ideal S1x256x2816 .f32 := (View.whole cc0_scratch1).readCov (copies m c t)
  (Rect.unit (s := S2x256x2816) ![0, 0, 0] ![1, 256, 2816] inb_S2x256x2816_S1x256x2816_0_0_0).toLoadRect
abbrev T1 (t : Fin cfg0.N) : Vec Ideal S1x256x2816 .f32 := (View.whole cc0_scratch1).readCov (copies m c t)
  (Rect.unit (s := S2x256x2816) ![1, 0, 0] ![1, 256, 2816] inb_S2x256x2816_S1x256x2816_1_0_0).toLoadRect
abbrev T2 (t : Fin cfg0.N) : Vec Ideal S256x2816 .f32 :=
  (View.whole cc0_scratch0).readCov (pieces m c t) (Rect.unit (s := S264x2816) ![8, 0] ![256, 2816] inb_S264x2816_S256x2816_8_0).toLoadRect

theorem T0_at (t : Fin cfg0.N) (r : Fin 256) (j : Fin 2816) :
    T0 m c t (ix3 0 r j) = tapE (tAct m c (bOf (rowOf t r))) 0 (sOf (rowOf t r)) j := by
  unfold T0
  rw [View.readCov_skip _ _ _ _ _ (by decide +kernel), View.readCov_cons_toLoadRect]
  pointwise [k0_pay12]
  exact ext_at m c t 0 6 rfl _ r j

theorem T1_at (t : Fin cfg0.N) (r : Fin 256) (j : Fin 2816) :
    T1 m c t (ix3 0 r j) = tapE (tAct m c (bOf (rowOf t r))) 1 (sOf (rowOf t r)) j := by
  unfold T1
  rw [View.readCov_cons_toLoadRect]
  pointwise [k0_pay13]
  exact ext_at m c t 1 7 rfl _ r j

theorem T2_at (t : Fin cfg0.N) (r : Fin 256) (j : Fin 2816) :
    T2 m c t (ix2 r j) = tapE (tAct m c (bOf (rowOf t r))) 2 (sOf (rowOf t r)) j :=
  ext_at m c t 2 8 rfl _ r j

/-! ## The gated product and what follows it, at a point -/

abbrev bW0 (t : Fin cfg0.N) : Vec Ideal S1x2816 .f32 := View.ld (iblk m c 4 t) (Rect.unit ![0, 0] ![1, 2816] inb_S8x2816_S1x2816_0_0)
abbrev bW1 (t : Fin cfg0.N) : Vec Ideal S1x2816 .f32 := View.ld (iblk m c 4 t) (Rect.unit ![1, 0] ![1, 2816] inb_S8x2816_S1x2816_1_0)
abbrev bW2 (t : Fin cfg0.N) : Vec Ideal S1x2816 .f32 := View.ld (iblk m c 4 t) (Rect.unit ![2, 0] ![1, 2816] inb_S8x2816_S1x2816_2_0)

/-- The gated product at a point. -/
abbrev bGB (t : Fin cfg0.N) : Vec Ideal S256x2816 .bf16 :=
  k0_pay14 (iblk m c 5 t) (bW0 m c t) (T0 m c t) (bW1 m c t) (T1 m c t) (bW2 m c t) (T2 m c t) (bG m c t)

theorem gb_at (t : Fin cfg0.N) (r : Fin 256) (j : Fin 2816) : bGB m c t (ix2 r j) = tGb m c (bOf (rowOf t r)) (sOf (rowOf t r)) j := by
  refine (pay14_at _ _ _ _ _ _ _ _ r j).trans ?_
  unfold bAc
  have e0 : bW0 m c t (ix2 0 j) = AW m c (ix3 0 0 j) := bW_at m c 0 0 rfl t _ j
  have e1 : bW1 m c t (ix2 0 j) = AW m c (ix3 0 1 j) := bW_at m c 1 1 rfl t _ j
  have e2 : bW2 m c t (ix2 0 j) = AW m c (ix3 0 2 j) := bW_at m c 2 2 rfl t _ j
  rw [blk5 m c t j, e0, e1, e2, T0_at m c t r j, T1_at m c t r j,
    T2_at m c t r j, bG_at m c t r j]
  rfl

theorem gbt_at (t : Fin cfg0.N) (o : Fin 1) (j : Fin 2816) (r : Fin 256) :
    k0_pay1 (k0_pay15 (iblk m c 5 t) (bW0 m c t) (T0 m c t) (bW1 m c t) (T1 m c t) (bW2 m c t) (T2 m c t) (bG m c t)) (ix3 o j r)
    = GBT m c (ix3 ⟨t.val, lt16 t⟩ j r) :=
  (pay1_at _ _ _ _ _ _ _ _ r j o).trans (gb_at m c t r j)

theorem xo_at (t : Fin cfg0.N) (r : Fin 256) (d : Fin 1024) :
    k0_pay2 (bGB m c t) (iblk m c 2 t) (iblk m c 6 t) (ix2 r d) = tXo m c (bOf (rowOf t r)) (sOf (rowOf t r)) d := by
  rw [pay2_at, blk2 m c t r d]
  exact congrArg (_ + ·) (Finset.sum_congr rfl fun j _ => by rw [gb_at m c t r j, blk6 m c t j d])

theorem ho_at (t : Fin cfg0.N) (r : Fin 256) (d : Fin 1024) :
    k0_pay3 (bGB m c t) (iblk m c 2 t) (iblk m c 6 t) (iblk m c 7 t) (ix2 r d) = tHo m c (bOf (rowOf t r)) (sOf (rowOf t r)) d := by
  rw [pay3_at, blk7 m c t d]
  exact congrArg (fun v => nrmE v d * AN m c (ix2 1 d)) (funext fun d => xo_at m c t r d)

/-! ## The result arrays -/

theorem final8 : (dats m 0 c).arrAt 8 (cfgs 0).N = UPR m c := by
  refine (dats m 0 c).arrAt_eq_of_covers 8 _ (by decide +kernel) fun t _ z => ?_
  have ht := lt16 t
  blk_simp
  rw [after0_8]; unfold outsAt0; dsimp only; unfold out0_A_8; frame_out
  refine (View.canon_append_of_piecesOf (AU m c t) [] (chunks m c t) (chunks_of m c t) z (chunks_cover m c t z)).trans ?_
  idx_vars z
  refine (show AU m c t (ix2 z0 z1) = UPR m c (ix2 (rowOf t z0) z1) from rfl).trans (congrArg _ ?_)
  blk_ext [idx t, rowOf]

theorem final9 : (dats m 0 c).arrAt 9 (cfgs 0).N = GBT m c := by
  refine (dats m 0 c).arrAt_eq_of_covers 9 _ (by decide +kernel) fun t _ z => ?_
  have ht := lt16 t
  blk_simp
  rw [after0_9]; unfold outsAt0; dsimp only; unfold out0_A_9; frame_out
  idx_vars z
  refine (gbt_at m c t z0 z1 z2).trans (congrArg _ ?_)
  blk_ext [idx t]

theorem final10 : (dats m 0 c).arrAt 10 (cfgs 0).N = XO m c := by
  refine (dats m 0 c).arrAt_eq_of_covers 10 _ (by decide +kernel) fun t _ z => ?_
  have ht := lt16 t
  blk_simp
  rw [after0_10]; unfold outsAt0; dsimp only; unfold out0_A_10; frame_out
  idx_vars z
  refine ((xo_at m c t z0 z1).trans (show _ = XO m c (ix2 (rowOf t z0) z1) from rfl)).trans (congrArg _ ?_)
  blk_ext [idx t, rowOf]

theorem final11 : (dats m 0 c).arrAt 11 (cfgs 0).N = HO m c := by
  refine (dats m 0 c).arrAt_eq_of_covers 11 _ (by decide +kernel) fun t _ z => ?_
  have ht := lt16 t
  blk_simp
  rw [after0_11]; unfold outsAt0; dsimp only; unfold out0_A_11; frame_out
  idx_vars z
  refine ((ho_at m c t z0 z1).trans (show _ = HO m c (ix2 (rowOf t z0) z1) from rfl)).trans (congrArg _ ?_)
  blk_ext [idx t, rowOf]

end Cert.FwdIdeal.Elt

end
-- ==== Proof.FwdRef.lean ====
/- The reference of the first feed-forward block, read at an element. -/
module

public import proofs.«01_k».proof.Proof.Elt
public import proofs.«01_k».proof.Proof.Gen.FwdRefIdeal.Read

@[expose] public section

set_option maxRecDepth 16384

noncomputable section

namespace Cert.FwdRefIdeal.Elt

open Cert.FwdRefIdeal Cert.FwdRefIdeal.Read Cert.Reals Idealize.ShloMosaic

variable (X : S2x2048x1024.Idx → EReal) (G : S2x1024.Idx → EReal) (P : S2x1024x5632.Idx → EReal) (W : S2x3x2816.Idx → EReal)
variable (B : S2x2816.Idx → EReal) (D : S2x2816x1024.Idx → EReal) (N : S2x1024.Idx → EReal)
variable (b : Fin 2) (s : Fin 2048) (j : Fin 2816) (d : Fin 1024)

theorem v14_at : val_main_v14 (F := Ideal) X G (ix3 b s d) = hbE X G b s d := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  rfl

theorem v17_at (f : Fin 5632) : val_main_v17 (F := Ideal) X G P (ix3 b s f) = upE X G P b s f := by
  pointwise [val_main_v17, val_main_v16, val_main_v15, v14_at]
  rfl

theorem v26_at : val_main_v26 (F := Ideal) X G P (ix3 b s j) = tapE (actE X G P b) 0 s j := by
  pointwise [val_main_v26, val_main_v25, val_main_v24, val_main_v18, val_main_cst_2, v17_at]
  by_cases h : s.val < 2
  · rw [dif_pos h]; exact (tapE_zero _ _ _ _ (show s.val + 0 < 2 from h)).symm
  · rw [dif_neg h]
    exact (tapE_eq (actE X G P b) 0 s j ⟨s.val - 2, by omega⟩ (show s.val - 2 + 2 = s.val + 0 by omega)).symm

theorem v32_at : val_main_v32 (F := Ideal) X G P (ix3 b s j) = tapE (actE X G P b) 1 s j := by
  pointwise [val_main_v32, val_main_v25, val_main_v24, val_main_v18, val_main_cst_2, v17_at]
  by_cases h : 1 + s.val < 2
  · rw [dif_pos h]; exact (tapE_zero _ _ _ _ (show s.val + 1 < 2 by omega)).symm
  · rw [dif_neg h]
    exact (tapE_eq (actE X G P b) 1 s j ⟨1 + s.val - 2, by omega⟩ (show 1 + s.val - 2 + 2 = s.val + 1 by omega)).symm

theorem v39_at : val_main_v39 (F := Ideal) X G P (ix3 b s j) = tapE (actE X G P b) 2 s j := by
  pointwise [val_main_v39, val_main_v25, val_main_v24, val_main_v18, val_main_cst_2, v17_at]
  exact (tapE_eq (actE X G P b) 2 s j s rfl).symm

/-- The reference adds the taps first and the bias last. -/
theorem v48_at : val_main_v48 (F := Ideal) X G P W B (ix3 b s j) = acE X G P W B b s j := by
  pointwise [val_main_v48, val_main_v47, val_main_v46, val_main_v45, val_main_v44, val_main_v43, val_main_v42, val_main_v41,
    val_main_v40, val_main_v38, val_main_v37, val_main_v36, val_main_v35, val_main_v34, val_main_v33, val_main_v31, val_main_v30,
    val_main_v29, val_main_v28, val_main_v27, val_main_v23, val_main_v22, val_main_v21, val_main_v20, v26_at, v32_at, v39_at]
  unfold acE
  rw [mul_comm (tapE _ 0 s j), mul_comm (tapE _ 1 s j), mul_comm (tapE _ 2 s j)]
  rw [add_comm _ (B (ix2 0 j)), ← add_assoc, ← add_assoc]

theorem v50_at : val_main_v50 (F := Ideal) X G P W B (ix3 b s j) = gbE X G P W B b s j := by
  pointwise [val_main_v50, val_main_v49, val_main_v19, val_main_call0_v5, val_main_call0_v4, val_main_call0_v3, val_main_call0_v2,
    val_main_call0_v1, val_main_call0_v0, val_main_call0_cst, val_main_call0_cst_0, v48_at, v17_at]
  rfl

theorem v54_at : val_main_v54 (F := Ideal) X G P W B D (ix3 b s d) = xoE X G P W B D b s d := by
  pointwise [val_main_v54, val_main_v53, val_main_v52, val_main_v51, v50_at]
  rfl

theorem v74_at : val_main_v74 (F := Ideal) X G P W B D N (ix3 b s d) = hoE X G P W B D N b s d := by
  pointwise [val_main_v74, val_main_v73, val_main_v72, val_main_v71, val_main_v70, val_main_v69, val_main_v68, val_main_v67,
    val_main_v66, val_main_v65, val_main_v64, val_main_v63, val_main_v62, val_main_v61, val_main_v60, val_main_cst_3,
    val_main_cst_4, val_main_cst_5, v54_at]
  rfl

/-! ## The results -/

theorem v58_at (R : Fin 4096) (f : Fin 5632) : val_main_v58 (F := Ideal) X G P (ix2 R f) = upE X G P (bOf R) (sOf R) f := by
  pointwise [val_main_v58, v17_at]
  rfl

theorem v57_at (k : Fin 16) (q : Fin 256) : val_main_v57 (F := Ideal) X G P W B (ix3 k j q)
    = gbE X G P W B (bOf ⟨k.val * 256 + q.val, by omega⟩) (sOf ⟨k.val * 256 + q.val, by omega⟩) j := by
  pointwise [val_main_v57, val_main_v56, val_main_v55, v50_at]
  congr 1 <;> apply Fin.ext <;> simp only [bOf, sOf] <;> omega

theorem v59_at (R : Fin 4096) : val_main_v59 (F := Ideal) X G P W B D (ix2 R d) = xoE X G P W B D (bOf R) (sOf R) d := by
  pointwise [val_main_v59, v54_at]
  rfl

theorem v75_at (R : Fin 4096) : val_main_v75 (F := Ideal) X G P W B D N (ix2 R d) = hoE X G P W B D N (bOf R) (sOf R) d := by
  pointwise [val_main_v75, v74_at]
  rfl

end Cert.FwdRefIdeal.Elt

end
-- ==== Proof.FwdPair.lean ====
module

public import proofs.«01_k».proof.Defs
public import Idealize.ShloMosaic.Lib.Claim
public import proofs.«01_k».proof.Proof.FwdVal
public import proofs.«01_k».proof.Proof.FwdRef
public import proofs.«01_k».proof.Proof.Gen.FwdRefIdeal.Run
@[expose] public section

set_option maxRecDepth 16384
set_option maxHeartbeats 2000000

noncomputable section

/-! # The first feed-forward block: the kernel's four results are the reference's -/

namespace Cert.FwdPair

open Idealize.ShloMosaic Idealize.ShloMosaic.StableHlo Idealize.SL.Sem Cert.Reals

section Results
open FwdIdeal.Elt
variable (m : (ℓ : Loc FwdIdeal.nD FwdIdeal.τ FwdIdeal.sig) → Buf (Elt Ideal) ℓ) (c : Dev FwdIdeal.nD)

theorem first : FwdRefIdeal.Read.val_main_v58 (F := Ideal) (AX m c) (AG m c) (AP m c) = UPR m c := by
  funext i
  idx_vars i
  exact FwdRefIdeal.Elt.v58_at _ _ _ _ _

theorem second : FwdRefIdeal.Read.val_main_v57 (F := Ideal) (AX m c) (AG m c) (AP m c) (AW m c) (AB m c) = GBT m c := by
  funext i
  idx_vars i
  exact FwdRefIdeal.Elt.v57_at _ _ _ _ _ _ _ _

theorem third : FwdRefIdeal.Read.val_main_v59 (F := Ideal) (AX m c) (AG m c) (AP m c) (AW m c) (AB m c) (AD m c) = XO m c := by
  funext i
  idx_vars i
  exact FwdRefIdeal.Elt.v59_at _ _ _ _ _ _ _ _

theorem fourth : FwdRefIdeal.Read.val_main_v75 (F := Ideal) (AX m c) (AG m c) (AP m c) (AW m c) (AB m c) (AD m c) (AN m c) = HO m c := by
  funext i
  idx_vars i
  exact FwdRefIdeal.Elt.v75_at _ _ _ _ _ _ _ _ _

end Results

theorem frame_ref : quiescent_FwdRefIdeal := fun m g _ =>
  θ_run_mono (FwdRefIdeal.Value.run m g) fun r h =>
    ⟨fun c => (h c).2.2.2.2, sem_eq_zero_of_no_sems (by decide) r.2⟩

theorem algebraic : algebraic_FwdIdeal_FwdRefIdeal := by
  pair_intro
  · run_from FwdIdeal.Value.run_blocks m g
  · run_from FwdRefIdeal.Value.run m' g'
    all_goals obtain ⟨a0, a1, a2, a3, a4, a5, a6⟩ := hagree c
    · refine ((FwdRefIdeal.Read.val_main_v58_eq _ _ _).trans ?_).trans ((first m c).trans (FwdIdeal.Elt.final8 m c).symm)
      rfl
    · refine ((FwdRefIdeal.Read.val_main_v57_eq m' c).trans ?_).trans ((second m c).trans (FwdIdeal.Elt.final9 m c).symm)
      rw [a0, a1, a2, a3, a4]
    · refine ((FwdRefIdeal.Read.val_main_v59_eq m' c).trans ?_).trans ((third m c).trans (FwdIdeal.Elt.final10 m c).symm)
      rw [a0, a1, a2, a3, a4, a5]
    · refine ((FwdRefIdeal.Read.val_main_v75_eq m' c).trans ?_).trans ((fourth m c).trans (FwdIdeal.Elt.final11 m c).symm)
      rw [a0, a1, a2, a3, a4, a5, a6]

end Cert.FwdPair

end
-- ==== Proof.Into.lean ====
/- The conv block's norm and input product: the two result arrays. -/
module

public import proofs.«01_k».proof.Proof.Elt
public import Idealize.ShloMosaic.Lib.Pipeline.ReadBack
public import proofs.«01_k».proof.Proof.Gen.IntoIdeal.Value

@[expose] public section

set_option maxRecDepth 16384
set_option maxHeartbeats 1000000

noncomputable section

namespace Cert.IntoIdeal.Elt

open Cert.IntoIdeal Cert.IntoIdeal.Gen Cert.Reals Idealize.ShloMosaic Idealize.ShloMosaic.TcCoe Idealize.SL.Sem
open Idealize.ShloMosaic.Pipeline (Dat)

/-! ## The body's values at an element -/

section Body
variable (X : Vec Ideal S512x1024 .f32) (G : Vec Ideal S1x1024 .f32) (H : Vec Ideal S512x1024 .bf16)
variable (C : Vec Ideal S1x1024x512 .bf16) (B : Vec Ideal S1x512 .f32) (r : Fin 512) (k : Fin 512) (d : Fin 1024)

theorem pay4_at : k0_pay4 X G (ix2 r d) = nrmE (fun d => X (ix2 r d)) d * G (ix2 0 d) := by
  pointwise [k0_pay4]
  rfl

theorem pay5_at (o : Fin 1) : k0_pay5 X G (ix3 o d r) = nrmE (fun d => X (ix2 r d)) d * G (ix2 0 d) := by
  pointwise [k0_pay5, pay4_at]

/-- A chunk of columns of the product, with its bias. -/
theorem pay3_at : k0_pay3 H C B (ix2 r k) = (∑ d, H (ix2 r d) * C (ix3 0 d k)) + B (ix2 0 k) := by
  pointwise [k0_pay3]

theorem pay6_eq : k0_pay6 X G C B = k0_pay3 (k0_pay4 X G) C B := rfl
theorem pay2_eq : k0_pay2 H C B = k0_pay3 H C B := rfl
theorem pay1_eq : k0_pay1 (k0_pay7 X G C) (k0_pay8 B) = k0_pay3 (k0_pay4 X G) C B := rfl

end Body

/-! ## The blocks of the grid's points -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0, 0]
    ∧ win0_3.index t = ![0, 0] ∧ win0_4.index t = ![t.val, 0, 0] ∧ win0_5.index t = ![t.val, 0] ∧ t.val < 8 :=
  (by decide +kernel : ∀ t : Fin grid0.N, _)

theorem lt8 (t : Fin cfg0.N) : t.val < 8 := (idx t).2.2.2.2.2.2

/-- Row `r` of the block of point `t`, among all rows. -/
def rowOf (t : Fin cfg0.N) (r : Fin 512) : Fin 4096 := ⟨t.val * 512 + r.val, by have := lt8 t; omega⟩

/-- The four arguments. -/
abbrev AX : S2x2048x1024.Idx → EReal := m ((c : Thread nD τ).loc main_arg0)
abbrev AG : S2x1024.Idx → EReal := m ((c : Thread nD τ).loc main_arg1)
abbrev AW : S1x1024x2048.Idx → EReal := m ((c : Thread nD τ).loc main_arg2)
abbrev AB : S1x2048.Idx → EReal := m ((c : Thread nD τ).loc main_arg3)

theorem blk0 (t : Fin cfg0.N) (r : Fin 512) (d : Fin 1024) : iblk m c 0 t (ix2 r d)
    = AX m c (ix3 (bOf (rowOf t r)) (sOf (rowOf t r)) d) := by
  blk_simp [iblk]
  simp only [V, List.flatten_cons, List.flatten_nil, List.append_nil, hostOps0, List.cons_append,
    List.nil_append]
  entry_read
  pointwise
  blk_ext [idx t, bOf, sOf, rowOf]

theorem blk1 (t : Fin cfg0.N) (d : Fin 1024) : iblk m c 1 t (ix2 0 d) = AG m c (ix2 0 d) := by
  blk_simp [iblk]
  simp only [V, List.flatten_cons, List.flatten_nil, List.append_nil, hostOps0, List.cons_append,
    List.nil_append]
  entry_read
  pointwise
  blk_ext [idx t]

theorem blk2 (t : Fin cfg0.N) (q : Fin 4) (d : Fin 1024) (k : Fin 512) : iblk m c 2 t (ix3 q d k)
    = AW m c (ix3 0 d ⟨q.val * 512 + k.val, by omega⟩) := by
  blk_simp [iblk]
  simp only [V, List.flatten_cons, List.flatten_nil, List.append_nil, hostOps0, List.cons_append,
    List.nil_append]
  entry_read
  pointwise
  blk_ext [idx t]

theorem blk3 (t : Fin cfg0.N) (e : Fin 2048) : iblk m c 3 t (ix2 0 e) = AB m c (ix2 0 e) := by
  blk_simp [iblk]
  simp only [V, List.flatten_cons, List.flatten_nil, List.append_nil, hostOps0, List.cons_append,
    List.nil_append]
  entry_read
  blk_ext [idx t]

/-! ## The result arrays -/

/-- What the two results hold. -/
def HT (i : S8x1024x512.Idx) : EReal :=
  hbE (AX m c) (AG m c) (bOf ⟨(i 0).val * 512 + (i 2).val, by have h0 : (i 0).val < 8 := (i 0).isLt; have h2 : (i 2).val < 512 := (i 2).isLt; omega⟩)
    (sOf ⟨(i 0).val * 512 + (i 2).val, by have h0 : (i 0).val < 8 := (i 0).isLt; have h2 : (i 2).val < 512 := (i 2).isLt; omega⟩) (i 1)
def IN (i : S4096x2048.Idx) : EReal := inE (AX m c) (AG m c) (AW m c) (AB m c) (bOf (i 0)) (sOf (i 0)) (i 1)

/-- The block of the second result at a point. -/
def BIN (t : Fin cfg0.N) (i : S512x2048.Idx) : EReal := IN m c (ix2 (rowOf t (i 0)) (i 1))

theorem norm_at (t : Fin cfg0.N) (r : Fin 512) (d : Fin 1024) : k0_pay4 (iblk m c 0 t) (iblk m c 1 t) (ix2 r d)
    = hbE (AX m c) (AG m c) (bOf (rowOf t r)) (sOf (rowOf t r)) d := by
  rw [pay4_at, blk1]
  exact congrArg (fun v => nrmE v d * AG m c (ix2 0 d)) (funext fun d => blk0 m c t r d)

/-- A chunk of columns of the block. -/
theorem chunk_at (t : Fin cfg0.N) (q : Fin 4) (o p : ℕ) (ho : o = q.val * 512) (hp : p = q.val)
    (inb : ∀ a, (![0, o] : Fin 2 → ℕ) a + (![512, 512] : Fin 2 → ℕ) a ≤ S512x2048.size a)
    (inw : ∀ a, (![p, 0, 0] : Fin 3 → ℕ) a + (![1, 1024, 512] : Fin 3 → ℕ) a ≤ S4x1024x512.size a)
    (ini : ∀ a, (![0, o] : Fin 2 → ℕ) a + (![1, 512] : Fin 2 → ℕ) a ≤ S1x2048.size a)
    (x : (Rect.unit (s := S512x2048) ![0, o] ![512, 512] inb).shape.Idx) :
    k0_pay3 (k0_pay4 (iblk m c 0 t) (iblk m c 1 t)) (View.ld (iblk m c 2 t) (Rect.unit (s := S4x1024x512) ![p, 0, 0] ![1, 1024, 512] inw))
      (View.ld (iblk m c 3 t) (Rect.unit (s := S1x2048) ![0, o] ![1, 512] ini)) x
    = BIN m c t ((Rect.unit (s := S512x2048) ![0, o] ![512, 512] inb).emb x) := by
  subst ho hp
  idx_vars x
  have e : (Rect.unit (s := S512x2048) ![0, q.val * 512] ![512, 512] inb).emb (ix2 x0 x1)
      = ix2 x0 ⟨q.val * 512 + x1.val, by omega⟩ := by
    funext a; apply Fin.ext
    match a with
    | ⟨0, _⟩ => show 0 + 1 * x0.val = x0.val; omega
    | ⟨1, _⟩ => show q.val * 512 + 1 * x1.val = q.val * 512 + x1.val; omega
  have ew : ∀ d, View.ld (iblk m c 2 t) (Rect.unit (s := S4x1024x512) ![q.val, 0, 0] ![1, 1024, 512] inw) (ix3 0 d x1)
      = AW m c (ix3 0 d ⟨q.val * 512 + x1.val, by omega⟩) := fun d => by
    refine (congrArg (iblk m c 2 t) ?_).trans (blk2 m c t q d x1)
    funext a; apply Fin.ext
    match a with
    | ⟨0, _⟩ => show q.val + 1 * 0 = q.val; omega
    | ⟨1, _⟩ => show 0 + 1 * d.val = d.val; omega
    | ⟨2, _⟩ => show 0 + 1 * x1.val = x1.val; omega
  have eb : View.ld (iblk m c 3 t) (Rect.unit (s := S1x2048) ![0, q.val * 512] ![1, 512] ini) (ix2 0 x1)
      = AB m c (ix2 0 ⟨q.val * 512 + x1.val, by omega⟩) := by
    refine (congrArg (iblk m c 3 t) ?_).trans (blk3 m c t ⟨q.val * 512 + x1.val, by omega⟩)
    funext a; apply Fin.ext
    match a with
    | ⟨0, _⟩ => rfl
    | ⟨1, _⟩ => show q.val * 512 + 1 * x1.val = q.val * 512 + x1.val; omega
  rw [e, pay3_at, eb]
  simp only [norm_at, ew]
  rfl

/-- The block of the second result, stored in four chunks of columns. -/
abbrev chunks (t : Fin cfg0.N) : List (View.Piece (Elt Ideal) S512x2048 .f32) :=
  [⟨r0_14, k0_pay3 (k0_pay4 (iblk m c 0 t) (iblk m c 1 t)) (View.ld (iblk m c 2 t) r0_12) (View.ld (iblk m c 3 t) r0_13)⟩,
    ⟨r0_11, k0_pay2 (k0_pay4 (iblk m c 0 t) (iblk m c 1 t)) (View.ld (iblk m c 2 t) r0_9) (View.ld (iblk m c 3 t) r0_10)⟩,
    ⟨r0_8, k0_pay1 (k0_pay7 (iblk m c 0 t) (iblk m c 1 t) (View.ld (iblk m c 2 t) r0_6)) (k0_pay8 (View.ld (iblk m c 3 t) r0_7))⟩,
    ⟨r0_5, k0_pay6 (iblk m c 0 t) (iblk m c 1 t) (View.ld (iblk m c 2 t) r0_3) (View.ld (iblk m c 3 t) r0_4)⟩]

theorem chunks_of (t : Fin cfg0.N) : View.PiecesOf (BIN m c t) (chunks m c t) :=
  ⟨chunk_at m c t 3 1536 3 rfl rfl inb_S512x2048_S512x512_0_1536 _ _, chunk_at m c t 2 1024 2 rfl rfl inb_S512x2048_S512x512_0_1024 _ _, chunk_at m c t 1 512 1 rfl rfl inb_S512x2048_S512x512_0_512 _ _,
    chunk_at m c t 0 0 0 rfl rfl inb_S512x2048_S512x512_0_0 _ _, trivial⟩

theorem final4 : (dats m 0 c).arrAt 4 (cfgs 0).N = HT m c := by
  refine (dats m 0 c).arrAt_eq_of_covers 4 _ (by decide +kernel) fun t _ z => ?_
  have ht := lt8 t
  blk_simp
  rw [after0_4]
  unfold out0_4
  frame_out
  idx_vars z
  refine (pay5_at (iblk m c 0 t) (iblk m c 1 t) z2 z1 z0).trans ?_
  refine ((pay4_at (iblk m c 0 t) (iblk m c 1 t) z2 z1).symm.trans (norm_at m c t z2 z1)).trans ?_
  refine (show hbE (AX m c) (AG m c) (bOf (rowOf t z2)) (sOf (rowOf t z2)) z1 = HT m c (ix3 ⟨t.val, ht⟩ z1 z2) from rfl).trans (congrArg _ ?_)
  blk_ext [idx t]

theorem final5 : (dats m 0 c).arrAt 5 (cfgs 0).N = IN m c := by
  refine (dats m 0 c).arrAt_eq_of_covers 5 _ (by decide +kernel) fun t _ z => ?_
  have ht := lt8 t
  blk_simp
  rw [after0_5]
  unfold_out out0_5
  frame_out
  refine (View.canon_append_of_piecesOf (BIN m c t) [] (chunks m c t) (chunks_of m c t) z (cover0_5 _ _ _ _ z)).trans ?_
  idx_vars z
  refine (show BIN m c t (ix2 z0 z1) = IN m c (ix2 (rowOf t z0) z1) from rfl).trans (congrArg _ ?_)
  blk_ext [idx t, rowOf]

end Cert.IntoIdeal.Elt

end
-- ==== Proof.IntoRef.lean ====
/- The reference of the conv block's norm and input product, read at an element. -/
module

public import proofs.«01_k».proof.Proof.Elt
public import proofs.«01_k».proof.Proof.Gen.IntoRefIdeal.Read

@[expose] public section

set_option maxRecDepth 16384

noncomputable section

namespace Cert.IntoRefIdeal.Elt

open Cert.IntoRefIdeal Cert.IntoRefIdeal.Read Cert.Reals Idealize.ShloMosaic

variable (X : S2x2048x1024.Idx → EReal) (G : S2x1024.Idx → EReal) (W : S1x1024x2048.Idx → EReal) (B : S1x2048.Idx → EReal)
variable (b : Fin 2) (s : Fin 2048) (d : Fin 1024)

theorem v14_at : val_main_v14 (F := Ideal) X G (ix3 b s d) = hbE X G b s d := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  rfl

theorem v20_at (e : Fin 2048) : val_main_v20 (F := Ideal) X G W B (ix3 b s e) = inE X G W B b s e := by
  pointwise [val_main_v20, val_main_v19, val_main_v18, val_main_v17, val_main_v16, val_main_v15, v14_at]
  rfl

theorem v23_at (q : Fin 8) (r : Fin 512) : val_main_v23 (F := Ideal) X G (ix3 q d r)
    = hbE X G (bOf ⟨q.val * 512 + r.val, by omega⟩) (sOf ⟨q.val * 512 + r.val, by omega⟩) d := by
  pointwise [val_main_v23, val_main_v22, val_main_v21, v14_at]
  congr 1 <;> apply Fin.ext <;> simp only [bOf, sOf] <;> omega

theorem v24_at (R : Fin 4096) (e : Fin 2048) : val_main_v24 (F := Ideal) X G W B (ix2 R e) = inE X G W B (bOf R) (sOf R) e := by
  pointwise [val_main_v24, v20_at]
  rfl

end Cert.IntoRefIdeal.Elt

end
-- ==== Proof.IntoPair.lean ====
module

public import proofs.«01_k».proof.Defs
public import Idealize.ShloMosaic.Lib.Claim
public import proofs.«01_k».proof.Proof.Into
public import proofs.«01_k».proof.Proof.IntoRef
public import proofs.«01_k».proof.Proof.Gen.IntoRefIdeal.Run
@[expose] public section

set_option maxRecDepth 16384
set_option maxHeartbeats 2000000

noncomputable section

/-! # The conv block's norm and input product: the kernel's two results are the reference's -/

namespace Cert.IntoPair

open Idealize.ShloMosaic Idealize.ShloMosaic.StableHlo Idealize.SL.Sem Cert.Reals

section Results
open IntoIdeal.Elt
variable (m : (ℓ : Loc IntoIdeal.nD IntoIdeal.τ IntoIdeal.sig) → Buf (Elt Ideal) ℓ) (c : Dev IntoIdeal.nD)

theorem first : IntoRefIdeal.Read.val_main_v23 (F := Ideal) (AX m c) (AG m c) = HT m c := by
  funext i
  idx_vars i
  exact IntoRefIdeal.Elt.v23_at _ _ _ _ _

theorem second : IntoRefIdeal.Read.val_main_v24 (F := Ideal) (AX m c) (AG m c) (AW m c) (AB m c) = IN m c := by
  funext i
  idx_vars i
  exact IntoRefIdeal.Elt.v24_at _ _ _ _ _ _

end Results

theorem frame_ref : quiescent_IntoRefIdeal := fun m g _ =>
  θ_run_mono (IntoRefIdeal.Value.run m g) fun r h =>
    ⟨fun c => (h c).2.2, sem_eq_zero_of_no_sems (by decide) r.2⟩

theorem algebraic : algebraic_IntoIdeal_IntoRefIdeal := by
  pair_intro
  · run_from IntoIdeal.Value.run_blocks m g
  · run_from IntoRefIdeal.Value.run m' g'
    all_goals obtain ⟨a0, a1, a2, a3⟩ := hagree c
    · refine ((IntoRefIdeal.Read.val_main_v23_eq _ _).trans ?_).trans ((first m c).trans (IntoIdeal.Elt.final4 m c).symm)
      rfl
    · refine ((IntoRefIdeal.Read.val_main_v24_eq _ _ _ _).trans ?_).trans ((second m c).trans (IntoIdeal.Elt.final5 m c).symm)
      rfl

end Cert.IntoPair

end
-- ==== Proof.Weight.lean ====
/- The gradient of the up weight, a product over all tokens: the result array. -/
module

public import proofs.«01_k».proof.Proof.Elt
public import proofs.«01_k».proof.Proof.Gen.WeightIdeal.Value

@[expose] public section

set_option maxRecDepth 16384
set_option maxHeartbeats 1000000

noncomputable section

namespace Cert.WeightIdeal.Elt

open Cert.WeightIdeal Cert.WeightIdeal.Gen Cert.Reals Idealize.ShloMosaic Idealize.ShloMosaic.TcCoe Idealize.SL.Sem
open Idealize.ShloMosaic.Pipeline (Dat)

/-! ## The body's values at an element -/

section Body
variable (X : Vec Ideal S16x512x256 .bf16)

theorem inb (q : Fin 16) : ∀ a, (![q.val, 0, 0] : Fin 3 → ℕ) a + S1x512x256.size a ≤ S16x512x256.size a := fun a => by
  match a with
  | ⟨0, _⟩ => show q.val + 1 ≤ 16; omega
  | ⟨1, _⟩ => show 0 + 512 ≤ 512; omega
  | ⟨2, _⟩ => show 0 + 256 ≤ 256; omega

/-- The `q`-th slab of tokens. -/
def slab (q : Fin 16) : FVec Ideal S512x256 .bf16 :=
  shapeCast S512x256 (View.ld X (Rect.unit (s := S16x512x256) ![q.val, 0, 0] S1x512x256.size (inb q))) shapeCasts_S1x512x256_S512x256

theorem slab_at (q : Fin 16) (r : Fin 512) (k : Fin 256) : slab X q (ix2 r k) = X (ix3 q r k) := by
  refine (shapeCast_apply _ _ (ix2 r k) (ix3 0 r k) (by
    rw [Shape.rowMajor_val_three, Shape.rowMajor_val_two]
    show (0 * 512 + r.val) * 256 + k.val = r.val * 256 + k.val
    omega)).trans (congrArg X ?_)
  funext a; apply Fin.ext
  match a with
  | ⟨0, _⟩ => show q.val + 1 * 0 = q.val; omega
  | ⟨1, _⟩ => show 0 + 1 * r.val = r.val; omega
  | ⟨2, _⟩ => show 0 + 1 * k.val = k.val; omega

/-- The slabs side by side. -/
def stack : FVec Ideal S512x4096 .bf16 :=
  k0_pay1 (slab X 0) (slab X 1) (slab X 2) (slab X 3) (slab X 4) (slab X 5) (slab X 6) (slab X 7) (slab X 8) (slab X 9) (slab X 10)
    (View.ld X r0_11) (View.ld X r0_12) (View.ld X r0_13) (View.ld X r0_14) (View.ld X r0_15)

theorem stack_eq : stack X = concatenate S512x4096 1 (List.ofFn fun q : Fin 16 => (⟨S512x256, slab X q⟩ : (s : Shape) × (s.Idx → EReal)))
    concatenates_S512x256_S512x256_S512x256_S512x256_S512x256_S512x256_S512x256_S512x256_S512x256_S512x256_S512x256_S512x256_S512x256_S512x256_S512x256_S512x256_S512x4096_d1 :=
  rfl

theorem stack_at (r : Fin 512) (q : Fin 16) (k : Fin 256) : stack X (ix2 r ⟨q.val * 256 + k.val, by omega⟩) = X (ix3 q r k) := by
  rw [stack_eq]
  refine (concatenate_ofFn_apply (t := S512x4096) 1 (slab X) _ rfl 256 rfl (ix2 r ⟨q.val * 256 + k.val, by omega⟩) q (by show (q.val * 256 + k.val) / 256 = q.val; omega) (ix2 r k)
    (by show k.val = (q.val * 256 + k.val) % 256; omega) fun b hb => ?_).trans (slab_at X q r k)
  match b with
  | ⟨0, _⟩ => rfl
  | ⟨1, _⟩ => exact absurd rfl hb

theorem pay2_at (A : FVec Ideal S512x4096 .bf16) (Y : Vec Ideal S4096x1408 .bf16) (o : Fin 1) (r : Fin 512) (f : Fin 1408) :
    k0_pay2 A Y (ix3 o r f) = ∑ R, A (ix2 r R) * Y (ix2 R f) := by
  pointwise [k0_pay2]

end Body

/-! ## The blocks of the grid's points -/

variable (m : (ℓ : Loc nD τ sig) → Buf (Elt Ideal) ℓ) (c : Dev nD)

theorem idx : ∀ t : Fin cfg0.N, win0_0.index t = ![0, t.val / 4, 0] ∧ win0_1.index t = ![0, t.val % 4]
    ∧ win0_2.index t = ![t.val % 4, t.val / 4, 0] ∧ t.val < 8 :=
  (by decide +kernel : ∀ t : Fin grid0.N, _)

theorem lt8 (t : Fin cfg0.N) : t.val < 8 := (idx t).2.2.2

abbrev AH : S2x2048x1024.Idx → EReal := m ((c : Thread nD τ).loc main_arg0)
abbrev AY : S2x2048x5632.Idx → EReal := m ((c : Thread nD τ).loc main_arg1)

theorem blk0 (t : Fin cfg0.N) (q : Fin 16) (r : Fin 512) (k : Fin 256) : iblk m c 0 t (ix3 q r k)
    = AH m c (ix3 (bOf ⟨q.val * 256 + k.val, by omega⟩) (sOf ⟨q.val * 256 + k.val, by omega⟩)
        ⟨t.val / 4 * 512 + r.val, by have := lt8 t; omega⟩) := by
  have ht := lt8 t
  blk_simp [iblk]
  simp only [V, List.flatten_cons, List.flatten_nil, List.append_nil, hostOps0, List.cons_append,
    List.nil_append]
  entry_read
  pointwise
  blk_ext [idx t, bOf, sOf]

theorem blk1 (t : Fin cfg0.N) (R : Fin 4096) (f : Fin 1408) : iblk m c 1 t (ix2 R f)
    = AY m c (ix3 (bOf R) (sOf R) ⟨t.val % 4 * 1408 + f.val, by have := lt8 t; omega⟩) := by
  have ht := lt8 t
  blk_simp [iblk]
  simp only [V, List.flatten_cons, List.flatten_nil, List.append_nil, hostOps0, List.cons_append,
    List.nil_append]
  entry_read
  pointwise
  blk_ext [idx t, bOf, sOf]

/-! ## The result array -/

/-- The gradient: the sum over all tokens of the products of input and cotangent. -/
def GW (i : S4x1024x1408.Idx) : EReal :=
  ∑ R, AH m c (ix3 (bOf R) (sOf R) (i 1)) * AY m c (ix3 (bOf R) (sOf R) ⟨(i 0).val * 1408 + (i 2).val, by
    have h0 : (i 0).val < 4 := (i 0).isLt; have h2 : (i 2).val < 1408 := (i 2).isLt; omega⟩)

theorem stack_blk (t : Fin cfg0.N) (r : Fin 512) (R : Fin 4096) : stack (iblk m c 0 t) (ix2 r R)
    = AH m c (ix3 (bOf R) (sOf R) ⟨t.val / 4 * 512 + r.val, by have := lt8 t; omega⟩) := by
  have e : R = ⟨R.val / 256 * 256 + R.val % 256, by omega⟩ := Fin.ext (by show R.val = R.val / 256 * 256 + R.val % 256; omega)
  have h := (stack_at (iblk m c 0 t) r ⟨R.val / 256, by omega⟩ ⟨R.val % 256, by omega⟩).trans
    (blk0 m c t ⟨R.val / 256, by omega⟩ r ⟨R.val % 256, by omega⟩)
  rw [← e] at h
  exact h

theorem final2 : (dats m 0 c).arrAt 2 (cfgs 0).N = GW m c := by
  refine (dats m 0 c).arrAt_eq_of_covers 2 _ (by decide +kernel) fun t _ z => ?_
  have ht := lt8 t
  blk_simp
  rw [after0_2]
  unfold out0_2
  frame_out
  idx_vars z
  refine (pay2_at (stack (iblk m c 0 t)) (iblk m c 1 t) z0 z1 z2).trans ?_
  simp only [stack_blk, blk1]
  refine (show _ = GW m c (ix3 ⟨t.val % 4, by omega⟩ ⟨t.val / 4 * 512 + z1.val, by omega⟩ z2) from rfl).trans (congrArg _ ?_)
  blk_ext [idx t]

end Cert.WeightIdeal.Elt

end
-- ==== Proof.WeightRef.lean ====
/- The reference of the up weight's gradient, read at an element. -/
module

public import proofs.«01_k».proof.Proof.Elt
public import proofs.«01_k».proof.Proof.Gen.WeightRefIdeal.Read

@[expose] public section

set_option maxRecDepth 16384

noncomputable section

namespace Cert.WeightRefIdeal.Elt

open Cert.WeightRefIdeal Cert.WeightRefIdeal.Read Cert.Reals Idealize.ShloMosaic

variable (H : S2x2048x1024.Idx → EReal) (Y : S2x2048x5632.Idx → EReal)

/-- A sum over sequences and positions is a sum over all tokens. -/
theorem sum_tokens (f : Fin 2 → Fin 2048 → EReal) : ∑ b, ∑ s, f b s = ∑ R : Fin 4096, f (bOf R) (sOf R) := by
  refine ((Fin.sum_univ_tiles 2 2048 rfl fun R : Fin 4096 => f (bOf R) (sOf R)).trans ?_).symm
  refine Finset.sum_congr rfl fun b _ => Finset.sum_congr rfl fun s _ => ?_
  congr 1 <;> apply Fin.ext <;> simp only [bOf, sOf] <;> omega

theorem v6_at (q : Fin 4) (d : Fin 1024) (f : Fin 1408) : val_main_v6 (F := Ideal) H Y (ix3 q d f)
    = ∑ R : Fin 4096, H (ix3 (bOf R) (sOf R) d) * Y (ix3 (bOf R) (sOf R) ⟨q.val * 1408 + f.val, by omega⟩) := by
  refine Eq.trans ?_ (sum_tokens fun b s => H (ix3 b s d) * Y (ix3 b s ⟨q.val * 1408 + f.val, by omega⟩))
  pointwise [val_main_v6, val_main_v5, val_main_v4, val_main_v3, val_main_v2]
  refine Finset.sum_congr rfl fun b _ => Finset.sum_congr rfl fun s _ => (mul_comm _ _).trans ?_
  congr 2 <;> blk_ext

end Cert.WeightRefIdeal.Elt

end
-- ==== Proof.WeightPair.lean ====
module

public import proofs.«01_k».proof.Defs
public import Idealize.ShloMosaic.Lib.Claim
public import proofs.«01_k».proof.Proof.Weight
public import proofs.«01_k».proof.Proof.Gen.WeightRefIdeal.Run
public import proofs.«01_k».proof.Proof.WeightRef
@[expose] public section

set_option maxRecDepth 16384
set_option maxHeartbeats 2000000

noncomputable section

/-! # The gradient of the up weight: the kernel's result is the reference's -/

namespace Cert.WeightPair

open Idealize.ShloMosaic Idealize.ShloMosaic.StableHlo Idealize.SL.Sem Cert.Reals

section Results
open WeightIdeal.Elt
variable (m : (ℓ : Loc WeightIdeal.nD WeightIdeal.τ WeightIdeal.sig) → Buf (Elt Ideal) ℓ) (c : Dev WeightIdeal.nD)

theorem first : WeightRefIdeal.Read.val_main_v6 (F := Ideal) (AH m c) (AY m c) = GW m c := by
  funext i
  idx_vars i
  exact WeightRefIdeal.Elt.v6_at _ _ _ _ _

end Results

theorem frame_ref : quiescent_WeightRefIdeal := fun m g _ =>
  θ_run_mono (WeightRefIdeal.Value.run m g) fun r h =>
    ⟨fun c => (h c).2, sem_eq_zero_of_no_sems (by decide) r.2⟩

theorem algebraic : algebraic_WeightIdeal_WeightRefIdeal := by
  pair_intro
  · run_from WeightIdeal.Value.run_blocks m g
  · run_from WeightRefIdeal.Value.run m' g'
    all_goals obtain ⟨a0, a1⟩ := hagree c
    · refine ((WeightRefIdeal.Read.val_main_v6_eq _ _).trans ?_).trans ((first m c).trans (WeightIdeal.Elt.final2 m c).symm)
      rfl

end Cert.WeightPair

end
-- ==== Proof.Adam.lean ====
/- The optimiser's step at the up weight: the arrays of the gradient and of the two moments. -/
module

public import proofs.«01_k».proof.Proof.Elt
public import proofs.«01_k».proof.Proof.Gen.AdamIdeal.Value

@[expose] public section

set_option maxRecDepth 16384
set_option maxHeartbeats 1000000

noncomputable section

namespace Cert.AdamIdeal.Elt

open Cert.AdamIdeal Cert.AdamIdeal.Gen Cert.Reals Idealize.ShloMosaic Idealize.ShloMosaic.TcCoe Idealize.SL.Sem
open Idealize.ShloMosaic.Pipeline (Dat)

variable (m : (ℓ : Loc nD τ sig) → Buf (Elt Ideal) ℓ) (c : Dev nD)

/-- The gradient the step is given. -/
abbrev AG : S2x1024x1408.Idx → EReal := m ((c : Thread nD τ).loc main_arg1)
/-- The first moment before the step. -/
abbrev AM : S2x1024x1408.Idx → EReal := m ((c : Thread nD τ).loc main_arg2)
/-- The second moment before the step. -/
abbrev AV : S2x1024x1408.Idx → EReal := m ((c : Thread nD τ).loc main_arg3)

/-- The new first moment. -/
def NM (i : S2x1024x1408.Idx) : EReal :=
  Ideal.ofBits .f32 0x3F666666#32 * AM m c i + Ideal.ofBits .f32 0x3DCCCCCD#32 * AG m c i

/-- The new second moment. -/
def NV (i : S2x1024x1408.Idx) : EReal :=
  Ideal.ofBits .f32 0x3F7FBE77#32 * AV m c i + Ideal.ofBits .f32 0x3A83126F#32 * (AG m c i * AG m c i)

theorem idx : ∀ t : Fin cfg0.N, win0_1.index t = ![t.val / 8, t.val % 8, 0] ∧ win0_2.index t = ![t.val / 8, t.val % 8, 0]
    ∧ win0_3.index t = ![t.val / 8, t.val % 8, 0] ∧ win0_4.index t = ![t.val / 8, t.val % 8, 0]
    ∧ win0_6.index t = ![t.val / 8, t.val % 8, 0] ∧ win0_7.index t = ![t.val / 8, t.val % 8, 0] ∧ t.val < 16 :=
  (by decide +kernel : ∀ t : Fin grid0.N, _)

theorem lt16 (t : Fin cfg0.N) : t.val < 16 := (idx t).2.2.2.2.2.2

/-- The place in the whole array of a place in the block of point `t`. -/
abbrev place (t : Fin cfg0.N) (r : Fin 128) (f : Fin 1408) : S2x1024x1408.Idx :=
  ix3 ⟨t.val / 8, by have := lt16 t; omega⟩ ⟨t.val % 8 * 128 + r.val, by omega⟩ f

theorem blk1 (t : Fin cfg0.N) (o : Fin 1) (r : Fin 128) (f : Fin 1408) : iblk m c 1 t (ix3 o r f) = AG m c (place t r f) := by
  blk_simp [iblk]
  blk_ext [idx t, place]

theorem blk2 (t : Fin cfg0.N) (o : Fin 1) (r : Fin 128) (f : Fin 1408) : iblk m c 2 t (ix3 o r f) = AM m c (place t r f) := by
  blk_simp [iblk]
  blk_ext [idx t, place]

theorem blk3 (t : Fin cfg0.N) (o : Fin 1) (r : Fin 128) (f : Fin 1408) : iblk m c 3 t (ix3 o r f) = AV m c (place t r f) := by
  blk_simp [iblk]
  blk_ext [idx t, place]

theorem copy_at (G : Vec Ideal S1x128x1408 .f32) (o : Fin 1) (r : Fin 128) (f : Fin 1408) :
    k0_pay5 G (ix3 o r f) = G (ix3 0 r f) := by
  pointwise [k0_pay5, k0_pay4]
  rw [Subsingleton.elim o 0]

theorem first_at (G M : Vec Ideal S1x128x1408 .f32) (o : Fin 1) (r : Fin 128) (f : Fin 1408) :
    k0_pay2 (k0_pay6 G M) (ix3 o r f) = Ideal.ofBits .f32 0x3F666666#32 * M (ix3 0 r f) + Ideal.ofBits .f32 0x3DCCCCCD#32 * G (ix3 0 r f) := by
  pointwise [k0_pay2, k0_pay6, k0_pay4]

theorem second_at (G W : Vec Ideal S1x128x1408 .f32) (o : Fin 1) (r : Fin 128) (f : Fin 1408) :
    k0_pay3 (k0_pay7 G W) (ix3 o r f)
      = Ideal.ofBits .f32 0x3F7FBE77#32 * W (ix3 0 r f) + Ideal.ofBits .f32 0x3A83126F#32 * (G (ix3 0 r f) * G (ix3 0 r f)) := by
  pointwise [k0_pay3, k0_pay7, k0_pay4]

theorem final4 : (dats m 0 c).arrAt 4 (cfgs 0).N = AG m c := by
  refine (dats m 0 c).arrAt_eq_of_covers 4 _ (by decide +kernel) fun t _ z => ?_
  blk_simp
  rw [after0_4]
  unfold out0_4
  frame_out
  idx_vars z
  refine ((copy_at _ z0 z1 z2).trans (blk1 m c t 0 z1 z2)).trans ?_
  blk_ext [idx t, place]

theorem final6 : (dats m 0 c).arrAt 6 (cfgs 0).N = NM m c := by
  refine (dats m 0 c).arrAt_eq_of_covers 6 _ (by decide +kernel) fun t _ z => ?_
  blk_simp
  rw [after0_6]
  unfold out0_6
  frame_out
  idx_vars z
  refine (first_at _ _ z0 z1 z2).trans ?_
  rw [blk1, blk2]
  refine (show _ = NM m c (place t z1 z2) from rfl).trans (congrArg _ ?_)
  blk_ext [idx t, place]

theorem final7 : (dats m 0 c).arrAt 7 (cfgs 0).N = NV m c := by
  refine (dats m 0 c).arrAt_eq_of_covers 7 _ (by decide +kernel) fun t _ z => ?_
  blk_simp
  rw [after0_7]
  unfold out0_7
  frame_out
  idx_vars z
  refine (second_at _ _ z0 z1 z2).trans ?_
  rw [blk1, blk3]
  refine (show _ = NV m c (place t z1 z2) from rfl).trans (congrArg _ ?_)
  blk_ext [idx t, place]

end Cert.AdamIdeal.Elt

end
-- ==== Proof.AdamPair.lean ====
module

public import proofs.«01_k».proof.Defs
public import Idealize.ShloMosaic.Lib.Claim
public import proofs.«01_k».proof.Proof.Adam
public import proofs.«01_k».proof.Proof.Gen.AdamRefIdeal.Run
public import proofs.«01_k».proof.Proof.Gen.AdamRefIdeal.Read
public import proofs.«01_k».proof.Proof.Gen.On_adam_moments
@[expose] public section

set_option maxRecDepth 16384
set_option maxHeartbeats 2000000

noncomputable section

/-! # The optimiser's step: the gradient and the two moments are the reference's -/

namespace Cert.AdamPair

open Idealize.ShloMosaic Idealize.ShloMosaic.StableHlo Idealize.SL.Sem Cert.Reals

section Results
open AdamIdeal.Elt
variable (m : (ℓ : Loc AdamIdeal.nD AdamIdeal.τ AdamIdeal.sig) → Buf (Elt Ideal) ℓ) (c : Dev AdamIdeal.nD)

theorem first : AdamRefIdeal.Read.val_main_v4 (F := Ideal) (AG m c) (AM m c) = NM m c := by
  funext i
  rw [AdamRefIdeal.Read.val_main_v4_apply, AdamRefIdeal.Read.val_main_v1_apply, AdamRefIdeal.Read.val_main_v3_apply,
    AdamRefIdeal.Read.val_main_v0_apply, AdamRefIdeal.Read.val_main_v2_apply]
  rfl

theorem second : AdamRefIdeal.Read.val_main_v10 (F := Ideal) (AG m c) (AV m c) = NV m c := by
  funext i
  rw [AdamRefIdeal.Read.val_main_v10_apply, AdamRefIdeal.Read.val_main_v6_apply, AdamRefIdeal.Read.val_main_v9_apply,
    AdamRefIdeal.Read.val_main_v5_apply, AdamRefIdeal.Read.val_main_v8_apply, AdamRefIdeal.Read.val_main_v7_apply]
  rfl

/-- The mask of the step's change is nowhere one. -/
theorem no_change (w g a v : FVec Ideal AdamIdeal.S2x1024x1408 .f32) (i : AdamIdeal.S2x1024x1408.Idx) :
    ¬ (On_adam_moments.fn w g a v).2.1 i = 1#1 := by
  have e : (On_adam_moments.fn w g a v).2.1 i = 0#1 := by
    pointwise [On_adam_moments.fn]
  rw [e]; decide

end Results

theorem frame_ref : quiescent_AdamRefIdeal := fun m g _ =>
  θ_run_mono (AdamRefIdeal.Value.run m g) fun r h =>
    ⟨fun c => (h c).2.2.2.2, sem_eq_zero_of_no_sems (by decide) r.2⟩

theorem algebraic : algebraic_AdamIdeal_AdamRefIdeal_on_adam_moments := by
  intro m g m' g' _ hagree
  refine ⟨fun c => (AdamIdeal.Gen.dats m 0 c).arrAt 4 AdamIdeal.cfg0.N,
    fun c => (AdamIdeal.Gen.dats m 0 c).arrAt 5 AdamIdeal.cfg0.N,
    fun c => (AdamIdeal.Gen.dats m 0 c).arrAt 6 AdamIdeal.cfg0.N,
    fun c => (AdamIdeal.Gen.dats m 0 c).arrAt 7 AdamIdeal.cfg0.N, ?_, ?_⟩
  · exact θ_run_mono (AdamIdeal.Value.run_blocks m g) fun r h c =>
      ⟨fun i _ => congrFun (h c).1 i, fun i _ => congrFun (h c).2.1 i, fun i _ => congrFun (h c).2.2.1 i,
        fun i _ => congrFun (h c).2.2.2.1 i, (h c).2.2.2.2⟩
  · refine θ_run_mono (AdamRefIdeal.Value.run m' g') fun r h c => ⟨fun i _ => (congrFun (h c).1 i).trans ?_,
      fun i hi => absurd hi (no_change _ _ _ _ i), fun i _ => (congrFun (h c).2.2.1 i).trans ?_,
      fun i _ => (congrFun (h c).2.2.2.1 i).trans ?_, (h c).2.2.2.2⟩
    all_goals obtain ⟨a0, a1, a2, a3⟩ := hagree c
    · exact congrFun (a1.trans (AdamIdeal.Elt.final4 m c).symm) i
    · refine congrFun (((AdamRefIdeal.Read.val_main_v4_eq _ _).trans ?_).trans ((first m c).trans (AdamIdeal.Elt.final6 m c).symm)) i
      rw [a1, a2]; rfl
    · refine congrFun (((AdamRefIdeal.Read.val_main_v10_eq _ _).trans ?_).trans ((second m c).trans (AdamIdeal.Elt.final7 m c).symm)) i
      rw [a1, a3]; rfl

end Cert.AdamPair

end
-- ==== Proof.Chip.lean ====
/- The sum of a device's own part and its sibling's: the result array. -/
module

public import proofs.«01_k».proof.Proof.Elt
public import proofs.«01_k».proof.Proof.Gen.ChipIdeal.Frame

@[expose] public section

set_option maxRecDepth 16384
set_option maxHeartbeats 1000000

noncomputable section

namespace Cert.ChipIdeal.Elt

open Cert.ChipIdeal Cert.ChipIdeal.Gen Cert.Reals Idealize.ShloMosaic Idealize.ShloMosaic.TcCoe Idealize.SL.Sem
open Idealize.ShloMosaic.Pipeline (Dat)

variable (m : (ℓ : Loc nD τ sig) → Buf (Elt Ideal) ℓ) (c : Dev nD)

/-- The table of the device's place, all zero. -/
def zeros : pre0.Contents (Elt Ideal) := fun | 0 => fun _ => (0#32 : BitVec 32) | ⟨_ + 1, h⟩ => absurd h (Nat.not_lt.2 (Nat.le_add_left _ _))

theorem tbl_eq : tbl m = zeros := by
  funext j
  obtain rfl : j = 0 := Subsingleton.elim _ _
  funext i
  show V m 0 main_v2 i = 0#32
  simp only [V, List.flatten_cons, List.flatten_nil, List.append_nil, hostOps0, List.cons_append,
    List.nil_append]
  entry_read
  pointwise

theorem ok_zeros : ok0 (F := Ideal) zeros := by decide +kernel

theorem ok : Ok m := (congrArg (ok0 (F := Ideal)) (tbl_eq m)).mpr ok_zeros

/-- The device's own parts, and its sibling's. -/
abbrev AP : S4x2x512x1408.Idx → EReal := m ((c : Thread nD τ).loc main_arg0)
abbrev AS : S4x512x1408.Idx → EReal := m ((c : Thread nD τ).loc main_arg1)

/-- Their sum. -/
def SUM (i : S4x512x1408.Idx) : EReal := AP m c (ix4 (i 0) 0 (i 1) (i 2)) + AS m c i

theorem idx0 : ∀ t : Fin grid0.N, cc0_transform_0 Facts₀.inb_S2_S1_1 Facts₀.numel1_S1 zeros (grid0.coords t) = ![t.val, 0, 0, 0] := by
  decide +kernel

theorem idx1 : ∀ t : Fin grid0.N, cc0_transform_1 (grid0.coords t) = ![t.val, 0, 0]
    ∧ cc0_transform_2 (grid0.coords t) = ![t.val, 0, 0] ∧ t.val < 4 := by
  decide +kernel

theorem out_at (P : Vec Ideal S1x1x512x1408 .bf16) (S : Vec Ideal S1x512x1408 .bf16) (o : Fin 1) (r : Fin 512) (f : Fin 1408) :
    k0_pay1 P S (ix3 o r f) = P (ix4 0 0 r f) + S (ix3 0 r f) := by
  pointwise [k0_pay1]

theorem emb1 (t : Fin grid0.N) (o : Fin 1) (r : Fin 512) (f : Fin 1408) :
    (((cfgM m (ok m)).win 1).blk t).view.emb (ix3 o r f) = (ix3 ⟨t.val, (idx1 t).2.2⟩ r f : S4x512x1408.Idx) := by
  have hi := (idx1 t).1
  funext a; apply Fin.ext
  refine (Pipeline.Window.rect_emb_val ((cfgM m (ok m)).win 1) t (ix3 o r f) a rfl).trans ?_
  match a with
  | ⟨0, _⟩ => show cc0_transform_1 (grid0.coords t) 0 * 1 + o.val = t.val; rw [hi]; show t.val * 1 + o.val = t.val; omega
  | ⟨1, _⟩ => show cc0_transform_1 (grid0.coords t) 1 * 512 + r.val = r.val; rw [hi]; show 0 * 512 + r.val = r.val; omega
  | ⟨2, _⟩ => show cc0_transform_1 (grid0.coords t) 2 * 1408 + f.val = f.val; rw [hi]; show 0 * 1408 + f.val = f.val; omega

theorem emb0 (t : Fin grid0.N) (o p : Fin 1) (r : Fin 512) (f : Fin 1408) :
    (((cfgM m (ok m)).win 0).blk t).view.emb (ix4 o p r f) = (ix4 ⟨t.val, (idx1 t).2.2⟩ 0 r f : S4x2x512x1408.Idx) := by
  have hi := idx0 t
  rw [← tbl_eq m] at hi
  funext a; apply Fin.ext
  refine (Pipeline.Window.rect_emb_val ((cfgM m (ok m)).win 0) t (ix4 o p r f) a rfl).trans ?_
  show cc0_transform_0 _ _ (tbl m) (grid0.coords t) a * _ + _ = _
  rw [hi]
  match a with
  | ⟨0, _⟩ => show t.val * 1 + o.val = t.val; omega
  | ⟨1, _⟩ => show 0 * 1 + p.val = 0; omega
  | ⟨2, _⟩ => show 0 * 512 + r.val = r.val; omega
  | ⟨3, _⟩ => show 0 * 1408 + f.val = f.val; omega

theorem blk1 (t : Fin grid0.N) (o : Fin 1) (r : Fin 512) (f : Fin 1408) :
    iblk m (ok m) c 1 t (ix3 o r f) = AS m c (ix3 ⟨t.val, (idx1 t).2.2⟩ r f) := by
  show V m c main_v1 ((((cfgM m (ok m)).win 1).blk t).view.emb (ix3 o r f)) = _
  rw [emb1]
  simp only [V, List.flatten_cons, List.flatten_nil, List.append_nil, hostOps0, List.cons_append,
    List.nil_append]
  entry_read
  pointwise

theorem blk0 (t : Fin grid0.N) (o p : Fin 1) (r : Fin 512) (f : Fin 1408) :
    iblk m (ok m) c 0 t (ix4 o p r f) = AP m c (ix4 ⟨t.val, (idx1 t).2.2⟩ 0 r f) := by
  show V m c main_v0 ((((cfgM m (ok m)).win 0).blk t).view.emb (ix4 o p r f)) = _
  rw [emb0]
  simp only [V, List.flatten_cons, List.flatten_nil, List.append_nil, hostOps0, List.cons_append,
    List.nil_append]
  entry_read
  pointwise

theorem emb2 (t : Fin grid0.N) (o : Fin 1) (r : Fin 512) (f : Fin 1408) :
    (((cfgM m (ok m)).win 2).blk t).view.emb (ix3 o r f) = (ix3 ⟨t.val, (idx1 t).2.2⟩ r f : S4x512x1408.Idx) := by
  have hi := (idx1 t).2.1
  funext a; apply Fin.ext
  refine (Pipeline.Window.rect_emb_val ((cfgM m (ok m)).win 2) t (ix3 o r f) a rfl).trans ?_
  match a with
  | ⟨0, _⟩ => show cc0_transform_2 (grid0.coords t) 0 * 1 + o.val = t.val; rw [hi]; show t.val * 1 + o.val = t.val; omega
  | ⟨1, _⟩ => show cc0_transform_2 (grid0.coords t) 1 * 512 + r.val = r.val; rw [hi]; show 0 * 512 + r.val = r.val; omega
  | ⟨2, _⟩ => show cc0_transform_2 (grid0.coords t) 2 * 1408 + f.val = f.val; rw [hi]; show 0 * 1408 + f.val = f.val; omega

/-- Every place of the result is in the block of the point that its first coordinate names. -/
theorem covered (i : S4x512x1408.Idx) : ∃ t : Fin grid0.N, ((cfgM m (ok m)).win 2).flush t = true
    ∧ i ∈ (((cfgM m (ok m)).win 2).blk t).view.set :=
  ⟨⟨(i 0).val, by rw [N_0]; exact (i 0).isLt⟩, flush0_2 _ _, by
    refine Finset.mem_map.mpr ⟨ix3 0 (i 1) (i 2), Finset.mem_univ _, ?_⟩
    refine (emb2 m _ 0 (i 1) (i 2)).trans ?_
    funext a; apply Fin.ext
    match a with
    | ⟨0, _⟩ => rfl
    | ⟨1, _⟩ => rfl
    | ⟨2, _⟩ => rfl⟩

/-- The block that a point leaves: the sum of the two blocks it loads. -/
theorem outs (t : Fin grid0.N) : outsAt0 m (ok m) c t = k0_pay1 (iblk m (ok m) c 0 t) (iblk m (ok m) c 1 t) := by
  unfold outsAt0 out0_A_2
  frame_out
  exact congrArg₂ k0_pay1 ((hs0_0 m (ok m) t).read_unread _) ((hs0_1 m (ok m) t).read_unread _)

theorem outs_at (t : Fin grid0.N) (o : Fin 1) (r : Fin 512) (f : Fin 1408) :
    outsAt0 m (ok m) c t (ix3 o r f) = SUM m c (ix3 ⟨t.val, (idx1 t).2.2⟩ r f) := by
  rw [outs]
  refine (out_at _ _ o r f).trans ?_
  rw [blk0, blk1]
  rfl

theorem place (t : Fin grid0.N) (z : S1x512x1408.Idx) :
    outsAt0 m (ok m) c t z = SUM m c ((((cfgM m (ok m)).win 2).blk t).view.emb z) := by
  obtain ⟨o, r, f, rfl⟩ : ∃ (o : Fin 1) (r : Fin 512) (f : Fin 1408), z = ix3 o r f := ⟨z 0, z 1, z 2, by
    funext a
    match a with
    | ⟨0, _⟩ => rfl
    | ⟨1, _⟩ => rfl
    | ⟨2, _⟩ => rfl⟩
  exact (outs_at m c t o r f).trans (congrArg (SUM m c) (emb2 m t o r f).symm)

theorem left_at (t : Fin grid0.N) (z : (((cfgM m (ok m)).win 2).xblock ((cfgM m (ok m)).grid.coords t)).Idx) :
    outsAt0 m (ok m) c t (((cfgM m (ok m)).win 2).xinj ((cfgM m (ok m)).grid.coords t) z)
      = SUM m c ((((cfgM m (ok m)).win 2).blk t).view.emb z) :=
  place m c t z

theorem left_cover : ∀ i : (((cfgM m (ok m)).win 2).arr.view.loc (c.tc : Thread nD τ)).2.ty.Idx,
    ∃ t : Fin (cfgM m (ok m)).N, ((cfgM m (ok m)).win 2).flush t = true ∧ i ∈ (((cfgM m (ok m)).win 2).blk t).view.set :=
  covered m

theorem final2 : (dats m (ok m) 0 c).arrAt 2 (cfgM m (ok m)).N = SUM m c := by
  refine (dats m (ok m) 0 c).arrAt_eq_of_emb 2 (SUM m c) ?_ (left_cover m c)
  intro t _ z
  rw [after0_2]
  blk_simp
  exact left_at m c t z

end Cert.ChipIdeal.Elt

end
-- ==== Proof.ChipPair.lean ====
module

public import proofs.«01_k».proof.Defs
public import Idealize.ShloMosaic.Lib.Claim
public import proofs.«01_k».proof.Proof.Chip
public import proofs.«01_k».proof.Proof.Gen.Chip.Frame
public import proofs.«01_k».proof.Proof.Gen.ChipRefIdeal.Run
public import proofs.«01_k».proof.Proof.Gen.ChipRefIdeal.Read
@[expose] public section

set_option maxRecDepth 16384
set_option maxHeartbeats 2000000

noncomputable section

/-! # The sum of a device's own part and its sibling's: the kernel's result is the reference's -/

/-! ## The blocks of the program over bits are inside the arrays -/

namespace Cert.Chip.Elt

open Cert.Chip Cert.Chip.Gen Idealize.ShloMosaic Idealize.ShloMosaic.TcCoe Idealize.SL.Sem

variable (m : (ℓ : Loc nD τ sig) → Buf (Elt Bits) ℓ)

/-- The table of the device's place, all zero. -/
def zeros : pre0.Contents (Elt Bits) := fun | 0 => fun _ => (0#32 : BitVec 32) | ⟨_ + 1, h⟩ => absurd h (Nat.not_lt.2 (Nat.le_add_left _ _))

theorem tbl_eq : tbl m = zeros := by
  funext j
  obtain rfl : j = 0 := Subsingleton.elim _ _
  funext i
  show V m 0 main_v2 i = 0#32
  simp only [V, List.flatten_cons, List.flatten_nil, List.append_nil, hostOps0, List.cons_append,
    List.nil_append]
  entry_read
  pointwise

theorem ok_zeros : ok0 (F := Bits) zeros := by decide +kernel

theorem ok : Ok m := (congrArg (ok0 (F := Bits)) (tbl_eq m)).mpr ok_zeros

end Cert.Chip.Elt

namespace Cert.ChipPair

open Idealize.ShloMosaic Idealize.ShloMosaic.StableHlo Idealize.SL.Sem Cert.Reals

section Results
open ChipIdeal.Elt
variable (m : (ℓ : Loc ChipIdeal.nD ChipIdeal.τ ChipIdeal.sig) → Buf (Elt Ideal) ℓ) (c : Dev ChipIdeal.nD)

theorem first : ChipRefIdeal.Read.val_main_v7 (F := Ideal) (AP m c) (AS m c) = SUM m c := by
  funext i
  idx_vars i
  pointwise [ChipRefIdeal.Read.val_main_v7, ChipRefIdeal.Read.val_main_v6, ChipRefIdeal.Read.val_main_v5, ChipRefIdeal.Read.val_main_v4,
    ChipRefIdeal.Read.val_main_v3, ChipRefIdeal.Read.val_main_v2, ChipRefIdeal.Read.val_main_v1, ChipRefIdeal.Read.val_main_v0]
  rfl

end Results

theorem frame : quiescent_Chip := fun m g _ => Cert.Chip.Gen.frame m g (Cert.Chip.Elt.ok m)

theorem frame_ideal : quiescent_ChipIdeal := fun m g _ => Cert.ChipIdeal.Gen.frame m g (Cert.ChipIdeal.Elt.ok m)

theorem frame_ref : quiescent_ChipRefIdeal := fun m g _ =>
  θ_run_mono (ChipRefIdeal.Value.run m g) fun r h =>
    ⟨fun c => (h c).2, sem_eq_zero_of_no_sems (by decide) r.2⟩

theorem algebraic : algebraic_ChipIdeal_ChipRefIdeal := by
  intro m g m' g' _ hagree
  refine ⟨fun c => ChipIdeal.Elt.SUM m c, ?_, ?_⟩
  · refine θ_run_mono (θ_run_and (ChipIdeal.Gen.run_main m g (ChipIdeal.Elt.ok m)) (ChipIdeal.Gen.unchanged m g (ChipIdeal.Elt.ok m))) ?_
    rintro r ⟨h, h₂⟩ c
    exact ⟨((h c).1 2).trans (ChipIdeal.Elt.final2 m c), h₂ c⟩
  · refine θ_run_mono (ChipRefIdeal.Value.run m' g') fun r h c => ⟨?_, (h c).2⟩
    refine (h c).1.trans ((ChipRefIdeal.Read.val_main_v7_eq _ _).symm.trans ?_)
    rw [(hagree c).1, (hagree c).2]
    exact first m c

end Cert.ChipPair

end
-- ==== Proof.Total.lean ====
/- The last sum of a gradient's parts, own, the sibling's, and the three other chips': the result array. -/
module

public import proofs.«01_k».proof.Proof.Elt
public import proofs.«01_k».proof.Proof.Gen.TotalIdeal.Frame

@[expose] public section

set_option maxRecDepth 16384
set_option maxHeartbeats 1000000

noncomputable section

namespace Cert.TotalIdeal.Elt

open Cert.TotalIdeal Cert.TotalIdeal.Gen Cert.Reals Idealize.ShloMosaic Idealize.ShloMosaic.TcCoe Idealize.SL.Sem
open Idealize.ShloMosaic.Pipeline (Dat)

variable (m : (ℓ : Loc nD τ sig) → Buf (Elt Ideal) ℓ) (c : Dev nD)

/-- The table of the device's place, all zero. -/
def zeros : pre0.Contents (Elt Ideal) := fun | 0 => fun _ => (0#32 : BitVec 32) | ⟨_ + 1, h⟩ => absurd h (Nat.not_lt.2 (Nat.le_add_left _ _))

theorem tbl_eq : tbl m = zeros := by
  funext j
  obtain rfl : j = 0 := Subsingleton.elim _ _
  funext i
  show V m 0 main_v3 i = 0#32
  simp only [V, List.flatten_cons, List.flatten_nil, List.append_nil, hostOps0, List.cons_append,
    List.nil_append]
  entry_read
  pointwise

theorem ok_zeros : ok0 (F := Ideal) zeros := by decide +kernel

theorem ok : Ok m := (congrArg (ok0 (F := Ideal)) (tbl_eq m)).mpr ok_zeros

/-- The device's own parts, its sibling's, and the other chips'. -/
abbrev AP : S4x2x512x512.Idx → EReal := m ((c : Thread nD τ).loc main_arg0)
abbrev AS : S4x512x512.Idx → EReal := m ((c : Thread nD τ).loc main_arg1)
abbrev AG : S3x512x512.Idx → EReal := m ((c : Thread nD τ).loc main_arg2)

/-- Their sum. -/
def SUM (i : S1x2x512x512.Idx) : EReal :=
  AP m c (ix4 0 0 (i 2) (i 3)) + AS m c (ix3 0 (i 2) (i 3)) + AG m c (ix3 0 (i 2) (i 3)) + AG m c (ix3 1 (i 2) (i 3))
    + AG m c (ix3 2 (i 2) (i 3))

theorem idx0 : ∀ t : Fin grid0.N, cc0_transform_0 Facts₀.inb_S2_S1_0 Facts₀.numel1_S1 Facts₀.inb_S2_S1_1 zeros (grid0.coords t) = ![0, 0, 0, 0] := by
  decide +kernel

theorem idx1 : ∀ t : Fin grid0.N, cc0_transform_1 Facts₀.inb_S2_S1_0 Facts₀.numel1_S1 zeros (grid0.coords t) = ![0, 0, 0] := by
  decide +kernel

theorem idx2 : ∀ t : Fin grid0.N, cc0_transform_2 (grid0.coords t) = ![0, 0, 0] := by
  decide +kernel

theorem idx3 : ∀ t : Fin grid0.N, cc0_transform_3 Facts₀.inb_S2_S1_1 Facts₀.numel1_S1 zeros (grid0.coords t) = ![0, 0, 0, 0] := by
  decide +kernel

theorem out_at (P : Vec Ideal S1x1x512x512 .bf16) (S X Y Z : Vec Ideal S1x512x512 .bf16) (o p : Fin 1) (r f : Fin 512) :
    k0_pay1 P S X Y Z (ix4 o p r f)
      = P (ix4 0 0 r f) + S (ix3 0 r f) + X (ix3 0 r f) + Y (ix3 0 r f) + Z (ix3 0 r f) := by
  pointwise [k0_pay1]

theorem emb0 (t : Fin grid0.N) (o p : Fin 1) (r f : Fin 512) :
    (((cfgM m (ok m)).win 0).blk t).view.emb (ix4 o p r f) = (ix4 0 0 r f : S4x2x512x512.Idx) := by
  have hi := idx0 t
  rw [← tbl_eq m] at hi
  funext a; apply Fin.ext
  refine (Pipeline.Window.rect_emb_val ((cfgM m (ok m)).win 0) t (ix4 o p r f) a rfl).trans ?_
  show cc0_transform_0 _ _ _ (tbl m) (grid0.coords t) a * _ + _ = _
  rw [hi]
  match a with
  | ⟨0, _⟩ => show 0 * 1 + o.val = 0; omega
  | ⟨1, _⟩ => show 0 * 1 + p.val = 0; omega
  | ⟨2, _⟩ => show 0 * 512 + r.val = r.val; omega
  | ⟨3, _⟩ => show 0 * 512 + f.val = f.val; omega

theorem emb1 (t : Fin grid0.N) (o : Fin 1) (r f : Fin 512) :
    (((cfgM m (ok m)).win 1).blk t).view.emb (ix3 o r f) = (ix3 0 r f : S4x512x512.Idx) := by
  have hi := idx1 t
  rw [← tbl_eq m] at hi
  funext a; apply Fin.ext
  refine (Pipeline.Window.rect_emb_val ((cfgM m (ok m)).win 1) t (ix3 o r f) a rfl).trans ?_
  show cc0_transform_1 _ _ (tbl m) (grid0.coords t) a * _ + _ = _
  rw [hi]
  match a with
  | ⟨0, _⟩ => show 0 * 1 + o.val = 0; omega
  | ⟨1, _⟩ => show 0 * 512 + r.val = r.val; omega
  | ⟨2, _⟩ => show 0 * 512 + f.val = f.val; omega

theorem emb2 (t : Fin grid0.N) (j : Fin 3) (r f : Fin 512) :
    (((cfgM m (ok m)).win 2).blk t).view.emb (ix3 j r f) = (ix3 j r f : S3x512x512.Idx) := by
  have hi := idx2 t
  funext a; apply Fin.ext
  refine (Pipeline.Window.rect_emb_val ((cfgM m (ok m)).win 2) t (ix3 j r f) a rfl).trans ?_
  show cc0_transform_2 (grid0.coords t) a * _ + _ = _
  rw [hi]
  match a with
  | ⟨0, _⟩ => show 0 * 3 + j.val = j.val; omega
  | ⟨1, _⟩ => show 0 * 512 + r.val = r.val; omega
  | ⟨2, _⟩ => show 0 * 512 + f.val = f.val; omega

theorem emb3 (t : Fin grid0.N) (o p : Fin 1) (r f : Fin 512) :
    (((cfgM m (ok m)).win 3).blk t).view.emb (ix4 o p r f) = (ix4 0 0 r f : S1x2x512x512.Idx) := by
  have hi := idx3 t
  rw [← tbl_eq m] at hi
  funext a; apply Fin.ext
  refine (Pipeline.Window.rect_emb_val ((cfgM m (ok m)).win 3) t (ix4 o p r f) a rfl).trans ?_
  show cc0_transform_3 _ _ (tbl m) (grid0.coords t) a * _ + _ = _
  rw [hi]
  match a with
  | ⟨0, _⟩ => show 0 * 1 + o.val = 0; omega
  | ⟨1, _⟩ => show 0 * 1 + p.val = 0; omega
  | ⟨2, _⟩ => show 0 * 512 + r.val = r.val; omega
  | ⟨3, _⟩ => show 0 * 512 + f.val = f.val; omega

theorem blk0 (t : Fin grid0.N) (o p : Fin 1) (r f : Fin 512) :
    iblk m (ok m) c 0 t (ix4 o p r f) = AP m c (ix4 0 0 r f) := by
  show V m c main_v0 ((((cfgM m (ok m)).win 0).blk t).view.emb (ix4 o p r f)) = _
  rw [emb0]
  simp only [V, List.flatten_cons, List.flatten_nil, List.append_nil, hostOps0, List.cons_append,
    List.nil_append]
  entry_read
  pointwise

theorem blk1 (t : Fin grid0.N) (o : Fin 1) (r f : Fin 512) :
    iblk m (ok m) c 1 t (ix3 o r f) = AS m c (ix3 0 r f) := by
  show V m c main_v1 ((((cfgM m (ok m)).win 1).blk t).view.emb (ix3 o r f)) = _
  rw [emb1]
  simp only [V, List.flatten_cons, List.flatten_nil, List.append_nil, hostOps0, List.cons_append,
    List.nil_append]
  entry_read
  pointwise

theorem blk2 (t : Fin grid0.N) (j : Fin 3) (r f : Fin 512) :
    iblk m (ok m) c 2 t (ix3 j r f) = AG m c (ix3 j r f) := by
  show V m c main_v2 ((((cfgM m (ok m)).win 2).blk t).view.emb (ix3 j r f)) = _
  rw [emb2]
  simp only [V, List.flatten_cons, List.flatten_nil, List.append_nil, hostOps0, List.cons_append,
    List.nil_append]
  entry_read
  pointwise

/-- One part of the three, loaded by itself. -/
theorem got_at (X : S3x512x512.Idx → EReal) (j : Fin 3) (inb) (r f : Fin 512) :
    View.ld (Val := Elt Ideal) (e' := .bf16) X (Rect.unit (s := S3x512x512) ![j.val, 0, 0] ![1, 512, 512] inb) (ix3 0 r f) = X (ix3 j r f) :=
  View.ld_unit_apply_of _ _ _ _ _ _ fun a => match a with
    | ⟨0, _⟩ => rfl
    | ⟨1, _⟩ => (Nat.zero_add _).symm
    | ⟨2, _⟩ => (Nat.zero_add _).symm

theorem outs_at (t : Fin grid0.N) (o p : Fin 1) (r f : Fin 512) :
    outsAt0 m (ok m) c t (ix4 o p r f) = SUM m c (ix4 0 0 r f) := by
  unfold outsAt0 out0_A_3
  frame_out
  refine (out_at _ _ _ _ _ o p r f).trans ?_
  have e2 (j : Fin 3) : View.read (Elt Ideal) (ms0_2 m (ok m) t).view ((hs0_2 m (ok m) t).unread (iblk m (ok m) c 2 t)) (ix3 j r f) = AG m c (ix3 j r f) :=
    (congrFun ((hs0_2 m (ok m) t).read_unread _) _).trans (blk2 m c t j r f)
  exact congrArg₂ (· + ·) (congrArg₂ (· + ·) (congrArg₂ (· + ·) (congrArg₂ (· + ·)
      ((congrFun ((hs0_0 m (ok m) t).read_unread _) _).trans (blk0 m c t 0 0 r f))
      ((congrFun ((hs0_1 m (ok m) t).read_unread _) _).trans (blk1 m c t 0 r f)))
    ((got_at _ 0 _ r f).trans (e2 0))) ((got_at _ 1 _ r f).trans (e2 1))) ((got_at _ 2 _ r f).trans (e2 2))

theorem place (t : Fin grid0.N) (z : S1x1x512x512.Idx) :
    outsAt0 m (ok m) c t z = SUM m c ((((cfgM m (ok m)).win 3).blk t).view.emb z) := by
  obtain ⟨o, p, r, f, rfl⟩ : ∃ (o p : Fin 1) (r f : Fin 512), z = ix4 o p r f := ⟨z 0, z 1, z 2, z 3, by
    funext a
    match a with
    | ⟨0, _⟩ => rfl
    | ⟨1, _⟩ => rfl
    | ⟨2, _⟩ => rfl
    | ⟨3, _⟩ => rfl⟩
  exact (outs_at m c t o p r f).trans (congrArg (SUM m c) (emb3 m t o p r f).symm)

theorem left_at (t : Fin grid0.N) (z : (((cfgM m (ok m)).win 3).xblock ((cfgM m (ok m)).grid.coords t)).Idx) :
    outsAt0 m (ok m) c t (((cfgM m (ok m)).win 3).xinj ((cfgM m (ok m)).grid.coords t) z)
      = SUM m c ((((cfgM m (ok m)).win 3).blk t).view.emb z) :=
  place m c t z

/-- A place of the written half is in the one block. -/
theorem covered (r f : Fin 512) : (ix4 0 0 r f : S1x2x512x512.Idx) ∈ (((cfgM m (ok m)).win 3).blk t0_0).view.set := by
  refine Finset.mem_map.mpr ⟨ix4 0 0 r f, Finset.mem_univ _, ?_⟩
  exact emb3 m t0_0 0 0 r f

theorem flush3 : ((cfgM m (ok m)).win 3).flush t0_0 = true := by
  show (true && (decide (0 + 1 = grid0.N) || _)) = true
  rw [decide_eq_true (by rw [N_0])]
  rfl

theorem left_all : ∀ t, ((cfgM m (ok m)).win 3).flush t = true → ∀ y : (((cfgM m (ok m)).win 3).xblock ((cfgM m (ok m)).grid.coords t)).Idx,
    _root_.cast (congrArg (Elt Ideal) (((cfgM m (ok m)).win 3).blk t).view.elt_eq.symm)
      ((dats m (ok m) 0 c).after 3 t (((cfgM m (ok m)).win 3).xinj ((cfgM m (ok m)).grid.coords t) y))
      = SUM m c ((((cfgM m (ok m)).win 3).blk t).view.emb y) := by
  intro t _ z
  rw [after0_3]
  blk_simp
  exact left_at m c t z

/-- The written half of the result. -/
theorem final3 (r f : Fin 512) : (dats m (ok m) 0 c).arrAt 3 (cfgM m (ok m)).N (ix4 0 0 r f) = SUM m c (ix4 0 0 r f) :=
  (dats m (ok m) 0 c).arrAt_forall_of_flushed 3 (fun i v => v = SUM m c i) (left_all m c) (cfgM m (ok m)).N t0_0 (ix4 0 0 r f)
    t0_0.isLt (flush3 m) (covered m r f)

end Cert.TotalIdeal.Elt

end
-- ==== Proof.TotalPair.lean ====
module

public import proofs.«01_k».proof.Defs
public import Idealize.ShloMosaic.Lib.Claim
public import proofs.«01_k».proof.Proof.Total
public import proofs.«01_k».proof.Proof.Gen.Total.Frame
public import proofs.«01_k».proof.Proof.Gen.TotalRefIdeal.Run
public import proofs.«01_k».proof.Proof.Gen.TotalRefIdeal.Read
public import proofs.«01_k».proof.Proof.Gen.On_final_written
@[expose] public section

set_option maxRecDepth 16384
set_option maxHeartbeats 2000000

noncomputable section

/-! # The last sum of a gradient's parts: the kernel's result is the reference's, where it is written -/

/-! ## The blocks of the program over bits are inside the arrays -/

namespace Cert.Total.Elt

open Cert.Total Cert.Total.Gen Idealize.ShloMosaic Idealize.ShloMosaic.TcCoe Idealize.SL.Sem

variable (m : (ℓ : Loc nD τ sig) → Buf (Elt Bits) ℓ)

/-- The table of the device's place, all zero. -/
def zeros : pre0.Contents (Elt Bits) := fun | 0 => fun _ => (0#32 : BitVec 32) | ⟨_ + 1, h⟩ => absurd h (Nat.not_lt.2 (Nat.le_add_left _ _))

theorem tbl_eq : tbl m = zeros := by
  funext j
  obtain rfl : j = 0 := Subsingleton.elim _ _
  funext i
  show V m 0 main_v3 i = 0#32
  simp only [V, List.flatten_cons, List.flatten_nil, List.append_nil, hostOps0, List.cons_append,
    List.nil_append]
  entry_read
  pointwise

theorem ok_zeros : ok0 (F := Bits) zeros := by decide +kernel

theorem ok : Ok m := (congrArg (ok0 (F := Bits)) (tbl_eq m)).mpr ok_zeros

end Cert.Total.Elt

namespace Cert.TotalPair

open Idealize.ShloMosaic Idealize.ShloMosaic.StableHlo Idealize.SL.Sem Cert.Reals

section Results
open TotalIdeal.Elt
variable (m : (ℓ : Loc TotalIdeal.nD TotalIdeal.τ TotalIdeal.sig) → Buf (Elt Ideal) ℓ) (c : Dev TotalIdeal.nD)

theorem first (r f : Fin 512) : TotalRefIdeal.Read.val_main_v17 (F := Ideal) (AP m c) (AS m c) (AG m c) (ix4 0 0 r f) = SUM m c (ix4 0 0 r f) := by
  have e12 : TotalRefIdeal.Read.val_main_v12 (F := Ideal) (AP m c) (AS m c) (AG m c) (ix2 r f)
      = (AP m c (ix4 0 0 r f) + AS m c (ix3 0 r f)) + ∑ j : Fin 3, AG m c (ix3 j r f) := by
    pointwise [TotalRefIdeal.Read.val_main_v12, TotalRefIdeal.Read.val_main_v11, TotalRefIdeal.Read.val_main_v10, TotalRefIdeal.Read.val_main_v9,
      TotalRefIdeal.Read.val_main_v8, TotalRefIdeal.Read.val_main_v7, TotalRefIdeal.Read.val_main_v6, TotalRefIdeal.Read.val_main_v5,
      TotalRefIdeal.Read.val_main_v4, TotalRefIdeal.Read.val_main_v3, TotalRefIdeal.Read.val_main_v2, TotalRefIdeal.Read.val_main_v1,
      TotalRefIdeal.Read.val_main_v0, TotalRefIdeal.Read.val_main_cst]
  have e17 : TotalRefIdeal.Read.val_main_v17 (F := Ideal) (AP m c) (AS m c) (AG m c) (ix4 0 0 r f)
      = TotalRefIdeal.Read.val_main_v12 (F := Ideal) (AP m c) (AS m c) (AG m c) (ix2 r f) := by
    pointwise [TotalRefIdeal.Read.val_main_v17, TotalRefIdeal.Read.val_main_v16, TotalRefIdeal.Read.val_main_v14]
  rw [e17, e12, Fin.sum_univ_three, ← add_assoc, ← add_assoc]
  rfl

/-- The mask is one only at places of the first half. -/
theorem first_half (u : FVec Ideal TotalIdeal.S4x2x512x512 .f32) (w : FVec Ideal TotalIdeal.S4x512x512 .f32)
    (y : FVec Ideal TotalIdeal.S3x512x512 .f32) (i : TotalIdeal.S1x2x512x512.Idx)
    (h : (On_final_written.fn u w y) i = 1#1) : ∃ r f : Fin 512, i = ix4 0 0 r f := by
  idx_vars i
  have e : (On_final_written.fn u w y) (ix4 i0 i1 i2 i3) = IntOp.cmpi .slt (BitVec.ofNat 32 i1.val) 1#32 := by
    pointwise [On_final_written.fn]
  rw [e] at h
  have h1 : i1 = 0 := by
    clear e
    revert h
    revert i1
    decide
  exact ⟨i2, i3, by rw [h1, Subsingleton.elim i0 0]⟩

end Results

theorem frame : quiescent_Total := fun m g _ => Cert.Total.Gen.frame m g (Cert.Total.Elt.ok m)

theorem frame_ideal : quiescent_TotalIdeal := fun m g _ => Cert.TotalIdeal.Gen.frame m g (Cert.TotalIdeal.Elt.ok m)

theorem frame_ref : quiescent_TotalRefIdeal := fun m g _ =>
  θ_run_mono (TotalRefIdeal.Value.run m g) fun r h =>
    ⟨fun c => (h c).2, sem_eq_zero_of_no_sems (by decide) r.2⟩

theorem algebraic : algebraic_TotalIdeal_TotalRefIdeal_on_final_written := by
  intro m g m' g' _ hagree
  refine ⟨fun c => (TotalIdeal.Gen.dats m (TotalIdeal.Elt.ok m) 0 c).arrAt 3 (TotalIdeal.Gen.cfgM m (TotalIdeal.Elt.ok m)).N, ?_, ?_⟩
  · refine θ_run_mono (θ_run_and (TotalIdeal.Gen.run_main m g (TotalIdeal.Elt.ok m)) (TotalIdeal.Gen.unchanged m g (TotalIdeal.Elt.ok m))) ?_
    rintro r ⟨h, h₂⟩ c
    exact ⟨fun i _ => congrFun ((h c).1 3) i, h₂ c⟩
  · refine θ_run_mono (TotalRefIdeal.Value.run m' g') fun r h c => ⟨fun i hi => ?_, (h c).2⟩
    obtain ⟨x, y, rfl⟩ := first_half _ _ _ i hi
    refine (congrFun ((h c).1.trans (TotalRefIdeal.Read.val_main_v17_eq _ _ _).symm) _).trans ?_
    rw [(hagree c).1, (hagree c).2.1, (hagree c).2.2]
    exact (first m c x y).trans (TotalIdeal.Elt.final3 m c x y).symm

end Cert.TotalPair

end
-- ==== Proof.MixPair.lean ====
module

public import proofs.«01_k».proof.Defs
public import Idealize.ShloMosaic.Lib.Claim
public import proofs.«01_k».proof.Proof.Gen.MixRefIdeal
public import proofs.«01_k».proof.Proof.Gen.MixRefIdeal.Run
@[expose] public section

noncomputable section

/-! # The pooling block forward: the reference runs to its end -/

namespace Cert.MixPair

open Idealize.ShloMosaic Idealize.SL.Sem

/-- The reference leaves its arguments alone and every counter at zero. -/
theorem frame_ref : quiescent_MixRefIdeal := fun m g _ =>
  θ_run_mono (MixRefIdeal.Value.run m g) fun r h =>
    ⟨fun c => (h c).2.2.2.2, sem_eq_zero_of_no_sems (by decide) r.2⟩

end Cert.MixPair

end
-- ==== Proof.lean ====
module

public import proofs.«01_k».proof.Defs
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Pre_conv_finite
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_down_finite
public import proofs.«01_k».proof.Proof.Gen.On_down_written
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_up_finite
public import proofs.«01_k».proof.Proof.Gen.On_up_written
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.Into
public import proofs.«01_k».proof.Proof.Gen.Into.Skeleton
public import proofs.«01_k».proof.Proof.Gen.Into.Launch
public import proofs.«01_k».proof.Proof.Gen.Into.Points
public import proofs.«01_k».proof.Proof.Gen.Into.Frame
public import proofs.«01_k».proof.Proof.Gen.IntoIdeal
public import proofs.«01_k».proof.Proof.Gen.IntoIdeal.Skeleton
public import proofs.«01_k».proof.Proof.Gen.IntoIdeal.Launch
public import proofs.«01_k».proof.Proof.Gen.IntoIdeal.Points
public import proofs.«01_k».proof.Proof.Gen.IntoIdeal.Frame
public import proofs.«01_k».proof.Proof.Gen.IntoIdeal.Value
public import proofs.«01_k».proof.Proof.Gen.IntoRefIdeal
public import proofs.«01_k».proof.Proof.Gen.IntoRefIdeal.Run
public import proofs.«01_k».proof.Proof.Gen.IntoRefIdeal.Read
public import proofs.«01_k».proof.Proof.Gen.Weight
public import proofs.«01_k».proof.Proof.Gen.Weight.Skeleton
public import proofs.«01_k».proof.Proof.Gen.Weight.Launch
public import proofs.«01_k».proof.Proof.Gen.Weight.Points
public import proofs.«01_k».proof.Proof.Gen.Weight.Frame
public import proofs.«01_k».proof.Proof.Gen.WeightIdeal
public import proofs.«01_k».proof.Proof.Gen.WeightIdeal.Skeleton
public import proofs.«01_k».proof.Proof.Gen.WeightIdeal.Launch
public import proofs.«01_k».proof.Proof.Gen.WeightIdeal.Points
public import proofs.«01_k».proof.Proof.Gen.WeightIdeal.Frame
public import proofs.«01_k».proof.Proof.Gen.WeightIdeal.Value
public import proofs.«01_k».proof.Proof.Gen.WeightRefIdeal
public import proofs.«01_k».proof.Proof.Gen.WeightRefIdeal.Run
public import proofs.«01_k».proof.Proof.Gen.WeightRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.On_adam_moments
public import proofs.«01_k».proof.Proof.Gen.Chip
public import proofs.«01_k».proof.Proof.Gen.Chip.Skeleton
public import proofs.«01_k».proof.Proof.Gen.Chip.Launch
public import proofs.«01_k».proof.Proof.Gen.Chip.Points
public import proofs.«01_k».proof.Proof.Gen.Chip.Frame
public import proofs.«01_k».proof.Proof.Gen.ChipIdeal
public import proofs.«01_k».proof.Proof.Gen.ChipIdeal.Skeleton
public import proofs.«01_k».proof.Proof.Gen.ChipIdeal.Launch
public import proofs.«01_k».proof.Proof.Gen.ChipIdeal.Points
public import proofs.«01_k».proof.Proof.Gen.ChipIdeal.Frame
public import proofs.«01_k».proof.Proof.Gen.ChipRefIdeal
public import proofs.«01_k».proof.Proof.Gen.ChipRefIdeal.Run
public import proofs.«01_k».proof.Proof.Gen.ChipRefIdeal.Read
public import proofs.«01_k».proof.Proof.Gen.Total
public import proofs.«01_k».proof.Proof.Gen.Total.Skeleton
public import proofs.«01_k».proof.Proof.Gen.Total.Launch
public import proofs.«01_k».proof.Proof.Gen.Total.Points
public import proofs.«01_k».proof.Proof.Gen.Total.Frame
public import proofs.«01_k».proof.Proof.Gen.TotalIdeal
public import proofs.«01_k».proof.Proof.Gen.TotalIdeal.Skeleton
public import proofs.«01_k».proof.Proof.Gen.TotalIdeal.Launch
public import proofs.«01_k».proof.Proof.Gen.TotalIdeal.Points
public import proofs.«01_k».proof.Proof.Gen.TotalIdeal.Frame
public import proofs.«01_k».proof.Proof.Gen.TotalRefIdeal
public import proofs.«01_k».proof.Proof.Gen.TotalRefIdeal.Run
public import proofs.«01_k».proof.Proof.Gen.TotalRefIdeal.Read
public import proofs.«01_k».proof.Proof.Gen.On_final_written
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.NormPair
public import proofs.«01_k».proof.Proof.DownPair
public import proofs.«01_k».proof.Proof.UpPair
public import proofs.«01_k».proof.Proof.LossPair
public import proofs.«01_k».proof.Proof.PoolPair
public import proofs.«01_k».proof.Proof.FwdPair
public import proofs.«01_k».proof.Proof.IntoPair
public import proofs.«01_k».proof.Proof.WeightPair
public import proofs.«01_k».proof.Proof.AdamPair
public import proofs.«01_k».proof.Proof.ChipPair
public import proofs.«01_k».proof.Proof.TotalPair
public import proofs.«01_k».proof.Proof.MixPair
public import Idealize.ShloMosaic.Adequacy
public import Idealize.ShloMosaic.Init

@[expose] public section

noncomputable section

namespace Cert.Proof

open Idealize.ShloMosaic Idealize.SL.Sem Cert.Norm

theorem claim : Cert.Claim := ⟨
  Cert.Norm.Gen.facts, Cert.NormIdeal.Gen.facts, Cert.NormRefIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.Loss.Gen.facts, Cert.LossIdeal.Gen.facts, Cert.LossRefIdeal.Gen.facts,
  Cert.Pool.Gen.facts, Cert.PoolIdeal.Gen.facts, Cert.PoolRefIdeal.Gen.facts,
  Cert.Fwd.Gen.facts, Cert.FwdIdeal.Gen.facts, Cert.FwdRefIdeal.Gen.facts,
  Cert.Into.Gen.facts, Cert.IntoIdeal.Gen.facts, Cert.IntoRefIdeal.Gen.facts,
  Cert.Weight.Gen.facts, Cert.WeightIdeal.Gen.facts, Cert.WeightRefIdeal.Gen.facts,
  Cert.Adam.Gen.facts, Cert.AdamIdeal.Gen.facts, Cert.AdamRefIdeal.Gen.facts,
  Cert.Chip.Gen.facts, Cert.ChipIdeal.Gen.facts, Cert.ChipRefIdeal.Gen.facts,
  Cert.Total.Gen.facts, Cert.TotalIdeal.Gen.facts, Cert.TotalRefIdeal.Gen.facts,
  Cert.Mix.Gen.facts, Cert.MixIdeal.Gen.facts, Cert.MixRefIdeal.Gen.facts,
  Cert.Pre_conv_finite.Gen.facts, Cert.Pre_down_finite.Gen.facts, Cert.Pre_up_finite.Gen.facts,
  Cert.Pre_loss_finite.Gen.facts, Cert.On_down_written.Gen.facts, Cert.On_up_written.Gen.facts,
  Cert.On_adam_moments.Gen.facts, Cert.On_final_written.Gen.facts,
  fun m g _ => Cert.Norm.Gen.frame m g, fun m g _ => Cert.NormIdeal.Gen.frame m g, fun m g _ => Cert.NormIdeal.Gen.frame m g,
  NormPair.frame_ref, fun m g _ => NormPair.frame_ref m g trivial,
  fun m g _ => Cert.Down.Gen.frame m g, fun m g _ => Cert.DownIdeal.Gen.frame m g, fun m g _ => Cert.DownIdeal.Gen.frame m g,
  DownPair.frame_ref, fun m g _ => DownPair.frame_ref m g trivial,
  fun m g _ => Cert.Up.Gen.frame m g, fun m g _ => Cert.UpIdeal.Gen.frame m g, fun m g _ => Cert.UpIdeal.Gen.frame m g,
  UpPair.frame_ref, fun m g _ => UpPair.frame_ref m g trivial,
  fun m g _ => Cert.Loss.Gen.frame m g, fun m g _ => Cert.LossIdeal.Gen.frame m g, fun m g _ => Cert.LossIdeal.Gen.frame m g,
  LossPair.frame_ref, fun m g _ => LossPair.frame_ref m g trivial,
  fun m g _ => Cert.Pool.Gen.frame m g, fun m g _ => Cert.PoolIdeal.Gen.frame m g, PoolPair.frame_ref,
  fun m g _ => Cert.Fwd.Gen.frame m g, fun m g _ => Cert.FwdIdeal.Gen.frame m g, FwdPair.frame_ref,
  fun m g _ => Cert.Into.Gen.frame m g, fun m g _ => Cert.IntoIdeal.Gen.frame m g, IntoPair.frame_ref,
  fun m g _ => Cert.Weight.Gen.frame m g, fun m g _ => Cert.WeightIdeal.Gen.frame m g, WeightPair.frame_ref,
  fun m g _ => Cert.Adam.Gen.frame m g, fun m g _ => Cert.AdamIdeal.Gen.frame m g, AdamPair.frame_ref,
  ChipPair.frame, ChipPair.frame_ideal, ChipPair.frame_ref,
  TotalPair.frame, TotalPair.frame_ideal, TotalPair.frame_ref,
  fun m g _ => Cert.Mix.Gen.frame m g, fun m g _ => Cert.MixIdeal.Gen.frame m g, MixPair.frame_ref,
  trivial, NormPair.algebraic,
  trivial, DownPair.algebraic,
  trivial, UpPair.algebraic,
  trivial, LossPair.algebraic,
  trivial,
  trivial, FwdPair.algebraic,
  trivial, IntoPair.algebraic,
  trivial, WeightPair.algebraic,
  trivial, AdamPair.algebraic,
  trivial, ChipPair.algebraic,
  trivial, TotalPair.algebraic,
  trivial⟩

end Cert.Proof

end
